-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_numbers [hPre_numbers : Cert.Pre_numbers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_numbers [hPre_numbers : Cert.Pre_numbers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_numbers [hKernel4Ideal : Cert.Kernel4Ideal.Facts] [hPre_numbers : Cert.Pre_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_numbers m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_numbers [hReference4Ideal : Cert.Reference4Ideal.Facts] [hPre_numbers : Cert.Pre_numbers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_numbers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_v222) = v3 c
          ∧ r.2.mem ((c.tc : Thread Cert.ReferenceIdeal.nD Cert.ReferenceIdeal.τ).loc Cert.ReferenceIdeal.main_v276) = v4 c
          ∧ r.2.mem ((c.tc : Thread Cert.ReferenceIdeal.nD Cert.ReferenceIdeal.τ).loc Cert.ReferenceIdeal.main_v278) = v5 c
          ∧ r.2.mem ((c.tc : Thread Cert.ReferenceIdeal.nD Cert.ReferenceIdeal.τ).loc Cert.ReferenceIdeal.main_v172) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_numbers [hKernel4Ideal : Cert.Kernel4Ideal.Facts] [hReference4Ideal : Cert.Reference4Ideal.Facts] [hPre_numbers : Cert.Pre_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_numbers m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v1_0)) (v2 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v1_0) = v1 c
          ∧ r.2.mem ((c.tc : Thread Cert.Kernel4Ideal.nD Cert.Kernel4Ideal.τ).loc Cert.Kernel4Ideal.main_v1_1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v18) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v48) = v0 c
          ∧ r.2.mem ((c.tc : Thread Cert.Reference21Ideal.nD Cert.Reference21Ideal.τ).loc Cert.Reference21Ideal.main_v49) = v1 c
          ∧ r.2.mem ((c.tc : Thread Cert.Reference21Ideal.nD Cert.Reference21Ideal.τ).loc Cert.Reference21Ideal.main_v32) = v2 c
          ∧ r.2.mem ((c.tc : Thread Cert.Reference21Ideal.nD Cert.Reference21Ideal.τ).loc Cert.Reference21Ideal.main_v50) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_numbers (hKernel4Ideal := hKernel4Ideal) (hPre_numbers := hPre_numbers)
    ∧ quiescent_Reference4Ideal (hReference4Ideal := hReference4Ideal)
    ∧ quiescent_Reference4Ideal_pre_numbers (hReference4Ideal := hReference4Ideal) (hPre_numbers := hPre_numbers)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_numbers (hKernel4Ideal := hKernel4Ideal) (hReference4Ideal := hReference4Ideal) (hPre_numbers := hPre_numbers)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x5120 : Shape := ⟨2, ![4096, 5120]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S3x1024 : Shape := ⟨2, ![3, 1024]⟩
abbrev S1x2048 : Shape := ⟨2, ![1, 2048]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  bcast_S_S4096x2048 : S_.BroadcastsInDim S4096x2048 (![] : Fin 0 → Fin S4096x2048.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S3x1024 : S_.BroadcastsInDim S3x1024 (![] : Fin 0 → Fin S3x1024.rank)
  bcast_S_S1x2048 : S_.BroadcastsInDim S1x2048 (![] : Fin 0 → Fin S1x2048.rank)

variable [Facts]

def fn_part1 {F : FTy → Type} [FloatOps F] (main_arg6 : FVec F S3x1024 .f32) (main_arg7 : FVec F S1x2048 .f32) (main_v3 : IVec S4096x5120 1) (main_v7 : IVec S4096x2048 1) (main_v10 : IVec S1x1024 1) (main_v13 : IVec S1x1024 1) (main_v16 : IVec S8x128x128 1) (main_v17 : FVec F S8x128 .f32) (main_cst_4 : FVec F S_ .f32) : IVec S4096x5120 1 × IVec S4096x2048 1 × IVec S1x1024 1 × IVec S1x1024 1 × IVec S8x128x128 1 × IVec S8x128 1 × IVec S3x1024 1 × IVec S1x2048 1 :=
  let main_v18 : FVec F S8x128 .f32 := broadcastInDim S8x128 ![] bcast_S_S8x128 main_cst_4
  let main_v19 : IVec S8x128 1 := cmpf .olt main_v17 main_v18
  let main_v20 : FVec F S3x1024 .f32 := Host.absf main_arg6
  let main_cst_5 : FVec F S_ .f32 := constant S_ .f32 0x7F800000#32
  let main_v21 : FVec F S3x1024 .f32 := broadcastInDim S3x1024 ![] bcast_S_S3x1024 main_cst_5
  let main_v22 : IVec S3x1024 1 := cmpf .olt main_v20 main_v21
  let main_v23 : FVec F S1x2048 .f32 := Host.absf main_arg7
  let main_cst_6 : FVec F S_ .f32 := constant S_ .f32 0x7F800000#32
  let main_v24 : FVec F S1x2048 .f32 := broadcastInDim S1x2048 ![] bcast_S_S1x2048 main_cst_6
  let main_v25 : IVec S1x2048 1 := cmpf .olt main_v23 main_v24
  (main_v3, main_v7, main_v10, main_v13, main_v16, main_v19, main_v22, main_v25)

def fn {F : FTy → Type} [FloatOps F] (main_arg0 : FVec F S4096x5120 .bf16) (main_arg1 : FVec F S4096x2048 .bf16) (main_arg2 : FVec F S1x1024 .f32) (main_arg3 : FVec F S1x1024 .f32) (main_arg4 : FVec F S8x128x128 .f32) (main_arg5 : FVec F S8x128 .f32) (main_arg6 : FVec F S3x1024 .f32) (main_arg7 : FVec F S1x2048 .f32) : IVec S4096x5120 1 × IVec S4096x2048 1 × IVec S1x1024 1 × IVec S1x1024 1 × IVec S8x128x128 1 × IVec S8x128 1 × IVec S3x1024 1 × IVec S1x2048 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8x128x128 .f32 := Host.absf main_arg4
  let main_cst_3 : FVec F S_ .f32 := constant S_ .f32 0x7F800000#32
  let main_v15 : FVec F S8x128x128 .f32 := broadcastInDim S8x128x128 ![] bcast_S_S8x128x128 main_cst_3
  let main_v16 : IVec S8x128x128 1 := cmpf .olt main_v14 main_v15
  let main_v17 : FVec F S8x128 .f32 := Host.absf main_arg5
  let main_cst_4 : FVec F S_ .f32 := constant S_ .f32 0x7F800000#32
  fn_part1 (F := F) main_arg6 main_arg7 main_v3 main_v7 main_v10 main_v13 main_v16 main_v17 main_cst_4
-- ==== Pre_numbers.lean ====
abbrev S4096x2048 : Shape := ⟨2, ![4096, 2048]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)

variable [Facts]

def fn_part1 {F : FTy → Type} [FloatOps F] (main_v3 : IVec S4096x2048 1) (main_v7 : IVec S5632x2048 1) (main_v11 : IVec S5632x2048 1) (main_v15 : IVec S5632x2048 1) (main_v17 : FVec F S4096x2048 .f32) (main_v18 : FVec F S4096x2048 .f32) : IVec S4096x2048 1 × IVec S5632x2048 1 × IVec S5632x2048 1 × IVec S5632x2048 1 × IVec S4096x2048 1 :=
  let main_v19 : IVec S4096x2048 1 := cmpf .olt main_v17 main_v18
  (main_v3, main_v7, main_v11, main_v15, main_v19)

def fn {F : FTy → Type} [FloatOps F] (main_arg0 : FVec F S4096x2048 .bf16) (main_arg1 : FVec F S5632x2048 .bf16) (main_arg2 : FVec F S5632x2048 .bf16) (main_arg3 : FVec F S5632x2048 .bf16) (main_arg4 : FVec F S4096x2048 .bf16) : IVec S4096x2048 1 × IVec S5632x2048 1 × IVec S5632x2048 1 × IVec S5632x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S5632x2048 .f32 := (extf .f32 · bitsLt_bf16_f32) main_arg2
  let main_v9 : FVec F S5632x2048 .f32 := Host.absf main_v8
  let main_cst_1 : FVec F S_ .f32 := constant S_ .f32 0x7F800000#32
  let main_v10 : FVec F S5632x2048 .f32 := broadcastInDim S5632x2048 ![] bcast_S_S5632x2048 main_cst_1
  let main_v11 : IVec S5632x2048 1 := cmpf .olt main_v9 main_v10
  let main_v12 : FVec F S5632x2048 .f32 := (extf .f32 · bitsLt_bf16_f32) main_arg3
  let main_v13 : FVec F S5632x2048 .f32 := Host.absf main_v12
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  let main_v16 : FVec F S4096x2048 .f32 := (extf .f32 · bitsLt_bf16_f32) main_arg4
  let main_v17 : FVec F S4096x2048 .f32 := Host.absf main_v16
  let main_cst_3 : FVec F S_ .f32 := constant S_ .f32 0x7F800000#32
  let main_v18 : FVec F S4096x2048 .f32 := broadcastInDim S4096x2048 ![] bcast_S_S4096x2048 main_cst_3
  fn_part1 (F := F) main_v3 main_v7 main_v11 main_v15 main_v17 main_v18
-- ==== Kernel.lean ====
abbrev S4096x5120 : Shape := ⟨2, ![4096, 5120]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S3x1024 : Shape := ⟨2, ![3, 1024]⟩
abbrev S1x2048 : Shape := ⟨2, ![1, 2048]⟩
abbrev S8x128x1 : Shape := ⟨3, ![8, 128, 1]⟩
abbrev S8x1024 : Shape := ⟨2, ![8, 1024]⟩
abbrev S256x5120 : Shape := ⟨2, ![256, 5120]⟩
abbrev S16x1024 : Shape := ⟨2, ![16, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1024 : Shape := ⟨1, ![1024]⟩
abbrev S16 : Shape := ⟨1, ![16]⟩
abbrev S16x1 : Shape := ⟨2, ![16, 1]⟩
abbrev S128 : Shape := ⟨1, ![128]⟩
abbrev S128x1 : Shape := ⟨2, ![128, 1]⟩

abbrev nBuf : Space → Nat
  | .hbm => 17
  | .vmem => 34
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S3x1024, .f32⟩
  | .hbm, ⟨7, _⟩ => ⟨S1x2048, .f32⟩
  | .hbm, ⟨8, _⟩ => ⟨S8x128x1, .f32⟩
  | .hbm, ⟨9, _⟩ => ⟨S8x128x128, .f32⟩
  | .hbm, ⟨10, _⟩ => ⟨S4096x5120, .bf16⟩
  | .hbm, ⟨11, _⟩ => ⟨S1x1024, .f32⟩
  | .hbm, ⟨12, _⟩ => ⟨S1x1024, .f32⟩
  | .hbm, ⟨13, _⟩ => ⟨S8x128x128, .f32⟩
  | .hbm, ⟨14, _⟩ => ⟨S8x128x128, .f32⟩
  | .hbm, ⟨15, _⟩ => ⟨S8x1024, .f32⟩
  | .hbm, ⟨16, _⟩ => ⟨S1x2048, .f32⟩
  | .local _ .vmem, ⟨0, _⟩ => ⟨S256x5120, .bf16⟩
  | .local _ .vmem, ⟨1, _⟩ => ⟨S256x5120, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x2048, .bf16⟩
  | .local _ .vmem, ⟨13, _⟩ => ⟨S256x2048, .bf16⟩
  | .local _ .vmem, ⟨14, _⟩ => ⟨S16x1024, .bf16⟩
  | .local _ .vmem, ⟨15, _⟩ => ⟨S16x1024, .bf16⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S8x128x128, .f32⟩
  | .local _ .vmem, ⟨20, _⟩ => ⟨S3x1024, .f32⟩
  | .local _ .vmem, ⟨21, _⟩ => ⟨S1x2048, .f32⟩
  | .local _ .vmem, ⟨22, _⟩ => ⟨S256x5120, .bf16⟩
  | .local _ .vmem, ⟨23, _⟩ => ⟨S256x5120, .bf16⟩
  | .local _ .vmem, ⟨24, _⟩ => ⟨S1x1024, .f32⟩
  | .local _ .vmem, ⟨25, _⟩ => ⟨S1x1024, .f32⟩
  | .local _ .vmem, ⟨26, _⟩ => ⟨S8x128x128, .f32⟩
  | .local _ .vmem, ⟨27, _⟩ => ⟨S8x128x128, .f32⟩
  | .local _ .vmem, ⟨28, _⟩ => ⟨S8x1024, .f32⟩
  | .local _ .vmem, ⟨29, _⟩ => ⟨S1x2048, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c4_i32 : BitVec 32 := 4#32
  let c0_i32 : BitVec 32 := 0#32
  ![v2.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x5120 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x5120 : Shape := ⟨2, ![4096, 5120]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S3x1024 : Shape := ⟨2, ![3, 1024]⟩
abbrev S1x2048 : Shape := ⟨2, ![1, 2048]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S2x1024 : Shape := ⟨2, ![2, 1024]⟩
abbrev S4098x1024 : Shape := ⟨2, ![4098, 1024]⟩
abbrev S1024 : Shape := ⟨1, ![1024]⟩
abbrev S8x128x1 : Shape := ⟨3, ![8, 128, 1]⟩
abbrev S5x1024 : Shape := ⟨2, ![5, 1024]⟩
abbrev S8x1024 : Shape := ⟨2, ![8, 1024]⟩

abbrev nBuf : Space → Nat
  | .hbm => 358
  | .vmem => 0
  | .smem => 0
  | _ => 0

abbrev hbmTy0_0 (i : Nat) : BufTy := match i % 128 with
  | 0 => ⟨S4096x5120, .bf16⟩
  | 1 => ⟨S4096x2048, .bf16⟩
  | 2 => ⟨S1x1024, .f32⟩
  | 3 => ⟨S1x1024, .f32⟩
  | 4 => ⟨S8x128x128, .f32⟩
  | 5 => ⟨S8x128, .f32⟩
  | 6 => ⟨S3x1024, .f32⟩
  | 7 => ⟨S1x2048, .f32⟩
  | 8 => ⟨S4096x5120, .f32⟩
  | 9 => ⟨S4096x2048, .f32⟩
  | 10 => ⟨S_, .f32⟩
  | 11 => ⟨S_, .f32⟩
  | 12 => ⟨S_, .f32⟩
  | 13 => ⟨S4096x2048, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S4096x2048, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S4096x2048, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S32x128x8x128, .f32⟩
  | 75 => ⟨S8x128x128, .i32⟩
  | 76 => ⟨S8x128x128, .i32⟩
  | 77 => ⟨S_, .i32⟩
  | 78 => ⟨S8x128x128, .i32⟩
  | 79 => ⟨S8x128x128, .i32⟩
  | 80 => ⟨S_, .i32⟩
  | 81 => ⟨S8x128x128, .i32⟩
  | 82 => ⟨S8x128x128, .i32⟩
  | 83 => ⟨S8x128x128, .i1⟩
  | 84 => ⟨S_, .f32⟩
  | 85 => ⟨S8x128x128, .f32⟩
  | 86 => ⟨S8x128x128, .f32⟩
  | 87 => ⟨S_, .f32⟩
  | 88 => ⟨S8x128x128, .f32⟩
  | 89 => ⟨S8x32x128x128, .f32⟩
  | 90 => ⟨S32x128x8x128, .f32⟩
  | 91 => ⟨S128x8, .f32⟩
  | 92 => ⟨S1x128x8x1, .f32⟩
  | 93 => ⟨S32x128x8x128, .f32⟩
  | 94 => ⟨S32x128x8x128, .f32⟩
  | 95 => ⟨S4096x1024, .f32⟩
  | 96 => ⟨S4096x1024, .f32⟩
  | 97 => ⟨S4096x1024, .f32⟩
  | 98 => ⟨S_, .f32⟩
  | 99 => ⟨S2x1024, .f32⟩
  | 100 => ⟨S4098x1024, .f32⟩
  | 101 => ⟨S_, .f32⟩
  | 102 => ⟨S2x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S4096x1024, .f32⟩
  | 124 => ⟨S1x1024, .f32⟩
  | 125 => ⟨S4096x1024, .f32⟩
  | 126 => ⟨S_, .f32⟩
  | 127 => ⟨S4096, .f32⟩
  | _ => ⟨S4096x5120, .bf16⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096x1, .f32⟩
  | 6 => ⟨S4096x1, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S4096x1024, .f32⟩
  | 16 => ⟨S1x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S4096x1024, .f32⟩
  | 35 => ⟨S4096x1024, .f32⟩
  | 36 => ⟨S4096x2048, .f32⟩
  | 37 => ⟨S4096x2048, .f32⟩
  | 38 => ⟨S4096x1024, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S4096x1024, .f32⟩
  | 51 => ⟨S4096x1024, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S1x2048, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096x1, .f32⟩
  | 75 => ⟨S4096x1024, .f32⟩
  | 76 => ⟨S4096x1024, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S1x2048, .f32⟩
  | 90 => ⟨S1x2048, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S_, .f32⟩
  | 102 => ⟨S4098x1024, .f32⟩
  | 103 => ⟨S1x1024, .f32⟩
  | 104 => ⟨S_, .f32⟩
  | 105 => ⟨S3x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S_, .f32⟩
  | 115 => ⟨S4098x1024, .f32⟩
  | 116 => ⟨S4098x1024, .f32⟩
  | 117 => ⟨S1x1024, .f32⟩
  | 118 => ⟨S_, .f32⟩
  | 119 => ⟨S3x1024, .f32⟩
  | 120 => ⟨S3x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4096x5120, .bf16⟩

abbrev hbmTy0_2 (i : Nat) : BufTy := match i % 128 with
  | 0 => ⟨S1024, .f32⟩
  | 1 => ⟨S_, .f32⟩
  | 2 => ⟨S4098x1024, .f32⟩
  | 3 => ⟨S4098x1024, .f32⟩
  | 4 => ⟨S1x1024, .f32⟩
  | 5 => ⟨S_, .f32⟩
  | 6 => ⟨S3x1024, .f32⟩
  | 7 => ⟨S3x1024, .f32⟩
  | 8 => ⟨S2x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S32x128x8x128, .f32⟩
  | 15 => ⟨S_, .f32⟩
  | 16 => ⟨S128x8, .f32⟩
  | 17 => ⟨S1x128x8x1, .f32⟩
  | 18 => ⟨S_, .f32⟩
  | 19 => ⟨S128x8, .f32⟩
  | 20 => ⟨S8x128, .f32⟩
  | 21 => ⟨S8x32x128x128, .f32⟩
  | 22 => ⟨S8x128x128, .f32⟩
  | 23 => ⟨S8x32x128x128, .f32⟩
  | 24 => ⟨S32x128x8x128, .f32⟩
  | 25 => ⟨S_, .f32⟩
  | 26 => ⟨S8x128x128, .f32⟩
  | 27 => ⟨S8x128x128, .f32⟩
  | 28 => ⟨S4096x1024, .f32⟩
  | 29 => ⟨S_, .f32⟩
  | 30 => ⟨S1024, .f32⟩
  | 31 => ⟨S1x1024, .f32⟩
  | 32 => ⟨S4096x1024, .f32⟩
  | 33 => ⟨S_, .f32⟩
  | 34 => ⟨S1024, .f32⟩
  | 35 => ⟨S1x1024, .f32⟩
  | 36 => ⟨S4096x1024, .f32⟩
  | 37 => ⟨S4096x1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x1024, .f32⟩
  | 65 => ⟨S4096x1024, .f32⟩
  | 66 => ⟨S_, .f32⟩
  | 67 => ⟨S4096x5120, .f32⟩
  | 68 => ⟨S_, .f32⟩
  | 69 => ⟨S4096x5120, .f32⟩
  | 70 => ⟨S4096x5120, .f32⟩
  | 71 => ⟨S_, .f32⟩
  | 72 => ⟨S4096x5120, .f32⟩
  | 73 => ⟨S4096x5120, .f32⟩
  | 74 => ⟨S_, .f32⟩
  | 75 => ⟨S4096x2048, .f32⟩
  | 76 => ⟨S_, .f32⟩
  | 77 => ⟨S4096x2048, .f32⟩
  | 78 => ⟨S4096x2048, .f32⟩
  | 79 => ⟨S4096x2048, .f32⟩
  | 80 => ⟨S4096x2048, .f32⟩
  | 81 => ⟨S_, .f32⟩
  | 82 => ⟨S4096x2048, .f32⟩
  | 83 => ⟨S4096x2048, .f32⟩
  | 84 => ⟨S4096x2048, .f32⟩
  | 85 => ⟨S_, .f32⟩
  | 86 => ⟨S4096x2048, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S_, .f32⟩
  | 94 => ⟨S4096x5120, .f32⟩
  | 95 => ⟨S4096x5120, .f32⟩
  | 96 => ⟨S8x128x1, .f32⟩
  | 97 => ⟨S8x128x128, .f32⟩
  | 98 => ⟨S_, .f32⟩
  | 99 => ⟨S5x1024, .f32⟩
  | 100 => ⟨S8x1024, .f32⟩
  | 101 => ⟨S4096x5120, .bf16⟩
  | _ => ⟨S4096x5120, .bf16⟩

abbrev hbmTy (i : Nat) : BufTy := match i / 128 with
  | 0 => hbmTy0_0 i
  | 1 => hbmTy0_1 i
  | 2 => hbmTy0_2 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_22 : Ref sig .tc := ⟨.hbm, 146, rfl⟩
abbrev main_v114 : Ref sig .tc := ⟨.hbm, 147, rfl⟩
abbrev main_v115 : Ref sig .tc := ⟨.hbm, 148, rfl⟩
abbrev main_cst_23 : Ref sig .tc := ⟨.hbm, 149, rfl⟩
abbrev main_v116 : Ref sig .tc := ⟨.hbm, 150, rfl⟩
abbrev main_v117 : Ref sig .tc := ⟨.hbm, 151, rfl⟩
abbrev main_cst_24 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_25 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_26 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_27 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_28 : Ref sig .tc := ⟨.hbm, 181, rfl⟩
abbrev main_v143 : Ref sig .tc := ⟨.hbm, 182, rfl⟩
abbrev main_v144 : Ref sig .tc := ⟨.hbm, 183, rfl⟩
abbrev main_cst_29 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_30 : Ref sig .tc := ⟨.hbm, 191, rfl⟩
abbrev main_v151 : Ref sig .tc := ⟨.hbm, 192, rfl⟩
abbrev main_v152 : Ref sig .tc := ⟨.hbm, 193, rfl⟩
abbrev main_cst_31 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_32 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_33 : Ref sig .tc := ⟨.hbm, 206, rfl⟩
abbrev main_v163 : Ref sig .tc := ⟨.hbm, 207, rfl⟩
abbrev main_v164 : Ref sig .tc := ⟨.hbm, 208, rfl⟩
abbrev main_cst_34 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_35 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_36 : Ref sig .tc := ⟨.hbm, 224, rfl⟩
abbrev main_v178 : Ref sig .tc := ⟨.hbm, 225, rfl⟩
abbrev main_v179 : Ref sig .tc := ⟨.hbm, 226, rfl⟩
abbrev main_cst_37 : Ref sig .tc := ⟨.hbm, 227, rfl⟩
abbrev main_v180 : Ref sig .tc := ⟨.hbm, 228, rfl⟩
abbrev main_cst_38 : Ref sig .tc := ⟨.hbm, 229, rfl⟩
abbrev main_v181 : Ref sig .tc := ⟨.hbm, 230, rfl⟩
abbrev main_v182 : Ref sig .tc := ⟨.hbm, 231, rfl⟩
abbrev main_cst_39 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_40 : Ref sig .tc := ⟨.hbm, 237, rfl⟩
abbrev main_v187 : Ref sig .tc := ⟨.hbm, 238, rfl⟩
abbrev main_v188 : Ref sig .tc := ⟨.hbm, 239, rfl⟩
abbrev main_cst_41 : Ref sig .tc := ⟨.hbm, 240, rfl⟩
abbrev main_v189 : Ref sig .tc := ⟨.hbm, 241, rfl⟩
abbrev main_cst_42 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_43 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_44 : Ref sig .tc := ⟨.hbm, 252, rfl⟩
abbrev main_v198 : Ref sig .tc := ⟨.hbm, 253, rfl⟩
abbrev main_v199 : Ref sig .tc := ⟨.hbm, 254, rfl⟩
abbrev main_cst_45 : Ref sig .tc := ⟨.hbm, 255, rfl⟩
abbrev main_v200 : Ref sig .tc := ⟨.hbm, 256, rfl⟩
abbrev main_cst_46 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_47 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_cst_48 : Ref sig .tc := ⟨.hbm, 271, rfl⟩
abbrev main_v213 : Ref sig .tc := ⟨.hbm, 272, rfl⟩
abbrev main_v214 : Ref sig .tc := ⟨.hbm, 273, rfl⟩
abbrev main_cst_49 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_cst_50 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_cst_51 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_52 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_53 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_54 : Ref sig .tc := ⟨.hbm, 301, rfl⟩
abbrev main_v237 : Ref sig .tc := ⟨.hbm, 302, rfl⟩
abbrev main_v238 : Ref sig .tc := ⟨.hbm, 303, rfl⟩
abbrev main_cst_55 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_56 : Ref sig .tc := ⟨.hbm, 312, rfl⟩
abbrev main_v246 : Ref sig .tc := ⟨.hbm, 313, rfl⟩
abbrev main_v247 : Ref sig .tc := ⟨.hbm, 314, rfl⟩
abbrev main_cst_57 : Ref sig .tc := ⟨.hbm, 315, rfl⟩
abbrev main_v248 : Ref sig .tc := ⟨.hbm, 316, rfl⟩
abbrev main_v249 : Ref sig .tc := ⟨.hbm, 317, rfl⟩
abbrev main_cst_58 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_cst_59 : Ref sig .tc := ⟨.hbm, 322, rfl⟩
abbrev main_v253 : Ref sig .tc := ⟨.hbm, 323, rfl⟩
abbrev main_cst_60 : Ref sig .tc := ⟨.hbm, 324, rfl⟩
abbrev main_v254 : Ref sig .tc := ⟨.hbm, 325, rfl⟩
abbrev main_v255 : Ref sig .tc := ⟨.hbm, 326, rfl⟩
abbrev main_cst_61 : Ref sig .tc := ⟨.hbm, 327, rfl⟩
abbrev main_v256 : Ref sig .tc := ⟨.hbm, 328, rfl⟩
abbrev main_v257 : Ref sig .tc := ⟨.hbm, 329, rfl⟩
abbrev main_cst_62 : Ref sig .tc := ⟨.hbm, 330, rfl⟩
abbrev main_v258 : Ref sig .tc := ⟨.hbm, 331, rfl⟩
abbrev main_cst_63 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_cst_64 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_cst_65 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_cst_66 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_cst_67 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x2048, .bf16⟩
  | .hbm, ⟨3, _⟩ => ⟨S5632x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .f32⟩
  | .local _ .vmem, ⟨13, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x2048, .bf16⟩
  | .hbm, ⟨3, _⟩ => ⟨S4096x5632, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S2048x5632, .f32⟩
  | .hbm, ⟨8, _⟩ => ⟨S4096x5632, .f32⟩
  | .hbm, ⟨9, _⟩ => ⟨S4096x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | .hbm, ⟨16, _⟩ => ⟨S5632x2048, .f32⟩
  | .hbm, ⟨17, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel3.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x5632 : Shape := ⟨2, ![4096, 5632]⟩
abbrev S5632x2048 : Shape := ⟨2, ![5632, 2048]⟩
abbrev S_ : Shape := ⟨0, ![]⟩
abbrev S4096x2048 : Shape := ⟨2, ![4096, 2048]⟩
abbrev S2048x5632 : Shape := ⟨2, ![2048, 5632]⟩

abbrev nBuf : Space → Nat
  | .hbm => 18
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S5632x2048, .f32⟩
  | .hbm, ⟨8, _⟩ => ⟨S_, .f32⟩
  | .hbm, ⟨9, _⟩ => ⟨S4096x2048, .f32⟩
  | .hbm, ⟨10, _⟩ => ⟨S2048x5632, .f32⟩
  | .hbm, ⟨11, _⟩ => ⟨S4096x5632, .f32⟩
  | .hbm, ⟨12, _⟩ => ⟨S2048x5632, .f32⟩
  | .hbm, ⟨13, _⟩ => ⟨S4096x5632, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 10
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x2048, .bf16⟩
  | .local _ .vmem, ⟨15, _⟩ => ⟨S2048x2048, .bf16⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference4Ideal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S4096x2048, .f32⟩
  | .hbm, ⟨10, _⟩ => ⟨S2048x5632, .f32⟩
  | .hbm, ⟨11, _⟩ => ⟨S4096x5632, .f32⟩
  | .hbm, ⟨12, _⟩ => ⟨S2048x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x2048, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .bf16⟩
  | .hbm, ⟨47, _⟩ => ⟨S4096x5632, .bf16⟩
  | .hbm, ⟨48, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v11_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v11_1 : Ref sig .tc := ⟨.hbm, 35, rfl⟩
abbrev main_v11_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x5120 : Shape := ⟨2, ![4096, 5120]⟩
abbrev S2048x5120 : Shape := ⟨2, ![2048, 5120]⟩
abbrev S4096x2048 : Shape := ⟨2, ![4096, 2048]⟩
abbrev S1024x2560 : Shape := ⟨2, ![1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .bf16⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x5120, .f32⟩
  | .hbm, ⟨3, _⟩ => ⟨S2048x5120, .f32⟩
  | .hbm, ⟨4, _⟩ => ⟨S_, .f32⟩
  | .hbm, ⟨5, _⟩ => ⟨S4096x2048, .f32⟩
  | .hbm, ⟨6, _⟩ => ⟨S4096x5120, .f32⟩
  | .hbm, ⟨7, _⟩ => ⟨S4096x2048, .f32⟩
  | .hbm, ⟨8, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S4096x5120 : Shape := ⟨2, ![4096, 5120]⟩
abbrev S2048x5120 : Shape := ⟨2, ![2048, 5120]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4096x5120 : Shape := ⟨2, ![4096, 5120]⟩
abbrev S1792x5120 : Shape := ⟨2, ![1792, 5120]⟩
abbrev S1024x1792 : Shape := ⟨2, ![1024, 1792]⟩
abbrev S1024x1024 : Shape := ⟨2, ![1024, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S1792x5120, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S1792x1024, .bf16⟩
  | .local _ .vmem, ⟨5, _⟩ => ⟨S1792x1024, .bf16⟩
  | .local _ .vmem, ⟨6, _⟩ => ⟨S1792x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩
abbrev S1792x5120 : Shape := ⟨2, ![1792, 5120]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S1792x5120, .f32⟩
  | .hbm, ⟨10, _⟩ => ⟨S1792x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x2048 : Shape := ⟨2, ![4096, 2048]⟩
abbrev S4096x5120 : Shape := ⟨2, ![4096, 5120]⟩
abbrev S256x5120 : Shape := ⟨2, ![256, 5120]⟩
abbrev S1024x256 : Shape := ⟨2, ![1024, 256]⟩
abbrev S1024x2560 : Shape := ⟨2, ![1024, 2560]⟩
abbrev S256x2560 : Shape := ⟨2, ![256, 2560]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S256x5120, .bf16⟩
  | .local _ .vmem, ⟨0, _⟩ => ⟨S1024x256, .bf16⟩
  | .local _ .vmem, ⟨1, _⟩ => ⟨S1024x256, .bf16⟩
  | .local _ .vmem, ⟨2, _⟩ => ⟨S1024x2560, .bf16⟩
  | .local _ .vmem, ⟨3, _⟩ => ⟨S1024x2560, .bf16⟩
  | .local _ .vmem, ⟨4, _⟩ => ⟨S256x2560, .bf16⟩
  | .local _ .vmem, ⟨5, _⟩ => ⟨S256x2560, .bf16⟩
  | .local _ .vmem, ⟨6, _⟩ => ⟨S256x2560, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩
abbrev S256x5120 : Shape := ⟨2, ![256, 5120]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S256x5120, .f32⟩
  | .hbm, ⟨10, _⟩ => ⟨S256x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S2x4x2048x640 : Shape := ⟨4, ![2, 4, 2048, 640]⟩
abbrev S2x2048x640 : Shape := ⟨3, ![2, 2048, 640]⟩
abbrev S1x4x256x640 : Shape := ⟨4, ![1, 4, 256, 640]⟩
abbrev S1x256x640 : Shape := ⟨3, ![1, 256, 640]⟩
abbrev S1x1x256x640 : Shape := ⟨4, ![1, 1, 256, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S2x4x2048x640, .bf16⟩
  | .hbm, ⟨1, _⟩ => ⟨S2x2048x640, .f32⟩
  | .hbm, ⟨2, _⟩ => ⟨S2x2048x640, .f32⟩
  | .hbm, ⟨3, _⟩ => ⟨S2x2048x640, .f32⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .local _ .vmem, ⟨0, _⟩ => ⟨S1x4x256x640, .bf16⟩
  | .local _ .vmem, ⟨1, _⟩ => ⟨S1x4x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S2x4x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x4x2048x640 : Shape := ⟨4, ![2, 4, 2048, 640]⟩
abbrev S2x2048x640 : Shape := ⟨3, ![2, 2048, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x4x2048x640, .bf16⟩
  | .hbm, ⟨1, _⟩ => ⟨S2x2048x640, .f32⟩
  | .hbm, ⟨2, _⟩ => ⟨S2x2048x640, .f32⟩
  | .hbm, ⟨3, _⟩ => ⟨S2x2048x640, .f32⟩
  | .hbm, ⟨4, _⟩ => ⟨S2x4x2048x640, .f32⟩
  | .hbm, ⟨5, _⟩ => ⟨S_, .f32⟩
  | .hbm, ⟨6, _⟩ => ⟨S2x2048x640, .f32⟩
  | .hbm, ⟨7, _⟩ => ⟨S_, .f32⟩
  | .hbm, ⟨8, _⟩ => ⟨S2x2048x640, .f32⟩
  | .hbm, ⟨9, _⟩ => ⟨S2x2048x640, .f32⟩
  | .hbm, ⟨10, _⟩ => ⟨S_, .f32⟩
  | .hbm, ⟨11, _⟩ => ⟨S2x2048x640, .f32⟩
  | .hbm, ⟨12, _⟩ => ⟨S2x2048x640, .f32⟩
  | .hbm, ⟨13, _⟩ => ⟨S2x2048x640, .f32⟩
  | .hbm, ⟨14, _⟩ => ⟨S_, .f32⟩
  | .hbm, ⟨15, _⟩ => ⟨S2x2048x640, .f32⟩
  | .hbm, ⟨16, _⟩ => ⟨S2x2048x640, .f32⟩
  | .hbm, ⟨17, _⟩ => ⟨S2x2048x640, .f32⟩
  | .hbm, ⟨18, _⟩ => ⟨S_, .f32⟩
  | .hbm, ⟨19, _⟩ => ⟨S2x2048x640, .f32⟩
  | .hbm, ⟨20, _⟩ => ⟨S2x2048x640, .f32⟩
  | .hbm, ⟨21, _⟩ => ⟨S2x2048x640, .f32⟩
  | .hbm, ⟨22, _⟩ => ⟨S_, .f32⟩
  | .hbm, ⟨23, _⟩ => ⟨S2x2048x640, .f32⟩
  | .hbm, ⟨24, _⟩ => ⟨S2x2048x640, .f32⟩
  | .hbm, ⟨25, _⟩ => ⟨S_, .f32⟩
  | .hbm, ⟨26, _⟩ => ⟨S2x2048x640, .f32⟩
  | .hbm, ⟨27, _⟩ => ⟨S2x2048x640, .f32⟩
  | .hbm, ⟨28, _⟩ => ⟨S2x2048x640, .f32⟩
  | .hbm, ⟨29, _⟩ => ⟨S_, .f32⟩
  | .hbm, ⟨30, _⟩ => ⟨S2x2048x640, .f32⟩
  | .hbm, ⟨31, _⟩ => ⟨S2x2048x640, .f32⟩
  | .hbm, ⟨32, _⟩ => ⟨S2x2048x640, .f32⟩
  | .hbm, ⟨33, _⟩ => ⟨S_, .f32⟩
  | .hbm, ⟨34, _⟩ => ⟨S2x2048x640, .f32⟩
  | .hbm, ⟨35, _⟩ => ⟨S2x2048x640, .f32⟩
  | .hbm, ⟨36, _⟩ => ⟨S2x2048x640, .f32⟩
  | .hbm, ⟨37, _⟩ => ⟨S_, .f32⟩
  | .hbm, ⟨38, _⟩ => ⟨S2x2048x640, .f32⟩
  | .hbm, ⟨39, _⟩ => ⟨S2x2048x640, .f32⟩
  | _, _ => ⟨S2x4x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S2x4x256x2048 : Shape := ⟨4, ![2, 4, 256, 2048]⟩
abbrev S2x256x2048 : Shape := ⟨3, ![2, 256, 2048]⟩
abbrev S1x4x64x2048 : Shape := ⟨4, ![1, 4, 64, 2048]⟩
abbrev S1x64x2048 : Shape := ⟨3, ![1, 64, 2048]⟩
abbrev S1x1x64x2048 : Shape := ⟨4, ![1, 1, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x4x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .local _ .vmem, ⟨0, _⟩ => ⟨S1x4x64x2048, .bf16⟩
  | .local _ .vmem, ⟨1, _⟩ => ⟨S1x4x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S2x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S2x4x256x2048 : Shape := ⟨4, ![2, 4, 256, 2048]⟩
abbrev S2x256x2048 : Shape := ⟨3, ![2, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x4x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x4x256x2048, .f32⟩
  | .hbm, ⟨5, _⟩ => ⟨S_, .f32⟩
  | .hbm, ⟨6, _⟩ => ⟨S2x256x2048, .f32⟩
  | .hbm, ⟨7, _⟩ => ⟨S_, .f32⟩
  | .hbm, ⟨8, _⟩ => ⟨S2x256x2048, .f32⟩
  | .hbm, ⟨9, _⟩ => ⟨S2x256x2048, .f32⟩
  | .hbm, ⟨10, _⟩ => ⟨S_, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .hbm, ⟨18, _⟩ => ⟨S_, .f32⟩
  | .hbm, ⟨19, _⟩ => ⟨S2x256x2048, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S2x256x2048, .f32⟩
  | .hbm, ⟨35, _⟩ => ⟨S2x256x2048, .f32⟩
  | .hbm, ⟨36, _⟩ => ⟨S2x256x2048, .f32⟩
  | .hbm, ⟨37, _⟩ => ⟨S_, .f32⟩
  | .hbm, ⟨38, _⟩ => ⟨S2x256x2048, .f32⟩
  | .hbm, ⟨39, _⟩ => ⟨S2x256x2048, .f32⟩
  | _, _ => ⟨S2x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S2x4x704x2048 : Shape := ⟨4, ![2, 4, 704, 2048]⟩
abbrev S2x704x2048 : Shape := ⟨3, ![2, 704, 2048]⟩
abbrev S1x4x64x2048 : Shape := ⟨4, ![1, 4, 64, 2048]⟩
abbrev S1x64x2048 : Shape := ⟨3, ![1, 64, 2048]⟩
abbrev S1x1x64x2048 : Shape := ⟨4, ![1, 1, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x4x704x2048, .bf16⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .local _ .vmem, ⟨0, _⟩ => ⟨S1x4x64x2048, .bf16⟩
  | .local _ .vmem, ⟨1, _⟩ => ⟨S1x4x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S2x4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2x4x704x2048 : Shape := ⟨4, ![2, 4, 704, 2048]⟩
abbrev S2x704x2048 : Shape := ⟨3, ![2, 704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x4x704x2048, .bf16⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S2x4x704x2048, .f32⟩
  | .hbm, ⟨5, _⟩ => ⟨S_, .f32⟩
  | .hbm, ⟨6, _⟩ => ⟨S2x704x2048, .f32⟩
  | .hbm, ⟨7, _⟩ => ⟨S_, .f32⟩
  | .hbm, ⟨8, _⟩ => ⟨S2x704x2048, .f32⟩
  | .hbm, ⟨9, _⟩ => ⟨S2x704x2048, .f32⟩
  | .hbm, ⟨10, _⟩ => ⟨S_, .f32⟩
  | .hbm, ⟨11, _⟩ => ⟨S2x704x2048, .f32⟩
  | .hbm, ⟨12, _⟩ => ⟨S2x704x2048, .f32⟩
  | .hbm, ⟨13, _⟩ => ⟨S2x704x2048, .f32⟩
  | .hbm, ⟨14, _⟩ => ⟨S_, .f32⟩
  | .hbm, ⟨15, _⟩ => ⟨S2x704x2048, .f32⟩
  | .hbm, ⟨16, _⟩ => ⟨S2x704x2048, .f32⟩
  | .hbm, ⟨17, _⟩ => ⟨S2x704x2048, .f32⟩
  | .hbm, ⟨18, _⟩ => ⟨S_, .f32⟩
  | .hbm, ⟨19, _⟩ => ⟨S2x704x2048, .f32⟩
  | .hbm, ⟨20, _⟩ => ⟨S2x704x2048, .f32⟩
  | .hbm, ⟨21, _⟩ => ⟨S2x704x2048, .f32⟩
  | .hbm, ⟨22, _⟩ => ⟨S_, .f32⟩
  | .hbm, ⟨23, _⟩ => ⟨S2x704x2048, .f32⟩
  | .hbm, ⟨24, _⟩ => ⟨S2x704x2048, .f32⟩
  | .hbm, ⟨25, _⟩ => ⟨S_, .f32⟩
  | .hbm, ⟨26, _⟩ => ⟨S2x704x2048, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S2x704x2048, .f32⟩
  | .hbm, ⟨33, _⟩ => ⟨S_, .f32⟩
  | .hbm, ⟨34, _⟩ => ⟨S2x704x2048, .f32⟩
  | .hbm, ⟨35, _⟩ => ⟨S2x704x2048, .f32⟩
  | .hbm, ⟨36, _⟩ => ⟨S2x704x2048, .f32⟩
  | .hbm, ⟨37, _⟩ => ⟨S_, .f32⟩
  | .hbm, ⟨38, _⟩ => ⟨S2x704x2048, .f32⟩
  | .hbm, ⟨39, _⟩ => ⟨S2x704x2048, .f32⟩
  | _, _ => ⟨S2x4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_22 : BitVec 32 := 0#32
  let v59 : BitVec 1 := Scalar.cmpi .ne v58 c0_i32_22
  v59

def k0_cond2 (i : grid0.Coords) : BitVec 1 :=
  let arg0 : BitVec 32 := BitVec.ofNat 32 (i 0).val
  let c0_i32_23 : BitVec 32 := 0#32
  let v60 : BitVec 1 := Scalar.cmpi .sgt arg0 c0_i32_23
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Frames.lean ====
/- The frames of the three programs and the two named constants. -/
module

public import proofs.«01_k».proof.Proof.Gen.Kernel.Frame
public import proofs.«01_k».proof.Proof.Gen.KernelIdeal.Frame
public import proofs.«01_k».proof.Proof.Gen.ReferenceIdeal.Run
public import proofs.«01_k».proof.Defs
public import Idealize.ShloMosaic.Lib.Quiescent

@[expose] public section

noncomputable section

namespace Cert

open Idealize.ShloMosaic Idealize.SL.Sem

theorem frame_kernel : quiescent_Kernel (hKernel := Cert.Kernel.Gen.facts) := fun m ρ _ => Cert.Kernel.Gen.frame m ρ
theorem frame_kernelIdeal : quiescent_KernelIdeal (hKernelIdeal := Cert.KernelIdeal.Gen.facts) :=
  fun m ρ _ => Cert.KernelIdeal.Gen.frame m ρ

theorem frame_referenceIdeal : quiescent_ReferenceIdeal (hReferenceIdeal := Cert.ReferenceIdeal.Gen.facts) := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

theorem preserved : preserves_Kernel_KernelIdeal :=
  ⟨IdealRules.named_const.statement Cert.KernelIdeal.κ "gelu_a" .f32 0x3D372713#32 ((8943 / 200000 : ℝ) : EReal) rfl,
   IdealRules.named_const.statement Cert.KernelIdeal.κ "gelu_3a" .f32 0x3E095D4F#32 ((26829 / 200000 : ℝ) : EReal) rfl⟩

end Cert

end
-- ==== Proof.Coe.lean ====
/- Vectors at the extended reals all of whose entries are real numbers: `c1`, `c2`, `c3`, `c4` lift a real function of the
   coordinates, as natural numbers, to a vector of rank 1 to 4. One lemma for each operation says what it does to lifted vectors. -/
module

public import Idealize.ShloMosaic.PureOps
public import Idealize.ShloMosaic.PureOps.Ideal
public import Idealize.ShloMosaic.PureOps.Ideal.Laws
public import Idealize.ShloMosaic.Lib.Pointwise.Contract
public import Idealize.ShloMosaic.Lib.Pipeline.Value
public import Idealize.ShloMosaic.Lib.ValueIdx

@[expose] public section

noncomputable section

namespace Cert.Coe

open Idealize.ShloMosaic Finset

variable {φ ψ : FTy} {m n p q : ℕ}

def c1 {φ : FTy} (m : ℕ) (f : ℕ → ℝ) : FVec Ideal ⟨1, ![m]⟩ φ := fun i => ((f (i 0).val : ℝ) : EReal)
def c2 {φ : FTy} (m n : ℕ) (f : ℕ → ℕ → ℝ) : FVec Ideal ⟨2, ![m, n]⟩ φ := fun i => ((f (i 0).val (i 1).val : ℝ) : EReal)
def c3 {φ : FTy} (m n p : ℕ) (f : ℕ → ℕ → ℕ → ℝ) : FVec Ideal ⟨3, ![m, n, p]⟩ φ :=
  fun i => ((f (i 0).val (i 1).val (i 2).val : ℝ) : EReal)
def c4 {φ : FTy} (m n p q : ℕ) (f : ℕ → ℕ → ℕ → ℕ → ℝ) : FVec Ideal ⟨4, ![m, n, p, q]⟩ φ :=
  fun i => ((f (i 0).val (i 1).val (i 2).val (i 3).val : ℝ) : EReal)

theorem c2_congr {f g : ℕ → ℕ → ℝ} (h : ∀ a < m, ∀ b < n, f a b = g a b) : (c2 m n f : FVec Ideal _ φ) = c2 m n g :=
  funext fun i => congrArg _ (h _ (i 0).isLt _ (i 1).isLt)
theorem c3_congr {f g : ℕ → ℕ → ℕ → ℝ} (h : ∀ a < m, ∀ b < n, ∀ c < p, f a b c = g a b c) :
    (c3 m n p f : FVec Ideal _ φ) = c3 m n p g :=
  funext fun i => congrArg _ (h _ (i 0).isLt _ (i 1).isLt _ (i 2).isLt)
/-! ### Sums -/

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [sum_insert ha, sum_insert ha, ih, EReal.coe_add]

theorem sum_fin_coe (n : ℕ) (f : ℕ → ℝ) : ∑ k : Fin n, ((f k.val : ℝ) : EReal) = ((∑ k ∈ range n, f k : ℝ) : EReal) := by
  rw [sum_coe univ (fun k : Fin n => f k.val), Fin.sum_univ_eq_sum_range f n]

/-! ### Elementwise -/

theorem addf_c2 (f g : ℕ → ℕ → ℝ) : addf (c2 m n f : FVec Ideal _ φ) (c2 m n g) = c2 m n fun a b => f a b + g a b :=
  funext fun _ => (EReal.coe_add _ _).symm
theorem subf_c2 (f g : ℕ → ℕ → ℝ) : subf (c2 m n f : FVec Ideal _ φ) (c2 m n g) = c2 m n fun a b => f a b - g a b :=
  funext fun _ => (EReal.coe_sub _ _).symm
theorem mulf_c2 (f g : ℕ → ℕ → ℝ) : mulf (c2 m n f : FVec Ideal _ φ) (c2 m n g) = c2 m n fun a b => f a b * g a b :=
  funext fun _ => (EReal.coe_mul _ _).symm
theorem div_coe_coe (x y : ℝ) (h : y ≠ 0) : Ideal.div (x : EReal) (y : EReal) = ((x / y : ℝ) : EReal) := by
  rw [Ideal.div_coe h, ← EReal.coe_mul, mul_one_div]
theorem divf_c2 (f : ℕ → ℕ → ℝ) (k : ℝ) (h : k ≠ 0) :
    divf (c2 m n f : FVec Ideal _ φ) (c2 m n fun _ _ => k) = c2 m n fun a b => f a b / k :=
  funext fun _ => div_coe_coe _ _ h
theorem tanh_c2 (f : ℕ → ℕ → ℝ) : tanh (c2 m n f : FVec Ideal _ φ) = c2 m n fun a b => Real.tanh (f a b) :=
  funext fun _ => Ideal.tanh_coe _
theorem rsqrt_pos {x : ℝ} (h : 0 < x) : Ideal.rsqrt (x : EReal) = (((√x)⁻¹ : ℝ) : EReal) := by
  rw [Ideal.rsqrt_coe]; simp [h.ne', not_lt.2 h.le]
theorem rsqrt_c2 (f : ℕ → ℕ → ℝ) (h : ∀ a b, 0 < f a b) :
    rsqrt (c2 m n f : FVec Ideal _ φ) = c2 m n fun a b => (√(f a b))⁻¹ :=
  funext fun _ => rsqrt_pos (h _ _)
theorem extf_c2 (f : ℕ → ℕ → ℝ) (h : φ.bits < ψ.bits) : extf ψ (c2 m n f : FVec Ideal _ φ) h = c2 m n f := rfl
theorem truncf_c2 (f : ℕ → ℕ → ℝ) (h : ψ.bits < φ.bits) : truncf ψ (c2 m n f : FVec Ideal _ φ) h = c2 m n f := rfl
theorem broadcast_c2 (x : ℝ) : (broadcast ⟨2, ![m, n]⟩ (x : EReal) : FVec Ideal _ φ) = c2 m n fun _ _ => x := rfl
/-! ### Shapes -/

section Shapes
variable {α : Type}

theorem ext1 {x y : (⟨1, ![m]⟩ : Shape).Idx → α} (h : ∀ a, x (ix1 a) = y (ix1 a)) : x = y :=
  funext fun i => by rw [eq_ix1 i]; exact h _
theorem ext2 {x y : (⟨2, ![m, n]⟩ : Shape).Idx → α} (h : ∀ a b, x (ix2 a b) = y (ix2 a b)) : x = y :=
  funext fun i => by rw [eq_ix2 i]; exact h _ _
theorem ext3 {x y : (⟨3, ![m, n, p]⟩ : Shape).Idx → α} (h : ∀ a b c, x (ix3 a b c) = y (ix3 a b c)) : x = y :=
  funext fun i => by rw [eq_ix3 i]; exact h _ _ _
theorem ext4 {x y : (⟨4, ![m, n, p, q]⟩ : Shape).Idx → α} (h : ∀ a b c d, x (ix4 a b c d) = y (ix4 a b c d)) : x = y :=
  funext fun i => by rw [eq_ix4 i]; exact h _ _ _ _

theorem cast_col (f : ℕ → ℝ) (h : (⟨1, ![m]⟩ : Shape).ShapeCasts ⟨2, ![m, 1]⟩) :
    shapeCast ⟨2, ![m, 1]⟩ (c1 m f : FVec Ideal _ φ) h = c2 m 1 fun a _ => f a :=
  ext2 fun a b => (shapeCast_apply _ h _ (ix1 a) (by
    rw [Shape.rowMajor_val_one, Shape.rowMajor_val_two]
    have := b.isLt; simp at this ⊢)).trans rfl
theorem cast_row (f : ℕ → ℝ) (h : (⟨1, ![n]⟩ : Shape).ShapeCasts ⟨2, ![1, n]⟩) :
    shapeCast ⟨2, ![1, n]⟩ (c1 n f : FVec Ideal _ φ) h = c2 1 n fun _ b => f b :=
  ext2 fun a b => (shapeCast_apply _ h _ (ix1 b) (by
    rw [Shape.rowMajor_val_one, Shape.rowMajor_val_two]
    have := a.isLt; simp at this ⊢)).trans rfl
theorem cast_drop (f : ℕ → ℕ → ℕ → ℝ) (h : (⟨3, ![1, m, n]⟩ : Shape).ShapeCasts ⟨2, ![m, n]⟩) :
    shapeCast ⟨2, ![m, n]⟩ (c3 1 m n f : FVec Ideal _ φ) h = c2 m n fun a b => f 0 a b :=
  ext2 fun a b => (shapeCast_apply _ h _ (ix3 0 a b) (by
    rw [Shape.rowMajor_val_three, Shape.rowMajor_val_two]; simp)).trans rfl
theorem cast_add (f : ℕ → ℕ → ℝ) (h : (⟨2, ![m, n]⟩ : Shape).ShapeCasts ⟨3, ![1, m, n]⟩) :
    shapeCast ⟨3, ![1, m, n]⟩ (c2 m n f : FVec Ideal _ φ) h = c3 1 m n fun _ a b => f a b :=
  ext3 fun z a b => (shapeCast_apply _ h _ (ix2 a b) (by
    rw [Shape.rowMajor_val_three, Shape.rowMajor_val_two]
    have := z.isLt; simp at this ⊢)).trans rfl
theorem bcast_col (f : ℕ → ℕ → ℝ) (h : (⟨2, ![m, 1]⟩ : Shape).Broadcasts ⟨2, ![m, n]⟩) :
    broadcastTo ⟨2, ![m, n]⟩ (c2 m 1 f : FVec Ideal _ φ) h = c2 m n fun a _ => f a 0 :=
  ext2 fun a b => (broadcastTo_apply _ h _ (ix2 a 0) (by
    intro d; fin_cases d
    · have := a.isLt
      show a.val = if m = 1 then 0 else a.val
      split_ifs <;> omega
    · rfl)).trans rfl
theorem bcast_row (f : ℕ → ℕ → ℝ) (h : (⟨2, ![1, n]⟩ : Shape).Broadcasts ⟨2, ![m, n]⟩) :
    broadcastTo ⟨2, ![m, n]⟩ (c2 1 n f : FVec Ideal _ φ) h = c2 m n fun _ b => f 0 b :=
  ext2 fun a b => (broadcastTo_apply _ h _ (ix2 0 b) (by
    intro d; fin_cases d
    · rfl
    · have := b.isLt
      show b.val = if n = 1 then 0 else b.val
      split_ifs <;> omega)).trans rfl
theorem cast_self (x : (⟨2, ![m, n]⟩ : Shape).Idx → α) (h : (⟨2, ![m, n]⟩ : Shape).ShapeCasts ⟨2, ![m, n]⟩) :
    shapeCast ⟨2, ![m, n]⟩ x h = x := shapeCast_self x h

theorem slice_c2 (o : ℕ) (f : ℕ → ℕ → ℝ) (h : (⟨2, ![m, n]⟩ : Shape).Slices ![o, 0] ⟨2, ![p, n]⟩) :
    extractStridedSlice ⟨2, ![p, n]⟩ ![o, 0] (c2 m n f : FVec Ideal _ φ) h = c2 p n fun a b => f (o + a) b :=
  ext2 fun a b => by
    show (((f (o + a.val) (0 + b.val)) : ℝ) : EReal) = ((f (o + a.val) b.val : ℝ) : EReal)
    rw [Nat.zero_add]
theorem rotate_c2 (s : BitVec 32) (f : ℕ → ℕ → ℝ) (h : (⟨2, ![m, n]⟩ : Shape).Rotates 0 none) :
    dynamicRotate (no_index 0) s none (c2 m n f : FVec Ideal _ φ) h = c2 m n fun a b => f ((a + m - s.toNat % m) % m) b := rfl

end Shapes

/-! ### Integer vectors, and selection -/

def n2 {w : ℕ} (m n : ℕ) (f : ℕ → ℕ → BitVec w) : IVec ⟨2, ![m, n]⟩ w := fun i => f (i 0).val (i 1).val

theorem iota_row (h : (⟨2, ![m, n]⟩ : Shape).Iotas .tc 32 [0]) :
    iota .tc ⟨2, ![m, n]⟩ 32 [0] h = n2 m n fun a _ => BitVec.ofNat 32 a := by
  funext i; simp [iota, n2]
theorem iota_col (h : (⟨2, ![m, n]⟩ : Shape).Iotas .tc 32 [1]) :
    iota .tc ⟨2, ![m, n]⟩ 32 [1] h = n2 m n fun _ b => BitVec.ofNat 32 b := by
  funext i; simp [iota, n2]
theorem select_c2 (k : ℕ → ℕ → BitVec 1) (f g : ℕ → ℕ → ℝ) :
    select (n2 m n k) (c2 m n f : FVec Ideal _ φ) (c2 m n g) = c2 m n fun a b => if k a b = 1#1 then f a b else g a b := by
  funext i
  show (if k (i 0).val (i 1).val = 1#1 then ((f (i 0).val (i 1).val : ℝ) : EReal) else _) = ((ite _ _ _ : ℝ) : EReal)
  split <;> rfl
theorem row_eq (k : BitVec 32) (hm : m < 2 ^ 32) (f g : ℕ → ℕ → ℝ) (h : (⟨2, ![m, n]⟩ : Shape).Iotas .tc 32 [0]) :
    select (cmpi .eq (iota .tc ⟨2, ![m, n]⟩ 32 (no_index [0]) h) (broadcast ⟨2, ![m, n]⟩ k)) (c2 m n f : FVec Ideal _ φ) (c2 m n g)
    = c2 m n fun a b => if a = k.toNat then f a b else g a b := by
  rw [iota_row]
  refine (select_c2 (fun a _ => IntOp.cmpi .eq (BitVec.ofNat 32 a) k) f g).trans (c2_congr fun a ha b _ => ?_)
  have : (IntOp.cmpi .eq (BitVec.ofNat 32 a) k = 1#1) ↔ a = k.toNat := by
    have ha' : a < 2 ^ 32 := by omega
    show BitVec.ofBool (BitVec.ofNat 32 a == k) = 1#1 ↔ a = k.toNat
    constructor
    · intro e
      have : BitVec.ofNat 32 a = k := by
        by_contra hne
        rw [beq_eq_false_iff_ne.2 hne] at e
        exact absurd e (by decide)
      rw [← this, BitVec.toNat_ofNat, Nat.mod_eq_of_lt ha']
    · rintro rfl; simp
  simp only [this]

/-! ### Sums along an axis, and products of matrices -/

theorem sum_rows (f : ℕ → ℕ → ℝ) (acc : BitVec φ.bits) (h : (⟨2, ![m, n]⟩ : Shape).Reduces [1] ⟨1, ![m]⟩) (hφ : FKind.Formats φ)
    (ha : acc = FKind.add.neutral φ hφ) :
    multiReduction .add (no_index [1]) ⟨1, ![m]⟩ (c2 m n f : FVec Ideal _ φ) acc h hφ ha = c1 m fun a => ∑ b ∈ range n, f a b :=
  ext1 fun a => (Ideal.multiReduction_add_single _ acc h hφ ha _).trans ((sum_fin_coe n fun b => f a b))
theorem sum_cols (f : ℕ → ℕ → ℝ) (acc : BitVec φ.bits) (h : (⟨2, ![m, n]⟩ : Shape).Reduces [0] ⟨1, ![n]⟩) (hφ : FKind.Formats φ)
    (ha : acc = FKind.add.neutral φ hφ) :
    multiReduction .add (no_index [0]) ⟨1, ![n]⟩ (c2 m n f : FVec Ideal _ φ) acc h hφ ha = c1 n fun b => ∑ a ∈ range m, f a b :=
  ext1 fun b => (Ideal.multiReduction_add_single _ acc h hφ ha _).trans ((sum_fin_coe m fun a => f a b))

/-- A product of two lifted matrices into a zero accumulator, from the coordinates the product reads. -/
theorem matmul_c2 {k : ℕ} (d : DotDims ⟨2, ![m, n]⟩ ⟨2, ![p, q]⟩ ⟨2, ![k, k]⟩) {a : Fin 2} (hc : d.lhsContracting = [a]) {K : ℕ}
    (hK : (⟨2, ![m, n]⟩ : Shape).size a = K) (prec : Option ContractPrecision) (f g : ℕ → ℕ → ℝ) (L R : ℕ → ℕ → ℕ → ℕ × ℕ)
    (hL : ∀ (j : (⟨2, ![k, k]⟩ : Shape).Idx) (x : Fin K), (d.lhsIdx j (d.contrIdx₁ hc hK x) 0).val = (L (j 0).val (j 1).val x.val).1 ∧
      (d.lhsIdx j (d.contrIdx₁ hc hK x) 1).val = (L (j 0).val (j 1).val x.val).2)
    (hR : ∀ (j : (⟨2, ![k, k]⟩ : Shape).Idx) (x : Fin K), (d.rhsIdx j (d.contrIdx₁ hc hK x) 0).val = (R (j 0).val (j 1).val x.val).1 ∧
      (d.rhsIdx j (d.contrIdx₁ hc hK x) 1).val = (R (j 0).val (j 1).val x.val).2) :
    matmul d prec (c2 m n f : FVec Ideal _ φ) (c2 p q g : FVec Ideal _ ψ) (constant ⟨2, ![k, k]⟩ .f32 0x00000000#32)
    = c2 k k fun i j => ∑ x ∈ range K, f (L i j x).1 (L i j x).2 * g (R i j x).1 (R i j x).2 := by
  funext j
  refine (Ideal.matmul_constant_zero_apply d prec _ _ j).trans ?_
  rw [d.sum_contr₁ hc hK]
  refine Eq.trans (Finset.sum_congr rfl fun x _ => ?_) (sum_fin_coe K fun x =>
    f (L (j 0).val (j 1).val x).1 (L (j 0).val (j 1).val x).2 * g (R (j 0).val (j 1).val x).1 (R (j 0).val (j 1).val x).2)
  simp only [c2, hL, hR, EReal.coe_mul]

end Cert.Coe

end
-- ==== Proof.Spec.lean ====
/- The gradient of the mixer over the real numbers, row by row, in the form the kernel computes it. Rows and columns are natural
   numbers; `A` holds the arguments. Columns of `z`: u, v, B, C, h, of 1024 each. -/
module

public import proofs.«01_k».proof.Proof.Coe

@[expose] public section

noncomputable section

namespace Cert.Spec

open Finset

/-- The arguments, as real functions of their coordinates. -/
structure Args where
  z : ℕ → ℕ → ℝ
  dy : ℕ → ℕ → ℝ
  lng : ℕ → ℝ
  lnb : ℕ → ℝ
  w : ℕ → ℕ → ℕ → ℝ
  b : ℕ → ℕ → ℝ
  cw : ℕ → ℕ → ℝ
  gg : ℕ → ℝ

/-- The constants of the GELU and of the two norms. -/
def gA : ℝ := 8943 / 200000
def gC : ℝ := 13386282 / 2 ^ 24
def e6 : ℝ := 8796093 / 2 ^ 43
def e5 : ℝ := 10995116 / 2 ^ 40

theorem e6_pos : 0 < e6 := by norm_num [e6]
theorem e5_pos : 0 < e5 := by norm_num [e5]

def th (x : ℝ) : ℝ := Real.tanh (gC * (x + gA * x * x * x))
def gelu (x : ℝ) : ℝ := 1 / 2 * x * (1 + th x)
def gelu' (x : ℝ) : ℝ := 1 / 2 * (1 + th x) + 1 / 2 * x * (1 - th x * th x) * gC * (1 + 26829 / 200000 * x * x)

/-- The mean of 1024 entries. -/
def mean (f : ℕ → ℝ) : ℝ := (∑ c ∈ range 1024, f c) / 1024

/-- The reciprocal root of the mean square, and the backward pass of the division by it: `y` the row, `g` its gradient. -/
def rinv (e : ℝ) (y : ℕ → ℝ) : ℝ := (√(mean (fun c => y c * y c) + e))⁻¹
def rmsBack (y g : ℕ → ℝ) (c : ℕ) : ℝ :=
  rinv e6 y * (g c - y c * rinv e6 y * mean fun k => g k * (y k * rinv e6 y))

variable (A : Args)

def zu (r c : ℕ) : ℝ := A.z r c
def zv (r c : ℕ) : ℝ := A.z r (1024 + c)
def zb (r c : ℕ) : ℝ := A.z r (2048 + c)
def zc (r c : ℕ) : ℝ := A.z r (3072 + c)
def zh (r c : ℕ) : ℝ := A.z r (4096 + c)

/-! ### The spatial gate -/

def u (r c : ℕ) : ℝ := gelu (zu A r c)
def v (r c : ℕ) : ℝ := gelu (zv A r c)
def vc (r c : ℕ) : ℝ := v A r c - mean (v A r)
def rs (r : ℕ) : ℝ := rinv e5 (vc A r)
def vhat (r c : ℕ) : ℝ := vc A r c * rs A r
def vln (r c : ℕ) : ℝ := vhat A r c * A.lng c + A.lnb c
def wm (h i j : ℕ) : ℝ := if j / 64 ≤ i / 64 then A.w h i j else 0
def mixed (r c : ℕ) : ℝ :=
  (∑ j ∈ range 128, wm A (c / 128) (r % 128) j * vln A (128 * (r / 128) + j) c) + A.b (c / 128) (r % 128)
def ya (r c : ℕ) : ℝ := u A r c * mixed A r c
def da (r c : ℕ) : ℝ := A.dy r c
def dya (r c : ℕ) : ℝ := rmsBack (ya A r) (fun k => da A r k * A.gg k) c
def dzu (r c : ℕ) : ℝ := dya A r c * mixed A r c * gelu' (zu A r c)
def dmix (r c : ℕ) : ℝ := dya A r c * u A r c
def dvln (r c : ℕ) : ℝ := ∑ i ∈ range 128, wm A (c / 128) i (r % 128) * dmix A (128 * (r / 128) + i) c
def dvh (r c : ℕ) : ℝ := dvln A r c * A.lng c
def dv (r c : ℕ) : ℝ :=
  rs A r * (dvh A r c - mean (dvh A r) - vhat A r c * mean fun k => dvh A r k * vhat A r k)
def dzv (r c : ℕ) : ℝ := dv A r c * gelu' (zv A r c)

/-! ### The short convolution -/

def q (r c : ℕ) : ℝ := zc A r c * zh A r c
def qm (n r c : ℕ) : ℝ := if n ≤ r then q A (r - n) c else 0
def cv (r c : ℕ) : ℝ := A.cw 0 c * qm A 2 r c + A.cw 1 c * qm A 1 r c + A.cw 2 c * q A r c
def yb (r c : ℕ) : ℝ := zb A r c * cv A r c
def dbo (r c : ℕ) : ℝ := A.dy r (1024 + c)
def dyb (r c : ℕ) : ℝ := rmsBack (yb A r) (fun k => dbo A r k * A.gg (1024 + k)) c
def g (r c : ℕ) : ℝ := dyb A r c * zb A r c
def gE (r c : ℕ) : ℝ := if r < 4096 then g A r c else 0
def dzb (r c : ℕ) : ℝ := dyb A r c * cv A r c
def dq (r c : ℕ) : ℝ := A.cw 2 c * g A r c + A.cw 1 c * gE A (r + 1) c + A.cw 0 c * gE A (r + 2) c

/-! ### The results, the sums over rows taken up to row `n` -/

def dz (r c : ℕ) : ℝ :=
  if c < 1024 then dzu A r c else if c < 2048 then dzv A r (c - 1024) else if c < 3072 then dzb A r (c - 2048)
  else if c < 4096 then dq A r (c - 3072) * zh A r (c - 3072) else dq A r (c - 4096) * zc A r (c - 4096)
def dlng (n c : ℕ) : ℝ := ∑ r ∈ range n, dvln A r c * vhat A r c
def dlnb (n c : ℕ) : ℝ := ∑ r ∈ range n, dvln A r c
def dw (n h i j : ℕ) : ℝ :=
  ∑ B ∈ range n, ∑ l ∈ range 128, dmix A (128 * B + i) (128 * h + l) * vln A (128 * B + j) (128 * h + l)
def db (n h i l : ℕ) : ℝ := ∑ B ∈ range n, dmix A (128 * B + i) (128 * h + l)
def dcw (n k c : ℕ) : ℝ := if k < 3 then ∑ r ∈ range n, g A r c * qm A (2 - k) r c else 0
def dgg (n c : ℕ) : ℝ :=
  if c < 1024 then ∑ r ∈ range n, da A r c * (ya A r c * rinv e6 (ya A r))
  else ∑ r ∈ range n, dbo A r (c - 1024) * (yb A r (c - 1024) * rinv e6 (yb A r))

/-- After the last row the weight's gradient is masked and the bias's summed over the lanes. -/
def dwm (h i j : ℕ) : ℝ := if j / 64 ≤ i / 64 then dw A 32 h i j else 0
def dbs (h i : ℕ) : ℝ := ∑ l ∈ range 128, db A 32 h i l

theorem rinv_arg_pos {e : ℝ} (he : 0 < e) (y : ℕ → ℝ) : 0 < mean (fun c => y c * y c) + e :=
  add_pos_of_nonneg_of_pos (div_nonneg (sum_nonneg fun _ _ => mul_self_nonneg _) (by norm_num)) he

end Cert.Spec

end
-- ==== Proof.Tile.lean ====
/- Loads and stores of lifted vectors, the literals, the causal mask over 64-blocks, and the three products of 128×128 blocks. -/
module

public import proofs.«01_k».proof.Proof.Gen.KernelIdeal.Value
public import proofs.«01_k».proof.Proof.Spec

@[expose] public section

noncomputable section

namespace Cert.KernelIdeal.Gen

open Idealize.ShloMosaic Idealize.ShloMosaic.TcCoe
open Cert.Coe Cert.Spec Finset

/-! ### Literals -/

theorem lit_zero : (Scalar.ofBits .f32 0x00000000#32 : Ideal .f32) = ((0 : ℝ) : EReal) := by
  show Ideal.ofBits _ _ = _; simp [Ideal.ofBits, Ideal.ieee]
theorem lit_one : (Scalar.ofBits .f32 0x3F800000#32 : Ideal .f32) = ((1 : ℝ) : EReal) := by
  show Ideal.ofBits _ _ = _; simp [Ideal.ofBits, Ideal.ieee, -EReal.coe_mul]; norm_num
theorem lit_half : (Scalar.ofBits .f32 0x3F000000#32 : Ideal .f32) = ((1 / 2 : ℝ) : EReal) := by
  show Ideal.ofBits _ _ = _; simp [Ideal.ofBits, Ideal.ieee, -EReal.coe_mul]; norm_num
theorem lit_1024 : (Scalar.ofBits .f32 0x44800000#32 : Ideal .f32) = ((1024 : ℝ) : EReal) := by
  show Ideal.ofBits _ _ = _; simp [Ideal.ofBits, Ideal.ieee, -EReal.coe_mul]; norm_num
theorem lit_gC : (Scalar.ofBits .f32 0x3F4C422A#32 : Ideal .f32) = ((gC : ℝ) : EReal) := by
  show Ideal.ofBits _ _ = _; simp [Ideal.ofBits, Ideal.ieee, -EReal.coe_mul, gC]; norm_num
theorem lit_e6 : (Scalar.ofBits .f32 0x358637BD#32 : Ideal .f32) = ((e6 : ℝ) : EReal) := by
  show Ideal.ofBits _ _ = _; simp [Ideal.ofBits, Ideal.ieee, -EReal.coe_mul, e6]; norm_num
theorem lit_e5 : (Scalar.ofBits .f32 0x3727C5AC#32 : Ideal .f32) = ((e5 : ℝ) : EReal) := by
  show Ideal.ofBits _ _ = _; simp [Ideal.ofBits, Ideal.ieee, -EReal.coe_mul, e5]; norm_num
theorem named_a : (Named.named κ "gelu_a" (φ := .f32) 0x3D372713#32 : Ideal .f32) = ((gA : ℝ) : EReal) :=
  IdealRules.named_const.ideal_named_scalar _ _ _ _ rfl
theorem named_3a : (Named.named κ "gelu_3a" (φ := .f32) 0x3E095D4F#32 : Ideal .f32) = ((26829 / 200000 : ℝ) : EReal) :=
  IdealRules.named_const.ideal_named_scalar _ _ _ _ rfl

/-! ### Loads -/

section Loads
variable {m n k p q r : ℕ} {e : EltTy}

/-- Vectors given by a function of their coordinates, of any element type. -/
def v2 (m n : ℕ) (f : ℕ → ℕ → Elt Ideal e) : (⟨2, ![m, n]⟩ : Shape).Idx → Elt Ideal e := fun i => f (i 0).val (i 1).val
def v3 (m n k : ℕ) (f : ℕ → ℕ → ℕ → Elt Ideal e) : (⟨3, ![m, n, k]⟩ : Shape).Idx → Elt Ideal e :=
  fun i => f (i 0).val (i 1).val (i 2).val

theorem ld_v2 (o o' : ℕ) (f : ℕ → ℕ → Elt Ideal e) (inb) :
    View.ld (Val := Elt Ideal) (v2 m n f) (Rect.unit ![o, o'] ![p, q] inb) = v2 p q fun a b => f (o + a) (o' + b) := by
  rw [View.ld_unit]; rfl
theorem ld_v3 (o o' o'' : ℕ) (f : ℕ → ℕ → ℕ → Elt Ideal e) (inb) :
    View.ld (Val := Elt Ideal) (v3 m n k f) (Rect.unit ![o, o', o''] ![p, q, r] inb)
    = v3 p q r fun a b c => f (o + a) (o' + b) (o'' + c) := by
  rw [View.ld_unit]; rfl

variable {σ : RefSig} {s : Kind} {sp : Space}

theorem readAt_bf16 {v : Memref σ s sp ⟨2, ![m, n]⟩ .bf16} (h : v.IsWhole) (o o' : ℕ) (f : ℕ → ℕ → ℝ) (inb) :
    View.readAt (Elt Ideal) v.view (Rect.unit ![o, o'] (no_index ![p, q]) inb).toLoadRect (h.unread (Val := Elt Ideal) (c2 (φ := .bf16) m n f))
    = (c2 (φ := .bf16) p q fun a b => f (o + a) (o' + b) : FVec Ideal ⟨2, ![p, q]⟩ .bf16) := by
  rw [View.readAt_eq_ld, h.read_unread]; exact ld_v2 (e := .bf16) o o' (fun a b => ((f a b : ℝ) : EReal)) inb
theorem readAt_f32 {v : Memref σ s sp ⟨2, ![m, n]⟩ .f32} (h : v.IsWhole) (o o' : ℕ) (f : ℕ → ℕ → ℝ) (inb) :
    View.readAt (Elt Ideal) v.view (Rect.unit ![o, o'] (no_index ![p, q]) inb).toLoadRect (h.unread (Val := Elt Ideal) (c2 (φ := .f32) m n f))
    = (c2 (φ := .f32) p q fun a b => f (o + a) (o' + b) : FVec Ideal ⟨2, ![p, q]⟩ .f32) := by
  rw [View.readAt_eq_ld, h.read_unread]; exact ld_v2 (e := .f32) o o' (fun a b => ((f a b : ℝ) : EReal)) inb
theorem readAt_c3 {v : Memref σ s sp ⟨3, ![m, n, k]⟩ .f32} (h : v.IsWhole) (o o' o'' : ℕ) (f : ℕ → ℕ → ℕ → ℝ) (inb) :
    View.readAt (Elt Ideal) v.view (Rect.unit ![o, o', o''] (no_index ![p, q, r]) inb).toLoadRect
      (h.unread (Val := Elt Ideal) (c3 (φ := .f32) m n k f))
    = (c3 (φ := .f32) p q r fun a b c => f (o + a) (o' + b) (o'' + c) : FVec Ideal ⟨3, ![p, q, r]⟩ .f32) := by
  rw [View.readAt_eq_ld, h.read_unread]; exact ld_v3 (e := .f32) o o' o'' (fun a b c => ((f a b c : ℝ) : EReal)) inb

/-- A load out of a buffer whose stores leave a lifted vector. -/
theorem readCov_c2 {v : View σ s sp ⟨2, ![m, n]⟩ .f32} {L : List (View.Piece (Elt Ideal) ⟨2, ![m, n]⟩ .f32)} {f : ℕ → ℕ → ℝ}
    (hL : View.canon L = c2 (φ := .f32) m n f) (o o' : ℕ) (inb) :
    v.readCov L (Rect.unit ![o, o'] (no_index ![p, q]) inb).toLoadRect
    = (c2 (φ := .f32) p q fun a b => f (o + a) (o' + b) : FVec Ideal ⟨2, ![p, q]⟩ .f32) := by
  rw [View.readCov_eq_canon', hL]; exact ld_v2 (e := .f32) o o' (fun a b => ((f a b : ℝ) : EReal)) inb
theorem readCov_c3 {v : View σ s sp ⟨3, ![m, n, k]⟩ .f32} {L : List (View.Piece (Elt Ideal) ⟨3, ![m, n, k]⟩ .f32)}
    {f : ℕ → ℕ → ℕ → ℝ} (hL : View.canon L = c3 (φ := .f32) m n k f) (o o' o'' : ℕ) (inb) :
    v.readCov L (Rect.unit ![o, o', o''] (no_index ![p, q, r]) inb).toLoadRect
    = (c3 (φ := .f32) p q r fun a b c => f (o + a) (o' + b) (o'' + c) : FVec Ideal ⟨3, ![p, q, r]⟩ .f32) := by
  rw [View.readCov_eq_canon', hL]; exact ld_v3 (e := .f32) o o' o'' (fun a b c => ((f a b c : ℝ) : EReal)) inb

/-! ### Stores -/

theorem canon_whole2 (f : ℕ → ℕ → ℝ) (L : List (View.Piece (Elt Ideal) ⟨2, ![m, n]⟩ .f32)) (inb) :
    View.canon (⟨Rect.unit ![0, 0] ![m, n] inb, c2 (φ := .f32) m n f⟩ :: L) = c2 (φ := .f32) m n f :=
  View.canon_cons_unit_zero (by funext a; fin_cases a <;> rfl) inb _ L
/-- A store of one leading block over a lifted vector. -/
theorem canon_block {L : List (View.Piece (Elt Ideal) ⟨3, ![m, n, k]⟩ .f32)} {G : ℕ → ℕ → ℕ → ℝ}
    (hL : View.canon L = c3 (φ := .f32) m n k G) (o : ℕ) (f : ℕ → ℕ → ℕ → ℝ) (inb) :
    View.canon (⟨Rect.unit ![o, 0, 0] ![1, n, k] inb, c3 (φ := .f32) 1 n k f⟩ :: L)
    = c3 (φ := .f32) m n k fun a b c => if a = o then f 0 b c else G a b c := by
  funext y
  by_cases hy : (y 0).val = o
  · obtain ⟨x, rfl⟩ : ∃ x : (Rect.unit (s := ⟨3, ![m, n, k]⟩) ![o, 0, 0] ![1, n, k] inb).shape.Idx,
        (Rect.unit (s := ⟨3, ![m, n, k]⟩) ![o, 0, 0] ![1, n, k] inb).emb x = y :=
      ⟨ix3 0 (y 1) (y 2), Rect.emb_eq_of_coords _ _ _ fun a => by fin_cases a <;> simp [hy]⟩
    refine (View.canon_cons_emb _ _ _ x).trans ?_
    have h0 : (x 0).val = 0 := Nat.lt_one_iff.1 (x 0).isLt
    show ((f (x 0).val (x 1).val (x 2).val : ℝ) : EReal)
      = ((if o + 1 * (x 0).val = o then f 0 (0 + 1 * (x 1).val) (0 + 1 * (x 2).val) else _ : ℝ) : EReal)
    rw [h0, if_pos (by omega)]; simp only [zero_add, one_mul]
  · rw [View.canon_cons_of_not_mem, hL]
    · simp [c3, hy]
    · exact Rect.not_mem_set_of_axis _ _ 0 o 1 rfl rfl rfl (by omega)
/-- A store of one row over a lifted vector. -/
theorem canon_row {L : List (View.Piece (Elt Ideal) ⟨2, ![m, n]⟩ .f32)} {G : ℕ → ℕ → ℝ}
    (hL : View.canon L = c2 (φ := .f32) m n G) (o : ℕ) (f : ℕ → ℕ → ℝ) (inb) :
    View.canon (⟨Rect.unit ![o, 0] ![1, n] inb, c2 (φ := .f32) 1 n f⟩ :: L)
    = c2 (φ := .f32) m n fun a b => if a = o then f 0 b else G a b := by
  funext y
  by_cases hy : (y 0).val = o
  · obtain ⟨x, rfl⟩ : ∃ x : (Rect.unit (s := ⟨2, ![m, n]⟩) ![o, 0] ![1, n] inb).shape.Idx,
        (Rect.unit (s := ⟨2, ![m, n]⟩) ![o, 0] ![1, n] inb).emb x = y :=
      ⟨ix2 0 (y 1), Rect.emb_eq_of_coords _ _ _ fun a => by fin_cases a <;> simp [hy]⟩
    refine (View.canon_cons_emb _ _ _ x).trans ?_
    have h0 : (x 0).val = 0 := Nat.lt_one_iff.1 (x 0).isLt
    show ((f (x 0).val (x 1).val : ℝ) : EReal) = ((if o + 1 * (x 0).val = o then f 0 (0 + 1 * (x 1).val) else _ : ℝ) : EReal)
    rw [h0, if_pos (by omega)]; simp only [zero_add, one_mul]
  · rw [View.canon_cons_of_not_mem, hL]
    · simp [c2, hy]
    · exact Rect.not_mem_set_of_axis _ _ 0 o 1 rfl rfl rfl (by omega)

/-- Stores whose payloads are the tiles of one function. -/
def Tiles (X : (⟨2, ![m, n]⟩ : Shape).Idx → Elt Ideal e) (L : List (View.Piece (Elt Ideal) ⟨2, ![m, n]⟩ e)) : Prop :=
  ∀ p ∈ L, ∀ x, p.2 x = X (p.1.emb x)
theorem tiles_nil (X : (⟨2, ![m, n]⟩ : Shape).Idx → Elt Ideal e) : Tiles X [] := fun _ h => absurd h List.not_mem_nil
theorem tiles_cons {G : ℕ → ℕ → Elt Ideal e} {L : List (View.Piece (Elt Ideal) ⟨2, ![m, n]⟩ e)} (hL : Tiles (v2 m n G) L) (o o' : ℕ)
    (f : ℕ → ℕ → Elt Ideal e) (h : ∀ a < p, ∀ b < q, f a b = G (o + a) (o' + b)) (inb) :
    Tiles (v2 m n G) (⟨Rect.unit ![o, o'] ![p, q] inb, v2 p q f⟩ :: L) := by
  intro P hP x
  rcases List.mem_cons.1 hP with rfl | hP
  · refine (h _ (x 0).isLt _ (x 1).isLt).trans ?_
    show _ = G (o + 1 * (x 0).val) (o' + 1 * (x 1).val)
    rw [one_mul, one_mul]
  · exact hL P hP x
theorem canon_tiles {X : (⟨2, ![m, n]⟩ : Shape).Idx → Elt Ideal e} {L : List (View.Piece (Elt Ideal) ⟨2, ![m, n]⟩ e)} (h : Tiles X L)
    (hc : ∀ y, ∃ p ∈ L, y ∈ p.1.set) : View.canon L = X :=
  funext fun y => View.canon_apply_of_pieces X L h y (hc y)
theorem tiles_f32 {G : ℕ → ℕ → ℝ} {L : List (View.Piece (Elt Ideal) ⟨2, ![m, n]⟩ .f32)} (hL : Tiles (c2 (φ := .f32) m n G) L)
    (o o' : ℕ) (f : ℕ → ℕ → ℝ) (h : ∀ a < p, ∀ b < q, f a b = G (o + a) (o' + b)) (inb) :
    Tiles (c2 (φ := .f32) m n G) (⟨Rect.unit ![o, o'] ![p, q] inb, c2 (φ := .f32) p q f⟩ :: L) :=
  tiles_cons (e := .f32) (G := fun a b => ((G a b : ℝ) : EReal)) hL o o' (fun a b => ((f a b : ℝ) : EReal))
    (fun a ha b hb => congrArg _ (h a ha b hb)) inb
theorem tiles_bf16 {G : ℕ → ℕ → ℝ} {L : List (View.Piece (Elt Ideal) ⟨2, ![m, n]⟩ .bf16)} (hL : Tiles (c2 (φ := .bf16) m n G) L)
    (o o' : ℕ) (f : ℕ → ℕ → ℝ) (h : ∀ a < p, ∀ b < q, f a b = G (o + a) (o' + b)) (inb) :
    Tiles (c2 (φ := .bf16) m n G) (⟨Rect.unit ![o, o'] ![p, q] inb, c2 (φ := .bf16) p q f⟩ :: L) :=
  tiles_cons (e := .bf16) (G := fun a b => ((G a b : ℝ) : EReal)) hL o o' (fun a b => ((f a b : ℝ) : EReal))
    (fun a ha b hb => congrArg _ (h a ha b hb)) inb

/-- Stores of the leading blocks: below block `k` the stores leave `G`. -/
def Below (G : ℕ → ℕ → ℕ → ℝ) (L : List (View.Piece (Elt Ideal) ⟨3, ![m, n, k]⟩ .f32)) (j : ℕ) : Prop :=
  ∀ y : (⟨3, ![m, n, k]⟩ : Shape).Idx, (y 0).val < j → View.canon L y = c3 (φ := .f32) m n k G y
theorem below_zero (G : ℕ → ℕ → ℕ → ℝ) (L : List (View.Piece (Elt Ideal) ⟨3, ![m, n, k]⟩ .f32)) : Below G L 0 :=
  fun _ h => absurd h (Nat.not_lt_zero _)
theorem below_succ {G : ℕ → ℕ → ℕ → ℝ} {L : List (View.Piece (Elt Ideal) ⟨3, ![m, n, k]⟩ .f32)} {o : ℕ} (hL : Below G L o)
    {P : Vec Ideal ⟨3, ![1, n, k]⟩ .f32} {f : ℕ → ℕ → ℕ → ℝ} (hP : P = c3 (φ := .f32) 1 n k f)
    (h : ∀ b c, f 0 b c = G o b c) (inb) :
    Below G (⟨Rect.unit ![o, 0, 0] ![1, n, k] inb, P⟩ :: L) (o + 1) := by
  subst hP
  intro y hy
  by_cases hy0 : (y 0).val = o
  · obtain ⟨x, rfl⟩ : ∃ x : (Rect.unit (s := ⟨3, ![m, n, k]⟩) ![o, 0, 0] ![1, n, k] inb).shape.Idx,
        (Rect.unit (s := ⟨3, ![m, n, k]⟩) ![o, 0, 0] ![1, n, k] inb).emb x = y :=
      ⟨ix3 0 (y 1) (y 2), Rect.emb_eq_of_coords _ _ _ fun a => by fin_cases a <;> simp [hy0]⟩
    refine (View.canon_cons_emb _ _ _ x).trans ?_
    have h0 : (x 0).val = 0 := Nat.lt_one_iff.1 (x 0).isLt
    show ((f (x 0).val (x 1).val (x 2).val : ℝ) : EReal) = ((G (o + 1 * (x 0).val) (0 + 1 * (x 1).val) (0 + 1 * (x 2).val) : ℝ) : EReal)
    rw [h0, h]; simp only [zero_add, one_mul, mul_zero, add_zero]
  · rw [View.canon_cons_of_not_mem]
    · exact hL y (by omega)
    · exact Rect.not_mem_set_of_axis _ _ 0 o 1 rfl rfl rfl (by omega)
theorem below_all {G : ℕ → ℕ → ℕ → ℝ} {L : List (View.Piece (Elt Ideal) ⟨3, ![m, n, k]⟩ .f32)} (hL : Below G L m) :
    View.canon L = c3 (φ := .f32) m n k G := funext fun y => hL y (y 0).isLt

/-- A store of one leading block, with the function left said. -/
theorem block_step {L : List (View.Piece (Elt Ideal) ⟨3, ![m, n, k]⟩ .f32)} {G G' : ℕ → ℕ → ℕ → ℝ}
    (hL : View.canon L = c3 (φ := .f32) m n k G) {o : ℕ} {P : Vec Ideal ⟨3, ![1, n, k]⟩ .f32} {f : ℕ → ℕ → ℕ → ℝ}
    (hP : P = c3 (φ := .f32) 1 n k f) (h : ∀ a b c, (if a = o then f 0 b c else G a b c) = G' a b c) (inb) :
    View.canon (⟨Rect.unit ![o, 0, 0] ![1, n, k] inb, P⟩ :: L) = c3 (φ := .f32) m n k G' := by
  subst hP
  exact (canon_block hL o f inb).trans (c3_congr fun a _ b _ c _ => h a b c)

/-- A store of one row over what a buffer held. -/
theorem read_row {v : View σ s sp ⟨2, ![m, n]⟩ .f32} {b : v.ty.Contents (Elt Ideal)}
    {L : List (View.Piece (Elt Ideal) ⟨2, ![m, n]⟩ .f32)} {G : ℕ → ℕ → ℝ}
    (hL : v.read (Elt Ideal) (v.writes (Elt Ideal) b L) = c2 (φ := .f32) m n G) (o : ℕ) {P : Vec Ideal ⟨2, ![1, n]⟩ .f32}
    {f : ℕ → ℕ → ℝ} (hP : P = c2 (φ := .f32) 1 n f) (inb) :
    v.read (Elt Ideal) (v.writes (Elt Ideal) b (⟨Rect.unit ![o, 0] ![1, n] inb, P⟩ :: L))
    = c2 (φ := .f32) m n fun a b => if a = o then f 0 b else G a b := by
  subst hP
  funext y
  by_cases hy : (y 0).val = o
  · refine (View.read_writes_cons_hit_of_coords v b _ _ L (ix2 0 (y 1)) y fun a => by fin_cases a <;> simp [hy]).trans ?_
    show ((f 0 (y 1).val : ℝ) : EReal) = ((if (y 0).val = o then f 0 (y 1).val else _ : ℝ) : EReal)
    rw [if_pos hy]
  · rw [View.read_writes_cons_miss, hL]
    · simp [c2, hy]
    · exact Rect.not_mem_set_of_axis _ _ 0 o 1 rfl rfl rfl (by omega)

end Loads

/-! ### The mask -/

/-- The kernel's floor division by 64, on a vector of words. -/
def fd (x : IVec S128x128 32) : IVec S128x128 32 :=
  select (andi (cmpi .ne (subi (extui 32 (cmpi .sgt x (broadcast S128x128 0#32)) natLt_1_32)
      (extui 32 (cmpi .slt x (broadcast S128x128 0#32)) natLt_1_32))
      (broadcast S128x128 (Scalar.subi (Scalar.extui (Scalar.cmpi .sgt 64#32 0#32)) (Scalar.extui (Scalar.cmpi .slt 64#32 0#32)))))
    (cmpi .ne (remsi x (broadcast S128x128 64#32)) (broadcast S128x128 0#32)))
    (subi (divsi x (broadcast S128x128 64#32)) (broadcast S128x128 1#32)) (divsi x (broadcast S128x128 64#32))

/-- The same on one word. -/
def fdS (x : BitVec 32) : BitVec 32 :=
  if IntOp.andi (IntOp.cmpi .ne (((IntOp.cmpi .sgt x 0#32).setWidth 32) - ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32) = 1#1 then IntOp.divsi .vector x 64#32 - 1#32
  else IntOp.divsi .vector x 64#32

theorem fdS_val : ∀ a : Fin 128, fdS (BitVec.ofNat 32 a.val) = BitVec.ofNat 32 (a.val / 64) := by decide +kernel

theorem fd_row : fd (iota .tc S128x128 32 [0] iota_S128x128_d0_w32) = n2 128 128 fun a _ => BitVec.ofNat 32 (a / 64) := by
  rw [iota_row]
  exact ext2 fun a b => fdS_val a
theorem fd_col : fd (iota .tc S128x128 32 [1] iota_S128x128_d1_w32) = n2 128 128 fun _ b => BitVec.ofNat 32 (b / 64) := by
  rw [iota_col]
  exact ext2 fun a b => fdS_val b

theorem sle_val : ∀ a b : Fin 128,
    IntOp.cmpi .sle (BitVec.ofNat 32 (b.val / 64)) (BitVec.ofNat 32 (a.val / 64)) = if b.val / 64 ≤ a.val / 64 then 1#1 else 0#1 := by
  decide +kernel

theorem mask_select {φ : FTy} (f : ℕ → ℕ → ℝ) :
    select (cmpi .sle (fd (iota .tc S128x128 32 [1] iota_S128x128_d1_w32)) (fd (iota .tc S128x128 32 [0] iota_S128x128_d0_w32)))
      (c2 128 128 f : FVec Ideal S128x128 φ) (c2 128 128 fun _ _ => 0) = c2 128 128 fun a b => if b / 64 ≤ a / 64 then f a b else 0 := by
  rw [fd_row, fd_col]
  refine (select_c2 (fun a b => IntOp.cmpi .sle (BitVec.ofNat 32 (b / 64)) (BitVec.ofNat 32 (a / 64))) f _).trans
    (c2_congr fun a ha b hb => ?_)
  rw [sle_val ⟨a, ha⟩ ⟨b, hb⟩]
  by_cases h : b / 64 ≤ a / 64 <;> simp [h]

/-- The mask of a weight's block, as the kernel reads it for a product, -/
theorem masked (f : ℕ → ℕ → ℕ → ℝ) :
    truncf .bf16 (select (cmpi .sle (fd (iota .tc S128x128 32 [1] iota_S128x128_d1_w32)) (fd (iota .tc S128x128 32 [0] iota_S128x128_d0_w32)))
      (shapeCast S128x128 (c3 1 128 128 f : FVec Ideal S1x128x128 .f32) shapeCasts_S1x128x128_S128x128)
      (broadcast S128x128 (Scalar.ofBits .f32 0x00000000#32))) bitsLt_bf16_f32
    = c2 128 128 fun a b => if b / 64 ≤ a / 64 then f 0 a b else 0 := by
  rw [cast_drop, lit_zero, broadcast_c2, mask_select, truncf_c2]
/-- and as it stores it. -/
theorem masked_store (f : ℕ → ℕ → ℕ → ℝ) :
    shapeCast S1x128x128 (select (cmpi .sle (fd (iota .tc S128x128 32 [1] iota_S128x128_d1_w32)) (fd (iota .tc S128x128 32 [0] iota_S128x128_d0_w32)))
      (shapeCast S128x128 (c3 1 128 128 f : FVec Ideal S1x128x128 .f32) shapeCasts_S1x128x128_S128x128)
      (broadcast S128x128 (Scalar.ofBits .f32 0x00000000#32))) shapeCasts_S128x128_S1x128x128
    = c3 1 128 128 fun _ a b => if b / 64 ≤ a / 64 then f 0 a b else 0 := by
  rw [cast_drop, lit_zero, broadcast_c2, mask_select, cast_add]

/-! ### The products -/

theorem dot_nn {φ ψ : FTy} (f g : ℕ → ℕ → ℝ) :
    matmul dot_S128x128_S128x128_S128x128_1_0_0_1_n_n none (c2 128 128 f : FVec Ideal S128x128 φ) (c2 128 128 g : FVec Ideal S128x128 ψ)
      (constant S128x128 .f32 0x00000000#32) = c2 128 128 fun i j => ∑ x ∈ range 128, f i x * g x j :=
  matmul_c2 (dot_S128x128_S128x128_S128x128_1_0_0_1_n_n) (a := 1) rfl (K := 128) rfl none f g (fun i _ x => (i, x)) (fun _ j x => (x, j))
    (fun j x => ⟨rfl, rfl⟩) (fun j x => ⟨rfl, rfl⟩)
theorem dot_nt {φ ψ : FTy} (f g : ℕ → ℕ → ℝ) :
    matmul dot_S128x128_S128x128_S128x128_1_1_0_0_n_n none (c2 128 128 f : FVec Ideal S128x128 φ) (c2 128 128 g : FVec Ideal S128x128 ψ)
      (constant S128x128 .f32 0x00000000#32) = c2 128 128 fun i j => ∑ x ∈ range 128, f i x * g j x :=
  matmul_c2 (dot_S128x128_S128x128_S128x128_1_1_0_0_n_n) (a := 1) rfl (K := 128) rfl none f g (fun i _ x => (i, x)) (fun _ j x => (j, x))
    (fun j x => ⟨rfl, rfl⟩) (fun j x => ⟨rfl, rfl⟩)
theorem dot_tn {φ ψ : FTy} (f g : ℕ → ℕ → ℝ) :
    matmul dot_S128x128_S128x128_S128x128_0_0_1_1_n_n none (c2 128 128 f : FVec Ideal S128x128 φ) (c2 128 128 g : FVec Ideal S128x128 ψ)
      (constant S128x128 .f32 0x00000000#32) = c2 128 128 fun i j => ∑ x ∈ range 128, f x i * g x j :=
  matmul_c2 (dot_S128x128_S128x128_S128x128_0_0_1_1_n_n) (a := 0) rfl (K := 128) rfl none f g (fun i _ x => (x, i)) (fun _ j x => (x, j))
    (fun j x => ⟨rfl, rfl⟩) (fun j x => ⟨rfl, rfl⟩)

end Cert.KernelIdeal.Gen

end
-- ==== Proof.Block.lean ====
/- The blocks of the arguments at one grid point, the loads out of them, and the vectors the body computes from them, read at
   the real numbers: the spatial gate up to its normalised half. -/
module

public import proofs.«01_k».proof.Proof.Gen.KernelIdeal.Value
public import proofs.«01_k».proof.Proof.Tile

@[expose] public section

noncomputable section

namespace Cert.KernelIdeal.Gen

open Idealize.ShloMosaic Idealize.ShloMosaic.TcCoe

open Cert.Coe Cert.Spec Finset

variable (A : Args) (t : ℕ)

/-- First rows of the halo blocks before and after tile `t`. -/
def pv (t : ℕ) : ℕ := 16 * (16 * t - 1)
def nx (t : ℕ) : ℕ := 16 * min (16 * (t + 1)) 255

def X0 : Vec Ideal S256x5120 .bf16 := c2 (φ := .bf16) 256 5120 fun a b => A.z (256 * t + a) b
def X1 : Vec Ideal S16x1024 .bf16 := c2 (φ := .bf16) 16 1024 fun a b => A.z (pv t + a) (3072 + b)
def X2 : Vec Ideal S16x1024 .bf16 := c2 (φ := .bf16) 16 1024 fun a b => A.z (pv t + a) (4096 + b)
def X3 : Vec Ideal S16x1024 .bf16 := c2 (φ := .bf16) 16 1024 fun a b => A.z (nx t + a) (2048 + b)
def X4 : Vec Ideal S16x1024 .bf16 := c2 (φ := .bf16) 16 1024 fun a b => A.z (nx t + a) (3072 + b)
def X5 : Vec Ideal S16x1024 .bf16 := c2 (φ := .bf16) 16 1024 fun a b => A.z (nx t + a) (4096 + b)
def X6 : Vec Ideal S256x2048 .bf16 := c2 (φ := .bf16) 256 2048 fun a b => A.dy (256 * t + a) b
def X7 : Vec Ideal S16x1024 .bf16 := c2 (φ := .bf16) 16 1024 fun a b => A.dy (nx t + a) (1024 + b)
def X8 : Vec Ideal S1x1024 .f32 := c2 (φ := .f32) 1 1024 fun _ b => A.lng b
def X9 : Vec Ideal S1x1024 .f32 := c2 (φ := .f32) 1 1024 fun _ b => A.lnb b
def X10 : Vec Ideal S8x128x128 .f32 := c3 (φ := .f32) 8 128 128 A.w
def X11 : Vec Ideal S8x128x128 .f32 := c3 (φ := .f32) 8 128 128 fun h a _ => A.b h a
def X12 : Vec Ideal S3x1024 .f32 := c2 (φ := .f32) 3 1024 A.cw
def X13 : Vec Ideal S1x2048 .f32 := c2 (φ := .f32) 1 2048 fun _ b => A.gg b

section Reads
variable {p q r : ℕ} {σ : RefSig} {s : Kind} {sp : Space}

theorem read0 {v : Memref σ s sp S256x5120 .bf16} (h : v.IsWhole) (o o' : ℕ) (inb) :
    View.readAt (Elt Ideal) v.view (Rect.unit ![o, o'] (no_index ![p, q]) inb).toLoadRect (h.unread (Val := Elt Ideal) (X0 A t))
    = (c2 p q fun a b => A.z (256 * t + (o + a)) (o' + b) : FVec Ideal ⟨2, ![p, q]⟩ .bf16) := readAt_bf16 h o o' _ inb
theorem read1 {v : Memref σ s sp S16x1024 .bf16} (h : v.IsWhole) (o o' : ℕ) (inb) :
    View.readAt (Elt Ideal) v.view (Rect.unit ![o, o'] (no_index ![p, q]) inb).toLoadRect (h.unread (Val := Elt Ideal) (X1 A t))
    = (c2 p q fun a b => A.z (pv t + (o + a)) (3072 + (o' + b)) : FVec Ideal ⟨2, ![p, q]⟩ .bf16) := readAt_bf16 h o o' _ inb
theorem read2 {v : Memref σ s sp S16x1024 .bf16} (h : v.IsWhole) (o o' : ℕ) (inb) :
    View.readAt (Elt Ideal) v.view (Rect.unit ![o, o'] (no_index ![p, q]) inb).toLoadRect (h.unread (Val := Elt Ideal) (X2 A t))
    = (c2 p q fun a b => A.z (pv t + (o + a)) (4096 + (o' + b)) : FVec Ideal ⟨2, ![p, q]⟩ .bf16) := readAt_bf16 h o o' _ inb
theorem read3 {v : Memref σ s sp S16x1024 .bf16} (h : v.IsWhole) (o o' : ℕ) (inb) :
    View.readAt (Elt Ideal) v.view (Rect.unit ![o, o'] (no_index ![p, q]) inb).toLoadRect (h.unread (Val := Elt Ideal) (X3 A t))
    = (c2 p q fun a b => A.z (nx t + (o + a)) (2048 + (o' + b)) : FVec Ideal ⟨2, ![p, q]⟩ .bf16) := readAt_bf16 h o o' _ inb
theorem read4 {v : Memref σ s sp S16x1024 .bf16} (h : v.IsWhole) (o o' : ℕ) (inb) :
    View.readAt (Elt Ideal) v.view (Rect.unit ![o, o'] (no_index ![p, q]) inb).toLoadRect (h.unread (Val := Elt Ideal) (X4 A t))
    = (c2 p q fun a b => A.z (nx t + (o + a)) (3072 + (o' + b)) : FVec Ideal ⟨2, ![p, q]⟩ .bf16) := readAt_bf16 h o o' _ inb
theorem read5 {v : Memref σ s sp S16x1024 .bf16} (h : v.IsWhole) (o o' : ℕ) (inb) :
    View.readAt (Elt Ideal) v.view (Rect.unit ![o, o'] (no_index ![p, q]) inb).toLoadRect (h.unread (Val := Elt Ideal) (X5 A t))
    = (c2 p q fun a b => A.z (nx t + (o + a)) (4096 + (o' + b)) : FVec Ideal ⟨2, ![p, q]⟩ .bf16) := readAt_bf16 h o o' _ inb
theorem read6 {v : Memref σ s sp S256x2048 .bf16} (h : v.IsWhole) (o o' : ℕ) (inb) :
    View.readAt (Elt Ideal) v.view (Rect.unit ![o, o'] (no_index ![p, q]) inb).toLoadRect (h.unread (Val := Elt Ideal) (X6 A t))
    = (c2 p q fun a b => A.dy (256 * t + (o + a)) (o' + b) : FVec Ideal ⟨2, ![p, q]⟩ .bf16) := readAt_bf16 h o o' _ inb
theorem read7 {v : Memref σ s sp S16x1024 .bf16} (h : v.IsWhole) (o o' : ℕ) (inb) :
    View.readAt (Elt Ideal) v.view (Rect.unit ![o, o'] (no_index ![p, q]) inb).toLoadRect (h.unread (Val := Elt Ideal) (X7 A t))
    = (c2 p q fun a b => A.dy (nx t + (o + a)) (1024 + (o' + b)) : FVec Ideal ⟨2, ![p, q]⟩ .bf16) := readAt_bf16 h o o' _ inb
theorem read8 {v : Memref σ s sp S1x1024 .f32} (h : v.IsWhole) (o o' : ℕ) (inb) :
    View.readAt (Elt Ideal) v.view (Rect.unit ![o, o'] (no_index ![p, q]) inb).toLoadRect (h.unread (Val := Elt Ideal) (X8 A))
    = (c2 p q fun a b => A.lng (o' + b) : FVec Ideal ⟨2, ![p, q]⟩ .f32) := readAt_f32 h o o' _ inb
theorem read9 {v : Memref σ s sp S1x1024 .f32} (h : v.IsWhole) (o o' : ℕ) (inb) :
    View.readAt (Elt Ideal) v.view (Rect.unit ![o, o'] (no_index ![p, q]) inb).toLoadRect (h.unread (Val := Elt Ideal) (X9 A))
    = (c2 p q fun a b => A.lnb (o' + b) : FVec Ideal ⟨2, ![p, q]⟩ .f32) := readAt_f32 h o o' _ inb
theorem read12 {v : Memref σ s sp S3x1024 .f32} (h : v.IsWhole) (o o' : ℕ) (inb) :
    View.readAt (Elt Ideal) v.view (Rect.unit ![o, o'] (no_index ![p, q]) inb).toLoadRect (h.unread (Val := Elt Ideal) (X12 A))
    = (c2 p q fun a b => A.cw (o + a) (o' + b) : FVec Ideal ⟨2, ![p, q]⟩ .f32) := readAt_f32 h o o' _ inb
theorem read13 {v : Memref σ s sp S1x2048 .f32} (h : v.IsWhole) (o o' : ℕ) (inb) :
    View.readAt (Elt Ideal) v.view (Rect.unit ![o, o'] (no_index ![p, q]) inb).toLoadRect (h.unread (Val := Elt Ideal) (X13 A))
    = (c2 p q fun a b => A.gg (o' + b) : FVec Ideal ⟨2, ![p, q]⟩ .f32) := readAt_f32 h o o' _ inb
theorem read10 {v : Memref σ s sp S8x128x128 .f32} (h : v.IsWhole) (o o' o'' : ℕ) (inb) :
    View.readAt (Elt Ideal) v.view (Rect.unit ![o, o', o''] (no_index ![p, q, r]) inb).toLoadRect (h.unread (Val := Elt Ideal) (X10 A))
    = (c3 p q r fun a b c => A.w (o + a) (o' + b) (o'' + c) : FVec Ideal ⟨3, ![p, q, r]⟩ .f32) := readAt_c3 h o o' o'' _ inb
theorem read11 {v : Memref σ s sp S8x128x128 .f32} (h : v.IsWhole) (o o' o'' : ℕ) (inb) :
    View.readAt (Elt Ideal) v.view (Rect.unit ![o, o', o''] (no_index ![p, q, r]) inb).toLoadRect (h.unread (Val := Elt Ideal) (X11 A))
    = (c3 p q r fun a b c => A.b (o + a) (o' + b) : FVec Ideal ⟨3, ![p, q, r]⟩ .f32) := readAt_c3 h o o' o'' _ inb

end Reads

theorem div1024 {φ : FTy} {m n : ℕ} (f : ℕ → ℕ → ℝ) :
    divf (c2 m n f : FVec Ideal _ φ) (c2 m n fun _ _ => 1024) = c2 m n fun a b => f a b / 1024 := divf_c2 f 1024 (by norm_num)
theorem rsqrt_e5 {φ : FTy} {m n : ℕ} (f : ℕ → ℕ → ℝ) :
    rsqrt (c2 m n fun a _ => (∑ c ∈ range 1024, f a c * f a c) / 1024 + e5 : FVec Ideal _ φ) = c2 m n fun a _ => rinv e5 (f a) :=
  rsqrt_c2 _ fun a _ => rinv_arg_pos e5_pos (f a)
theorem rsqrt_e6 {φ : FTy} {m n : ℕ} (f : ℕ → ℕ → ℝ) :
    rsqrt (c2 m n fun a _ => (∑ c ∈ range 1024, f a c * f a c) / 1024 + e6 : FVec Ideal _ φ) = c2 m n fun a _ => rinv e6 (f a) :=
  rsqrt_c2 _ fun a _ => rinv_arg_pos e6_pos (f a)

attribute [local implicit_reducible] FKind.neutral

/-! ### The vectors of the spatial gate -/

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32}
  {arg23 : Memref sig .tc .vmem S256x1024 .f32} {arg24 : Memref sig .tc .vmem S256x1024 .f32} {arg25 : Memref sig .tc .vmem S256x1024 .f32}

variable {A t}

theorem zu_B :
    kernelRun0_B.sl.r_1 (F := Ideal) c arg1 harg1 (X0 A t)
    = c2 256 1024 fun a b => zu A (256 * t + a) b := by
  simp only [kernelRun0_B.sl.r_1, k0_pay52, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem zv_B :
    kernelRun0_B.sl.r_2 (F := Ideal) c arg1 harg1 (X0 A t)
    = c2 256 1024 fun a b => zv A (256 * t + a) b := by
  simp only [kernelRun0_B.sl.r_2, k0_pay53, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem thu_B :
    kernelRun0_B.sl.r_4 (F := Ideal) c arg1 harg1 (X0 A t)
    = c2 256 1024 fun a b => th (zu A (256 * t + a) b) := by
  simp only [kernelRun0_B.sl.r_4, k0_pay52, k0_pay54, read0, read1, read2, read3, read4, read5, read6, read7, read8, read9, read10, read11, read12,
  read13, extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem u_B :
    kernelRun0_B.sl.r_5 (F := Ideal) c arg1 harg1 (X0 A t)
    = c2 256 1024 fun a b => u A (256 * t + a) b := by
  simp only [kernelRun0_B.sl.r_5, k0_pay52, k0_pay54, k0_pay55, read0, read1, read2, read3, read4, read5, read6, read7, read8, read9, read10, read11,
  read12, read13, extf_c2, truncf_c2, addf_c2, subf_c2, mulf_c2, tanh_c2, sum_rows, sum_cols, cast_col, cast_row, cast_drop, cast_add, bcast_col,
  bcast_row, cast_self, broadcast_c2, div1024, lit_zero, lit_one, lit_half, lit_1024, lit_gC, lit_e6, lit_e5, named_a, named_3a, rsqrt_e5, rsqrt_e6,
  slice_c2, rotate_c2, row_eq, dot_nn, dot_nt, dot_tn, zero_add]
  rfl
theorem thv_B :
    kernelRun0_B.sl.r_6 (F := Ideal) c arg1 harg1 (X0 A t)
    = c2 256 1024 fun a b => th (zv A (256 * t + a) b) := by
  simp only [kernelRun0_B.sl.r_6, k0_pay53, k0_pay56, read0, read1, read2, read3, read4, read5, read6, read7, read8, read9, read10, read11, read12,
  read13, extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem v_B :
    kernelRun0_B.sl.r_7 (F := Ideal) c arg1 harg1 (X0 A t)
    = c2 256 1024 fun a b => v A (256 * t + a) b := by
  simp only [kernelRun0_B.sl.r_7, k0_pay53, k0_pay56, k0_pay57, read0, read1, read2, read3, read4, read5, read6, read7, read8, read9, read10, read11,
  read12, read13, extf_c2, truncf_c2, addf_c2, subf_c2, mulf_c2, tanh_c2, sum_rows, sum_cols, cast_col, cast_row, cast_drop, cast_add, bcast_col,
  bcast_row, cast_self, broadcast_c2, div1024, lit_zero, lit_one, lit_half, lit_1024, lit_gC, lit_e6, lit_e5, named_a, named_3a, rsqrt_e5, rsqrt_e6,
  slice_c2, rotate_c2, row_eq, dot_nn, dot_nt, dot_tn, zero_add]
  rfl
theorem sumv_B :
    kernelRun0_B.sl.r_8 (F := Ideal) c arg1 harg1 (X0 A t)
    = c2 256 1 fun a _ => ∑ c ∈ range 1024, v A (256 * t + a) c := by
  simp only [kernelRun0_B.sl.r_8, k0_pay53, k0_pay56, k0_pay57, k0_pay58, read0, read1, read2, read3, read4, read5, read6, read7, read8, read9,
  read10, read11, read12, read13, extf_c2, truncf_c2, addf_c2, subf_c2, mulf_c2, tanh_c2, sum_rows, sum_cols, cast_col, cast_row, cast_drop, cast_add,
  bcast_col, bcast_row, cast_self, broadcast_c2, div1024, lit_zero, lit_one, lit_half, lit_1024, lit_gC, lit_e6, lit_e5, named_a, named_3a, rsqrt_e5,
  rsqrt_e6, slice_c2, rotate_c2, row_eq, dot_nn, dot_nt, dot_tn, zero_add]
  rfl
theorem rs_B :
    kernelRun0_B.sl.r_9 (F := Ideal) c arg1 harg1 (X0 A t)
    = c2 256 1 fun a _ => rs A (256 * t + a) := by
  simp only [kernelRun0_B.sl.r_9, k0_pay59, k0_pay60, k0_pay61, v_B, sumv_B, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn, zero_add]
  rfl
theorem vhat_B :
    kernelRun0_B.sl.r_10 (F := Ideal) c arg1 harg1 (X0 A t)
    = c2 256 1024 fun a b => vhat A (256 * t + a) b := by
  simp only [kernelRun0_B.sl.r_10, k0_pay59, k0_pay60, k0_pay61, k0_pay62, v_B, sumv_B, extf_c2, truncf_c2, addf_c2, subf_c2, mulf_c2, tanh_c2,
  sum_rows, sum_cols, cast_col, cast_row, cast_drop, cast_add, bcast_col, bcast_row, cast_self, broadcast_c2, div1024, lit_zero, lit_one, lit_half,
  lit_1024, lit_gC, lit_e6, lit_e5, named_a, named_3a, rsqrt_e5, rsqrt_e6, slice_c2, rotate_c2, row_eq, dot_nn, dot_nt, dot_tn, zero_add]
  rfl

end Cert.KernelIdeal.Gen

end
-- ==== Proof.Gate.lean ====
/- The spatial gate at one grid point: the masked weights, the gated tile and its gradient, back to the gradient of the second
   branch. -/
module

public import proofs.«01_k».proof.Proof.Gen.KernelIdeal.Value
public import proofs.«01_k».proof.Proof.Block

@[expose] public section

noncomputable section

namespace Cert.KernelIdeal.Gen

open Idealize.ShloMosaic Idealize.ShloMosaic.TcCoe

open Cert.Coe Cert.Spec Finset

attribute [local implicit_reducible] FKind.neutral

/-! ### The masked weights of the eight heads, in the two passes -/

section Masks
variable (f : ℕ → ℕ → ℕ → ℝ)

theorem mask_65 : k0_pay65 (F := Ideal) k0_pay64 kernelRun0_B.sl.v83 64#32 (c3 (φ := .f32) 1 128 128 f)
    = c2 128 128 fun a b => if b / 64 ≤ a / 64 then f 0 a b else 0 := masked f
theorem mask_72 : k0_pay72 (F := Ideal) k0_pay68 kernelRun0_B.sl.v83 64#32 k0_pay69 k0_pay70 k0_pay71 (c3 (φ := .f32) 1 128 128 f)
    = c2 128 128 fun a b => if b / 64 ≤ a / 64 then f 0 a b else 0 := masked f
theorem mask_79 : k0_pay79 (F := Ideal) k0_pay76 kernelRun0_B.sl.v83 64#32 k0_pay77 k0_pay78 (c3 (φ := .f32) 1 128 128 f)
    = c2 128 128 fun a b => if b / 64 ≤ a / 64 then f 0 a b else 0 := masked f
theorem mask_85 : k0_pay85 (F := Ideal) kernelRun0_B.sl.r_13 k0_pay84 (c3 (φ := .f32) 1 128 128 f)
    = c2 128 128 fun a b => if b / 64 ≤ a / 64 then f 0 a b else 0 := masked f
theorem mask_90 : k0_pay90 (F := Ideal) kernelRun0_B.sl.v280 64#32 k0_pay88 k0_pay89 0#32 (c3 (φ := .f32) 1 128 128 f)
    = c2 128 128 fun a b => if b / 64 ≤ a / 64 then f 0 a b else 0 := masked f
theorem mask_96 : k0_pay96 (F := Ideal) k0_pay93 k0_pay94 k0_pay95 (c3 (φ := .f32) 1 128 128 f)
    = c2 128 128 fun a b => if b / 64 ≤ a / 64 then f 0 a b else 0 := masked f
theorem mask_101 : k0_pay101 (F := Ideal) k0_pay100 kernelRun0_B.sl.v83 64#32 (c3 (φ := .f32) 1 128 128 f)
    = c2 128 128 fun a b => if b / 64 ≤ a / 64 then f 0 a b else 0 := masked f
theorem mask_108 : k0_pay108 (F := Ideal) k0_pay104 kernelRun0_B.sl.v83 64#32 k0_pay105 k0_pay106 k0_pay107 (c3 (φ := .f32) 1 128 128 f)
    = c2 128 128 fun a b => if b / 64 ≤ a / 64 then f 0 a b else 0 := masked f
theorem mask_125 : k0_pay125 (F := Ideal) kernelRun0_B.sl.v280 k0_pay122 k0_pay123 k0_pay124 (c3 (φ := .f32) 1 128 128 f)
    = c2 128 128 fun a b => if b / 64 ≤ a / 64 then f 0 a b else 0 := masked f
theorem mask_138 : k0_pay138 (F := Ideal) k0_pay134 k0_pay135 k0_pay136 k0_pay137 (c3 (φ := .f32) 1 128 128 f)
    = c2 128 128 fun a b => if b / 64 ≤ a / 64 then f 0 a b else 0 := masked f
theorem mask_149 : k0_pay149 (F := Ideal) k0_pay147 kernelRun0_B.sl.v83 64#32 k0_pay148 (c3 (φ := .f32) 1 128 128 f)
    = c2 128 128 fun a b => if b / 64 ≤ a / 64 then f 0 a b else 0 := masked f
theorem mask_175 : k0_pay175 (F := Ideal) k0_pay172 kernelRun0_B.sl.v83 64#32 k0_pay173 k0_pay174 1#1 (c3 (φ := .f32) 1 128 128 f)
    = c2 128 128 fun a b => if b / 64 ≤ a / 64 then f 0 a b else 0 := masked f
theorem mask_188 : k0_pay188 (F := Ideal) kernelRun0_B.sl.v280 k0_pay185 k0_pay186 k0_pay187 (c3 (φ := .f32) 1 128 128 f)
    = c2 128 128 fun a b => if b / 64 ≤ a / 64 then f 0 a b else 0 := masked f
theorem mask_201 : k0_pay201 (F := Ideal) k0_pay197 k0_pay198 k0_pay199 k0_pay200 (c3 (φ := .f32) 1 128 128 f)
    = c2 128 128 fun a b => if b / 64 ≤ a / 64 then f 0 a b else 0 := masked f
theorem mask_212 : k0_pay212 (F := Ideal) k0_pay210 kernelRun0_B.sl.v83 64#32 k0_pay211 (c3 (φ := .f32) 1 128 128 f)
    = c2 128 128 fun a b => if b / 64 ≤ a / 64 then f 0 a b else 0 := masked f
theorem mask_164 : k0_pay164 kernelRun0_B.sl.r_32 (k0_pay163 (c3 (φ := .f32) 1 128 128 f)) (kernelRun0_B.sl.cst_465 (F := Ideal))
    = c2 128 128 fun a b => if b / 64 ≤ a / 64 then f 0 a b else 0 := masked f

end Masks

/-! ### One block of the product with a masked weight, its transpose, and the sums over a tile's two blocks -/

section Blocks
variable (A : Args) (t k h : ℕ) {a b : ℕ}

theorem mixed_block (ha : a < 128) (hb : b < 128) :
    (∑ x ∈ range 128, (if x / 64 ≤ a / 64 then A.w (h + 0) (0 + a) (0 + x) else 0) * vln A (256 * t + (128 * k + x)) (128 * h + b))
      + A.b (h + 0) (0 + a) = mixed A (256 * t + (128 * k + a)) (128 * h + b) := by
  have e1 : (128 * h + b) / 128 = h := by omega
  have e2 : (256 * t + (128 * k + a)) % 128 = a := by omega
  have e3 : 128 * ((256 * t + (128 * k + a)) / 128) = 256 * t + 128 * k := by omega
  simp only [mixed, e1, e2, e3, wm, zero_add, add_zero, add_assoc]
theorem dvln_block (ha : a < 128) (hb : b < 128) :
    (∑ x ∈ range 128, (if a / 64 ≤ x / 64 then A.w (h + 0) (0 + x) (0 + a) else 0) * dmix A (256 * t + (128 * k + x)) (128 * h + b))
      = dvln A (256 * t + (128 * k + a)) (128 * h + b) := by
  have e1 : (128 * h + b) / 128 = h := by omega
  have e2 : (256 * t + (128 * k + a)) % 128 = a := by omega
  have e3 : 128 * ((256 * t + (128 * k + a)) / 128) = 256 * t + 128 * k := by omega
  simp only [dvln, e1, e2, e3, wm, zero_add, add_zero, add_assoc]
theorem dw_block (i j : ℕ) :
    dw A (2 * t) h i j + (0 + (∑ x ∈ range 128, dmix A (256 * t + (0 + i)) (128 * h + x) * vln A (256 * t + (0 + j)) (128 * h + x))
      + ∑ x ∈ range 128, dmix A (256 * t + (128 + i)) (128 * h + x) * vln A (256 * t + (128 + j)) (128 * h + x))
    = dw A (2 * (t + 1)) h i j := by
  have e0 : 128 * (2 * t) = 256 * t := by omega
  have e1 : 128 * (2 * t + 1) = 256 * t + 128 := by omega
  rw [show 2 * (t + 1) = 2 * t + 1 + 1 from by omega]
  rw [dw, dw, sum_range_succ _ (2 * t + 1), sum_range_succ _ (2 * t)]; simp only [e0, e1, zero_add, add_assoc]
theorem db_block (i l : ℕ) :
    db A (2 * t) h i l + (0 + dmix A (256 * t + (0 + i)) (128 * h + l) + dmix A (256 * t + (128 + i)) (128 * h + l))
    = db A (2 * (t + 1)) h i l := by
  have e0 : 128 * (2 * t) = 256 * t := by omega
  have e1 : 128 * (2 * t + 1) = 256 * t + 128 := by omega
  rw [show 2 * (t + 1) = 2 * t + 1 + 1 from by omega]
  rw [db, db, sum_range_succ _ (2 * t + 1), sum_range_succ _ (2 * t)]; simp only [e0, e1, zero_add, add_assoc]

end Blocks

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32}
  {arg23 : Memref sig .tc .vmem S256x1024 .f32} {arg24 : Memref sig .tc .vmem S256x1024 .f32} {arg25 : Memref sig .tc .vmem S256x1024 .f32}
  {A : Args} {t : ℕ}

/-! ### The gate -/

theorem vln_canon :
    View.canon (kernelRun0_B.sl.HS1_1 (F := Ideal) c arg1 harg1 arg9 harg9 arg10 harg10 (X0 A t) (X8 A) (X9 A))
    = c2 (φ := .f32) 256 1024 fun a b => vln A (256 * t + a) b := by
  simp only [kernelRun0_B.sl.HS1_1, kernelRun0_B.sl.r, kernelRun0_B.sl.r_3, k0_pay63, k0_pay59, k0_pay60, k0_pay61, k0_pay62, zv_B, v_B, sumv_B,
  read0, read1, read2, read3, read4, read5, read6, read7, read8, read9, read10, read11, read12, read13, extf_c2, truncf_c2, addf_c2, subf_c2, mulf_c2,
  tanh_c2, sum_rows, sum_cols, cast_col, cast_row, cast_drop, cast_add, bcast_col, bcast_row, cast_self, broadcast_c2, div1024, lit_zero, lit_one,
  lit_half, lit_1024, lit_gC, lit_e6, lit_e5, named_a, named_3a, rsqrt_e5, rsqrt_e6, slice_c2, rotate_c2, row_eq, dot_nn, dot_nt, dot_tn, zero_add]
  exact canon_whole2 (fun a b => vln A (256 * t + a) b) _ _
theorem v114_B :
    kernelRun0_B.sl.v114 (F := Ideal) c arg1 harg1 arg9 harg9 arg10 harg10 arg23 (X0 A t) (X8 A) (X9 A)
    = c2 (φ := .f32) 128 128 fun a b => vln A (256 * t + (0 + a)) (0 + b) := readCov_c2 vln_canon 0 0 _
theorem v123_B :
    kernelRun0_B.sl.v123 (F := Ideal) c arg1 harg1 arg9 harg9 arg10 harg10 arg23 (X0 A t) (X8 A) (X9 A)
    = c2 (φ := .f32) 128 128 fun a b => vln A (256 * t + (128 + a)) (0 + b) := readCov_c2 vln_canon 128 0 _
theorem v188_B :
    kernelRun0_B.sl.v188 (F := Ideal) c arg1 harg1 arg9 harg9 arg10 harg10 arg23 (X0 A t) (X8 A) (X9 A)
    = c2 (φ := .f32) 128 128 fun a b => vln A (256 * t + (0 + a)) (128 + b) := readCov_c2 vln_canon 0 128 _
theorem v197_B :
    kernelRun0_B.sl.v197 (F := Ideal) c arg1 harg1 arg9 harg9 arg10 harg10 arg23 (X0 A t) (X8 A) (X9 A)
    = c2 (φ := .f32) 128 128 fun a b => vln A (256 * t + (128 + a)) (128 + b) := readCov_c2 vln_canon 128 128 _
theorem v262_B :
    kernelRun0_B.sl.v262 (F := Ideal) c arg1 harg1 arg9 harg9 arg10 harg10 arg23 (X0 A t) (X8 A) (X9 A)
    = c2 (φ := .f32) 128 128 fun a b => vln A (256 * t + (0 + a)) (256 + b) := readCov_c2 vln_canon 0 256 _
theorem v271_B :
    kernelRun0_B.sl.v271 (F := Ideal) c arg1 harg1 arg9 harg9 arg10 harg10 arg23 (X0 A t) (X8 A) (X9 A)
    = c2 (φ := .f32) 128 128 fun a b => vln A (256 * t + (128 + a)) (256 + b) := readCov_c2 vln_canon 128 256 _
theorem v336_B :
    kernelRun0_B.sl.v336 (F := Ideal) c arg1 harg1 arg9 harg9 arg10 harg10 arg23 (X0 A t) (X8 A) (X9 A)
    = c2 (φ := .f32) 128 128 fun a b => vln A (256 * t + (0 + a)) (384 + b) := readCov_c2 vln_canon 0 384 _
theorem v345_B :
    kernelRun0_B.sl.v345 (F := Ideal) c arg1 harg1 arg9 harg9 arg10 harg10 arg23 (X0 A t) (X8 A) (X9 A)
    = c2 (φ := .f32) 128 128 fun a b => vln A (256 * t + (128 + a)) (384 + b) := readCov_c2 vln_canon 128 384 _
theorem v410_B :
    kernelRun0_B.sl.v410 (F := Ideal) c arg1 harg1 arg9 harg9 arg10 harg10 arg23 (X0 A t) (X8 A) (X9 A)
    = c2 (φ := .f32) 128 128 fun a b => vln A (256 * t + (0 + a)) (512 + b) := readCov_c2 vln_canon 0 512 _
theorem v419_B :
    kernelRun0_B.sl.v419 (F := Ideal) c arg1 harg1 arg9 harg9 arg10 harg10 arg23 (X0 A t) (X8 A) (X9 A)
    = c2 (φ := .f32) 128 128 fun a b => vln A (256 * t + (128 + a)) (512 + b) := readCov_c2 vln_canon 128 512 _
theorem v484_B :
    kernelRun0_B.sl.v484 (F := Ideal) c arg1 harg1 arg9 harg9 arg10 harg10 arg23 (X0 A t) (X8 A) (X9 A)
    = c2 (φ := .f32) 128 128 fun a b => vln A (256 * t + (0 + a)) (640 + b) := readCov_c2 vln_canon 0 640 _
theorem v493_B :
    kernelRun0_B.sl.v493 (F := Ideal) c arg1 harg1 arg9 harg9 arg10 harg10 arg23 (X0 A t) (X8 A) (X9 A)
    = c2 (φ := .f32) 128 128 fun a b => vln A (256 * t + (128 + a)) (640 + b) := readCov_c2 vln_canon 128 640 _
theorem v558_B :
    kernelRun0_B.sl.v558 (F := Ideal) c arg1 harg1 arg9 harg9 arg10 harg10 arg23 (X0 A t) (X8 A) (X9 A)
    = c2 (φ := .f32) 128 128 fun a b => vln A (256 * t + (0 + a)) (768 + b) := readCov_c2 vln_canon 0 768 _
theorem v567_B :
    kernelRun0_B.sl.v567 (F := Ideal) c arg1 harg1 arg9 harg9 arg10 harg10 arg23 (X0 A t) (X8 A) (X9 A)
    = c2 (φ := .f32) 128 128 fun a b => vln A (256 * t + (128 + a)) (768 + b) := readCov_c2 vln_canon 128 768 _
theorem v632_B :
    kernelRun0_B.sl.v632 (F := Ideal) c arg1 harg1 arg9 harg9 arg10 harg10 arg23 (X0 A t) (X8 A) (X9 A)
    = c2 (φ := .f32) 128 128 fun a b => vln A (256 * t + (0 + a)) (896 + b) := readCov_c2 vln_canon 0 896 _
theorem v641_B :
    kernelRun0_B.sl.v641 (F := Ideal) c arg1 harg1 arg9 harg9 arg10 harg10 arg23 (X0 A t) (X8 A) (X9 A)
    = c2 (φ := .f32) 128 128 fun a b => vln A (256 * t + (128 + a)) (896 + b) := readCov_c2 vln_canon 128 896 _
theorem mixed_canon :
    View.canon (kernelRun0_B.sl.HS0_16 (F := Ideal) c arg1 harg1 arg9 harg9 arg10 harg10 arg11 harg11 arg12 harg12 arg23 (X0 A t) (X8 A) (X9 A) (X10 A) (X11 A))
    = c2 (φ := .f32) 256 1024 fun a b => mixed A (256 * t + a) b := by
  refine canon_tiles ?_ (View.cover_of_tiledL (s := S256x1024) _ S128x128.size (by sl_kernel_rfl))
  simp only [kernelRun0_B.sl.HS0_16, kernelRun0_B.sl.r_11, kernelRun0_B.sl.r_12, kernelRun0_B.sl.r_14, kernelRun0_B.sl.r_15, kernelRun0_B.sl.r_16,
  kernelRun0_B.sl.r_17, kernelRun0_B.sl.r_18, kernelRun0_B.sl.r_19, k0_pay66, k0_pay67, k0_pay73, k0_pay74, k0_pay75, k0_pay80, k0_pay81, k0_pay86,
  k0_pay87, k0_pay91, k0_pay92, k0_pay97, k0_pay98, k0_pay99, k0_pay102, k0_pay103, k0_pay109, k0_pay110, k0_pay111, v114_B, v123_B, v188_B, v197_B,
  v262_B, v271_B, v336_B, v345_B, v410_B, v419_B, v484_B, v493_B, v558_B, v567_B, v632_B, v641_B, mask_65, mask_72, mask_79, mask_85, mask_90,
  mask_96, mask_101, mask_108, mask_125, mask_138, mask_149, mask_175, mask_188, mask_201, mask_212, mask_164, read0, read1, read2, read3, read4,
  read5, read6, read7, read8, read9, read10, read11, read12, read13, extf_c2, truncf_c2, addf_c2, subf_c2, mulf_c2, tanh_c2, sum_rows, sum_cols,
  cast_col, cast_row, cast_drop, cast_add, bcast_col, bcast_row, cast_self, broadcast_c2, div1024, lit_zero, lit_one, lit_half, lit_1024, lit_gC,
  lit_e6, lit_e5, named_a, named_3a, rsqrt_e5, rsqrt_e6, slice_c2, rotate_c2, row_eq, dot_nn, dot_nt, dot_tn]
  refine tiles_f32 ?_ 128 896 _ (fun a ha b hb => mixed_block A t 1 7 ha hb) _
  refine tiles_f32 ?_ 0 896 _ (fun a ha b hb => mixed_block A t 0 7 ha hb) _
  refine tiles_f32 ?_ 128 768 _ (fun a ha b hb => mixed_block A t 1 6 ha hb) _
  refine tiles_f32 ?_ 0 768 _ (fun a ha b hb => mixed_block A t 0 6 ha hb) _
  refine tiles_f32 ?_ 128 640 _ (fun a ha b hb => mixed_block A t 1 5 ha hb) _
  refine tiles_f32 ?_ 0 640 _ (fun a ha b hb => mixed_block A t 0 5 ha hb) _
  refine tiles_f32 ?_ 128 512 _ (fun a ha b hb => mixed_block A t 1 4 ha hb) _
  refine tiles_f32 ?_ 0 512 _ (fun a ha b hb => mixed_block A t 0 4 ha hb) _
  refine tiles_f32 ?_ 128 384 _ (fun a ha b hb => mixed_block A t 1 3 ha hb) _
  refine tiles_f32 ?_ 0 384 _ (fun a ha b hb => mixed_block A t 0 3 ha hb) _
  refine tiles_f32 ?_ 128 256 _ (fun a ha b hb => mixed_block A t 1 2 ha hb) _
  refine tiles_f32 ?_ 0 256 _ (fun a ha b hb => mixed_block A t 0 2 ha hb) _
  refine tiles_f32 ?_ 128 128 _ (fun a ha b hb => mixed_block A t 1 1 ha hb) _
  refine tiles_f32 ?_ 0 128 _ (fun a ha b hb => mixed_block A t 0 1 ha hb) _
  refine tiles_f32 ?_ 128 0 _ (fun a ha b hb => mixed_block A t 1 0 ha hb) _
  refine tiles_f32 ?_ 0 0 _ (fun a ha b hb => mixed_block A t 0 0 ha hb) _
  exact tiles_nil _
theorem mixed_B :
    kernelRun0_B.sl.v650 (F := Ideal) c arg1 harg1 arg9 harg9 arg10 harg10 arg11 harg11 arg12 harg12 arg22 arg23 (X0 A t) (X8 A) (X9 A) (X10 A) (X11
    A)
    = c2 (φ := .f32) 256 1024 fun a b => mixed A (256 * t + a) b := by
  refine (readCov_c2 mixed_canon 0 0 _).trans ?_
  simp only [zero_add]
theorem rya_B :
    kernelRun0_B.sl.r_20 (F := Ideal) c arg1 harg1 arg7 harg7 arg9 harg9 arg10 harg10 arg11 harg11 arg12 harg12 arg14 harg14 arg22 arg23 (X0 A t) (X6
    A t) (X8 A) (X9 A) (X10 A) (X11 A) (X13 A)
    = c2 256 1024 fun a b => dya A (256 * t + a) b := by
  simp only [kernelRun0_B.sl.r_20, k0_pay112, k0_pay113, k0_pay114, k0_pay115, k0_pay117, u_B, mixed_B, read0, read1, read2, read3, read4, read5,
  read6, read7, read8, read9, read10, read11, read12, read13, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn, zero_add]
  rfl
theorem dyam_B :
    kernelRun0_B.sl.r_21 (F := Ideal) c arg1 harg1 arg7 harg7 arg9 harg9 arg10 harg10 arg11 harg11 arg12 harg12 arg14 harg14 arg22 arg23 (X0 A t) (X6
    A t) (X8 A) (X9 A) (X10 A) (X11 A) (X13 A)
    = c2 256 1024 fun a b => dya A (256 * t + a) b * mixed A (256 * t + a) b := by
  simp only [kernelRun0_B.sl.r_21, k0_pay112, k0_pay113, k0_pay114, k0_pay115, k0_pay117, k0_pay118, u_B, mixed_B, read0, read1, read2, read3, read4,
  read5, read6, read7, read8, read9, read10, read11, read12, read13, extf_c2, truncf_c2, addf_c2, subf_c2, mulf_c2, tanh_c2, sum_rows, sum_cols,
  cast_col, cast_row, cast_drop, cast_add, bcast_col, bcast_row, cast_self, broadcast_c2, div1024, lit_zero, lit_one, lit_half, lit_1024, lit_gC,
  lit_e6, lit_e5, named_a, named_3a, rsqrt_e5, rsqrt_e6, slice_c2, rotate_c2, row_eq, dot_nn, dot_nt, dot_tn, zero_add]
  rfl
theorem dmix_canon :
    View.canon (kernelRun0_B.sl.HS2_1 (F := Ideal) c arg1 harg1 arg7 harg7 arg9 harg9 arg10 harg10 arg11 harg11 arg12 harg12 arg14 harg14 arg22 arg23 (X0 A t) (X6
    A t) (X8 A) (X9 A) (X10 A) (X11 A) (X13 A))
    = c2 (φ := .f32) 256 1024 fun a b => dmix A (256 * t + a) b := by
  simp only [kernelRun0_B.sl.HS2_1, k0_pay121, u_B, rya_B, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn, zero_add]
  exact canon_whole2 (fun a b => dmix A (256 * t + a) b) _ _
theorem v769_B :
    kernelRun0_B.sl.v769 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (0 + b) := readCov_c2 dmix_canon 0 0 _
theorem v780_B :
    kernelRun0_B.sl.v780 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (0 + b) := readCov_c2 dmix_canon 128 0 _
theorem v861_B :
    kernelRun0_B.sl.v861 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (128 + b) := readCov_c2 dmix_canon 0 128 _
theorem v872_B :
    kernelRun0_B.sl.v872 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (128 + b) := readCov_c2 dmix_canon 128 128 _
theorem v953_B :
    kernelRun0_B.sl.v953 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (256 + b) := readCov_c2 dmix_canon 0 256 _
theorem v964_B :
    kernelRun0_B.sl.v964 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (256 + b) := readCov_c2 dmix_canon 128 256 _
theorem v1045_B :
    kernelRun0_B.sl.v1045 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (384 + b) := readCov_c2 dmix_canon 0 384 _
theorem v1056_B :
    kernelRun0_B.sl.v1056 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (384 + b) := readCov_c2 dmix_canon 128 384 _
theorem v1137_B :
    kernelRun0_B.sl.v1137 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (512 + b) := readCov_c2 dmix_canon 0 512 _
theorem v1148_B :
    kernelRun0_B.sl.v1148 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (512 + b) := readCov_c2 dmix_canon 128 512 _
theorem v1229_B :
    kernelRun0_B.sl.v1229 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (640 + b) := readCov_c2 dmix_canon 0 640 _
theorem v1240_B :
    kernelRun0_B.sl.v1240 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (640 + b) := readCov_c2 dmix_canon 128 640 _
theorem v1321_B :
    kernelRun0_B.sl.v1321 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (768 + b) := readCov_c2 dmix_canon 0 768 _
theorem v1332_B :
    kernelRun0_B.sl.v1332 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (768 + b) := readCov_c2 dmix_canon 128 768 _
theorem v1413_B :
    kernelRun0_B.sl.v1413 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (0 + a)) (896 + b) := readCov_c2 dmix_canon 0 896 _
theorem v1424_B :
    kernelRun0_B.sl.v1424 (F := Ideal) c arg1 harg1 arg7 harg7 arg9 harg9 arg10 harg10 arg11 harg11 arg12 harg12 arg14 harg14 arg22 arg23 arg24 (X0 A
    t) (X6 A t) (X8 A) (X9 A) (X10 A) (X11 A) (X13 A)
    = c2 (φ := .f32) 128 128 fun a b => dmix A (256 * t + (128 + a)) (896 + b) := readCov_c2 dmix_canon 128 896 _
theorem dvln_canon :
    View.canon (kernelRun0_B.sl.HS3_16 (F := Ideal) c arg1 harg1 arg7 harg7 arg9 harg9 arg10 harg10 arg11 harg11 arg12 harg12 arg14 harg14 arg22 arg23 arg24 (X0 A
    t) (X6 A t) (X8 A) (X9 A) (X10 A) (X11 A) (X13 A))
    = c2 (φ := .f32) 256 1024 fun a b => dvln A (256 * t + a) b := by
  refine canon_tiles ?_ (View.cover_of_tiledL (s := S256x1024) _ S128x128.size (by sl_kernel_rfl))
  simp only [kernelRun0_B.sl.HS3_16, kernelRun0_B.sl.r_22, kernelRun0_B.sl.r_23, kernelRun0_B.sl.r_28, kernelRun0_B.sl.r_31, kernelRun0_B.sl.r_33,
  kernelRun0_B.sl.r_35, kernelRun0_B.sl.r_37, kernelRun0_B.sl.r_40, kernelRun0_B.sl.r_41, kernelRun0_B.sl.r_46, kernelRun0_B.sl.r_49, k0_pay127,
  k0_pay129, k0_pay130, k0_pay131, k0_pay139, k0_pay140, k0_pay141, k0_pay144, k0_pay150, k0_pay153, k0_pay154, k0_pay155, k0_pay156, k0_pay165,
  k0_pay166, k0_pay167, k0_pay169, k0_pay176, k0_pay178, k0_pay179, k0_pay182, k0_pay190, k0_pay192, k0_pay193, k0_pay194, k0_pay202, k0_pay203,
  k0_pay204, k0_pay207, k0_pay213, k0_pay216, k0_pay217, k0_pay218, k0_pay219, v769_B, v780_B, v861_B, v872_B, v953_B, v964_B, v1045_B, v1056_B,
  v1137_B, v1148_B, v1229_B, v1240_B, v1321_B, v1332_B, v1413_B, v1424_B, mask_65, mask_72, mask_79, mask_85, mask_90, mask_96, mask_101, mask_108,
  mask_125, mask_138, mask_149, mask_175, mask_188, mask_201, mask_212, mask_164, read0, read1, read2, read3, read4, read5, read6, read7, read8,
  read9, read10, read11, read12, read13, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
  refine tiles_f32 ?_ 128 896 _ (fun a ha b hb => dvln_block A t 1 7 ha hb) _
  refine tiles_f32 ?_ 0 896 _ (fun a ha b hb => dvln_block A t 0 7 ha hb) _
  refine tiles_f32 ?_ 128 768 _ (fun a ha b hb => dvln_block A t 1 6 ha hb) _
  refine tiles_f32 ?_ 0 768 _ (fun a ha b hb => dvln_block A t 0 6 ha hb) _
  refine tiles_f32 ?_ 128 640 _ (fun a ha b hb => dvln_block A t 1 5 ha hb) _
  refine tiles_f32 ?_ 0 640 _ (fun a ha b hb => dvln_block A t 0 5 ha hb) _
  refine tiles_f32 ?_ 128 512 _ (fun a ha b hb => dvln_block A t 1 4 ha hb) _
  refine tiles_f32 ?_ 0 512 _ (fun a ha b hb => dvln_block A t 0 4 ha hb) _
  refine tiles_f32 ?_ 128 384 _ (fun a ha b hb => dvln_block A t 1 3 ha hb) _
  refine tiles_f32 ?_ 0 384 _ (fun a ha b hb => dvln_block A t 0 3 ha hb) _
  refine tiles_f32 ?_ 128 256 _ (fun a ha b hb => dvln_block A t 1 2 ha hb) _
  refine tiles_f32 ?_ 0 256 _ (fun a ha b hb => dvln_block A t 0 2 ha hb) _
  refine tiles_f32 ?_ 128 128 _ (fun a ha b hb => dvln_block A t 1 1 ha hb) _
  refine tiles_f32 ?_ 0 128 _ (fun a ha b hb => dvln_block A t 0 1 ha hb) _
  refine tiles_f32 ?_ 128 0 _ (fun a ha b hb => dvln_block A t 1 0 ha hb) _
  refine tiles_f32 ?_ 0 0 _ (fun a ha b hb => dvln_block A t 0 0 ha hb) _
  exact tiles_nil _
theorem dvln_B :
    kernelRun0_B.sl.v1447 (F := Ideal) c arg1 harg1 arg7 harg7 arg9 harg9 arg10 harg10 arg11 harg11 arg12 harg12 arg14 harg14 arg22 arg23 arg24 arg25
    (X0 A t) (X6 A t) (X8 A) (X9 A) (X10 A) (X11 A) (X13 A)
    = c2 (φ := .f32) 256 1024 fun a b => dvln A (256 * t + a) b := by
  refine (readCov_c2 dvln_canon 0 0 _).trans ?_
  simp only [zero_add]
theorem dlng_B :
    kernelRun0_B.sl.r_51 (F := Ideal) c arg1 harg1 arg7 harg7 arg9 harg9 arg10 harg10 arg11 harg11 arg12 harg12 arg14 harg14 arg22 arg23 arg24 arg25
    (X0 A t) (X6 A t) (X8 A) (X9 A) (X10 A) (X11 A) (X13 A)
    = c2 1 1024 fun _ b => ∑ a ∈ range 256, dvln A (256 * t + a) b * vhat A (256 * t + a) b := by
  simp only [kernelRun0_B.sl.r_51, k0_pay223, dvln_B, vhat_B, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn, zero_add]
theorem dv_B :
    kernelRun0_B.sl.r_52 (F := Ideal) c arg1 harg1 arg7 harg7 arg9 harg9 arg10 harg10 arg11 harg11 arg12 harg12 arg14 harg14 arg22 arg23 arg24 arg25
    (X0 A t) (X6 A t) (X8 A) (X9 A) (X10 A) (X11 A) (X13 A)
    = c2 256 1024 fun a b => dv A (256 * t + a) b := by
  simp only [kernelRun0_B.sl.r_52, kernelRun0_B.sl.r, k0_pay226, dvln_B, vhat_B, rs_B, read0, read1, read2, read3, read4, read5, read6, read7, read8,
  read9, read10, read11, read12, read13, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn, zero_add]
  rfl

end Cert.KernelIdeal.Gen

end
-- ==== Proof.Conv.lean ====
/- The short convolution at one grid point: the tile of the gated product with the rows before it, its gradient with the rows
   after it. -/
module

public import proofs.«01_k».proof.Proof.Gen.KernelIdeal.Value
public import proofs.«01_k».proof.Proof.Block

@[expose] public section

noncomputable section

namespace Cert.KernelIdeal.Gen

open Idealize.ShloMosaic Idealize.ShloMosaic.TcCoe

open Cert.Coe Cert.Spec Finset

attribute [local implicit_reducible] FKind.neutral

/-! ### The rows before and after a tile -/

theorem gt_val : ∀ n : Fin 16, Scalar.cmpi .sgt (BitVec.ofNat 32 n.val) 0#32 = if 0 < n.val then 1#1 else 0#1 := by decide
theorem lt_val : ∀ n : Fin 16, Scalar.cmpi .slt (BitVec.ofNat 32 n.val) 15#32 = if n.val < 15 then 1#1 else 0#1 := by decide
theorem sel_gt {m n : ℕ} (i : grid0.Coords) (f g : ℕ → ℕ → ℝ) :
    Scalar.select (Scalar.cmpi .sgt (BitVec.ofNat 32 (i 0).val) 0#32) (c2 (φ := .f32) m n f) (c2 (φ := .f32) m n g)
    = c2 (φ := .f32) m n fun a b => if 0 < (i 0).val then f a b else g a b := by
  rw [gt_val (i 0)]
  by_cases h : 0 < (i 0).val <;> simp [h, Scalar.select]
theorem sel_lt {m n : ℕ} {i : grid0.Coords} (h : (i 0).val < 15) (f g : FVec Ideal ⟨2, ![m, n]⟩ .f32) :
    Scalar.select (Scalar.cmpi .slt (BitVec.ofNat 32 (i 0).val) 15#32) f g = f := by
  rw [lt_val (i 0), if_pos h]; rfl
theorem sel_last {m n : ℕ} {i : grid0.Coords} (h : ¬(i 0).val < 15) (f g : FVec Ideal ⟨2, ![m, n]⟩ .f32) :
    Scalar.select (Scalar.cmpi .slt (BitVec.ofNat 32 (i 0).val) 15#32) f g = g := by
  rw [lt_val (i 0), if_neg h]; rfl

variable {A : Args} {t : ℕ}

theorem row256 {n : ℕ} {φ : FTy} (k : BitVec 32) (f g : ℕ → ℕ → ℝ) (h : (⟨2, ![256, n]⟩ : Shape).Iotas .tc 32 [0]) :
    select (cmpi .eq (iota .tc ⟨2, ![256, n]⟩ 32 (no_index [0]) h) (broadcast ⟨2, ![256, n]⟩ k))
      (c2 256 n f : FVec Ideal _ φ) (c2 256 n g)
    = c2 256 n fun a b => if a = k.toNat then f a b else g a b := row_eq k (by decide) f g h
theorem row16 {n : ℕ} {φ : FTy} (k : BitVec 32) (f g : ℕ → ℕ → ℝ) (h : (⟨2, ![16, n]⟩ : Shape).Iotas .tc 32 [0]) :
    select (cmpi .eq (iota .tc ⟨2, ![16, n]⟩ 32 (no_index [0]) h) (broadcast ⟨2, ![16, n]⟩ k))
      (c2 16 n f : FVec Ideal _ φ) (c2 16 n g)
    = c2 16 n fun a b => if a = k.toNat then f a b else g a b := row_eq k (by decide) f g h

theorem qm_lt {n r c : ℕ} (h : r < n) : qm A n r c = 0 := if_neg (by omega)
theorem qm_ge {n r c : ℕ} (s : ℕ) (h : s + n = r) : q A s c = qm A n r c := by
  unfold qm; rw [if_pos (by omega)]; congr 1; omega

theorem qm1_tile {a b : ℕ} (ha : a < 256) :
    (if a = 0 then if 0 < t then q A (pv t + (15 + 0)) b else 0 else q A (256 * t + (a + 256 - 1) % 256) b)
    = qm A 1 (256 * t + a) b := by
  unfold pv
  split_ifs
  · exact qm_ge _ (by omega)
  · exact (qm_lt (by omega)).symm
  · exact qm_ge _ (by omega)
theorem qm2_tile {a b : ℕ} (ha : a < 256) :
    (if a = 1 then if 0 < t then q A (pv t + (15 + 0)) b else 0 else
      if a = 0 then if 0 < t then q A (pv t + (14 + 0)) b else 0 else q A (256 * t + (a + 256 - 2) % 256) b)
    = qm A 2 (256 * t + a) b := by
  unfold pv
  split_ifs
  · exact qm_ge _ (by omega)
  · exact (qm_lt (by omega)).symm
  · exact qm_ge _ (by omega)
  · exact (qm_lt (by omega)).symm
  · exact qm_ge _ (by omega)
theorem qm1_next {a b : ℕ} (ha : a < 16) :
    (if a = 0 then q A (256 * t + (255 + 0)) b else q A (256 * (t + 1) + (a + 16 - 1) % 16) b)
    = qm A 1 (256 * (t + 1) + a) b := by
  split_ifs <;> exact qm_ge _ (by omega)
theorem qm2_next {a b : ℕ} (ha : a < 16) :
    (if a = 1 then q A (256 * t + (255 + 0)) b else
      if a = 0 then q A (256 * t + (254 + 0)) b else q A (256 * (t + 1) + (a + 16 - 2) % 16) b)
    = qm A 2 (256 * (t + 1) + a) b := by
  split_ifs <;> exact qm_ge _ (by omega)
theorem qm2_val :
    k0_pay237 (F := Ideal) (c2 256 1024 fun a b => q A (256 * t + a) b)
      (c2 16 1024 fun a b => if 0 < t then q A (pv t + a) b else 0)
    = c2 256 1024 fun a b => qm A 2 (256 * t + a) b := by
  simp only [k0_pay237, row256, slice_c2, cast_self, bcast_row]
  rw [rotate_c2]
  simp only [row256]
  exact c2_congr fun a ha b _ => qm2_tile ha

theorem gE_lt {r c : ℕ} (s : ℕ) (h : r < 4096) (e : s = r) : g A s c = gE A r c := by
  unfold gE; rw [if_pos h, e]
theorem g1_tile {a b : ℕ} (ht : t < 16) (ha : a < 256) :
    (if a = 255 then gE A (256 * (t + 1) + 0) b else g A (256 * t + (a + 256 - 255) % 256) b)
    = gE A (256 * t + a + 1) b := by
  split_ifs
  · congr 1; omega
  · exact gE_lt _ (by omega) (by omega)
theorem g2_tile {a b : ℕ} (ht : t < 16) (ha : a < 256) :
    (if a = 255 then gE A (256 * (t + 1) + (1 + 0)) b else
      if a = 254 then gE A (256 * (t + 1) + 0) b else g A (256 * t + (a + 256 - 254) % 256) b)
    = gE A (256 * t + a + 2) b := by
  split_ifs
  · congr 1; omega
  · congr 1; omega
  · exact gE_lt _ (by omega) (by omega)
theorem nx_eq (h : t < 15) : nx t = 256 * (t + 1) := by unfold nx; omega

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32}
  {arg23 : Memref sig .tc .vmem S256x1024 .f32} {arg24 : Memref sig .tc .vmem S256x1024 .f32} {arg25 : Memref sig .tc .vmem S256x1024 .f32}

theorem cw0_B :
    kernelRun0_B.sl.r_56 (F := Ideal) c arg13 harg13 (X12 A)
    = c2 (φ := .f32) 1 1024 fun a b => A.cw (a) b := by
  simp only [kernelRun0_B.sl.r_56, read0, read1, read2, read3, read4, read5, read6, read7, read8, read9, read10, read11, read12, read13, add_zero,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
theorem cw1_B :
    kernelRun0_B.sl.r_57 (F := Ideal) c arg13 harg13 (X12 A)
    = c2 (φ := .f32) 1 1024 fun a b => A.cw (1 + a) b := by
  simp only [kernelRun0_B.sl.r_57, read0, read1, read2, read3, read4, read5, read6, read7, read8, read9, read10, read11, read12, read13, add_zero,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
theorem cw2_B :
    kernelRun0_B.sl.r_58 (F := Ideal) c arg13 harg13 (X12 A)
    = c2 (φ := .f32) 1 1024 fun a b => A.cw (2 + a) b := by
  simp only [kernelRun0_B.sl.r_58, read0, read1, read2, read3, read4, read5, read6, read7, read8, read9, read10, read11, read12, read13, add_zero,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
theorem gg_B :
    kernelRun0_B.sl.r_59 (F := Ideal) c arg14 harg14 (X13 A)
    = c2 (φ := .f32) 1 1024 fun _ b => A.gg (1024 + b) := by
  simp only [kernelRun0_B.sl.r_59, read0, read1, read2, read3, read4, read5, read6, read7, read8, read9, read10, read11, read12, read13, extf_c2,
  truncf_c2, addf_c2, subf_c2, mulf_c2, tanh_c2, sum_rows, sum_cols, cast_col, cast_row, cast_drop, cast_add, bcast_col, bcast_row, cast_self,
  broadcast_c2, div1024, lit_zero, lit_one, lit_half, lit_1024, lit_gC, lit_e6, lit_e5, named_a, named_3a, rsqrt_e5, rsqrt_e6, slice_c2, rotate_c2,
  row_eq, dot_nn, dot_nt, dot_tn, zero_add]
theorem zb_B :
    kernelRun0_B.sl.r_60 (F := Ideal) c arg1 harg1 (X0 A t)
    = c2 256 1024 fun a b => zb A (256 * t + a) b := by
  simp only [kernelRun0_B.sl.r_60, k0_pay231, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem zc_B :
    kernelRun0_B.sl.r_61 (F := Ideal) c arg1 harg1 (X0 A t)
    = c2 256 1024 fun a b => zc A (256 * t + a) b := by
  simp only [kernelRun0_B.sl.r_61, k0_pay232, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem zh_B :
    kernelRun0_B.sl.r_62 (F := Ideal) c arg1 harg1 (X0 A t)
    = c2 256 1024 fun a b => zh A (256 * t + a) b := by
  simp only [kernelRun0_B.sl.r_62, k0_pay233, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem q_B :
    kernelRun0_B.sl.r_63 (F := Ideal) c arg1 harg1 (X0 A t)
    = c2 256 1024 fun a b => q A (256 * t + a) b := by
  simp only [kernelRun0_B.sl.r_63, k0_pay232, k0_pay233, k0_pay234, read0, read1, read2, read3, read4, read5, read6, read7, read8, read9, read10,
  read11, read12, read13, extf_c2, truncf_c2, addf_c2, subf_c2, mulf_c2, tanh_c2, sum_rows, sum_cols, cast_col, cast_row, cast_drop, cast_add,
  bcast_col, bcast_row, cast_self, broadcast_c2, div1024, lit_zero, lit_one, lit_half, lit_1024, lit_gC, lit_e6, lit_e5, named_a, named_3a, rsqrt_e5,
  rsqrt_e6, slice_c2, rotate_c2, row_eq, dot_nn, dot_nt, dot_tn, zero_add]
  rfl
theorem halo_B :
    kernelRun0_B.sl.r_64 (F := Ideal) c i arg2 harg2 arg3 harg3 (X1 A (i 0).val) (X2 A (i 0).val)
    = c2 16 1024 fun a b => if 0 < (i 0).val then q A (pv (i 0).val + a) b else 0 := by
  simp only [kernelRun0_B.sl.r_64, k0_pay235, read0, read1, read2, read3, read4, read5, read6, read7, read8, read9, read10, read11, read12, read13,
  sel_gt, extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem qm1_B :
    kernelRun0_B.sl.r_65 (F := Ideal) c i arg1 harg1 arg2 harg2 arg3 harg3 (X0 A (i 0).val) (X1 A (i 0).val) (X2 A (i 0).val)
    = c2 256 1024 fun a b => qm A 1 (256 * (i 0).val + a) b := by
  simp only [kernelRun0_B.sl.r_65, k0_pay232, k0_pay233, k0_pay234, k0_pay235, k0_pay236, read0, read1, read2, read3, read4, read5, read6, read7,
  read8, read9, read10, read11, read12, read13, sel_gt, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn, zero_add]
  rw [rotate_c2]
  simp only [row256]
  exact c2_congr fun a ha b _ => qm1_tile ha
theorem qm2_B :
    kernelRun0_B.sl.r_66 (F := Ideal) c i arg1 harg1 arg2 harg2 arg3 harg3 (X0 A (i 0).val) (X1 A (i 0).val) (X2 A (i 0).val)
    = c2 256 1024 fun a b => qm A 2 (256 * (i 0).val + a) b := by
  simp only [kernelRun0_B.sl.r_66, q_B, halo_B, qm2_val, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn, zero_add]
theorem dbo_B :
    kernelRun0_B.sl.r_67 (F := Ideal) c arg7 harg7 (X6 A t)
    = c2 256 1024 fun a b => dbo A (256 * t + a) b := by
  simp only [kernelRun0_B.sl.r_67, k0_pay239, read0, read1, read2, read3, read4, read5, read6, read7, read8, read9, read10, read11, read12, read13,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, zero_add]
  rfl
theorem ybn_B :
    kernelRun0_B.sl.r_68 (F := Ideal) c i arg1 harg1 arg2 harg2 arg3 harg3 arg13 harg13 (X0 A (i 0).val) (X1 A (i 0).val) (X2 A (i 0).val) (X12 A)
    = c2 (φ := .f32) 256 1024 fun a b => yb A (256 * (i 0).val + a) b * rinv e6 (yb A (256 * (i 0).val + a)) := by
  simp only [kernelRun0_B.sl.r_68, k0_pay231, k0_pay238, k0_pay240, k0_pay241, k0_pay242, zb_B, q_B, qm1_B, qm2_B, cw0_B, cw1_B, cw2_B, halo_B,
  qm2_val, rsqrt_e6, extf_c2, truncf_c2, addf_c2, subf_c2, mulf_c2, tanh_c2, sum_rows, sum_cols, cast_col, cast_row, cast_drop, cast_add, bcast_col,
  bcast_row, cast_self, broadcast_c2, div1024, lit_zero, lit_one, lit_half, lit_1024, lit_gC, lit_e6, lit_e5, named_a, named_3a, rsqrt_e5, rsqrt_e6,
  slice_c2, rotate_c2, row_eq, dot_nn, dot_nt, dot_tn, zero_add]
  rfl
theorem g_B :
    kernelRun0_B.sl.r_69 (F := Ideal) c i arg1 harg1 arg2 harg2 arg3 harg3 arg7 harg7 arg13 harg13 arg14 harg14 (X0 A (i 0).val) (X1 A (i 0).val) (X2
    A (i 0).val) (X6 A (i 0).val) (X12 A) (X13 A)
    = c2 256 1024 fun a b => g A (256 * (i 0).val + a) b := by
  simp only [kernelRun0_B.sl.r_69, k0_pay231, k0_pay238, k0_pay239, k0_pay240, k0_pay241, k0_pay242, k0_pay243, k0_pay244, zb_B, q_B, qm1_B, qm2_B,
  cw0_B, cw1_B, cw2_B, halo_B, qm2_val, gg_B, rsqrt_e6, read0, read1, read2, read3, read4, read5, read6, read7, read8, read9, read10, read11, read12,
  read13, zero_add, extf_c2, truncf_c2, addf_c2, subf_c2, mulf_c2, tanh_c2, sum_rows, sum_cols, cast_col, cast_row, cast_drop, cast_add, bcast_col,
  bcast_row, cast_self, broadcast_c2, div1024, lit_zero, lit_one, lit_half, lit_1024, lit_gC, lit_e6, lit_e5, named_a, named_3a, rsqrt_e5, rsqrt_e6,
  slice_c2, rotate_c2, row_eq, dot_nn, dot_nt, dot_tn, zero_add]
  rfl
theorem dzb_B :
    kernelRun0_B.sl.r_70 (F := Ideal) c i arg1 harg1 arg2 harg2 arg3 harg3 arg7 harg7 arg13 harg13 arg14 harg14 (X0 A (i 0).val) (X1 A (i 0).val) (X2
    A (i 0).val) (X6 A (i 0).val) (X12 A) (X13 A)
    = c2 256 1024 fun a b => dzb A (256 * (i 0).val + a) b := by
  simp only [kernelRun0_B.sl.r_70, k0_pay231, k0_pay238, k0_pay239, k0_pay240, k0_pay241, k0_pay242, k0_pay243, k0_pay245, zb_B, q_B, qm1_B, qm2_B,
  cw0_B, cw1_B, cw2_B, halo_B, qm2_val, gg_B, rsqrt_e6, read0, read1, read2, read3, read4, read5, read6, read7, read8, read9, read10, read11, read12,
  read13, zero_add, extf_c2, truncf_c2, addf_c2, subf_c2, mulf_c2, tanh_c2, sum_rows, sum_cols, cast_col, cast_row, cast_drop, cast_add, bcast_col,
  bcast_row, cast_self, broadcast_c2, div1024, lit_zero, lit_one, lit_half, lit_1024, lit_gC, lit_e6, lit_e5, named_a, named_3a, rsqrt_e5, rsqrt_e6,
  slice_c2, rotate_c2, row_eq, dot_nn, dot_nt, dot_tn, zero_add]
  rfl
/-! ### The rows after the tile -/

theorem qn_B (ht : t < 15) :
    kernelRun0_B.sl.r_71 (F := Ideal) c arg5 harg5 arg6 harg6 (X4 A t) (X5 A t)
    = c2 16 1024 fun a b => q A (256 * (t + 1) + a) b := by
  simp only [kernelRun0_B.sl.r_71, k0_pay248, read3, read4, read5, read7, nx_eq ht, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn, zero_add]
  rfl
theorem zbn_B (ht : t < 15) :
    kernelRun0_B.sl.r_72 (F := Ideal) c arg4 harg4 (X3 A t)
    = c2 16 1024 fun a b => zb A (256 * (t + 1) + a) b := by
  simp only [kernelRun0_B.sl.r_72, k0_pay249, read3, read4, read5, read7, nx_eq ht, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn, zero_add]
  rfl
theorem qm2n_B (ht : t < 15) :
    kernelRun0_B.sl.r_73 (F := Ideal) c arg1 harg1 arg5 harg5 arg6 harg6 arg13 harg13 (X0 A t) (X4 A t) (X5 A t) (X12 A)
    = c2 16 1024 fun a b => A.cw 0 b * qm A 2 (256 * (t + 1) + a) b := by
  simp only [kernelRun0_B.sl.r_73, k0_pay248, k0_pay250, q_B, cw0_B, read3, read4, read5, read7, nx_eq ht, extf_c2, truncf_c2, addf_c2, subf_c2,
  mulf_c2, tanh_c2, sum_rows, sum_cols, cast_col, cast_row, cast_drop, cast_add, bcast_col, bcast_row, cast_self, broadcast_c2, div1024, lit_zero,
  lit_one, lit_half, lit_1024, lit_gC, lit_e6, lit_e5, named_a, named_3a, rsqrt_e5, rsqrt_e6, slice_c2, rotate_c2, row_eq, dot_nn, dot_nt, dot_tn,
  zero_add]
  rw [rotate_c2]
  simp only [row16, mulf_c2]
  exact c2_congr fun a ha b _ => congrArg _ (qm2_next ha)
theorem qm1n_B (ht : t < 15) :
    kernelRun0_B.sl.r_74 (F := Ideal) c arg1 harg1 arg5 harg5 arg6 harg6 (X0 A t) (X4 A t) (X5 A t)
    = c2 16 1024 fun a b => qm A 1 (256 * (t + 1) + a) b := by
  simp only [kernelRun0_B.sl.r_74, k0_pay248, k0_pay251, q_B, read3, read4, read5, read7, nx_eq ht, extf_c2, truncf_c2, addf_c2, subf_c2, mulf_c2,
  tanh_c2, sum_rows, sum_cols, cast_col, cast_row, cast_drop, cast_add, bcast_col, bcast_row, cast_self, broadcast_c2, div1024, lit_zero, lit_one,
  lit_half, lit_1024, lit_gC, lit_e6, lit_e5, named_a, named_3a, rsqrt_e5, rsqrt_e6, slice_c2, rotate_c2, row_eq, dot_nn, dot_nt, dot_tn, zero_add]
  rw [rotate_c2]
  simp only [row16]
  exact c2_congr fun a ha b _ => qm1_next ha
theorem cw1n_B :
    kernelRun0_B.sl.r_75 (F := Ideal) c arg13 harg13 (X12 A)
    = c2 (φ := .f32) 16 1024 fun _ b => A.cw 1 b := by
  simp only [kernelRun0_B.sl.r_75, k0_pay252, cw1_B, extf_c2, truncf_c2, addf_c2, subf_c2, mulf_c2, tanh_c2, sum_rows, sum_cols, cast_col, cast_row,
  cast_drop, cast_add, bcast_col, bcast_row, cast_self, broadcast_c2, div1024, lit_zero, lit_one, lit_half, lit_1024, lit_gC, lit_e6, lit_e5, named_a,
  named_3a, rsqrt_e5, rsqrt_e6, slice_c2, rotate_c2, row_eq, dot_nn, dot_nt, dot_tn, zero_add]
/-- The gradient at the 16 rows after a tile that is not the last one. -/
theorem next_val (i : grid0.Coords) (ht : (i 0).val < 15) :
    k0_pay253 (F := Ideal) (BitVec.ofNat 32 (i 0).val) (c2 (φ := .f32) 1 1024 fun a b => A.cw (2 + a) b)
      (c2 (φ := .f32) 1 1024 fun _ b => A.gg (1024 + b))
      (c2 16 1024 fun a b => q A (256 * ((i 0).val + 1) + a) b) (c2 16 1024 fun a b => zb A (256 * ((i 0).val + 1) + a) b)
      (c2 16 1024 fun a b => A.cw 0 b * qm A 2 (256 * ((i 0).val + 1) + a) b)
      (c2 16 1024 fun a b => qm A 1 (256 * ((i 0).val + 1) + a) b) (c2 16 1024 fun _ b => A.cw 1 b)
      (c2 (φ := .bf16) 16 1024 fun a b => A.dy (256 * ((i 0).val + 1) + a) (1024 + b))
    = c2 16 1024 fun a b => gE A (256 * ((i 0).val + 1) + a) b := by
  simp only [k0_pay253, sel_lt ht, rsqrt_e6, extf_c2, truncf_c2, addf_c2, subf_c2, mulf_c2, tanh_c2, sum_rows, sum_cols, cast_col, cast_row, cast_drop, cast_add, bcast_col, bcast_row, cast_self, broadcast_c2, div1024, lit_zero, lit_one, lit_half, lit_1024, lit_gC, lit_e6, lit_e5, named_a, named_3a, rsqrt_e5, rsqrt_e6, slice_c2, rotate_c2, row_eq, dot_nn, dot_nt, dot_tn]
  exact c2_congr fun a ha b _ => gE_lt (A := A) _ (by omega) rfl

theorem next_last {i : grid0.Coords} (ht : ¬(i 0).val < 15) (a1 a2 a3 a4 a5 a6 a7 a8) :
    k0_pay253 (F := Ideal) (BitVec.ofNat 32 (i 0).val) a1 a2 a3 a4 a5 a6 a7 a8
    = c2 16 1024 fun a b => gE A (256 * ((i 0).val + 1) + a) b := by
  simp only [k0_pay253, sel_last ht, extf_c2, truncf_c2, addf_c2, subf_c2, mulf_c2, tanh_c2, sum_rows, sum_cols, cast_col, cast_row, cast_drop, cast_add, bcast_col, bcast_row, cast_self, broadcast_c2, div1024, lit_zero, lit_one, lit_half, lit_1024, lit_gC, lit_e6, lit_e5, named_a, named_3a, rsqrt_e5, rsqrt_e6, slice_c2, rotate_c2, row_eq, dot_nn, dot_nt, dot_tn]
  refine c2_congr fun a ha b _ => ?_
  unfold gE; rw [if_neg (by omega)]

theorem gn0_B :
    kernelRun0_B.sl.r_77 (F := Ideal) c i arg1 harg1 arg4 harg4 arg5 harg5 arg6 harg6 arg8 harg8 arg13 harg13 arg14 harg14 (X0 A (i 0).val) (X3 A (i
    0).val) (X4 A (i 0).val) (X5 A (i 0).val) (X7 A (i 0).val) (X12 A) (X13 A)
    = c2 1 1024 fun a b => gE A (256 * ((i 0).val + 1) + a) b := by
  have h16 : (i 0).val < 16 := (i 0).isLt
  by_cases ht : (i 0).val < 15
  · simp only [kernelRun0_B.sl.r_77, k0_pay255, qn_B ht, zbn_B ht, qm2n_B ht, qm1n_B ht, cw1n_B, cw2_B, gg_B, read7, nx_eq ht, zero_add, next_val i
  ht, extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn]
  · simp only [kernelRun0_B.sl.r_77, k0_pay255, next_last (A := A) ht, zero_add, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn]
theorem gn1_B :
    kernelRun0_B.sl.r_78 (F := Ideal) c i arg1 harg1 arg4 harg4 arg5 harg5 arg6 harg6 arg8 harg8 arg13 harg13 arg14 harg14 (X0 A (i 0).val) (X3 A (i
    0).val) (X4 A (i 0).val) (X5 A (i 0).val) (X7 A (i 0).val) (X12 A) (X13 A)
    = c2 1 1024 fun a b => gE A (256 * ((i 0).val + 1) + (1 + a)) b := by
  have h16 : (i 0).val < 16 := (i 0).isLt
  by_cases ht : (i 0).val < 15
  · simp only [kernelRun0_B.sl.r_78, k0_pay256, qn_B ht, zbn_B ht, qm2n_B ht, qm1n_B ht, cw1n_B, cw2_B, gg_B, read7, nx_eq ht, zero_add, next_val i
  ht, extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn]
  · simp only [kernelRun0_B.sl.r_78, k0_pay256, next_last (A := A) ht, zero_add, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn]
theorem dq1_B :
    kernelRun0_B.sl.r_76 (F := Ideal) c i arg1 harg1 arg2 harg2 arg3 harg3 arg4 harg4 arg5 harg5 arg6 harg6 arg7 harg7 arg8 harg8 arg13 harg13 arg14
    harg14 (X0 A (i 0).val) (X1 A (i 0).val) (X2 A (i 0).val) (X3 A (i 0).val) (X4 A (i 0).val) (X5 A (i 0).val) (X6 A (i 0).val) (X7 A (i 0).val)
    (X12 A) (X13 A)
    = c2 256 1024 fun a b => A.cw 2 b * g A (256 * (i 0).val + a) b + A.cw 1 b * gE A ((256 * (i 0).val + a) + 1) b := by
  have h16 : (i 0).val < 16 := (i 0).isLt
  by_cases ht : (i 0).val < 15
  · simp only [kernelRun0_B.sl.r_76, k0_pay254, g_B, cw1_B, cw2_B, qn_B ht, zbn_B ht, qm2n_B ht, qm1n_B ht, cw1n_B, cw2_B, gg_B, read7, nx_eq ht,
  zero_add, next_val i ht, extf_c2, truncf_c2, addf_c2, subf_c2, mulf_c2, tanh_c2, sum_rows, sum_cols, cast_col, cast_row, cast_drop, cast_add,
  bcast_col, bcast_row, cast_self, broadcast_c2, div1024, lit_zero, lit_one, lit_half, lit_1024, lit_gC, lit_e6, lit_e5, named_a, named_3a, rsqrt_e5,
  rsqrt_e6, slice_c2, rotate_c2, row_eq, dot_nn, dot_nt, dot_tn]
    rw [rotate_c2]
    simp only [row256, mulf_c2, addf_c2]
    exact c2_congr fun a ha b _ => congrArg (A.cw 2 b * g A (256 * (i 0).val + a) b + A.cw 1 b * ·) (g1_tile h16 ha)
  · simp only [kernelRun0_B.sl.r_76, k0_pay254, g_B, cw1_B, cw2_B, next_last (A := A) ht, zero_add, extf_c2, truncf_c2, addf_c2, subf_c2, mulf_c2,
  tanh_c2, sum_rows, sum_cols, cast_col, cast_row, cast_drop, cast_add, bcast_col, bcast_row, cast_self, broadcast_c2, div1024, lit_zero, lit_one,
  lit_half, lit_1024, lit_gC, lit_e6, lit_e5, named_a, named_3a, rsqrt_e5, rsqrt_e6, slice_c2, rotate_c2, row_eq, dot_nn, dot_nt, dot_tn]
    rw [rotate_c2]
    simp only [row256, mulf_c2, addf_c2]
    exact c2_congr fun a ha b _ => congrArg (A.cw 2 b * g A (256 * (i 0).val + a) b + A.cw 1 b * ·) (g1_tile h16 ha)
/-- The gradient of the gated product. -/
theorem dq_val (ht : t < 16) :
    k0_pay257 (F := Ideal) (c2 (φ := .f32) 1 1024 fun a b => A.cw a b) (c2 256 1024 fun a b => g A (256 * t + a) b)
      (c2 256 1024 fun a b => A.cw 2 b * g A (256 * t + a) b + A.cw 1 b * gE A (256 * t + a + 1) b)
      (c2 1 1024 fun a b => gE A (256 * (t + 1) + a) b) (c2 1 1024 fun a b => gE A (256 * (t + 1) + (1 + a)) b)
    = c2 256 1024 fun a b => dq A (256 * t + a) b := by
  simp only [k0_pay257, bcast_row, cast_self]
  rw [rotate_c2]
  simp only [row256, mulf_c2, addf_c2]
  exact c2_congr fun a ha b _ => congrArg (A.cw 2 b * g A (256 * t + a) b + A.cw 1 b * gE A (256 * t + a + 1) b + A.cw 0 b * ·)
    (g2_tile ht ha)

end Cert.KernelIdeal.Gen

end
-- ==== Proof.Store.lean ====
/- The values the body stores in its result windows, over the real numbers. `f` is what an accumulator held. -/
module

public import proofs.«01_k».proof.Proof.Gen.KernelIdeal.Value
public import proofs.«01_k».proof.Proof.Gate
public import proofs.«01_k».proof.Proof.Conv

@[expose] public section

noncomputable section

namespace Cert.KernelIdeal.Gen

open Idealize.ShloMosaic Idealize.ShloMosaic.TcCoe

open Cert.Coe Cert.Spec Finset

attribute [local implicit_reducible] FKind.neutral

section Steps
variable (A : Args) (t : ℕ)

/-- What a tile adds to the gradients of the weight and of the bias. -/
def wInc (h i j : ℕ) : ℝ :=
  0 + (∑ x ∈ range 128, dmix A (256 * t + (0 + i)) (128 * h + x) * vln A (256 * t + (0 + j)) (128 * h + x))
    + ∑ x ∈ range 128, dmix A (256 * t + (128 + i)) (128 * h + x) * vln A (256 * t + (128 + j)) (128 * h + x)
def bInc (h i l : ℕ) : ℝ := 0 + dmix A (256 * t + (0 + i)) (128 * h + l) + dmix A (256 * t + (128 + i)) (128 * h + l)

theorem dw_step (h i j : ℕ) : dw A (2 * t) h i j + wInc A t h i j = dw A (2 * (t + 1)) h i j := dw_block A t h i j
theorem db_step (h i l : ℕ) : db A (2 * t) h i l + bInc A t h i l = db A (2 * (t + 1)) h i l := db_block A t h i l

theorem sum_tile (F : ℕ → ℝ) : (∑ r ∈ range (256 * t), F r) + ∑ a ∈ range 256, F (256 * t + a) = ∑ r ∈ range (256 * (t + 1)), F r := by
  rw [mul_add_one, sum_range_add]

theorem dlng_step (b : ℕ) :
    dlng A (256 * t) b + (∑ a ∈ range 256, dvln A (256 * t + a) b * vhat A (256 * t + a) b) = dlng A (256 * (t + 1)) b :=
  sum_tile t fun r => dvln A r b * vhat A r b
theorem dlnb_step (b : ℕ) : dlnb A (256 * t) b + (∑ a ∈ range 256, dvln A (256 * t + a) b) = dlnb A (256 * (t + 1)) b :=
  sum_tile t fun r => dvln A r b

/-- What a tile adds to the gradients of the convolution and of the gain. -/
def cInc (k b : ℕ) : ℝ := if k < 3 then ∑ a ∈ range 256, g A (256 * t + a) b * qm A (2 - k) (256 * t + a) b else 0
def gInc (b : ℕ) : ℝ :=
  if b < 1024 then ∑ a ∈ range 256, da A (256 * t + a) b * (ya A (256 * t + a) b * rinv e6 (ya A (256 * t + a)))
  else ∑ a ∈ range 256, dbo A (256 * t + a) (b - 1024) * (yb A (256 * t + a) (b - 1024) * rinv e6 (yb A (256 * t + a)))
theorem dcw_step (k b : ℕ) : dcw A (256 * t) k b + cInc A t k b = dcw A (256 * (t + 1)) k b := by
  unfold dcw cInc
  split_ifs
  · exact sum_tile t fun r => g A r b * qm A (2 - k) r b
  · exact add_zero _
theorem dgg_step (b : ℕ) : dgg A (256 * t) b + gInc A t b = dgg A (256 * (t + 1)) b := by
  unfold dgg gInc
  split_ifs
  · exact sum_tile t fun r => da A r b * (ya A r b * rinv e6 (ya A r))
  · exact sum_tile t fun r => dbo A r (b - 1024) * (yb A r (b - 1024) * rinv e6 (yb A r))
theorem qm_zero (r b : ℕ) : qm A 0 r b = q A r b := if_pos (Nat.zero_le r)

/-- Three rows of the convolution's gradient, one store each. -/
theorem dcw_rows (k b : ℕ) :
    (if k = 2 then dcw A (256 * t) (2 + 0) (0 + b) + cInc A t 2 b
      else if k = 1 then dcw A (256 * t) (1 + 0) (0 + b) + cInc A t 1 b
      else if k = 0 then dcw A (256 * t) (0 + 0) (0 + b) + cInc A t 0 b else dcw A (256 * t) k b)
    = dcw A (256 * (t + 1)) k b := by
  simp only [zero_add, add_zero, dcw_step]
  split_ifs with h2 h1 h0
  · rw [h2]
  · rw [h1]
  · rw [h0]
  · rw [dcw, dcw, if_neg (by omega), if_neg (by omega)]
theorem dgg_left {b : ℕ} (hb : b < 1024) :
    dgg A (256 * t) (0 + b) + (∑ a ∈ range 256, da A (256 * t + a) b * (ya A (256 * t + a) b * rinv e6 (ya A (256 * t + a))))
    = dgg A (256 * (t + 1)) b := by
  rw [zero_add, ← dgg_step A t b, gInc, if_pos hb]
theorem dgg_right (b : ℕ) :
    dgg A (256 * t) (1024 + b)
      + (∑ a ∈ range 256, dbo A (256 * t + a) b * (yb A (256 * t + a) b * rinv e6 (yb A (256 * t + a))))
    = dgg A (256 * (t + 1)) (1024 + b) := by
  rw [← dgg_step A t (1024 + b), gInc, if_neg (by omega), Nat.add_sub_cancel_left]

end Steps

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32}
  {arg23 : Memref sig .tc .vmem S256x1024 .f32} {arg24 : Memref sig .tc .vmem S256x1024 .f32} {arg25 : Memref sig .tc .vmem S256x1024 .f32}
  {A : Args} {t : ℕ} {f : ℕ → ℕ → ℝ} {f3 : ℕ → ℕ → ℕ → ℝ}

/-- What heads 0 to 3 store of the gradients of the weight and of the bias, head by head. -/
theorem heads_lo {acc : Vec Ideal S1x128x128 .f32} (h : acc = c3 (φ := .f32) 1 128 128 f3) :
    (k0_pay132 k0_pay126 (kernelRun0_B.sl.r_23 (F := Ideal) c arg1 harg1 arg7 harg7 arg9 harg9 arg10 harg10 arg11 harg11 arg12 harg12 arg14 harg14
    arg22 arg23 arg24 (X0 A t) (X6 A t) (X8 A) (X9 A) (X10 A) (X11 A) (X13 A)) (kernelRun0_B.sl.v114 (F := Ideal) c arg1 harg1 arg9 harg9 arg10 harg10
    arg23 (X0 A t) (X8 A) (X9 A)) (kernelRun0_B.sl.v780 (F := Ideal) c arg1 harg1 arg7 harg7 arg9 harg9 arg10 harg10 arg11 harg11 arg12 harg12 arg14
    harg14 arg22 arg23 arg24 (X0 A t) (X6 A t) (X8 A) (X9 A) (X10 A) (X11 A) (X13 A)) (kernelRun0_B.sl.v123 (F := Ideal) c arg1 harg1 arg9 harg9 arg10
    harg10 arg23 (X0 A t) (X8 A) (X9 A)) acc = c3 1 128 128 fun _ i j => f3 0 i j + wInc A t 0 i j) ∧ (k0_pay133 (kernelRun0_B.sl.r_24 (F := Ideal) c
    arg1 harg1 arg7 harg7 arg9 harg9 arg10 harg10 arg11 harg11 arg12 harg12 arg14 harg14 arg22 arg23 arg24 (X0 A t) (X6 A t) (X8 A) (X9 A) (X10 A)
    (X11 A) (X13 A)) (kernelRun0_B.sl.v780 (F := Ideal) c arg1 harg1 arg7 harg7 arg9 harg9 arg10 harg10 arg11 harg11 arg12 harg12 arg14 harg14 arg22
    arg23 arg24 (X0 A t) (X6 A t) (X8 A) (X9 A) (X10 A) (X11 A) (X13 A)) acc = c3 1 128 128 fun _ i j => f3 0 i j + bInc A t 0 i j) ∧ (k0_pay145
    (kernelRun0_B.sl.r_27 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) acc = c3 1 128 128 fun _ i j => f3 0 i j + wInc A t 1 i j) ∧ (k0_pay146 (kernelRun0_B.sl.r_26
    (F := Ideal) c arg1 harg1 arg7 harg7 arg9 harg9 arg10 harg10 arg11 harg11 arg12 harg12 arg14 harg14 arg22 arg23 arg24 (X0 A t) (X6 A t) (X8 A) (X9
    A) (X10 A) (X11 A) (X13 A)) acc = c3 1 128 128 fun _ i j => f3 0 i j + bInc A t 1 i j) ∧ (k0_pay157 (kernelRun0_B.sl.r_30 (F := Ideal) c arg1
    harg1 arg7 harg7 arg9 harg9 arg10 harg10 arg11 harg11 arg12 harg12 arg14 harg14 arg22 arg23 arg24 (X0 A t) (X6 A t) (X8 A) (X9 A) (X10 A) (X11 A)
    (X13 A)) (kernelRun0_B.sl.v964 (F := Ideal) c arg1 harg1 arg7 harg7 arg9 harg9 arg10 harg10 arg11 harg11 arg12 harg12 arg14 harg14 arg22 arg23
    arg24 (X0 A t) (X6 A t) (X8 A) (X9 A) (X10 A) (X11 A) (X13 A)) (kernelRun0_B.sl.v271 (F := Ideal) c arg1 harg1 arg9 harg9 arg10 harg10 arg23 (X0 A
    t) (X8 A) (X9 A)) acc = c3 1 128 128 fun _ i j => f3 0 i j + wInc A t 2 i j) ∧ (k0_pay158 (kernelRun0_B.sl.r_29 (F := Ideal) c arg1 harg1 arg7
    harg7 arg9 harg9 arg10 harg10 arg11 harg11 arg12 harg12 arg14 harg14 arg22 arg23 arg24 (X0 A t) (X6 A t) (X8 A) (X9 A) (X10 A) (X11 A) (X13 A))
    (kernelRun0_B.sl.v964 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) acc = c3 1 128 128 fun _ i j => f3 0 i j + bInc A t 2 i j) ∧ (k0_pay170 (kernelRun0_B.sl.v1045
    (F := Ideal) c arg1 harg1 arg7 harg7 arg9 harg9 arg10 harg10 arg11 harg11 arg12 harg12 arg14 harg14 arg22 arg23 arg24 (X0 A t) (X6 A t) (X8 A) (X9
    A) (X10 A) (X11 A) (X13 A)) (kernelRun0_B.sl.v336 (F := Ideal) c arg1 harg1 arg9 harg9 arg10 harg10 arg23 (X0 A t) (X8 A) (X9 A))
    (kernelRun0_B.sl.v1056 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) (kernelRun0_B.sl.v345 (F := Ideal) c arg1 harg1 arg9 harg9 arg10 harg10 arg23 (X0 A t) (X8 A)
    (X9 A)) acc = c3 1 128 128 fun _ i j => f3 0 i j + wInc A t 3 i j) ∧ (k0_pay171 (kernelRun0_B.sl.r_34 (F := Ideal) c arg1 harg1 arg7 harg7 arg9
    harg9 arg10 harg10 arg11 harg11 arg12 harg12 arg14 harg14 arg22 arg23 arg24 (X0 A t) (X6 A t) (X8 A) (X9 A) (X10 A) (X11 A) (X13 A)) acc = c3 1
    128 128 fun _ i j => f3 0 i j + bInc A t 3 i j) := by
  subst h
  refine ⟨?_, ?_, ?_, ?_, ?_, ?_, ?_, ?_⟩ <;>
  simp only [k0_pay132, k0_pay126, k0_pay127, k0_pay130, k0_pay139, k0_pay141, k0_pay150, k0_pay155, k0_pay165, k0_pay167, k0_pay176, k0_pay190,
  k0_pay193, k0_pay202, k0_pay204, k0_pay213, k0_pay218, k0_pay128, kernelRun0_B.sl.r_23, v769_B, v780_B, v861_B, v872_B, v953_B, v964_B, v1045_B,
  v1056_B, v1137_B, v1148_B, v1229_B, v1240_B, v1321_B, v1332_B, v1413_B, v1424_B, v114_B, v123_B, v188_B, v197_B, v262_B, v271_B, v336_B, v345_B,
  v410_B, v419_B, v484_B, v493_B, v558_B, v567_B, v632_B, v641_B, extf_c2, truncf_c2, addf_c2, subf_c2, mulf_c2, tanh_c2, sum_rows, sum_cols,
  cast_col, cast_row, cast_drop, cast_add, bcast_col, bcast_row, cast_self, broadcast_c2, div1024, lit_zero, lit_one, lit_half, lit_1024, lit_gC,
  lit_e6, lit_e5, named_a, named_3a, rsqrt_e5, rsqrt_e6, slice_c2, rotate_c2, row_eq, dot_nn, dot_nt, dot_tn, k0_pay133, kernelRun0_B.sl.r_24,
  k0_pay145, k0_pay143, kernelRun0_B.sl.r_27, k0_pay146, k0_pay142, kernelRun0_B.sl.r_26, k0_pay157, k0_pay152, kernelRun0_B.sl.r_30, k0_pay158,
  k0_pay151, kernelRun0_B.sl.r_29, k0_pay170, k0_pay171, k0_pay168, kernelRun0_B.sl.r_34] <;> rfl
/-- What heads 4 to 7 store of the gradients of the weight and of the bias, head by head. -/
theorem heads_hi {acc : Vec Ideal S1x128x128 .f32} (h : acc = c3 (φ := .f32) 1 128 128 f3) :
    (k0_pay183 (kernelRun0_B.sl.r_36 (F := Ideal) c arg1 harg1 arg7 harg7 arg9 harg9 arg10 harg10 arg11 harg11 arg12 harg12 arg14 harg14 arg22 arg23
    arg24 (X0 A t) (X6 A t) (X8 A) (X9 A) (X10 A) (X11 A) (X13 A)) (kernelRun0_B.sl.r_37 (F := Ideal) c arg1 harg1 arg7 harg7 arg9 harg9 arg10 harg10
    arg11 harg11 arg12 harg12 arg14 harg14 arg22 arg23 arg24 (X0 A t) (X6 A t) (X8 A) (X9 A) (X10 A) (X11 A) (X13 A)) (kernelRun0_B.sl.r_39 (F :=
    Ideal) c arg1 harg1 arg9 harg9 arg10 harg10 arg23 (X0 A t) (X8 A) (X9 A)) acc = c3 1 128 128 fun _ i j => f3 0 i j + wInc A t 4 i j) ∧ (k0_pay184
    (kernelRun0_B.sl.r_38 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) acc = c3 1 128 128 fun _ i j => f3 0 i j + bInc A t 4 i j) ∧ (k0_pay195 k0_pay189
    (kernelRun0_B.sl.r_41 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) (kernelRun0_B.sl.v484 (F := Ideal) c arg1 harg1 arg9 harg9 arg10 harg10 arg23 (X0 A t) (X8 A)
    (X9 A)) (kernelRun0_B.sl.v1240 (F := Ideal) c arg1 harg1 arg7 harg7 arg9 harg9 arg10 harg10 arg11 harg11 arg12 harg12 arg14 harg14 arg22 arg23
    arg24 (X0 A t) (X6 A t) (X8 A) (X9 A) (X10 A) (X11 A) (X13 A)) (kernelRun0_B.sl.v493 (F := Ideal) c arg1 harg1 arg9 harg9 arg10 harg10 arg23 (X0 A
    t) (X8 A) (X9 A)) acc = c3 1 128 128 fun _ i j => f3 0 i j + wInc A t 5 i j) ∧ (k0_pay196 (kernelRun0_B.sl.r_42 (F := Ideal) c arg1 harg1 arg7
    harg7 arg9 harg9 arg10 harg10 arg11 harg11 arg12 harg12 arg14 harg14 arg22 arg23 arg24 (X0 A t) (X6 A t) (X8 A) (X9 A) (X10 A) (X11 A) (X13 A))
    (kernelRun0_B.sl.v1240 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) acc = c3 1 128 128 fun _ i j => f3 0 i j + bInc A t 5 i j) ∧ (k0_pay208 (kernelRun0_B.sl.r_45
    (F := Ideal) c arg1 harg1 arg7 harg7 arg9 harg9 arg10 harg10 arg11 harg11 arg12 harg12 arg14 harg14 arg22 arg23 arg24 (X0 A t) (X6 A t) (X8 A) (X9
    A) (X10 A) (X11 A) (X13 A)) acc = c3 1 128 128 fun _ i j => f3 0 i j + wInc A t 6 i j) ∧ (k0_pay209 (kernelRun0_B.sl.r_44 (F := Ideal) c arg1
    harg1 arg7 harg7 arg9 harg9 arg10 harg10 arg11 harg11 arg12 harg12 arg14 harg14 arg22 arg23 arg24 (X0 A t) (X6 A t) (X8 A) (X9 A) (X10 A) (X11 A)
    (X13 A)) acc = c3 1 128 128 fun _ i j => f3 0 i j + bInc A t 6 i j) ∧ (k0_pay220 (kernelRun0_B.sl.r_48 (F := Ideal) c arg1 harg1 arg7 harg7 arg9
    harg9 arg10 harg10 arg11 harg11 arg12 harg12 arg14 harg14 arg22 arg23 arg24 (X0 A t) (X6 A t) (X8 A) (X9 A) (X10 A) (X11 A) (X13 A))
    (kernelRun0_B.sl.v1424 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) (kernelRun0_B.sl.v641 (F := Ideal) c arg1 harg1 arg9 harg9 arg10 harg10 arg23 (X0 A t) (X8 A)
    (X9 A)) acc = c3 1 128 128 fun _ i j => f3 0 i j + wInc A t 7 i j) ∧ (k0_pay221 (kernelRun0_B.sl.r_47 (F := Ideal) c arg1 harg1 arg7 harg7 arg9
    harg9 arg10 harg10 arg11 harg11 arg12 harg12 arg14 harg14 arg22 arg23 arg24 (X0 A t) (X6 A t) (X8 A) (X9 A) (X10 A) (X11 A) (X13 A))
    (kernelRun0_B.sl.v1424 (F := Ideal) c arg1 harg1 arg7 harg7 arg9 harg9 arg10 harg10 arg11 harg11 arg12 harg12 arg14 harg14 arg22 arg23 arg24 (X0 A
    t) (X6 A t) (X8 A) (X9 A) (X10 A) (X11 A) (X13 A)) acc = c3 1 128 128 fun _ i j => f3 0 i j + bInc A t 7 i j) := by
  subst h
  refine ⟨?_, ?_, ?_, ?_, ?_, ?_, ?_, ?_⟩ <;>
  simp only [k0_pay183, k0_pay177, k0_pay179, k0_pay181, k0_pay130, k0_pay139, k0_pay141, k0_pay150, k0_pay155, k0_pay165, k0_pay167, k0_pay176,
  k0_pay190, k0_pay193, k0_pay202, k0_pay204, k0_pay213, k0_pay218, k0_pay128, k0_pay127, kernelRun0_B.sl.r_36, kernelRun0_B.sl.r_37,
  kernelRun0_B.sl.r_39, v769_B, v780_B, v861_B, v872_B, v953_B, v964_B, v1045_B, v1056_B, v1137_B, v1148_B, v1229_B, v1240_B, v1321_B, v1332_B,
  v1413_B, v1424_B, v114_B, v123_B, v188_B, v197_B, v262_B, v271_B, v336_B, v345_B, v410_B, v419_B, v484_B, v493_B, v558_B, v567_B, v632_B, v641_B,
  extf_c2, truncf_c2, addf_c2, subf_c2, mulf_c2, tanh_c2, sum_rows, sum_cols, cast_col, cast_row, cast_drop, cast_add, bcast_col, bcast_row,
  cast_self, broadcast_c2, div1024, lit_zero, lit_one, lit_half, lit_1024, lit_gC, lit_e6, lit_e5, named_a, named_3a, rsqrt_e5, rsqrt_e6, slice_c2,
  rotate_c2, row_eq, dot_nn, dot_nt, dot_tn, k0_pay184, k0_pay180, kernelRun0_B.sl.r_38, k0_pay195, k0_pay189, kernelRun0_B.sl.r_41, k0_pay196,
  k0_pay191, kernelRun0_B.sl.r_42, k0_pay208, k0_pay206, kernelRun0_B.sl.r_45, k0_pay209, k0_pay205, kernelRun0_B.sl.r_44, k0_pay220, k0_pay215,
  kernelRun0_B.sl.r_48, k0_pay221, k0_pay214, kernelRun0_B.sl.r_47] <;> rfl
theorem dlng_pay {acc : Vec Ideal S1x1024 .f32} (h : acc = c2 (φ := .f32) 1 1024 f) :
    k0_pay224 (k0_pay222 acc) (kernelRun0_B.sl.r_51 (F := Ideal) c arg1 harg1 arg7 harg7 arg9 harg9 arg10 harg10 arg11 harg11 arg12 harg12 arg14
    harg14 arg22 arg23 arg24 arg25 (X0 A t) (X6 A t) (X8 A) (X9 A) (X10 A) (X11 A) (X13 A))
    = c2 1 1024 fun a b => f a b + ∑ a ∈ range 256, dvln A (256 * t + a) b * vhat A (256 * t + a) b := by
  subst h
  simp only [k0_pay224, k0_pay222, dlng_B, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
theorem dlnb_pay {acc : Vec Ideal S1x1024 .f32} (h : acc = c2 (φ := .f32) 1 1024 f) :
    k0_pay225 (kernelRun0_B.sl.v1447 (F := Ideal) c arg1 harg1 arg7 harg7 arg9 harg9 arg10 harg10 arg11 harg11 arg12 harg12 arg14 harg14 arg22 arg23
    arg24 arg25 (X0 A t) (X6 A t) (X8 A) (X9 A) (X10 A) (X11 A) (X13 A)) acc
    = c2 1 1024 fun a b => f a b + ∑ r ∈ range 256, dvln A (256 * t + r) b := by
  subst h
  simp only [k0_pay225, dvln_B, extf_c2, truncf_c2, addf_c2, subf_c2, mulf_c2, tanh_c2, sum_rows, sum_cols, cast_col, cast_row, cast_drop, cast_add,
  bcast_col, bcast_row, cast_self, broadcast_c2, div1024, lit_zero, lit_one, lit_half, lit_1024, lit_gC, lit_e6, lit_e5, named_a, named_3a, rsqrt_e5,
  rsqrt_e6, slice_c2, rotate_c2, row_eq, dot_nn, dot_nt, dot_tn]
theorem dcw0_pay {acc : Vec Ideal S1x1024 .f32} (h : acc = c2 (φ := .f32) 1 1024 f) :
    k0_pay260 (kernelRun0_B.sl.r_66 (F := Ideal) c i arg1 harg1 arg2 harg2 arg3 harg3 (X0 A (i 0).val) (X1 A (i 0).val) (X2 A (i 0).val))
    (kernelRun0_B.sl.r_69 (F := Ideal) c i arg1 harg1 arg2 harg2 arg3 harg3 arg7 harg7 arg13 harg13 arg14 harg14 (X0 A (i 0).val) (X1 A (i 0).val) (X2
    A (i 0).val) (X6 A (i 0).val) (X12 A) (X13 A)) acc
    = c2 1 1024 fun a b => f a b + cInc A (i 0).val 0 b := by
  subst h
  simp only [k0_pay260, qm2_B, g_B, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
  rfl
theorem dcw1_pay {acc : Vec Ideal S1x1024 .f32} (h : acc = c2 (φ := .f32) 1 1024 f) :
    k0_pay261 (kernelRun0_B.sl.r_65 (F := Ideal) c i arg1 harg1 arg2 harg2 arg3 harg3 (X0 A (i 0).val) (X1 A (i 0).val) (X2 A (i 0).val))
    (kernelRun0_B.sl.r_69 (F := Ideal) c i arg1 harg1 arg2 harg2 arg3 harg3 arg7 harg7 arg13 harg13 arg14 harg14 (X0 A (i 0).val) (X1 A (i 0).val) (X2
    A (i 0).val) (X6 A (i 0).val) (X12 A) (X13 A)) acc
    = c2 1 1024 fun a b => f a b + cInc A (i 0).val 1 b := by
  subst h
  simp only [k0_pay261, qm1_B, g_B, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
  rfl
theorem dcw2_pay {acc : Vec Ideal S1x1024 .f32} (h : acc = c2 (φ := .f32) 1 1024 f) :
    k0_pay1 (kernelRun0_B.sl.r_63 (F := Ideal) c arg1 harg1 (X0 A (i 0).val)) (kernelRun0_B.sl.r_69 (F := Ideal) c i arg1 harg1 arg2 harg2 arg3 harg3
    arg7 harg7 arg13 harg13 arg14 harg14 (X0 A (i 0).val) (X1 A (i 0).val) (X2 A (i 0).val) (X6 A (i 0).val) (X12 A) (X13 A)) (k0_pay262 acc)
    = c2 1 1024 fun a b => f a b + cInc A (i 0).val 2 b := by
  subst h
  simp only [k0_pay1, k0_pay262, q_B, g_B, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
  simp only [cInc, qm_zero]
  rfl
theorem dgg0_pay {acc : Vec Ideal S1x1024 .f32} (h : acc = c2 (φ := .f32) 1 1024 f) (inb) :
    k0_pay116 (kernelRun0_B.sl.r_5 (F := Ideal) c arg1 harg1 (X0 A t)) (kernelRun0_B.sl.v650 (F := Ideal) c arg1 harg1 arg9 harg9 arg10 harg10 arg11
    harg11 arg12 harg12 arg22 arg23 (X0 A t) (X8 A) (X9 A) (X10 A) (X11 A)) (View.readAt (Elt Ideal) arg7.view (Rect.unit (s := S256x2048) ![0, 0]
    S256x1024.size inb).toLoadRect (harg7.unread (Val := Elt Ideal) (X6 A t))) acc
    = c2 1 1024 fun a b => f a b + ∑ a ∈ range 256, da A (256 * t + a) b * (ya A (256 * t + a) b * rinv e6 (ya A (256 * t + a))) := by
  subst h
  simp only [k0_pay112, k0_pay113, k0_pay114, k0_pay115, k0_pay116, u_B, mixed_B, read6, rsqrt_e6, zero_add, extf_c2, truncf_c2, addf_c2, subf_c2,
  mulf_c2, tanh_c2, sum_rows, sum_cols, cast_col, cast_row, cast_drop, cast_add, bcast_col, bcast_row, cast_self, broadcast_c2, div1024, lit_zero,
  lit_one, lit_half, lit_1024, lit_gC, lit_e6, lit_e5, named_a, named_3a, rsqrt_e5, rsqrt_e6, slice_c2, rotate_c2, row_eq, dot_nn, dot_nt, dot_tn]
  rfl
theorem dgg1_pay {acc : Vec Ideal S1x1024 .f32} (h : acc = c2 (φ := .f32) 1 1024 f) :
    k0_pay246 (kernelRun0_B.sl.r_67 (F := Ideal) c arg7 harg7 (X6 A (i 0).val)) (kernelRun0_B.sl.r_68 (F := Ideal) c i arg1 harg1 arg2 harg2 arg3
    harg3 arg13 harg13 (X0 A (i 0).val) (X1 A (i 0).val) (X2 A (i 0).val) (X12 A)) acc
    = c2 1 1024 fun a b => f a b + ∑ a ∈ range 256, dbo A (256 * (i 0).val + a) b * (yb A (256 * (i 0).val + a) b * rinv e6 (yb A (256 * (i 0).val + a))) := by
  subst h
  simp only [k0_pay246, dbo_B, ybn_B, extf_c2, truncf_c2, addf_c2, subf_c2, mulf_c2, tanh_c2, sum_rows, sum_cols, cast_col, cast_row, cast_drop,
  cast_add, bcast_col, bcast_row, cast_self, broadcast_c2, div1024, lit_zero, lit_one, lit_half, lit_1024, lit_gC, lit_e6, lit_e5, named_a, named_3a,
  rsqrt_e5, rsqrt_e6, slice_c2, rotate_c2, row_eq, dot_nn, dot_nt, dot_tn]
/-! ### The gradient of `z`, column group by column group -/

theorem dz0_pay :
    k0_pay120 (kernelRun0_B.sl.r_1 (F := Ideal) c arg1 harg1 (X0 A t)) (kernelRun0_B.sl.r_4 (F := Ideal) c arg1 harg1 (X0 A t)) (kernelRun0_B.sl.r_21
    (F := Ideal) c arg1 harg1 arg7 harg7 arg9 harg9 arg10 harg10 arg11 harg11 arg12 harg12 arg14 harg14 arg22 arg23 (X0 A t) (X6 A t) (X8 A) (X9 A)
    (X10 A) (X11 A) (X13 A)) k0_pay119
    = c2 (φ := .bf16) 256 1024 fun a b => dzu A (256 * t + a) b := by
  simp only [k0_pay120, k0_pay119, zu_B, thu_B, dyam_B, extf_c2, truncf_c2, addf_c2, subf_c2, mulf_c2, tanh_c2, sum_rows, sum_cols, cast_col,
  cast_row, cast_drop, cast_add, bcast_col, bcast_row, cast_self, broadcast_c2, div1024, lit_zero, lit_one, lit_half, lit_1024, lit_gC, lit_e6,
  lit_e5, named_a, named_3a, rsqrt_e5, rsqrt_e6, slice_c2, rotate_c2, row_eq, dot_nn, dot_nt, dot_tn]
  rfl
theorem dz1_pay :
    k0_pay230 (kernelRun0_B.sl.r_52 (F := Ideal) c arg1 harg1 arg7 harg7 arg9 harg9 arg10 harg10 arg11 harg11 arg12 harg12 arg14 harg14 arg22 arg23
    arg24 arg25 (X0 A t) (X6 A t) (X8 A) (X9 A) (X10 A) (X11 A) (X13 A)) (k0_pay227 (kernelRun0_B.sl.r_6 (F := Ideal) c arg1 harg1 (X0 A t)))
    (k0_pay228 (kernelRun0_B.sl.r_2 (F := Ideal) c arg1 harg1 (X0 A t)) (kernelRun0_B.sl.r_6 (F := Ideal) c arg1 harg1 (X0 A t))) (k0_pay229
    (kernelRun0_B.sl.r_2 (F := Ideal) c arg1 harg1 (X0 A t)))
    = c2 (φ := .bf16) 256 1024 fun a b => dzv A (256 * t + a) b := by
  simp only [k0_pay227, k0_pay228, k0_pay229, k0_pay230, dv_B, thv_B, zv_B, extf_c2, truncf_c2, addf_c2, subf_c2, mulf_c2, tanh_c2, sum_rows,
  sum_cols, cast_col, cast_row, cast_drop, cast_add, bcast_col, bcast_row, cast_self, broadcast_c2, div1024, lit_zero, lit_one, lit_half, lit_1024,
  lit_gC, lit_e6, lit_e5, named_a, named_3a, rsqrt_e5, rsqrt_e6, slice_c2, rotate_c2, row_eq, dot_nn, dot_nt, dot_tn]
  rfl
theorem dz2_pay :
    k0_pay247 (kernelRun0_B.sl.r_70 (F := Ideal) c i arg1 harg1 arg2 harg2 arg3 harg3 arg7 harg7 arg13 harg13 arg14 harg14 (X0 A (i 0).val) (X1 A (i
    0).val) (X2 A (i 0).val) (X6 A (i 0).val) (X12 A) (X13 A))
    = c2 (φ := .bf16) 256 1024 fun a b => dzb A (256 * (i 0).val + a) b := by
  simp only [k0_pay247, dzb_B, extf_c2, truncf_c2, addf_c2, subf_c2, mulf_c2, tanh_c2, sum_rows, sum_cols, cast_col, cast_row, cast_drop, cast_add,
  bcast_col, bcast_row, cast_self, broadcast_c2, div1024, lit_zero, lit_one, lit_half, lit_1024, lit_gC, lit_e6, lit_e5, named_a, named_3a, rsqrt_e5,
  rsqrt_e6, slice_c2, rotate_c2, row_eq, dot_nn, dot_nt, dot_tn]
theorem dz3_pay :
    k0_pay258 (kernelRun0_B.sl.r_56 (F := Ideal) c arg13 harg13 (X12 A)) (kernelRun0_B.sl.r_62 (F := Ideal) c arg1 harg1 (X0 A (i 0).val))
    (kernelRun0_B.sl.r_69 (F := Ideal) c i arg1 harg1 arg2 harg2 arg3 harg3 arg7 harg7 arg13 harg13 arg14 harg14 (X0 A (i 0).val) (X1 A (i 0).val) (X2
    A (i 0).val) (X6 A (i 0).val) (X12 A) (X13 A)) (kernelRun0_B.sl.r_76 (F := Ideal) c i arg1 harg1 arg2 harg2 arg3 harg3 arg4 harg4 arg5 harg5 arg6
    harg6 arg7 harg7 arg8 harg8 arg13 harg13 arg14 harg14 (X0 A (i 0).val) (X1 A (i 0).val) (X2 A (i 0).val) (X3 A (i 0).val) (X4 A (i 0).val) (X5 A
    (i 0).val) (X6 A (i 0).val) (X7 A (i 0).val) (X12 A) (X13 A)) (kernelRun0_B.sl.r_77 (F := Ideal) c i arg1 harg1 arg4 harg4 arg5 harg5 arg6 harg6
    arg8 harg8 arg13 harg13 arg14 harg14 (X0 A (i 0).val) (X3 A (i 0).val) (X4 A (i 0).val) (X5 A (i 0).val) (X7 A (i 0).val) (X12 A) (X13 A))
    (kernelRun0_B.sl.r_78 (F := Ideal) c i arg1 harg1 arg4 harg4 arg5 harg5 arg6 harg6 arg8 harg8 arg13 harg13 arg14 harg14 (X0 A (i 0).val) (X3 A (i
    0).val) (X4 A (i 0).val) (X5 A (i 0).val) (X7 A (i 0).val) (X12 A) (X13 A))
    = c2 (φ := .bf16) 256 1024 fun a b => dq A (256 * (i 0).val + a) b * zh A (256 * (i 0).val + a) b := by
  simp only [k0_pay258, cw0_B, zc_B, zh_B, g_B, dq1_B, gn0_B, gn1_B, dq_val (i 0).isLt, extf_c2, truncf_c2, addf_c2, subf_c2, mulf_c2, tanh_c2,
  sum_rows, sum_cols, cast_col, cast_row, cast_drop, cast_add, bcast_col, bcast_row, cast_self, broadcast_c2, div1024, lit_zero, lit_one, lit_half,
  lit_1024, lit_gC, lit_e6, lit_e5, named_a, named_3a, rsqrt_e5, rsqrt_e6, slice_c2, rotate_c2, row_eq, dot_nn, dot_nt, dot_tn]
theorem dz4_pay :
    k0_pay259 (kernelRun0_B.sl.r_56 (F := Ideal) c arg13 harg13 (X12 A)) (kernelRun0_B.sl.r_61 (F := Ideal) c arg1 harg1 (X0 A (i 0).val))
    (kernelRun0_B.sl.r_69 (F := Ideal) c i arg1 harg1 arg2 harg2 arg3 harg3 arg7 harg7 arg13 harg13 arg14 harg14 (X0 A (i 0).val) (X1 A (i 0).val) (X2
    A (i 0).val) (X6 A (i 0).val) (X12 A) (X13 A)) (kernelRun0_B.sl.r_76 (F := Ideal) c i arg1 harg1 arg2 harg2 arg3 harg3 arg4 harg4 arg5 harg5 arg6
    harg6 arg7 harg7 arg8 harg8 arg13 harg13 arg14 harg14 (X0 A (i 0).val) (X1 A (i 0).val) (X2 A (i 0).val) (X3 A (i 0).val) (X4 A (i 0).val) (X5 A
    (i 0).val) (X6 A (i 0).val) (X7 A (i 0).val) (X12 A) (X13 A)) (kernelRun0_B.sl.r_77 (F := Ideal) c i arg1 harg1 arg4 harg4 arg5 harg5 arg6 harg6
    arg8 harg8 arg13 harg13 arg14 harg14 (X0 A (i 0).val) (X3 A (i 0).val) (X4 A (i 0).val) (X5 A (i 0).val) (X7 A (i 0).val) (X12 A) (X13 A))
    (kernelRun0_B.sl.r_78 (F := Ideal) c i arg1 harg1 arg4 harg4 arg5 harg5 arg6 harg6 arg8 harg8 arg13 harg13 arg14 harg14 (X0 A (i 0).val) (X3 A (i
    0).val) (X4 A (i 0).val) (X5 A (i 0).val) (X7 A (i 0).val) (X12 A) (X13 A))
    = c2 (φ := .bf16) 256 1024 fun a b => dq A (256 * (i 0).val + a) b * zc A (256 * (i 0).val + a) b := by
  simp only [k0_pay259, cw0_B, zc_B, zh_B, g_B, dq1_B, gn0_B, gn1_B, dq_val (i 0).isLt, extf_c2, truncf_c2, addf_c2, subf_c2, mulf_c2, tanh_c2,
  sum_rows, sum_cols, cast_col, cast_row, cast_drop, cast_add, bcast_col, bcast_row, cast_self, broadcast_c2, div1024, lit_zero, lit_one, lit_half,
  lit_1024, lit_gC, lit_e6, lit_e5, named_a, named_3a, rsqrt_e5, rsqrt_e6, slice_c2, rotate_c2, row_eq, dot_nn, dot_nt, dot_tn]
/-! ### Stores block by block -/

/-- `F` on the blocks below `k`, `G` on the others. -/
def part (F G : ℕ → ℕ → ℕ → ℝ) (k a b c : ℕ) : ℝ := if a < k then F a b c else G a b c
theorem part_succ {F G : ℕ → ℕ → ℕ → ℝ} {k : ℕ} {x : ℝ} {a b c : ℕ} (h : a = k → x = F k b c) :
    (if a = k then x else part F G k a b c) = part F G (k + 1) a b c := by
  unfold part
  by_cases ha : a = k
  · rw [if_pos ha, if_pos (by omega), h ha, ha]
  · rw [if_neg ha]
    by_cases hk : a < k
    · rw [if_pos hk, if_pos (by omega)]
    · rw [if_neg hk, if_neg (by omega)]
theorem part_old (F G : ℕ → ℕ → ℕ → ℝ) (k b c : ℕ) : part F G k (k + 0) (0 + b) (0 + c) = G k b c := by
  rw [part, if_neg (by omega), add_zero, zero_add, zero_add]
theorem part_step {F G I : ℕ → ℕ → ℕ → ℝ} (h : ∀ k b c, G k b c + I k b c = F k b c) (k a b c : ℕ) :
    (if a = k then part F G k (k + 0) (0 + b) (0 + c) + I k b c else part F G k a b c) = part F G (k + 1) a b c :=
  part_succ fun _ => by rw [part_old, h]
theorem part_mask (G : ℕ → ℕ → ℕ → ℝ) (k a b c : ℕ) :
    (if a = k then (if c / 64 ≤ b / 64 then part (fun h a b => if b / 64 ≤ a / 64 then G h a b else 0) G k (k + 0) (0 + b) (0 + c) else 0)
      else part (fun h a b => if b / 64 ≤ a / 64 then G h a b else 0) G k a b c)
    = part (fun h a b => if b / 64 ≤ a / 64 then G h a b else 0) G (k + 1) a b c :=
  part_succ fun _ => by rw [part_old]
theorem part_lanes (G : ℕ → ℕ → ℕ → ℝ) (k a b c : ℕ) :
    (if a = k then ∑ l ∈ range 128, part (fun h a _ => ∑ l ∈ range 128, G h a l) G k (k + 0) (0 + b) (0 + l)
      else part (fun h a _ => ∑ l ∈ range 128, G h a l) G k a b c)
    = part (fun h a _ => ∑ l ∈ range 128, G h a l) G (k + 1) a b c :=
  part_succ fun _ => sum_congr rfl fun l _ => part_old _ _ k b l
theorem part_all (F G : ℕ → ℕ → ℕ → ℝ) : (c3 (φ := .f32) 8 128 128 (part F G 8) : Vec Ideal S8x128x128 .f32) = c3 8 128 128 F :=
  c3_congr fun a ha b _ c _ => if_pos ha

/-- The weight's block masked, and the bias's block summed over the lanes. -/
theorem mask_acc {acc : Vec Ideal S1x128x128 .f32} {f : ℕ → ℕ → ℕ → ℝ} (h : acc = c3 (φ := .f32) 1 128 128 f) :
    shapeCast S1x128x128 (select (cmpi .sle (fd (iota .tc S128x128 32 [1] iota_S128x128_d1_w32)) (fd (iota .tc S128x128 32 [0] iota_S128x128_d0_w32)))
      (shapeCast S128x128 acc shapeCasts_S1x128x128_S128x128)
      (broadcast S128x128 (Scalar.ofBits (F := Ideal) .f32 0x00000000#32))) shapeCasts_S128x128_S1x128x128
    = c3 (φ := .f32) 1 128 128 fun _ a b => if b / 64 ≤ a / 64 then f 0 a b else 0 := by
  subst h; exact masked_store f
theorem lanes_acc {acc : Vec Ideal S1x128x128 .f32} {f : ℕ → ℕ → ℕ → ℝ} (h : acc = c3 (φ := .f32) 1 128 128 f) {h1 h2 h3 h4 h5 h6 h7 h8} :
    shapeCast S1x128x128 (broadcastTo S128x128 (shapeCast S128x1 (shapeCast S128x1 (multiReduction .add [1] S128
      (shapeCast S128x128 acc h1) 0x00000000#32 h2 h3 h4) h5) h6) h7) h8
    = c3 (φ := .f32) 1 128 128 fun _ a _ => ∑ l ∈ range 128, f 0 a l := by
  subst h
  simp only [sum_rows, cast_drop, cast_col, cast_self, bcast_col, cast_add]

/-- A store of one row over a lifted vector. -/
theorem row_step {m n : ℕ} {L : List (View.Piece (Elt Ideal) ⟨2, ![m, n]⟩ .f32)} {G : ℕ → ℕ → ℝ}
    (hL : View.canon L = c2 (φ := .f32) m n G) (o : ℕ) {P : Vec Ideal ⟨2, ![1, n]⟩ .f32} {f : ℕ → ℕ → ℝ}
    (hP : P = c2 (φ := .f32) 1 n f) (inb) :
    View.canon (⟨Rect.unit ![o, 0] ![1, n] inb, P⟩ :: L) = c2 (φ := .f32) m n fun a b => if a = o then f 0 b else G a b := by
  subst hP; exact canon_row hL o f inb

/-! ### The two halves of the gain's gradient -/

theorem left_lt {L : List (View.Piece (Elt Ideal) S1x2048 .f32)} {P : Vec Ideal S1x1024 .f32} {G : ℕ → ℕ → ℝ}
    (hP : P = c2 (φ := .f32) 1 1024 fun a b => G a b) (inb) {y : S1x2048.Idx} (hy : (y 1).val < 1024) :
    View.canon (⟨Rect.unit (s := S1x2048) ![0, 0] S1x1024.size inb, P⟩ :: L) y = c2 (φ := .f32) 1 2048 G y := by
  subst hP
  obtain ⟨x, rfl⟩ : ∃ x : (Rect.unit (s := S1x2048) ![0, 0] S1x1024.size inb).shape.Idx,
      (Rect.unit (s := S1x2048) ![0, 0] S1x1024.size inb).emb x = y :=
    ⟨ix2 (y 0) ⟨(y 1).val, hy⟩, Rect.emb_eq_of_coords _ _ _ fun a => by fin_cases a <;> simp⟩
  refine (View.canon_cons_emb _ _ _ x).trans ?_
  show ((G (x 0).val (x 1).val : ℝ) : EReal) = ((G (0 + 1 * (x 0).val) (0 + 1 * (x 1).val) : ℝ) : EReal)
  rw [zero_add, one_mul, zero_add, one_mul]
theorem left_ge {L : List (View.Piece (Elt Ideal) S1x2048 .f32)} (P : Vec Ideal S1x1024 .f32) (inb) {y : S1x2048.Idx}
    (hy : ¬(y 1).val < 1024) :
    View.canon (⟨Rect.unit (s := S1x2048) ![0, 0] S1x1024.size inb, P⟩ :: L) y = View.canon L y := by
  rw [View.canon_cons_of_not_mem]
  exact Rect.not_mem_set_of_axis _ _ 1 0 1024 rfl rfl rfl (by omega)
theorem right_all {L : List (View.Piece (Elt Ideal) S1x2048 .f32)} {P : Vec Ideal S1x1024 .f32} {G : ℕ → ℕ → ℝ}
    (hL : ∀ y : S1x2048.Idx, (y 1).val < 1024 → View.canon L y = c2 (φ := .f32) 1 2048 G y)
    (hP : P = c2 (φ := .f32) 1 1024 fun a b => G a (1024 + b)) (inb) :
    View.canon (⟨Rect.unit (s := S1x2048) ![0, 1024] S1x1024.size inb, P⟩ :: L) = c2 (φ := .f32) 1 2048 G := by
  subst hP
  funext y
  have h2 : (y 1).val < 2048 := (y 1).isLt
  by_cases hy : (y 1).val < 1024
  · rw [View.canon_cons_of_not_mem]
    · exact hL y hy
    · exact Rect.not_mem_set_of_axis _ _ 1 1024 1024 rfl rfl rfl (by omega)
  · obtain ⟨x, rfl⟩ : ∃ x : (Rect.unit (s := S1x2048) ![0, 1024] S1x1024.size inb).shape.Idx,
        (Rect.unit (s := S1x2048) ![0, 1024] S1x1024.size inb).emb x = y :=
      ⟨ix2 (y 0) ⟨(y 1).val - 1024, by omega⟩, Rect.emb_eq_of_coords _ _ _ fun a => by fin_cases a <;> simp; omega⟩
    refine (View.canon_cons_emb _ _ _ x).trans ?_
    show ((G (x 0).val (1024 + (x 1).val) : ℝ) : EReal) = ((G (0 + 1 * (x 0).val) (1024 + 1 * (x 1).val) : ℝ) : EReal)
    rw [zero_add, one_mul, one_mul]

/-! ### The tile of the gradient of `z` -/

theorem dz_canon (i : grid0.Coords) {p0 p1 p2 p3 p4 : Vec Ideal S256x1024 .bf16}
    (h0 : p0 = c2 (φ := .bf16) 256 1024 fun a b => dzu A (256 * (i 0).val + a) b)
    (h1 : p1 = c2 (φ := .bf16) 256 1024 fun a b => dzv A (256 * (i 0).val + a) b)
    (h2 : p2 = c2 (φ := .bf16) 256 1024 fun a b => dzb A (256 * (i 0).val + a) b)
    (h3 : p3 = c2 (φ := .bf16) 256 1024 fun a b => dq A (256 * (i 0).val + a) b * zh A (256 * (i 0).val + a) b)
    (h4 : p4 = c2 (φ := .bf16) 256 1024 fun a b => dq A (256 * (i 0).val + a) b * zc A (256 * (i 0).val + a) b) (i0 i1 i2 i3 i4) :
    View.canon [⟨Rect.unit (s := S256x5120) ![0, 4096] S256x1024.size i4, p4⟩, ⟨Rect.unit (s := S256x5120) ![0, 3072] S256x1024.size i3, p3⟩,
      ⟨Rect.unit (s := S256x5120) ![0, 2048] S256x1024.size i2, p2⟩, ⟨Rect.unit (s := S256x5120) ![0, 1024] S256x1024.size i1, p1⟩,
      ⟨Rect.unit (s := S256x5120) ![0, 0] S256x1024.size i0, p0⟩]
    = c2 (φ := .bf16) 256 5120 fun a b => dz A (256 * (i 0).val + a) b := by
  subst h0 h1 h2 h3 h4
  refine canon_tiles ?_ (View.cover_of_tiledL (s := S256x5120) _ S256x1024.size (by sl_kernel_rfl))
  refine tiles_bf16 ?_ 0 4096 _ (fun a ha b hb => ?_) _
  refine tiles_bf16 ?_ 0 3072 _ (fun a ha b hb => ?_) _
  refine tiles_bf16 ?_ 0 2048 _ (fun a ha b hb => ?_) _
  refine tiles_bf16 ?_ 0 1024 _ (fun a ha b hb => ?_) _
  refine tiles_bf16 ?_ 0 0 _ (fun a ha b hb => ?_) _
  exact tiles_nil _
  all_goals simp only [zero_add]; unfold dz
  · rw [if_pos hb]
  · rw [if_neg (by omega), if_pos (by omega), Nat.add_sub_cancel_left]
  · rw [if_neg (by omega), if_neg (by omega), if_pos (by omega), Nat.add_sub_cancel_left]
  · rw [if_neg (by omega), if_neg (by omega), if_neg (by omega), if_pos (by omega), Nat.add_sub_cancel_left]
  · rw [if_neg (by omega), if_neg (by omega), if_neg (by omega), if_neg (by omega), Nat.add_sub_cancel_left]

end Cert.KernelIdeal.Gen

end
-- ==== Proof.CaseA.lean ====
/- The first tile: the accumulators begin at zero. -/
module

public import proofs.«01_k».proof.Proof.Gen.KernelIdeal.Value
public import proofs.«01_k».proof.Proof.Store

@[expose] public section

noncomputable section

namespace Cert.KernelIdeal.Gen

open Idealize.ShloMosaic Idealize.ShloMosaic.TcCoe

open Cert.Coe Cert.Spec Finset

attribute [local implicit_reducible] FKind.neutral

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32} {harg22 : arg22.IsWhole}
  {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole}
  {hc0 : cond0_0 i} {hc1 : ¬cond0_1 i} {A : Args}
variable {x0 : Vec Ideal S256x5120 .bf16} {x1 x2 x3 x4 x5 : Vec Ideal S16x1024 .bf16} {x6 : Vec Ideal S256x2048 .bf16} {x7 : Vec Ideal S16x1024 .bf16}
  {x8 x9 : Vec Ideal S1x1024 .f32} {x10 x11 : Vec Ideal S8x128x128 .f32} {x12 : Vec Ideal S3x1024 .f32} {x13 : Vec Ideal S1x2048 .f32}
  {xo15 xo16 : Vec Ideal S1x1024 .f32} {xo17 xo18 : Vec Ideal S8x128x128 .f32} {xo19 : Vec Ideal S8x1024 .f32} {xo20 : Vec Ideal S1x2048 .f32}

/-- Before the first row every sum is empty. -/
theorem start15 (h0 : (i 0).val = 0) : (k0_pay46 (F := Ideal) : Vec Ideal S1x1024 .f32) = c2 (φ := .f32) 1 1024 fun _ b => dlng A (256 * (i 0).val) b := by
  rw [h0]; simp only [k0_pay46, lit_zero, dlng, mul_zero, range_zero, sum_empty]; rfl
theorem start16 (h0 : (i 0).val = 0) : (k0_pay47 (F := Ideal) : Vec Ideal S1x1024 .f32) = c2 (φ := .f32) 1 1024 fun _ b => dlnb A (256 * (i 0).val) b := by
  rw [h0]; simp only [k0_pay47, lit_zero, dlnb, mul_zero, range_zero, sum_empty]; rfl
theorem start17 (h0 : (i 0).val = 0) : (k0_pay48 (F := Ideal) : Vec Ideal S8x128x128 .f32) = c3 (φ := .f32) 8 128 128 (dw A (2 * (i 0).val)) := by
  rw [h0, show dw A (2 * 0) = fun _ _ _ => 0 from rfl]; simp only [k0_pay48, lit_zero]; rfl
theorem start18 (h0 : (i 0).val = 0) : (k0_pay49 (F := Ideal) : Vec Ideal S8x128x128 .f32) = c3 (φ := .f32) 8 128 128 (db A (2 * (i 0).val)) := by
  rw [h0, show db A (2 * 0) = fun _ _ _ => 0 from rfl]; simp only [k0_pay49, lit_zero]; rfl
theorem start19 (h0 : (i 0).val = 0) : (k0_pay50 (F := Ideal) : Vec Ideal S8x1024 .f32) = c2 (φ := .f32) 8 1024 (dcw A (256 * (i 0).val)) := by
  rw [h0, show dcw A (256 * 0) = fun _ _ => 0 from funext fun k => funext fun c => by simp only [dcw, mul_zero, range_zero, sum_empty, ite_self]]
  simp only [k0_pay50, lit_zero]; rfl
theorem start20 (h0 : (i 0).val = 0) : (k0_pay51 (F := Ideal) : Vec Ideal S1x2048 .f32) = c2 (φ := .f32) 1 2048 fun _ b => dgg A (256 * (i 0).val) b := by
  rw [h0]; simp only [k0_pay51, lit_zero, dgg, mul_zero, range_zero, sum_empty, ite_self]; rfl

theorem H15_1_A (h0 : (i 0).val = 0) :
    View.canon (kernelRun0_A.sl.H15_1 (F := Ideal))
    = c2 (φ := .f32) 1 1024 fun _ b => dlng A (256 * (i 0).val) b :=
  (View.canon_cons_unit_zero (by funext a; fin_cases a <;> rfl) _ _ _).trans (start15 h0)

theorem H16_1_A (h0 : (i 0).val = 0) :
    View.canon (kernelRun0_A.sl.H16_1 (F := Ideal))
    = c2 (φ := .f32) 1 1024 fun _ b => dlnb A (256 * (i 0).val) b :=
  (View.canon_cons_unit_zero (by funext a; fin_cases a <;> rfl) _ _ _).trans (start16 h0)

theorem H17_1_A (h0 : (i 0).val = 0) :
    View.canon (kernelRun0_A.sl.H17_1 (F := Ideal))
    = c3 (φ := .f32) 8 128 128 (part (dw A (2 * ((i 0).val + 1))) (dw A (2 * (i 0).val)) 0) :=
  (View.canon_cons_unit_zero (by funext a; fin_cases a <;> rfl) _ _ _).trans ((start17 h0).trans (c3_congr fun _ _ _ _ _ _ => rfl))

theorem H18_1_A (h0 : (i 0).val = 0) :
    View.canon (kernelRun0_A.sl.H18_1 (F := Ideal))
    = c3 (φ := .f32) 8 128 128 (part (db A (2 * ((i 0).val + 1))) (db A (2 * (i 0).val)) 0) :=
  (View.canon_cons_unit_zero (by funext a; fin_cases a <;> rfl) _ _ _).trans ((start18 h0).trans (c3_congr fun _ _ _ _ _ _ => rfl))

theorem H19_1_A (h0 : (i 0).val = 0) :
    View.canon (kernelRun0_A.sl.H19_1 (F := Ideal))
    = c2 (φ := .f32) 8 1024 (dcw A (256 * (i 0).val)) :=
  (View.canon_cons_unit_zero (by funext a; fin_cases a <;> rfl) _ _ _).trans (start19 h0)

theorem H20_1_A (h0 : (i 0).val = 0) :
    View.canon (kernelRun0_A.sl.H20_1 (F := Ideal))
    = c2 (φ := .f32) 1 2048 fun _ b => dgg A (256 * (i 0).val) b :=
  (View.canon_cons_unit_zero (by funext a; fin_cases a <;> rfl) _ _ _).trans (start20 h0)

theorem out14_A :
    out0_A_14 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c2 (φ := .bf16) 256 5120 fun a b => dz A (256 * (i 0).val + a) b := by
  unfold out0_A_14
  exact (View.read_writes_junk_eq_canon _ _).trans (dz_canon i dz0_pay dz1_pay dz2_pay dz3_pay dz4_pay _ _ _ _ _)

theorem out15_A (h0 : (i 0).val = 0) :
    out0_A_15 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c2 (φ := .f32) 1 1024 fun _ b => dlng A (256 * ((i 0).val + 1)) b := by
  unfold out0_A_15
  refine (View.read_writes_junk_eq_canon _ _).trans (View.canon_cons_unit_zero (by funext a; fin_cases a <;> rfl) _ _ _) |>.trans ?_
  refine (dlng_pay (readCov_c2 (H15_1_A (A := A) h0) 0 0 _)).trans ?_
  exact c2_congr fun a _ b _ => by simp only [zero_add]; exact dlng_step A _ b

theorem out16_A (h0 : (i 0).val = 0) :
    out0_A_16 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c2 (φ := .f32) 1 1024 fun _ b => dlnb A (256 * ((i 0).val + 1)) b := by
  unfold out0_A_16
  refine (View.read_writes_junk_eq_canon _ _).trans (View.canon_cons_unit_zero (by funext a; fin_cases a <;> rfl) _ _ _) |>.trans ?_
  refine (dlnb_pay (readCov_c2 (H16_1_A (A := A) h0) 0 0 _)).trans ?_
  exact c2_congr fun a _ b _ => by simp only [zero_add]; exact dlnb_step A _ b

theorem H17_2_A (h0 : (i 0).val = 0) :
    View.canon (kernelRun0_A.sl.H17_2 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 1) :=
  block_step (o := 0) (H17_1_A (A := A) h0) (heads_lo (readCov_c3 (H17_1_A (A := A) h0) 0 0 0 _)).1
    (fun a b c => part_step (dw_step A _) 0 a b c) _

theorem H17_3_A (h0 : (i 0).val = 0) :
    View.canon (kernelRun0_A.sl.H17_3 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 2) :=
  block_step (o := 1) (H17_2_A (A := A) h0) (heads_lo (readCov_c3 (H17_2_A (A := A) h0) 1 0 0 _)).2.2.1
    (fun a b c => part_step (dw_step A _) 1 a b c) _

theorem H17_4_A (h0 : (i 0).val = 0) :
    View.canon (kernelRun0_A.sl.H17_4 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 3) :=
  block_step (o := 2) (H17_3_A (A := A) h0) (heads_lo (readCov_c3 (H17_3_A (A := A) h0) 2 0 0 _)).2.2.2.2.1
    (fun a b c => part_step (dw_step A _) 2 a b c) _

theorem H17_5_A (h0 : (i 0).val = 0) :
    View.canon (kernelRun0_A.sl.H17_5 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 4) :=
  block_step (o := 3) (H17_4_A (A := A) h0) (heads_lo (readCov_c3 (H17_4_A (A := A) h0) 3 0 0 _)).2.2.2.2.2.2.1
    (fun a b c => part_step (dw_step A _) 3 a b c) _

theorem H17_6_A (h0 : (i 0).val = 0) :
    View.canon (kernelRun0_A.sl.H17_6 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 5) :=
  block_step (o := 4) (H17_5_A (A := A) h0) (heads_hi (readCov_c3 (H17_5_A (A := A) h0) 4 0 0 _)).1
    (fun a b c => part_step (dw_step A _) 4 a b c) _

theorem H17_7_A (h0 : (i 0).val = 0) :
    View.canon (kernelRun0_A.sl.H17_7 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 6) :=
  block_step (o := 5) (H17_6_A (A := A) h0) (heads_hi (readCov_c3 (H17_6_A (A := A) h0) 5 0 0 _)).2.2.1
    (fun a b c => part_step (dw_step A _) 5 a b c) _

theorem H17_8_A (h0 : (i 0).val = 0) :
    View.canon (kernelRun0_A.sl.H17_8 (F := Ideal) c arg1 harg1 arg7 harg7 arg9 harg9 arg10 harg10 arg11 harg11 arg12 harg12 arg14 harg14 arg18 arg22 arg23 arg24
    (X0 A (i 0).val) (X6 A (i 0).val) (X8 A) (X9 A) (X10 A) (X11 A) (X13 A))
    = c3 (φ := .f32) 8 128 128 (part (dw A (2 * ((i 0).val + 1))) (dw A (2 * (i 0).val)) 7) :=
  block_step (o := 6) (H17_7_A (A := A) h0) (heads_hi (readCov_c3 (H17_7_A (A := A) h0) 6 0 0 _)).2.2.2.2.1
    (fun a b c => part_step (dw_step A _) 6 a b c) _

theorem out17_A (h0 : (i 0).val = 0) :
    out0_A_17 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c3 (φ := .f32) 8 128 128 (dw A (2 * ((i 0).val + 1))) := by
  unfold out0_A_17
  exact (View.read_writes_junk_eq_canon _ _).trans ((block_step (o := 7) (H17_8_A (A := A) h0) (heads_hi (readCov_c3 (H17_8_A (A := A) h0) 7 0 0 _)).2.2.2.2.2.2.1
    (fun a b c => part_step (dw_step A _) 7 a b c) _).trans (part_all _ _))

theorem H18_2_A (h0 : (i 0).val = 0) :
    View.canon (kernelRun0_A.sl.H18_2 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 1) :=
  block_step (o := 0) (H18_1_A (A := A) h0) (heads_lo (readCov_c3 (H18_1_A (A := A) h0) 0 0 0 _)).2.1
    (fun a b c => part_step (db_step A _) 0 a b c) _

theorem H18_3_A (h0 : (i 0).val = 0) :
    View.canon (kernelRun0_A.sl.H18_3 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 2) :=
  block_step (o := 1) (H18_2_A (A := A) h0) (heads_lo (readCov_c3 (H18_2_A (A := A) h0) 1 0 0 _)).2.2.2.1
    (fun a b c => part_step (db_step A _) 1 a b c) _

theorem H18_4_A (h0 : (i 0).val = 0) :
    View.canon (kernelRun0_A.sl.H18_4 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 3) :=
  block_step (o := 2) (H18_3_A (A := A) h0) (heads_lo (readCov_c3 (H18_3_A (A := A) h0) 2 0 0 _)).2.2.2.2.2.1
    (fun a b c => part_step (db_step A _) 2 a b c) _

theorem H18_5_A (h0 : (i 0).val = 0) :
    View.canon (kernelRun0_A.sl.H18_5 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 4) :=
  block_step (o := 3) (H18_4_A (A := A) h0) (heads_lo (readCov_c3 (H18_4_A (A := A) h0) 3 0 0 _)).2.2.2.2.2.2.2
    (fun a b c => part_step (db_step A _) 3 a b c) _

theorem H18_6_A (h0 : (i 0).val = 0) :
    View.canon (kernelRun0_A.sl.H18_6 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 5) :=
  block_step (o := 4) (H18_5_A (A := A) h0) (heads_hi (readCov_c3 (H18_5_A (A := A) h0) 4 0 0 _)).2.1
    (fun a b c => part_step (db_step A _) 4 a b c) _

theorem H18_7_A (h0 : (i 0).val = 0) :
    View.canon (kernelRun0_A.sl.H18_7 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 6) :=
  block_step (o := 5) (H18_6_A (A := A) h0) (heads_hi (readCov_c3 (H18_6_A (A := A) h0) 5 0 0 _)).2.2.2.1
    (fun a b c => part_step (db_step A _) 5 a b c) _

theorem H18_8_A (h0 : (i 0).val = 0) :
    View.canon (kernelRun0_A.sl.H18_8 (F := Ideal) c arg1 harg1 arg7 harg7 arg9 harg9 arg10 harg10 arg11 harg11 arg12 harg12 arg14 harg14 arg19 arg22 arg23 arg24
    (X0 A (i 0).val) (X6 A (i 0).val) (X8 A) (X9 A) (X10 A) (X11 A) (X13 A))
    = c3 (φ := .f32) 8 128 128 (part (db A (2 * ((i 0).val + 1))) (db A (2 * (i 0).val)) 7) :=
  block_step (o := 6) (H18_7_A (A := A) h0) (heads_hi (readCov_c3 (H18_7_A (A := A) h0) 6 0 0 _)).2.2.2.2.2.1
    (fun a b c => part_step (db_step A _) 6 a b c) _

theorem out18_A (h0 : (i 0).val = 0) :
    out0_A_18 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c3 (φ := .f32) 8 128 128 (db A (2 * ((i 0).val + 1))) := by
  unfold out0_A_18
  exact (View.read_writes_junk_eq_canon _ _).trans ((block_step (o := 7) (H18_8_A (A := A) h0) (heads_hi (readCov_c3 (H18_8_A (A := A) h0) 7 0 0 _)).2.2.2.2.2.2.2
    (fun a b c => part_step (db_step A _) 7 a b c) _).trans (part_all _ _))

theorem H19_2_A (h0 : (i 0).val = 0) :
    View.canon (kernelRun0_A.sl.H19_2 (F := Ideal) c i arg1 harg1 arg2 harg2 arg3 harg3 arg7 harg7 arg13 harg13 arg14 harg14 arg20 (X0 A (i 0).val) (X1 A (i
    0).val) (X2 A (i 0).val) (X6 A (i 0).val) (X12 A) (X13 A))
    = c2 (φ := .f32) 8 1024 fun a b => if a = 0 then dcw A (256 * (i 0).val) (0 + 0) (0 + b) + cInc A (i 0).val 0 b else dcw A (256 * (i 0).val) a b :=
  row_step (H19_1_A (A := A) h0) 0 (dcw0_pay (readCov_c2 (H19_1_A (A := A) h0) 0 0 _)) _

theorem H19_3_A (h0 : (i 0).val = 0) :
    View.canon (kernelRun0_A.sl.H19_3 (F := Ideal) c i arg1 harg1 arg2 harg2 arg3 harg3 arg7 harg7 arg13 harg13 arg14 harg14 arg20 (X0 A (i 0).val) (X1 A (i
    0).val) (X2 A (i 0).val) (X6 A (i 0).val) (X12 A) (X13 A))
    = c2 (φ := .f32) 8 1024 fun a b => if a = 1 then dcw A (256 * (i 0).val) (1 + 0) (0 + b) + cInc A (i 0).val 1 b
      else if a = 0 then dcw A (256 * (i 0).val) (0 + 0) (0 + b) + cInc A (i 0).val 0 b else dcw A (256 * (i 0).val) a b :=
  row_step (H19_2_A (A := A) h0) 1 (dcw1_pay (readCov_c2 (H19_2_A (A := A) h0) 1 0 _)) _

theorem out19_A (h0 : (i 0).val = 0) :
    out0_A_19 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c2 (φ := .f32) 8 1024 (dcw A (256 * ((i 0).val + 1))) := by
  unfold out0_A_19
  refine (View.read_writes_junk_eq_canon _ _).trans ((row_step (H19_3_A (A := A) h0) 2 (dcw2_pay (readCov_c2 (H19_3_A (A := A) h0) 2 0 _)) _).trans ?_)
  exact c2_congr fun a _ b _ => dcw_rows A _ a b

theorem H20_2_left (h0 : (i 0).val = 0)  {y : S1x2048.Idx} (hy : (y 1).val < 1024) :
    View.canon (kernelRun0_A.sl.H20_2 (F := Ideal) c arg1 harg1 arg7 harg7 arg9 harg9 arg10 harg10 arg11 harg11 arg12 harg12 arg21 arg22 arg23 (X0 A (i 0).val)
    (X6 A (i 0).val) (X8 A) (X9 A) (X10 A) (X11 A)) y
    = c2 (φ := .f32) 1 2048 (fun _ b => dgg A (256 * ((i 0).val + 1)) b) y :=
  left_lt (G := fun _ b => dgg A (256 * ((i 0).val + 1)) b) ((dgg0_pay (readCov_c2 (H20_1_A (A := A) h0) 0 0 _) _).trans
    (c2_congr fun a _ b hb => dgg_left A _ hb)) _ hy
theorem H20_2_A (h0 : (i 0).val = 0) :
    View.canon (kernelRun0_A.sl.H20_2 (F := Ideal) c arg1 harg1 arg7 harg7 arg9 harg9 arg10 harg10 arg11 harg11 arg12 harg12 arg21 arg22 arg23 (X0 A (i 0).val)
    (X6 A (i 0).val) (X8 A) (X9 A) (X10 A) (X11 A))
    = c2 (φ := .f32) 1 2048 fun _ b => if b < 1024 then dgg A (256 * ((i 0).val + 1)) b else dgg A (256 * (i 0).val) b := by
  funext y
  by_cases hy : (y 1).val < 1024
  · refine (H20_2_left h0 hy).trans ?_
    simp only [c2, if_pos hy]
  · refine (left_ge _ _ hy).trans ((congrFun (H20_1_A (A := A) h0) y).trans ?_)
    simp only [c2, if_neg hy]

theorem out20_A (h0 : (i 0).val = 0) :
    out0_A_20 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A)
    = c2 (φ := .f32) 1 2048 fun _ b => dgg A (256 * ((i 0).val + 1)) b := by
  unfold out0_A_20
  refine (View.read_writes_junk_eq_canon _ _).trans (right_all (fun y hy => H20_2_left h0 hy) ?_ _)
  refine (dgg1_pay (readCov_c2 (H20_2_A (A := A) h0) 0 1024 _)).trans (c2_congr fun a _ b _ => ?_)
  rw [if_neg (by omega)]
  exact dgg_right A _ b

end Cert.KernelIdeal.Gen

end
-- ==== Proof.CaseB.lean ====
/- A tile that is neither the first nor the last. -/
module

public import proofs.«01_k».proof.Proof.Gen.KernelIdeal.Value
public import proofs.«01_k».proof.Proof.Store

@[expose] public section

noncomputable section

namespace Cert.KernelIdeal.Gen

open Idealize.ShloMosaic Idealize.ShloMosaic.TcCoe

open Cert.Coe Cert.Spec Finset

attribute [local implicit_reducible] FKind.neutral

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32} {harg22 : arg22.IsWhole}
  {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole}
  {hc0 : ¬cond0_0 i} {hc1 : ¬cond0_1 i} {A : Args}
variable {x0 : Vec Ideal S256x5120 .bf16} {x1 x2 x3 x4 x5 : Vec Ideal S16x1024 .bf16} {x6 : Vec Ideal S256x2048 .bf16} {x7 : Vec Ideal S16x1024 .bf16}
  {x8 x9 : Vec Ideal S1x1024 .f32} {x10 x11 : Vec Ideal S8x128x128 .f32} {x12 : Vec Ideal S3x1024 .f32} {x13 : Vec Ideal S1x2048 .f32}
  {xo15 xo16 : Vec Ideal S1x1024 .f32} {xo17 xo18 : Vec Ideal S8x128x128 .f32} {xo19 : Vec Ideal S8x1024 .f32} {xo20 : Vec Ideal S1x2048 .f32}

theorem out14_B :
    out0_B_14 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 xo19 xo20
    = c2 (φ := .bf16) 256 5120 fun a b => dz A (256 * (i 0).val + a) b := by
  unfold out0_B_14
  exact (View.read_writes_junk_eq_canon _ _).trans (dz_canon i dz0_pay dz1_pay dz2_pay dz3_pay dz4_pay _ _ _ _ _)

theorem out15_B :
    out0_B_15 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) (c2 (φ := .f32) 1 1024 fun _ b => dlng A (256 * (i
    0).val) b) xo16 xo17 xo18 xo19 xo20
    = c2 (φ := .f32) 1 1024 fun _ b => dlng A (256 * ((i 0).val + 1)) b := by
  unfold out0_B_15
  refine (View.read_writes_junk_eq_canon _ _).trans (View.canon_cons_unit_zero (by funext a; fin_cases a <;> rfl) _ _ _) |>.trans ?_
  refine (dlng_pay (readAt_f32 harg16 0 0 _ _)).trans ?_
  exact c2_congr fun a _ b _ => by simp only [zero_add]; exact dlng_step A _ b

theorem out16_B :
    out0_B_16 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 (c2 (φ := .f32) 1 1024 fun _ b => dlnb A (256 * (i
    0).val) b) xo17 xo18 xo19 xo20
    = c2 (φ := .f32) 1 1024 fun _ b => dlnb A (256 * ((i 0).val + 1)) b := by
  unfold out0_B_16
  refine (View.read_writes_junk_eq_canon _ _).trans (View.canon_cons_unit_zero (by funext a; fin_cases a <;> rfl) _ _ _) |>.trans ?_
  refine (dlnb_pay (readAt_f32 harg17 0 0 _ _)).trans ?_
  exact c2_congr fun a _ b _ => by simp only [zero_add]; exact dlnb_step A _ b

theorem out17_B :
    out0_B_17 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 (c3 (φ := .f32) 8 128 128 (dw A (2 * (i
    0).val))) xo18 xo19 xo20
    = c3 (φ := .f32) 8 128 128 (dw A (2 * ((i 0).val + 1))) := by
  unfold out0_B_17
  refine (View.read_writes_junk_eq_canon _ _).trans (below_all ?_)
  refine below_succ (o := 7) ?_ (heads_hi (readAt_c3 harg18 7 0 0 _ _)).2.2.2.2.2.2.1 (fun b c => by simp only [zero_add, add_zero]; exact dw_step A _ _ _ _) _
  refine below_succ (o := 6) ?_ (heads_hi (readAt_c3 harg18 6 0 0 _ _)).2.2.2.2.1 (fun b c => by simp only [zero_add, add_zero]; exact dw_step A _ _ _ _) _
  refine below_succ (o := 5) ?_ (heads_hi (readAt_c3 harg18 5 0 0 _ _)).2.2.1 (fun b c => by simp only [zero_add, add_zero]; exact dw_step A _ _ _ _) _
  refine below_succ (o := 4) ?_ (heads_hi (readAt_c3 harg18 4 0 0 _ _)).1 (fun b c => by simp only [zero_add, add_zero]; exact dw_step A _ _ _ _) _
  refine below_succ (o := 3) ?_ (heads_lo (readAt_c3 harg18 3 0 0 _ _)).2.2.2.2.2.2.1 (fun b c => by simp only [zero_add, add_zero]; exact dw_step A _ _ _ _) _
  refine below_succ (o := 2) ?_ (heads_lo (readAt_c3 harg18 2 0 0 _ _)).2.2.2.2.1 (fun b c => by simp only [zero_add, add_zero]; exact dw_step A _ _ _ _) _
  refine below_succ (o := 1) ?_ (heads_lo (readAt_c3 harg18 1 0 0 _ _)).2.2.1 (fun b c => by simp only [zero_add, add_zero]; exact dw_step A _ _ _ _) _
  refine below_succ (o := 0) ?_ (heads_lo (readAt_c3 harg18 0 0 0 _ _)).1 (fun b c => by simp only [zero_add, add_zero]; exact dw_step A _ _ _ _) _
  exact below_zero _ _

theorem out18_B :
    out0_B_18 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 (c3 (φ := .f32) 8 128 128 (db A (2 * (i
    0).val))) xo19 xo20
    = c3 (φ := .f32) 8 128 128 (db A (2 * ((i 0).val + 1))) := by
  unfold out0_B_18
  refine (View.read_writes_junk_eq_canon _ _).trans (below_all ?_)
  refine below_succ (o := 7) ?_ (heads_hi (readAt_c3 harg19 7 0 0 _ _)).2.2.2.2.2.2.2 (fun b c => by simp only [zero_add, add_zero]; exact db_step A _ _ _ _) _
  refine below_succ (o := 6) ?_ (heads_hi (readAt_c3 harg19 6 0 0 _ _)).2.2.2.2.2.1 (fun b c => by simp only [zero_add, add_zero]; exact db_step A _ _ _ _) _
  refine below_succ (o := 5) ?_ (heads_hi (readAt_c3 harg19 5 0 0 _ _)).2.2.2.1 (fun b c => by simp only [zero_add, add_zero]; exact db_step A _ _ _ _) _
  refine below_succ (o := 4) ?_ (heads_hi (readAt_c3 harg19 4 0 0 _ _)).2.1 (fun b c => by simp only [zero_add, add_zero]; exact db_step A _ _ _ _) _
  refine below_succ (o := 3) ?_ (heads_lo (readAt_c3 harg19 3 0 0 _ _)).2.2.2.2.2.2.2 (fun b c => by simp only [zero_add, add_zero]; exact db_step A _ _ _ _) _
  refine below_succ (o := 2) ?_ (heads_lo (readAt_c3 harg19 2 0 0 _ _)).2.2.2.2.2.1 (fun b c => by simp only [zero_add, add_zero]; exact db_step A _ _ _ _) _
  refine below_succ (o := 1) ?_ (heads_lo (readAt_c3 harg19 1 0 0 _ _)).2.2.2.1 (fun b c => by simp only [zero_add, add_zero]; exact db_step A _ _ _ _) _
  refine below_succ (o := 0) ?_ (heads_lo (readAt_c3 harg19 0 0 0 _ _)).2.1 (fun b c => by simp only [zero_add, add_zero]; exact db_step A _ _ _ _) _
  exact below_zero _ _

theorem out19_B :
    out0_B_19 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 (c2 (φ := .f32) 8 1024 (dcw A (256
    * (i 0).val))) xo20
    = c2 (φ := .f32) 8 1024 (dcw A (256 * ((i 0).val + 1))) := by
  unfold out0_B_19
  refine (read_row (read_row (read_row (G := dcw A (256 * (i 0).val)) ?_ 0 (dcw0_pay (readAt_f32 harg20 0 0 _ _)) _) 1 (dcw1_pay (readAt_f32 harg20 1 0 _ _)) _) 2
    (dcw2_pay (readAt_f32 harg20 2 0 _ _)) _).trans ?_
  · exact harg20.read_unread _
  · exact c2_congr fun a _ b _ => dcw_rows A _ a b

theorem out20_B :
    out0_B_20 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 xo19 (c2 (φ := .f32) 1 2048 fun _ b
    => dgg A (256 * (i 0).val) b)
    = c2 (φ := .f32) 1 2048 fun _ b => dgg A (256 * ((i 0).val + 1)) b := by
  unfold out0_B_20
  refine (View.read_writes_junk_eq_canon _ _).trans (right_all (fun y hy => left_lt (G := fun _ b => dgg A (256 * ((i 0).val + 1)) b) ?_ _ hy) ?_ _)
  · exact (dgg0_pay (readAt_f32 harg21 0 0 _ _) _).trans (c2_congr fun a _ b hb => dgg_left A _ hb)
  · exact (dgg1_pay (readAt_f32 harg21 0 1024 _ _)).trans (c2_congr fun a _ b _ => dgg_right A _ b)

end Cert.KernelIdeal.Gen

end
-- ==== Proof.CaseC.lean ====
/- The last tile: the weight's gradient is masked and the bias's summed over the lanes. -/
module

public import proofs.«01_k».proof.Proof.Gen.KernelIdeal.Value
public import proofs.«01_k».proof.Proof.Store

@[expose] public section

noncomputable section

namespace Cert.KernelIdeal.Gen

open Idealize.ShloMosaic Idealize.ShloMosaic.TcCoe

open Cert.Coe Cert.Spec Finset

attribute [local implicit_reducible] FKind.neutral

variable {c : Dev nD} {i : grid0.Coords}
  {arg1 : Memref sig .tc .vmem S256x5120 .bf16} {harg1 : arg1.IsWhole} {arg2 : Memref sig .tc .vmem S16x1024 .bf16} {harg2 : arg2.IsWhole}
  {arg3 : Memref sig .tc .vmem S16x1024 .bf16} {harg3 : arg3.IsWhole} {arg4 : Memref sig .tc .vmem S16x1024 .bf16} {harg4 : arg4.IsWhole}
  {arg5 : Memref sig .tc .vmem S16x1024 .bf16} {harg5 : arg5.IsWhole} {arg6 : Memref sig .tc .vmem S16x1024 .bf16} {harg6 : arg6.IsWhole}
  {arg7 : Memref sig .tc .vmem S256x2048 .bf16} {harg7 : arg7.IsWhole} {arg8 : Memref sig .tc .vmem S16x1024 .bf16} {harg8 : arg8.IsWhole}
  {arg9 : Memref sig .tc .vmem S1x1024 .f32} {harg9 : arg9.IsWhole} {arg10 : Memref sig .tc .vmem S1x1024 .f32} {harg10 : arg10.IsWhole}
  {arg11 : Memref sig .tc .vmem S8x128x128 .f32} {harg11 : arg11.IsWhole} {arg12 : Memref sig .tc .vmem S8x128x128 .f32} {harg12 : arg12.IsWhole}
  {arg13 : Memref sig .tc .vmem S3x1024 .f32} {harg13 : arg13.IsWhole} {arg14 : Memref sig .tc .vmem S1x2048 .f32} {harg14 : arg14.IsWhole}
  {arg15 : Memref sig .tc .vmem S256x5120 .bf16} {harg15 : arg15.IsWhole} {arg16 : Memref sig .tc .vmem S1x1024 .f32} {harg16 : arg16.IsWhole}
  {arg17 : Memref sig .tc .vmem S1x1024 .f32} {harg17 : arg17.IsWhole} {arg18 : Memref sig .tc .vmem S8x128x128 .f32} {harg18 : arg18.IsWhole}
  {arg19 : Memref sig .tc .vmem S8x128x128 .f32} {harg19 : arg19.IsWhole} {arg20 : Memref sig .tc .vmem S8x1024 .f32} {harg20 : arg20.IsWhole}
  {arg21 : Memref sig .tc .vmem S1x2048 .f32} {harg21 : arg21.IsWhole} {arg22 : Memref sig .tc .vmem S256x1024 .f32} {harg22 : arg22.IsWhole}
  {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole}
  {hc0 : ¬cond0_0 i} {hc1 : cond0_1 i} {A : Args}
variable {x0 : Vec Ideal S256x5120 .bf16} {x1 x2 x3 x4 x5 : Vec Ideal S16x1024 .bf16} {x6 : Vec Ideal S256x2048 .bf16} {x7 : Vec Ideal S16x1024 .bf16}
  {x8 x9 : Vec Ideal S1x1024 .f32} {x10 x11 : Vec Ideal S8x128x128 .f32} {x12 : Vec Ideal S3x1024 .f32} {x13 : Vec Ideal S1x2048 .f32}
  {xo15 xo16 : Vec Ideal S1x1024 .f32} {xo17 xo18 : Vec Ideal S8x128x128 .f32} {xo19 : Vec Ideal S8x1024 .f32} {xo20 : Vec Ideal S1x2048 .f32}

theorem out14_C :
    out0_C_14 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 xo19 xo20
    = c2 (φ := .bf16) 256 5120 fun a b => dz A (256 * (i 0).val + a) b := by
  unfold out0_C_14
  exact (View.read_writes_junk_eq_canon _ _).trans (dz_canon i dz0_pay dz1_pay dz2_pay dz3_pay dz4_pay _ _ _ _ _)

theorem out15_C :
    out0_C_15 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) (c2 (φ := .f32) 1 1024 fun _ b => dlng A (256 * (i
    0).val) b) xo16 xo17 xo18 xo19 xo20
    = c2 (φ := .f32) 1 1024 fun _ b => dlng A (256 * ((i 0).val + 1)) b := by
  unfold out0_C_15
  refine (View.read_writes_junk_eq_canon _ _).trans (View.canon_cons_unit_zero (by funext a; fin_cases a <;> rfl) _ _ _) |>.trans ?_
  refine (dlng_pay (readAt_f32 harg16 0 0 _ _)).trans ?_
  exact c2_congr fun a _ b _ => by simp only [zero_add]; exact dlng_step A _ b

theorem out16_C :
    out0_C_16 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 (c2 (φ := .f32) 1 1024 fun _ b => dlnb A (256 * (i
    0).val) b) xo17 xo18 xo19 xo20
    = c2 (φ := .f32) 1 1024 fun _ b => dlnb A (256 * ((i 0).val + 1)) b := by
  unfold out0_C_16
  refine (View.read_writes_junk_eq_canon _ _).trans (View.canon_cons_unit_zero (by funext a; fin_cases a <;> rfl) _ _ _) |>.trans ?_
  refine (dlnb_pay (readAt_f32 harg17 0 0 _ _)).trans ?_
  exact c2_congr fun a _ b _ => by simp only [zero_add]; exact dlnb_step A _ b

theorem out19_C :
    out0_C_19 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 (c2 (φ := .f32) 8 1024 (dcw A (256
    * (i 0).val))) xo20
    = c2 (φ := .f32) 8 1024 (dcw A (256 * ((i 0).val + 1))) := by
  unfold out0_C_19
  refine (read_row (read_row (read_row (G := dcw A (256 * (i 0).val)) ?_ 0 (dcw0_pay (readAt_f32 harg20 0 0 _ _)) _) 1 (dcw1_pay (readAt_f32 harg20 1 0 _ _)) _) 2
    (dcw2_pay (readAt_f32 harg20 2 0 _ _)) _).trans ?_
  · exact harg20.read_unread _
  · exact c2_congr fun a _ b _ => dcw_rows A _ a b

theorem out20_C :
    out0_C_20 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 xo18 xo19 (c2 (φ := .f32) 1 2048 fun _ b
    => dgg A (256 * (i 0).val) b)
    = c2 (φ := .f32) 1 2048 fun _ b => dgg A (256 * ((i 0).val + 1)) b := by
  unfold out0_C_20
  refine (View.read_writes_junk_eq_canon _ _).trans (right_all (fun y hy => left_lt (G := fun _ b => dgg A (256 * ((i 0).val + 1)) b) ?_ _ hy) ?_ _)
  · exact (dgg0_pay (readAt_f32 harg21 0 0 _ _) _).trans (c2_congr fun a _ b hb => dgg_left A _ hb)
  · exact (dgg1_pay (readAt_f32 harg21 0 1024 _ _)).trans (c2_congr fun a _ b _ => dgg_right A _ b)

theorem H17_8_C :
    View.canon (kernelRun0_C.sl.H17_8 (F := Ideal) c arg1 harg1 arg7 harg7 arg9 harg9 arg10 harg10 arg11 harg11 arg12 harg12 arg14 harg14 arg18 harg18 arg22 arg23
    arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 0) := by
  refine (below_all (G := dw A (2 * ((i 0).val + 1))) ?_).trans (c3_congr fun _ _ _ _ _ _ => rfl)
  refine below_succ (o := 7) ?_ (heads_hi (readAt_c3 harg18 7 0 0 _ _)).2.2.2.2.2.2.1 (fun b c => by simp only [zero_add, add_zero]; exact dw_step A _ _ _ _) _
  refine below_succ (o := 6) ?_ (heads_hi (readAt_c3 harg18 6 0 0 _ _)).2.2.2.2.1 (fun b c => by simp only [zero_add, add_zero]; exact dw_step A _ _ _ _) _
  refine below_succ (o := 5) ?_ (heads_hi (readAt_c3 harg18 5 0 0 _ _)).2.2.1 (fun b c => by simp only [zero_add, add_zero]; exact dw_step A _ _ _ _) _
  refine below_succ (o := 4) ?_ (heads_hi (readAt_c3 harg18 4 0 0 _ _)).1 (fun b c => by simp only [zero_add, add_zero]; exact dw_step A _ _ _ _) _
  refine below_succ (o := 3) ?_ (heads_lo (readAt_c3 harg18 3 0 0 _ _)).2.2.2.2.2.2.1 (fun b c => by simp only [zero_add, add_zero]; exact dw_step A _ _ _ _) _
  refine below_succ (o := 2) ?_ (heads_lo (readAt_c3 harg18 2 0 0 _ _)).2.2.2.2.1 (fun b c => by simp only [zero_add, add_zero]; exact dw_step A _ _ _ _) _
  refine below_succ (o := 1) ?_ (heads_lo (readAt_c3 harg18 1 0 0 _ _)).2.2.1 (fun b c => by simp only [zero_add, add_zero]; exact dw_step A _ _ _ _) _
  refine below_succ (o := 0) ?_ (heads_lo (readAt_c3 harg18 0 0 0 _ _)).1 (fun b c => by simp only [zero_add, add_zero]; exact dw_step A _ _ _ _) _
  exact below_zero _ _

theorem H17_9_C  :
    View.canon (kernelRun0_C.sl.H17_9 (F := Ideal) c arg1 harg1 arg7 harg7 arg9 harg9 arg10 harg10 arg11 harg11 arg12 harg12 arg14 harg14 arg18 harg18 arg22 arg23
    arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 1) :=
  block_step (o := 0) H17_8_C (mask_acc (readCov_c3 H17_8_C 0 0 0 _))
    (fun a b c => part_mask (dw A (2 * ((i 0).val + 1))) 0 a b c) _

theorem H17_10_C  :
    View.canon (kernelRun0_C.sl.H17_10 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 2) :=
  block_step (o := 1) H17_9_C (mask_acc (readCov_c3 H17_9_C 1 0 0 _))
    (fun a b c => part_mask (dw A (2 * ((i 0).val + 1))) 1 a b c) _

theorem H17_11_C  :
    View.canon (kernelRun0_C.sl.H17_11 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 3) :=
  block_step (o := 2) H17_10_C (mask_acc (readCov_c3 H17_10_C 2 0 0 _))
    (fun a b c => part_mask (dw A (2 * ((i 0).val + 1))) 2 a b c) _

theorem H17_12_C  :
    View.canon (kernelRun0_C.sl.H17_12 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 4) :=
  block_step (o := 3) H17_11_C (mask_acc (readCov_c3 H17_11_C 3 0 0 _))
    (fun a b c => part_mask (dw A (2 * ((i 0).val + 1))) 3 a b c) _

theorem H17_13_C  :
    View.canon (kernelRun0_C.sl.H17_13 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 5) :=
  block_step (o := 4) H17_12_C (mask_acc (readCov_c3 H17_12_C 4 0 0 _))
    (fun a b c => part_mask (dw A (2 * ((i 0).val + 1))) 4 a b c) _

theorem H17_14_C  :
    View.canon (kernelRun0_C.sl.H17_14 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 6) :=
  block_step (o := 5) H17_13_C (mask_acc (readCov_c3 H17_13_C 5 0 0 _))
    (fun a b c => part_mask (dw A (2 * ((i 0).val + 1))) 5 a b c) _

theorem H17_15_C  :
    View.canon (kernelRun0_C.sl.H17_15 (F := Ideal) c arg1 harg1 arg7 harg7 arg9 harg9 arg10 harg10 arg11 harg11 arg12 harg12 arg14 harg14 arg18 harg18 arg22
    arg23 arg24 (X0 A (i 0).val) (X6 A (i 0).val) (X8 A) (X9 A) (X10 A) (X11 A) (X13 A) (c3 (φ := .f32) 8 128 128 (dw A (2 * (i 0).val))))
    = c3 (φ := .f32) 8 128 128 (part (fun h a b => if b / 64 ≤ a / 64 then dw A (2 * ((i 0).val + 1)) h a b else 0) (dw A (2 * ((i 0).val + 1))) 7) :=
  block_step (o := 6) H17_14_C (mask_acc (readCov_c3 H17_14_C 6 0 0 _))
    (fun a b c => part_mask (dw A (2 * ((i 0).val + 1))) 6 a b c) _

theorem out17_C :
    out0_C_17 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 (c3 (φ := .f32) 8 128 128 (dw A (2 * (i
    0).val))) xo18 xo19 xo20
    = c3 (φ := .f32) 8 128 128 (fun h a b => if b / 64 ≤ a / 64 then dw A (2 * ((i 0).val + 1)) h a b else 0) := by
  unfold out0_C_17
  exact (View.read_writes_junk_eq_canon _ _).trans ((block_step (o := 7) H17_15_C (mask_acc (readCov_c3 H17_15_C 7 0 0 _))
    (fun a b c => part_mask (dw A (2 * ((i 0).val + 1))) 7 a b c) _).trans (part_all _ _))

theorem H18_8_C :
    View.canon (kernelRun0_C.sl.H18_8 (F := Ideal) c arg1 harg1 arg7 harg7 arg9 harg9 arg10 harg10 arg11 harg11 arg12 harg12 arg14 harg14 arg19 harg19 arg22 arg23
    arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 0) := by
  refine (below_all (G := db A (2 * ((i 0).val + 1))) ?_).trans (c3_congr fun _ _ _ _ _ _ => rfl)
  refine below_succ (o := 7) ?_ (heads_hi (readAt_c3 harg19 7 0 0 _ _)).2.2.2.2.2.2.2 (fun b c => by simp only [zero_add, add_zero]; exact db_step A _ _ _ _) _
  refine below_succ (o := 6) ?_ (heads_hi (readAt_c3 harg19 6 0 0 _ _)).2.2.2.2.2.1 (fun b c => by simp only [zero_add, add_zero]; exact db_step A _ _ _ _) _
  refine below_succ (o := 5) ?_ (heads_hi (readAt_c3 harg19 5 0 0 _ _)).2.2.2.1 (fun b c => by simp only [zero_add, add_zero]; exact db_step A _ _ _ _) _
  refine below_succ (o := 4) ?_ (heads_hi (readAt_c3 harg19 4 0 0 _ _)).2.1 (fun b c => by simp only [zero_add, add_zero]; exact db_step A _ _ _ _) _
  refine below_succ (o := 3) ?_ (heads_lo (readAt_c3 harg19 3 0 0 _ _)).2.2.2.2.2.2.2 (fun b c => by simp only [zero_add, add_zero]; exact db_step A _ _ _ _) _
  refine below_succ (o := 2) ?_ (heads_lo (readAt_c3 harg19 2 0 0 _ _)).2.2.2.2.2.1 (fun b c => by simp only [zero_add, add_zero]; exact db_step A _ _ _ _) _
  refine below_succ (o := 1) ?_ (heads_lo (readAt_c3 harg19 1 0 0 _ _)).2.2.2.1 (fun b c => by simp only [zero_add, add_zero]; exact db_step A _ _ _ _) _
  refine below_succ (o := 0) ?_ (heads_lo (readAt_c3 harg19 0 0 0 _ _)).2.1 (fun b c => by simp only [zero_add, add_zero]; exact db_step A _ _ _ _) _
  exact below_zero _ _

theorem H18_9_C  :
    View.canon (kernelRun0_C.sl.H18_9 (F := Ideal) c arg1 harg1 arg7 harg7 arg9 harg9 arg10 harg10 arg11 harg11 arg12 harg12 arg14 harg14 arg19 harg19 arg22 arg23
    arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 1) :=
  block_step (o := 0) H18_8_C (lanes_acc (readCov_c3 H18_8_C 0 0 0 _))
    (fun a b c => part_lanes (db A (2 * ((i 0).val + 1))) 0 a b c) _

theorem H18_10_C  :
    View.canon (kernelRun0_C.sl.H18_10 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 2) :=
  block_step (o := 1) H18_9_C (lanes_acc (readCov_c3 H18_9_C 1 0 0 _))
    (fun a b c => part_lanes (db A (2 * ((i 0).val + 1))) 1 a b c) _

theorem H18_11_C  :
    View.canon (kernelRun0_C.sl.H18_11 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 3) :=
  block_step (o := 2) H18_10_C (lanes_acc (readCov_c3 H18_10_C 2 0 0 _))
    (fun a b c => part_lanes (db A (2 * ((i 0).val + 1))) 2 a b c) _

theorem H18_12_C  :
    View.canon (kernelRun0_C.sl.H18_12 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 4) :=
  block_step (o := 3) H18_11_C (lanes_acc (readCov_c3 H18_11_C 3 0 0 _))
    (fun a b c => part_lanes (db A (2 * ((i 0).val + 1))) 3 a b c) _

theorem H18_13_C  :
    View.canon (kernelRun0_C.sl.H18_13 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 5) :=
  block_step (o := 4) H18_12_C (lanes_acc (readCov_c3 H18_12_C 4 0 0 _))
    (fun a b c => part_lanes (db A (2 * ((i 0).val + 1))) 4 a b c) _

theorem H18_14_C  :
    View.canon (kernelRun0_C.sl.H18_14 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 6) :=
  block_step (o := 5) H18_13_C (lanes_acc (readCov_c3 H18_13_C 5 0 0 _))
    (fun a b c => part_lanes (db A (2 * ((i 0).val + 1))) 5 a b c) _

theorem H18_15_C  :
    View.canon (kernelRun0_C.sl.H18_15 (F := Ideal) c arg1 harg1 arg7 harg7 arg9 harg9 arg10 harg10 arg11 harg11 arg12 harg12 arg14 harg14 arg19 harg19 arg22
    arg23 arg24 (X0 A (i 0).val) (X6 A (i 0).val) (X8 A) (X9 A) (X10 A) (X11 A) (X13 A) (c3 (φ := .f32) 8 128 128 (db A (2 * (i 0).val))))
    = c3 (φ := .f32) 8 128 128 (part (fun h a _ => ∑ l ∈ range 128, db A (2 * ((i 0).val + 1)) h a l) (db A (2 * ((i 0).val + 1))) 7) :=
  block_step (o := 6) H18_14_C (lanes_acc (readCov_c3 H18_14_C 6 0 0 _))
    (fun a b c => part_lanes (db A (2 * ((i 0).val + 1))) 6 a b c) _

theorem out18_C :
    out0_C_18 (F := Ideal) c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 arg25 harg25 hc0 hc1 (X0 A (i 0).val) (X1 A (i 0).val) (X2 A (i 0).val) (X3 A (i 0).val) (X4 A (i 0).val) (X5 A
    (i 0).val) (X6 A (i 0).val) (X7 A (i 0).val) (X8 A) (X9 A) (X10 A) (X11 A) (X12 A) (X13 A) xo15 xo16 xo17 (c3 (φ := .f32) 8 128 128 (db A (2 * (i
    0).val))) xo19 xo20
    = c3 (φ := .f32) 8 128 128 (fun h a _ => ∑ l ∈ range 128, db A (2 * ((i 0).val + 1)) h a l) := by
  unfold out0_C_18
  exact (View.read_writes_junk_eq_canon _ _).trans ((block_step (o := 7) H18_15_C (lanes_acc (readCov_c3 H18_15_C 7 0 0 _))
    (fun a b c => part_lanes (db A (2 * ((i 0).val + 1))) 7 a b c) _).trans (part_all _ _))

end Cert.KernelIdeal.Gen

end
-- ==== Proof.Grid.lean ====
/- The sixteen grid points together: what each input window holds at a point, what the outputs hold after it, and so what each
   result array holds after the run. -/
module

public import proofs.«01_k».proof.Proof.CaseA
public import proofs.«01_k».proof.Proof.CaseB
public import proofs.«01_k».proof.Proof.CaseC

@[expose] public section

noncomputable section

namespace Cert.KernelIdeal.Gen

open Idealize.ShloMosaic Idealize.ShloMosaic.TcCoe
open Cert.Coe Cert.Spec Finset

variable {m : (ℓ : Loc nD τ sig) → Buf (Elt Ideal) ℓ} {c : Dev nD} {A : Args}

/-- The argument arrays hold the real functions of `A`. -/
structure Holds (m : (ℓ : Loc nD τ sig) → Buf (Elt Ideal) ℓ) (c : Dev nD) (A : Args) : Prop where
  z : m ((c : Thread nD τ).loc main_arg0) = (c2 4096 5120 A.z : FVec Ideal S4096x5120 .bf16)
  dy : m ((c : Thread nD τ).loc main_arg1) = (c2 4096 2048 A.dy : FVec Ideal S4096x2048 .bf16)
  lng : m ((c : Thread nD τ).loc main_arg2) = (c2 1 1024 (fun _ b => A.lng b) : FVec Ideal S1x1024 .f32)
  lnb : m ((c : Thread nD τ).loc main_arg3) = (c2 1 1024 (fun _ b => A.lnb b) : FVec Ideal S1x1024 .f32)
  w : m ((c : Thread nD τ).loc main_arg4) = (c3 8 128 128 A.w : FVec Ideal S8x128x128 .f32)
  b : m ((c : Thread nD τ).loc main_arg5) = (c2 8 128 A.b : FVec Ideal S8x128 .f32)
  cw : m ((c : Thread nD τ).loc main_arg6) = (c2 3 1024 A.cw : FVec Ideal S3x1024 .f32)
  gg : m ((c : Thread nD τ).loc main_arg7) = (c2 1 2048 (fun _ b => A.gg b) : FVec Ideal S1x2048 .f32)

/-! ### The input windows -/

theorem coord (t : Fin cfg0.N) : (grid0.coords t 0).val = t.val :=
  (by decide +kernel : ∀ t : Fin grid0.N, (grid0.coords t 0).val = t.val) t

theorem at_tile (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t
theorem at_pv (t : Fin cfg0.N) : win0_1.index t 0 = 16 * (grid0.coords t 0).val - 1 ∧ win0_1.index t 1 = 3
    ∧ win0_2.index t 0 = 16 * (grid0.coords t 0).val - 1 ∧ win0_2.index t 1 = 4 :=
  (by decide +kernel : ∀ t : Fin grid0.N, win0_1.index t 0 = 16 * (grid0.coords t 0).val - 1 ∧ win0_1.index t 1 = 3
    ∧ win0_2.index t 0 = 16 * (grid0.coords t 0).val - 1 ∧ win0_2.index t 1 = 4) t
theorem at_nx (t : Fin cfg0.N) : win0_3.index t 0 = min (16 * ((grid0.coords t 0).val + 1)) 255 ∧ win0_3.index t 1 = 2
    ∧ win0_4.index t 0 = min (16 * ((grid0.coords t 0).val + 1)) 255 ∧ win0_4.index t 1 = 3
    ∧ win0_5.index t 0 = min (16 * ((grid0.coords t 0).val + 1)) 255 ∧ win0_5.index t 1 = 4
    ∧ win0_7.index t 0 = min (16 * ((grid0.coords t 0).val + 1)) 255 ∧ win0_7.index t 1 = 1 :=
  (by decide +kernel : ∀ t : Fin grid0.N, win0_3.index t 0 = min (16 * ((grid0.coords t 0).val + 1)) 255 ∧ win0_3.index t 1 = 2
    ∧ win0_4.index t 0 = min (16 * ((grid0.coords t 0).val + 1)) 255 ∧ win0_4.index t 1 = 3
    ∧ win0_5.index t 0 = min (16 * ((grid0.coords t 0).val + 1)) 255 ∧ win0_5.index t 1 = 4
    ∧ win0_7.index t 0 = min (16 * ((grid0.coords t 0).val + 1)) 255 ∧ win0_7.index t 1 = 1) t
theorem at_dy (t : Fin cfg0.N) : win0_6.index t 0 = (grid0.coords t 0).val ∧ win0_6.index t 1 = 0 :=
  (by decide +kernel : ∀ t : Fin grid0.N, win0_6.index t 0 = (grid0.coords t 0).val ∧ win0_6.index t 1 = 0) t

variable (H : Holds m c A) (t : Fin cfg0.N)
include H

theorem iblk_0 : iblk m c 0 t = X0 A (grid0.coords t 0).val := by
  funext j
  unfold iblk
  rw [View.read_apply]
  show V m c main_arg0 _ = _
  rw [V_main_arg0, H.z]
  refine congrArg Real.toEReal (congrArg₂ A.z ?_ ?_)
  · show win0_0.index t 0 * 256 + 1 * (j 0).val = 256 * _ + (j 0).val
    rw [(at_tile t).1]; omega
  · show win0_0.index t 1 * 5120 + 1 * (j 1).val = (j 1).val
    rw [(at_tile t).2]; omega

theorem iblk_1 : iblk m c 1 t = X1 A (grid0.coords t 0).val := by
  funext j
  unfold iblk
  rw [View.read_apply]
  show V m c main_arg0 _ = _
  rw [V_main_arg0, H.z]
  refine congrArg Real.toEReal (congrArg₂ A.z ?_ ?_)
  · show win0_1.index t 0 * 16 + 1 * (j 0).val = pv _ + (j 0).val
    rw [(at_pv t).1]; unfold pv; omega
  · show win0_1.index t 1 * 1024 + 1 * (j 1).val = 3072 + (j 1).val
    rw [(at_pv t).2.1]; omega

theorem iblk_2 : iblk m c 2 t = X2 A (grid0.coords t 0).val := by
  funext j
  unfold iblk
  rw [View.read_apply]
  show V m c main_arg0 _ = _
  rw [V_main_arg0, H.z]
  refine congrArg Real.toEReal (congrArg₂ A.z ?_ ?_)
  · show win0_2.index t 0 * 16 + 1 * (j 0).val = pv _ + (j 0).val
    rw [(at_pv t).2.2.1]; unfold pv; omega
  · show win0_2.index t 1 * 1024 + 1 * (j 1).val = 4096 + (j 1).val
    rw [(at_pv t).2.2.2]; omega

theorem iblk_3 : iblk m c 3 t = X3 A (grid0.coords t 0).val := by
  funext j
  unfold iblk
  rw [View.read_apply]
  show V m c main_arg0 _ = _
  rw [V_main_arg0, H.z]
  refine congrArg Real.toEReal (congrArg₂ A.z ?_ ?_)
  · show win0_3.index t 0 * 16 + 1 * (j 0).val = nx _ + (j 0).val
    rw [(at_nx t).1]; unfold nx; omega
  · show win0_3.index t 1 * 1024 + 1 * (j 1).val = 2048 + (j 1).val
    rw [(at_nx t).2.1]; omega

theorem iblk_4 : iblk m c 4 t = X4 A (grid0.coords t 0).val := by
  funext j
  unfold iblk
  rw [View.read_apply]
  show V m c main_arg0 _ = _
  rw [V_main_arg0, H.z]
  refine congrArg Real.toEReal (congrArg₂ A.z ?_ ?_)
  · show win0_4.index t 0 * 16 + 1 * (j 0).val = nx _ + (j 0).val
    rw [(at_nx t).2.2.1]; unfold nx; omega
  · show win0_4.index t 1 * 1024 + 1 * (j 1).val = 3072 + (j 1).val
    rw [(at_nx t).2.2.2.1]; omega

theorem iblk_5 : iblk m c 5 t = X5 A (grid0.coords t 0).val := by
  funext j
  unfold iblk
  rw [View.read_apply]
  show V m c main_arg0 _ = _
  rw [V_main_arg0, H.z]
  refine congrArg Real.toEReal (congrArg₂ A.z ?_ ?_)
  · show win0_5.index t 0 * 16 + 1 * (j 0).val = nx _ + (j 0).val
    rw [(at_nx t).2.2.2.2.1]; unfold nx; omega
  · show win0_5.index t 1 * 1024 + 1 * (j 1).val = 4096 + (j 1).val
    rw [(at_nx t).2.2.2.2.2.1]; omega

theorem iblk_7 : iblk m c 7 t = X7 A (grid0.coords t 0).val := by
  funext j
  unfold iblk
  rw [View.read_apply]
  show V m c main_arg1 _ = _
  rw [V_main_arg1, H.dy]
  refine congrArg Real.toEReal (congrArg₂ A.dy ?_ ?_)
  · show win0_7.index t 0 * 16 + 1 * (j 0).val = nx _ + (j 0).val
    rw [(at_nx t).2.2.2.2.2.2.1]; unfold nx; omega
  · show win0_7.index t 1 * 1024 + 1 * (j 1).val = 1024 + (j 1).val
    rw [(at_nx t).2.2.2.2.2.2.2]; omega

theorem iblk_6 : iblk m c 6 t = X6 A (grid0.coords t 0).val := by
  funext j
  unfold iblk
  rw [View.read_apply]
  show V m c main_arg1 _ = _
  rw [V_main_arg1, H.dy]
  refine congrArg Real.toEReal (congrArg₂ A.dy ?_ ?_)
  · show win0_6.index t 0 * 256 + 1 * (j 0).val = 256 * _ + (j 0).val
    rw [(at_dy t).1]; omega
  · show win0_6.index t 1 * 2048 + 1 * (j 1).val = (j 1).val
    rw [(at_dy t).2]; omega

theorem iblk_8 : iblk m c 8 t = X8 A := by
  unfold iblk
  have hz : (fun a => win0_8.index t a * main_arg2.ty.shape.size a) = fun _ => 0 := funext fun a => by
    fin_cases a <;> exact Nat.zero_mul _
  refine (Memref.read_access_unit_zero (Elt Ideal) main_arg2 hz (fun a => by rw [congrFun hz a]; simp) (V m c main_arg2)).trans ?_
  rw [V_main_arg2, H.lng]
  rfl

theorem iblk_9 : iblk m c 9 t = X9 A := by
  unfold iblk
  have hz : (fun a => win0_9.index t a * main_arg3.ty.shape.size a) = fun _ => 0 := funext fun a => by
    fin_cases a <;> exact Nat.zero_mul _
  refine (Memref.read_access_unit_zero (Elt Ideal) main_arg3 hz (fun a => by rw [congrFun hz a]; simp) (V m c main_arg3)).trans ?_
  rw [V_main_arg3, H.lnb]
  rfl

theorem iblk_10 : iblk m c 10 t = X10 A := by
  unfold iblk
  have hz : (fun a => win0_10.index t a * main_arg4.ty.shape.size a) = fun _ => 0 := funext fun a => by
    fin_cases a <;> exact Nat.zero_mul _
  refine (Memref.read_access_unit_zero (Elt Ideal) main_arg4 hz (fun a => by rw [congrFun hz a]; simp) (V m c main_arg4)).trans ?_
  rw [V_main_arg4, H.w]
  rfl

theorem V_bias : V m c main_v1 = X11 A := by
  have h : V m c main_v1 = broadcastInDim S8x128x128 ![0, 1, 2] bcast_S8x128x1_S8x128x128_0_1_2
      (broadcastInDim S8x128x1 ![0, 1] bcast_S8x128_S8x128x1_0_1 (m ((c : Thread nD τ).loc main_arg5))) := by
    rfl
  rw [h, H.b]
  rfl

theorem iblk_11 : iblk m c 11 t = X11 A := by
  unfold iblk
  have hz : (fun a => win0_11.index t a * main_v1.ty.shape.size a) = fun _ => 0 := funext fun a => by
    fin_cases a <;> exact Nat.zero_mul _
  refine (Memref.read_access_unit_zero (Elt Ideal) main_v1 hz (fun a => by rw [congrFun hz a]; simp) (V m c main_v1)).trans ?_
  rw [V_bias H]

theorem iblk_12 : iblk m c 12 t = X12 A := by
  unfold iblk
  have hz : (fun a => win0_12.index t a * main_arg6.ty.shape.size a) = fun _ => 0 := funext fun a => by
    fin_cases a <;> exact Nat.zero_mul _
  refine (Memref.read_access_unit_zero (Elt Ideal) main_arg6 hz (fun a => by rw [congrFun hz a]; simp) (V m c main_arg6)).trans ?_
  rw [V_main_arg6, H.cw]
  rfl

theorem iblk_13 : iblk m c 13 t = X13 A := by
  unfold iblk
  have hz : (fun a => win0_13.index t a * main_arg7.ty.shape.size a) = fun _ => 0 := funext fun a => by
    fin_cases a <;> exact Nat.zero_mul _
  refine (Memref.read_access_unit_zero (Elt Ideal) main_arg7 hz (fun a => by rw [congrFun hz a]; simp) (V m c main_arg7)).trans ?_
  rw [V_main_arg7, H.gg]
  rfl

/-! ### What the outputs hold after each point -/

omit H in
/-- The outputs after point `n < 15`: the tile's rows of the first gradient, the others' sums over all rows so far. -/
def Sums (A : Args) (n : ℕ) : Vec Ideal S256x5120 .bf16 × Vec Ideal S1x1024 .f32 × Vec Ideal S1x1024 .f32 × Vec Ideal S8x128x128 .f32
    × Vec Ideal S8x128x128 .f32 × Vec Ideal S8x1024 .f32 × Vec Ideal S1x2048 .f32 :=
  (c2 (φ := .bf16) 256 5120 fun a b => dz A (256 * n + a) b, c2 (φ := .f32) 1 1024 fun _ b => dlng A (256 * (n + 1)) b,
    c2 (φ := .f32) 1 1024 fun _ b => dlnb A (256 * (n + 1)) b, c3 (φ := .f32) 8 128 128 (dw A (2 * (n + 1))),
    c3 (φ := .f32) 8 128 128 (db A (2 * (n + 1))), c2 (φ := .f32) 8 1024 (dcw A (256 * (n + 1))),
    c2 (φ := .f32) 1 2048 fun _ b => dgg A (256 * (n + 1)) b)

theorem point_A (h : t.val = 0) : outsAt0 m c t.val t.isLt = Sums A t.val := by
  have h0 : (grid0.coords t 0).val = 0 := (coord t).trans h
  rw [outsAt0_A m c t (by omega) (by omega)]
  rw [iblk_0 H, iblk_1 H, iblk_2 H, iblk_3 H, iblk_4 H, iblk_5 H, iblk_6 H, iblk_7 H, iblk_8 H, iblk_9 H, iblk_10 H, iblk_11 H, iblk_12 H, iblk_13 H]
  rw [out14_A, out15_A h0, out16_A h0, out17_A h0, out18_A h0, out19_A h0, out20_A h0, coord t]
  rfl

theorem point_B (h0 : ¬t.val % 16 = 0) (h1 : ¬t.val % 16 = 15)
    (hp : outsAt0 m c (t.val - 1) (Nat.lt_of_le_of_lt (Nat.sub_le _ _) t.isLt) = Sums A (t.val - 1)) :
    outsAt0 m c t.val t.isLt = Sums A t.val := by
  have hs : t.val - 1 + 1 = (grid0.coords t 0).val := by rw [coord t]; omega
  rw [outsAt0_B m c t h0 h1]
  rw [hp, iblk_0 H, iblk_1 H, iblk_2 H, iblk_3 H, iblk_4 H, iblk_5 H, iblk_6 H, iblk_7 H, iblk_8 H, iblk_9 H, iblk_10 H, iblk_11 H, iblk_12 H, iblk_13 H]
  dsimp only [Sums]
  rw [hs, out14_B, out15_B, out16_B, out17_B, out18_B, out19_B, out20_B, coord t]

theorem point_C (h0 : ¬t.val % 16 = 0) (h1 : t.val % 16 = 15)
    (hp : outsAt0 m c (t.val - 1) (Nat.lt_of_le_of_lt (Nat.sub_le _ _) t.isLt) = Sums A (t.val - 1)) :
    outsAt0 m c t.val t.isLt = ((Sums A t.val).1, (Sums A t.val).2.1, (Sums A t.val).2.2.1,
      c3 (φ := .f32) 8 128 128 (fun h a b => if b / 64 ≤ a / 64 then dw A (2 * (t.val + 1)) h a b else 0),
      c3 (φ := .f32) 8 128 128 (fun h a _ => ∑ l ∈ range 128, db A (2 * (t.val + 1)) h a l),
      (Sums A t.val).2.2.2.2.2.1, (Sums A t.val).2.2.2.2.2.2) := by
  have hs : t.val - 1 + 1 = (grid0.coords t 0).val := by rw [coord t]; omega
  rw [outsAt0_C m c t h0 h1]
  rw [hp, iblk_0 H, iblk_1 H, iblk_2 H, iblk_3 H, iblk_4 H, iblk_5 H, iblk_6 H, iblk_7 H, iblk_8 H, iblk_9 H, iblk_10 H, iblk_11 H, iblk_12 H, iblk_13 H]
  dsimp only [Sums]
  rw [hs, out14_C, out15_C, out16_C, out17_C, out18_C, out19_C, out20_C, coord t]

theorem outs_lt (n : ℕ) (hn : n < cfg0.N) (h : n < 15) : outsAt0 m c n hn = Sums A n := by
  induction n with
  | zero => exact point_A H ⟨0, hn⟩ rfl
  | succ k ih =>
    exact point_B H ⟨k + 1, hn⟩ (by dsimp only; omega) (by dsimp only; omega) (ih (Nat.lt_of_succ_lt hn) (by omega))

/-- After the last point. -/
theorem outs_last (hn : 15 < cfg0.N) : outsAt0 m c 15 hn = ((Sums A 15).1, (Sums A 15).2.1, (Sums A 15).2.2.1,
    c3 (φ := .f32) 8 128 128 (dwm A), c3 (φ := .f32) 8 128 128 (fun h a _ => dbs A h a),
    (Sums A 15).2.2.2.2.2.1, (Sums A 15).2.2.2.2.2.2) :=
  point_C H ⟨15, hn⟩ (by dsimp only; decide) (by dsimp only) (outs_lt H 14 (Nat.lt_of_succ_lt hn) (by decide))

theorem outs_dz (hn : t.val < cfg0.N) : (outsAt0 m c t.val hn).1 = c2 (φ := .bf16) 256 5120 fun a b => dz A (256 * t.val + a) b := by
  have hN : cfg0.N = 16 := N_0
  obtain ⟨n, ht⟩ := t
  dsimp only at hn
  dsimp only
  rcases Nat.lt_or_ge n 15 with h | h
  · rw [outs_lt H n hn h]; rfl
  · obtain rfl : n = 15 := by omega
    rw [outs_last H hn]; rfl

/-! ### The result arrays after the run -/

abbrev pt15 : Fin cfg0.N := ⟨15, by rw [show cfg0.N = 16 from N_0]; decide⟩

theorem final_15 : (dats m 0 c).arrAt 15 cfg0.N = (c2 1 1024 (fun _ b => dlng A 4096 b) : FVec Ideal S1x1024 .f32) := by
  have hN : cfg0.N = 16 := N_0
  refine (dats m 0 c).arrAt_eq_of_cover 15 (c2 1 1024 (fun _ b => dlng A 4096 b) : FVec Ideal S1x1024 .f32) (fun t hf => ?_) fun i => ?_
  · have h15 : t.val = 15 := by have := (flush0_15 t).mp hf; have := t.isLt; omega
    obtain rfl : t = pt15 := Fin.ext h15
    rw [Value.flushed15, show outsAt0 m c pt15.val pt15.isLt = _ from outs_last H pt15.isLt]
    have hz : (fun a => win0_15.index pt15 a * main_v2_1.ty.shape.size a) = fun _ => 0 := funext fun a => by
      fin_cases a <;> exact Nat.zero_mul _
    exact (Memref.read_access_unit_zero (Elt Ideal) main_v2_1 hz (fun a => by rw [congrFun hz a]; simp) _).symm
  · refine ⟨pt15, (flush0_15 _).mpr rfl, ?_⟩
    show i ∈ ((View.whole main_v2_1).slice (win0_15.rect pt15)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 1024) (Nat.zero_mul 1024)).trans (Nat.zero_add _)).symm⟩

theorem final_16 : (dats m 0 c).arrAt 16 cfg0.N = (c2 1 1024 (fun _ b => dlnb A 4096 b) : FVec Ideal S1x1024 .f32) := by
  have hN : cfg0.N = 16 := N_0
  refine (dats m 0 c).arrAt_eq_of_cover 16 (c2 1 1024 (fun _ b => dlnb A 4096 b) : FVec Ideal S1x1024 .f32) (fun t hf => ?_) fun i => ?_
  · have h15 : t.val = 15 := by have := (flush0_16 t).mp hf; have := t.isLt; omega
    obtain rfl : t = pt15 := Fin.ext h15
    rw [Value.flushed16, show outsAt0 m c pt15.val pt15.isLt = _ from outs_last H pt15.isLt]
    have hz : (fun a => win0_16.index pt15 a * main_v2_2.ty.shape.size a) = fun _ => 0 := funext fun a => by
      fin_cases a <;> exact Nat.zero_mul _
    exact (Memref.read_access_unit_zero (Elt Ideal) main_v2_2 hz (fun a => by rw [congrFun hz a]; simp) _).symm
  · refine ⟨pt15, (flush0_16 _).mpr rfl, ?_⟩
    show i ∈ ((View.whole main_v2_2).slice (win0_16.rect pt15)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 1024) (Nat.zero_mul 1024)).trans (Nat.zero_add _)).symm⟩

theorem final_17 : (dats m 0 c).arrAt 17 cfg0.N = (c3 8 128 128 (dwm A) : FVec Ideal S8x128x128 .f32) := by
  have hN : cfg0.N = 16 := N_0
  refine (dats m 0 c).arrAt_eq_of_cover 17 (c3 8 128 128 (dwm A) : FVec Ideal S8x128x128 .f32) (fun t hf => ?_) fun i => ?_
  · have h15 : t.val = 15 := by have := (flush0_17 t).mp hf; have := t.isLt; omega
    obtain rfl : t = pt15 := Fin.ext h15
    rw [Value.flushed17, show outsAt0 m c pt15.val pt15.isLt = _ from outs_last H pt15.isLt]
    have hz : (fun a => win0_17.index pt15 a * main_v2_3.ty.shape.size a) = fun _ => 0 := funext fun a => by
      fin_cases a <;> exact Nat.zero_mul _
    exact (Memref.read_access_unit_zero (Elt Ideal) main_v2_3 hz (fun a => by rw [congrFun hz a]; simp) _).symm
  · refine ⟨pt15, (flush0_17 _).mpr rfl, ?_⟩
    show i ∈ ((View.whole main_v2_3).slice (win0_17.rect pt15)).set
    rw [View.set_slice_whole, Rect.mem_set_unit]
    intro a
    fin_cases a
    · exact ⟨(Nat.zero_mul _).trans_le (Nat.zero_le _), (i 0).isLt.trans_eq ((congrArg (· + 8) (Nat.zero_mul 8)).trans (Nat.zero_add _)).symm⟩
    · exact ⟨(Nat.zero_mul _).trans_le (Nat.zero_le _), (i 1).isLt.trans_eq ((congrArg (· + 128) (Nat.zero_mul 128)).trans (Nat.zero_add _)).symm⟩
    · exact ⟨(Nat.zero_mul _).trans_le (Nat.zero_le _), (i 2).isLt.trans_eq ((congrArg (· + 128) (Nat.zero_mul 128)).trans (Nat.zero_add _)).symm⟩

theorem final_18 : (dats m 0 c).arrAt 18 cfg0.N = (c3 8 128 128 (fun h a _ => dbs A h a) : FVec Ideal S8x128x128 .f32) := by
  have hN : cfg0.N = 16 := N_0
  refine (dats m 0 c).arrAt_eq_of_cover 18 (c3 8 128 128 (fun h a _ => dbs A h a) : FVec Ideal S8x128x128 .f32) (fun t hf => ?_) fun i => ?_
  · have h15 : t.val = 15 := by have := (flush0_18 t).mp hf; have := t.isLt; omega
    obtain rfl : t = pt15 := Fin.ext h15
    rw [Value.flushed18, show outsAt0 m c pt15.val pt15.isLt = _ from outs_last H pt15.isLt]
    have hz : (fun a => win0_18.index pt15 a * main_v2_4.ty.shape.size a) = fun _ => 0 := funext fun a => by
      fin_cases a <;> exact Nat.zero_mul _
    exact (Memref.read_access_unit_zero (Elt Ideal) main_v2_4 hz (fun a => by rw [congrFun hz a]; simp) _).symm
  · refine ⟨pt15, (flush0_18 _).mpr rfl, ?_⟩
    show i ∈ ((View.whole main_v2_4).slice (win0_18.rect pt15)).set
    rw [View.set_slice_whole, Rect.mem_set_unit]
    intro a
    fin_cases a
    · exact ⟨(Nat.zero_mul _).trans_le (Nat.zero_le _), (i 0).isLt.trans_eq ((congrArg (· + 8) (Nat.zero_mul 8)).trans (Nat.zero_add _)).symm⟩
    · exact ⟨(Nat.zero_mul _).trans_le (Nat.zero_le _), (i 1).isLt.trans_eq ((congrArg (· + 128) (Nat.zero_mul 128)).trans (Nat.zero_add _)).symm⟩
    · exact ⟨(Nat.zero_mul _).trans_le (Nat.zero_le _), (i 2).isLt.trans_eq ((congrArg (· + 128) (Nat.zero_mul 128)).trans (Nat.zero_add _)).symm⟩

theorem final_19 : (dats m 0 c).arrAt 19 cfg0.N = (c2 8 1024 (dcw A 4096) : FVec Ideal S8x1024 .f32) := by
  have hN : cfg0.N = 16 := N_0
  refine (dats m 0 c).arrAt_eq_of_cover 19 (c2 8 1024 (dcw A 4096) : FVec Ideal S8x1024 .f32) (fun t hf => ?_) fun i => ?_
  · have h15 : t.val = 15 := by have := (flush0_19 t).mp hf; have := t.isLt; omega
    obtain rfl : t = pt15 := Fin.ext h15
    rw [Value.flushed19, show outsAt0 m c pt15.val pt15.isLt = _ from outs_last H pt15.isLt]
    have hz : (fun a => win0_19.index pt15 a * main_v2_5.ty.shape.size a) = fun _ => 0 := funext fun a => by
      fin_cases a <;> exact Nat.zero_mul _
    exact (Memref.read_access_unit_zero (Elt Ideal) main_v2_5 hz (fun a => by rw [congrFun hz a]; simp) _).symm
  · refine ⟨pt15, (flush0_19 _).mpr rfl, ?_⟩
    show i ∈ ((View.whole main_v2_5).slice (win0_19.rect pt15)).set
    rw [View.set_slice_whole, Rect.mem_set_unit]
    intro a
    fin_cases a
    · exact ⟨(Nat.zero_mul _).trans_le (Nat.zero_le _), (i 0).isLt.trans_eq ((congrArg (· + 8) (Nat.zero_mul 8)).trans (Nat.zero_add _)).symm⟩
    · exact ⟨(Nat.zero_mul _).trans_le (Nat.zero_le _), (i 1).isLt.trans_eq ((congrArg (· + 1024) (Nat.zero_mul 1024)).trans (Nat.zero_add _)).symm⟩

theorem final_20 : (dats m 0 c).arrAt 20 cfg0.N = (c2 1 2048 (fun _ b => dgg A 4096 b) : FVec Ideal S1x2048 .f32) := by
  have hN : cfg0.N = 16 := N_0
  refine (dats m 0 c).arrAt_eq_of_cover 20 (c2 1 2048 (fun _ b => dgg A 4096 b) : FVec Ideal S1x2048 .f32) (fun t hf => ?_) fun i => ?_
  · have h15 : t.val = 15 := by have := (flush0_20 t).mp hf; have := t.isLt; omega
    obtain rfl : t = pt15 := Fin.ext h15
    rw [Value.flushed20, show outsAt0 m c pt15.val pt15.isLt = _ from outs_last H pt15.isLt]
    have hz : (fun a => win0_20.index pt15 a * main_v2_6.ty.shape.size a) = fun _ => 0 := funext fun a => by
      fin_cases a <;> exact Nat.zero_mul _
    exact (Memref.read_access_unit_zero (Elt Ideal) main_v2_6 hz (fun a => by rw [congrFun hz a]; simp) _).symm
  · refine ⟨pt15, (flush0_20 _).mpr rfl, ?_⟩
    show i ∈ ((View.whole main_v2_6).slice (win0_20.rect pt15)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 2048) (Nat.zero_mul 2048)).trans (Nat.zero_add _)).symm⟩

theorem final_14 : (dats m 0 c).arrAt 14 cfg0.N = (c2 4096 5120 (dz A) : FVec Ideal S4096x5120 .bf16) := by
  have hN : cfg0.N = 16 := N_0
  have hi : ∀ t : Fin cfg0.N, win0_14.index t 0 = t.val ∧ win0_14.index t 1 = 0 :=
    (by decide +kernel : ∀ t : Fin grid0.N, win0_14.index t 0 = t.val ∧ win0_14.index t 1 = 0)
  refine (dats m 0 c).arrAt_eq_of_cover 14 (c2 4096 5120 (dz A) : FVec Ideal S4096x5120 .bf16) (fun t hf => ?_) fun i => ?_
  · rw [Value.flushed14, outs_dz H]
    funext j
    rw [View.read_apply]
    refine congrArg Real.toEReal (congrArg₂ (dz A) ?_ ?_)
    · show 256 * t.val + (j 0).val = win0_14.index t 0 * 256 + 1 * (j 0).val
      rw [(hi t).1]; omega
    · show (j 1).val = win0_14.index t 1 * 5120 + 1 * (j 1).val
      rw [(hi t).2]; omega
  · have h0 : (i 0 : ℕ) < 4096 := (i 0).isLt
    have h1 : (i 1 : ℕ) < 5120 := (i 1).isLt
    have ht : (i 0).val / 256 < cfg0.N := by omega
    refine ⟨⟨(i 0).val / 256, ht⟩, flush0_14 _, ?_⟩
    show i ∈ ((View.whole main_v2_0).slice (win0_14.rect ⟨(i 0).val / 256, ht⟩)).set
    rw [View.set_slice_whole, Rect.mem_set_unit]
    intro a
    fin_cases a
    · show win0_14.index ⟨(i 0).val / 256, ht⟩ 0 * 256 ≤ (i 0).val ∧ (i 0).val < win0_14.index ⟨(i 0).val / 256, ht⟩ 0 * 256 + 256
      rw [(hi _).1]; dsimp only; omega
    · show win0_14.index ⟨(i 0).val / 256, ht⟩ 1 * 5120 ≤ (i 1).val ∧ (i 1).val < win0_14.index ⟨(i 0).val / 256, ht⟩ 1 * 5120 + 5120
      rw [(hi _).2]; omega

end Cert.KernelIdeal.Gen

end
-- ==== Proof.Host.lean ====
/- The host operations on lifted vectors, and the literals. -/
module

public import proofs.«01_k».proof.Proof.Spec
public import Idealize.ShloMosaic.Lib.KernelVsHost
public import Idealize.ShloMosaic.Lib.TwoAxisContraction

@[expose] public section

noncomputable section

namespace Cert.Coe

open Idealize.ShloMosaic Finset

variable {φ ψ : FTy} {m n p q : ℕ}

theorem addf_c4 (f g : ℕ → ℕ → ℕ → ℕ → ℝ) :
    addf (c4 m n p q f : FVec Ideal _ φ) (c4 m n p q g) = c4 m n p q fun a b c d => f a b c d + g a b c d :=
  funext fun _ => (EReal.coe_add _ _).symm
theorem hdiv_c2 (f g : ℕ → ℕ → ℝ) (h : ∀ a b, g a b ≠ 0) :
    Host.divf (c2 m n f : FVec Ideal _ φ) (c2 m n g) = c2 m n fun a b => f a b / g a b := funext fun _ => div_coe_coe _ _ (h _ _)
theorem htanh_c2 (f : ℕ → ℕ → ℝ) : Host.tanh (c2 m n f : FVec Ideal _ φ) = c2 m n fun a b => Real.tanh (f a b) :=
  funext fun _ => Ideal.tanh_coe _
theorem hrsqrt_c2 (f : ℕ → ℕ → ℝ) (h : ∀ a b, 0 < f a b) :
    Host.rsqrt (c2 m n f : FVec Ideal _ φ) = c2 m n fun a b => (√(f a b))⁻¹ := funext fun _ => rsqrt_pos (h _ _)
theorem hneg_c2 (f : ℕ → ℕ → ℝ) : Host.negf (c2 m n f : FVec Ideal _ φ) = c2 m n fun a b => -f a b :=
  funext fun _ => (EReal.coe_neg _).symm

/-! ### Shapes -/

theorem cast_flat (f : ℕ → ℕ → ℝ) (h : (⟨2, ![1, n]⟩ : Shape).ShapeCasts ⟨1, ![n]⟩) :
    shapeCast ⟨1, ![n]⟩ (c2 1 n f : FVec Ideal _ φ) h = c1 n fun b => f 0 b :=
  ext1 fun b => (shapeCast_apply _ h _ (ix2 0 b) (by rw [Shape.rowMajor_val_one, Shape.rowMajor_val_two]; simp)).trans rfl
/-- 4096 rows of 1024 as 32 blocks of 128 rows of 8 heads of 128 lanes, and back. -/
theorem cast_split (f : ℕ → ℕ → ℝ) (h : (⟨2, ![4096, 1024]⟩ : Shape).ShapeCasts ⟨4, ![32, 128, 8, 128]⟩) :
    shapeCast ⟨4, ![32, 128, 8, 128]⟩ (c2 4096 1024 f : FVec Ideal _ φ) h
    = c4 32 128 8 128 fun B i h l => f (128 * B + i) (128 * h + l) :=
  ext4 fun B i k l => (shapeCast_apply _ h _
    (ix2 ⟨128 * B.val + i.val, by have := B.isLt; have := i.isLt; omega⟩ ⟨128 * k.val + l.val, by have := k.isLt; have := l.isLt; omega⟩)
    (by rw [Shape.rowMajor_val_two, Shape.rowMajor_val_four]
        show (128 * B.val + i.val) * 1024 + (128 * k.val + l.val) = ((B.val * 128 + i.val) * 8 + k.val) * 128 + l.val
        omega)).trans rfl
theorem cast_join (f : ℕ → ℕ → ℕ → ℕ → ℝ) (h : (⟨4, ![32, 128, 8, 128]⟩ : Shape).ShapeCasts ⟨2, ![4096, 1024]⟩) :
    shapeCast ⟨2, ![4096, 1024]⟩ (c4 32 128 8 128 f : FVec Ideal _ φ) h
    = c2 4096 1024 fun r c => f (r / 128) (r % 128) (c / 128) (c % 128) :=
  ext2 fun r c => (shapeCast_apply _ h _
    (ix4 ⟨r.val / 128, by have := r.isLt; omega⟩ ⟨r.val % 128, by omega⟩ ⟨c.val / 128, by have := c.isLt; omega⟩ ⟨c.val % 128, by omega⟩)
    (by rw [Shape.rowMajor_val_two, Shape.rowMajor_val_four]
        show ((r.val / 128 * 128 + r.val % 128) * 8 + c.val / 128) * 128 + c.val % 128 = r.val * 1024 + c.val
        omega)).trans rfl
theorem cast_wrap (f : ℕ → ℕ → ℝ) (h : (⟨2, ![m, n]⟩ : Shape).ShapeCasts ⟨4, ![1, m, n, 1]⟩) :
    shapeCast ⟨4, ![1, m, n, 1]⟩ (c2 m n f : FVec Ideal _ φ) h = c4 1 m n 1 fun _ a b _ => f a b :=
  ext4 fun z a b y => (shapeCast_apply _ h _ (ix2 a b) (by
    rw [Shape.rowMajor_val_two, Shape.rowMajor_val_four]
    have := z.isLt; have := y.isLt
    show a.val * n + b.val = ((z.val * m + a.val) * n + b.val) * 1 + y.val
    have : z.val = 0 := by omega
    rw [this]; simp)).trans rfl

/-- Zeros around the columns, and around the rows. -/
theorem pad_cols (o e N : ℕ) (f : ℕ → ℕ → ℝ) {z : FVec Ideal ⟨0, ![]⟩ φ} (hu) (hz : z (Shape.Idx.first hu) = ((0 : ℝ) : EReal))
    (h : (⟨2, ![m, n]⟩ : Shape).Pads ![0, o] ![0, e] ![0, 0] ⟨2, ![m, N]⟩) :
    pad ⟨2, ![m, N]⟩ ![0, o] ![0, e] ![0, 0] (c2 m n f : FVec Ideal _ φ) z h hu
    = c2 m N fun a b => if o ≤ b ∧ b < o + n then f a (b - o) else 0 :=
  ext2 fun a b => by
    by_cases hb : o ≤ b.val ∧ b.val < o + n
    · refine (pad_apply_of_inside _ _ _ _ _ h hu _ (ix2 a ⟨b.val - o, by omega⟩) (fun k => ?_)).trans ?_
      · match k with
        | ⟨0, _⟩ => show a.val = 0 + a.val * (0 + 1); omega
        | ⟨1, _⟩ => show b.val = o + (b.val - o) * (0 + 1); omega
      · exact congrArg Real.toEReal (if_pos hb).symm
    · refine (pad_apply_of_not_inside _ _ _ _ _ h hu _ 1 ?_).trans (hz.trans (congrArg Real.toEReal (if_neg hb).symm))
      show ¬(o ≤ b.val ∧ (b.val - o) % (0 + 1) = 0 ∧ (b.val - o) / (0 + 1) < n)
      rw [Nat.zero_add, Nat.div_one]; omega
theorem pad_rows (o e M : ℕ) (f : ℕ → ℕ → ℝ) {z : FVec Ideal ⟨0, ![]⟩ φ} (hu) (hz : z (Shape.Idx.first hu) = ((0 : ℝ) : EReal))
    (h : (⟨2, ![m, n]⟩ : Shape).Pads ![o, 0] ![e, 0] ![0, 0] ⟨2, ![M, n]⟩) :
    pad ⟨2, ![M, n]⟩ ![o, 0] ![e, 0] ![0, 0] (c2 m n f : FVec Ideal _ φ) z h hu
    = c2 M n fun a b => if o ≤ a ∧ a < o + m then f (a - o) b else 0 :=
  ext2 fun a b => by
    by_cases hb : o ≤ a.val ∧ a.val < o + m
    · refine (pad_apply_of_inside _ _ _ _ _ h hu _ (ix2 ⟨a.val - o, by omega⟩ b) (fun k => ?_)).trans ?_
      · match k with
        | ⟨0, _⟩ => show a.val = o + (a.val - o) * (0 + 1); omega
        | ⟨1, _⟩ => show b.val = 0 + b.val * (0 + 1); omega
      · exact congrArg Real.toEReal (if_pos hb).symm
    · refine (pad_apply_of_not_inside _ _ _ _ _ h hu _ 0 ?_).trans (hz.trans (congrArg Real.toEReal (if_neg hb).symm))
      show ¬(o ≤ a.val ∧ (a.val - o) % (0 + 1) = 0 ∧ (a.val - o) / (0 + 1) < m)
      rw [Nat.zero_add, Nat.div_one]; omega
/-- One block of rows above another. -/
theorem concat_rows {M : ℕ} (hM : M = m + p) (f g : ℕ → ℕ → ℝ) (h : Shape.Concatenates [⟨2, ![m, n]⟩, ⟨2, ![p, n]⟩] ⟨2, ![M, n]⟩ 0) :
    concatenate ⟨2, ![M, n]⟩ 0 [⟨⟨2, ![m, n]⟩, (c2 m n f : FVec Ideal _ φ)⟩, ⟨⟨2, ![p, n]⟩, (c2 p n g : FVec Ideal _ φ)⟩] h
    = (c2 M n fun a b => if a < m then f a b else g (a - m) b : FVec Ideal _ φ) :=
  ext2 fun a b => by
    by_cases ha : a.val < m
    · refine (concatenate_pair_apply_left 0 _ _ h _ rfl (ix2 ⟨a.val, ha⟩ b) (fun k => ?_)).trans (congrArg Real.toEReal (if_pos ha).symm)
      match k with
      | ⟨0, _⟩ => rfl
      | ⟨1, _⟩ => rfl
    · have := a.isLt
      refine (concatenate_pair_apply_right 0 _ _ h _ rfl rfl (ix2 ⟨a.val - m, by omega⟩ b) (fun k hk => ?_) ?_).trans
        (congrArg Real.toEReal (if_neg ha).symm)
      · match k with
        | ⟨0, _⟩ => exact absurd rfl hk
        | ⟨1, _⟩ => rfl
      · show a.val - m + m = a.val; omega

/-! ### Sums and products -/

theorem red {x : EReal} {f : Fin n → EReal} (g : ℕ → ℝ) (hx : x = ((0 : ℝ) : EReal)) (h : ∀ k : Fin n, f k = ((g k.val : ℝ) : EReal)) :
    x + ∑ k : Fin n, f k = ((∑ k ∈ range n, g k : ℝ) : EReal) := by
  rw [hx, EReal.coe_zero, zero_add, sum_congr rfl fun k _ => h k, sum_fin_coe]
theorem dot {f f' : Fin n → EReal} (g g' : ℕ → ℝ) (h : ∀ k : Fin n, f k = ((g k.val : ℝ) : EReal))
    (h' : ∀ k : Fin n, f' k = ((g' k.val : ℝ) : EReal)) :
    ∑ k : Fin n, f k * f' k = ((∑ k ∈ range n, g k * g' k : ℝ) : EReal) := by
  rw [← sum_fin_coe n fun k => g k * g' k]
  exact sum_congr rfl fun k _ => by rw [h, h', EReal.coe_mul]

/-- The sum over the first and the last axis. -/
theorem reduce_outer (f : ℕ → ℕ → ℕ → ℕ → ℝ) {z : FVec Ideal ⟨0, ![]⟩ φ} (hu) (hz : z (Shape.Idx.first hu) = ((0 : ℝ) : EReal))
    (h : (⟨4, ![m, n, p, q]⟩ : Shape).ReducesTo [0, 3] ⟨2, ![n, p]⟩) :
    Host.reduceAdd (c4 m n p q f : FVec Ideal _ φ) z h hu = c2 n p fun a b => ∑ x ∈ range m, ∑ y ∈ range q, f x a b y := by
  funext j
  simp only [Host.reduceAdd, Ideal.hostReduceAdd_def]
  unfold Ideal.hostReduceAdd
  rw [hz, EReal.coe_zero, zero_add, sum_filter, sum_idx4]
  have key : ∀ (a : Fin m) (b : Fin n) (c : Fin p) (e : Fin q), h.drop (ix4 a b c e) = j ↔ b = j 0 ∧ c = j 1 := fun a b c e => by
    constructor
    · rintro rfl; exact ⟨rfl, rfl⟩
    · rintro ⟨rfl, rfl⟩
      funext k
      match k with
      | ⟨0, _⟩ => rfl
      | ⟨1, _⟩ => rfl
  refine Eq.trans (sum_congr rfl fun a _ => ?_) (sum_fin_coe m fun x => ∑ y ∈ range q, f x (j 0).val (j 1).val y)
  refine (sum_eq_single_of_mem (j 0 : Fin n) (mem_univ _) fun b _ hb => sum_eq_zero fun c _ => sum_eq_zero fun e _ =>
    if_neg fun h => hb ((key _ _ _ _).1 h).1).trans ?_
  refine (sum_eq_single_of_mem (j 1 : Fin p) (mem_univ _) fun c _ hc => sum_eq_zero fun e _ =>
    if_neg fun h => hc ((key _ _ _ _).1 h).2).trans ?_
  refine Eq.trans (sum_congr rfl fun e _ => ?_) (sum_fin_coe q fun y => f a.val (j 0).val (j 1).val y)
  exact if_pos ((key _ _ _ _).2 ⟨rfl, rfl⟩)

/-! ### Literals -/

open Cert.Spec

theorem lit_zero : (FloatOps.ofBits .f32 0x00000000#32 : Ideal .f32) = ((0 : ℝ) : EReal) := by
  show Ideal.ofBits _ _ = _; simp [Ideal.ofBits, Ideal.ieee]
theorem lit_one : (FloatOps.ofBits .f32 0x3F800000#32 : Ideal .f32) = ((1 : ℝ) : EReal) := by
  show Ideal.ofBits _ _ = _; simp [Ideal.ofBits, Ideal.ieee, -EReal.coe_mul]; norm_num
theorem lit_three : (FloatOps.ofBits .f32 0x40400000#32 : Ideal .f32) = ((3 : ℝ) : EReal) := by
  show Ideal.ofBits _ _ = _; simp [Ideal.ofBits, Ideal.ieee, -EReal.coe_mul]; norm_num
theorem lit_half : (FloatOps.ofBits .f32 0x3F000000#32 : Ideal .f32) = ((1 / 2 : ℝ) : EReal) := by
  show Ideal.ofBits _ _ = _; simp [Ideal.ofBits, Ideal.ieee, -EReal.coe_mul]; norm_num
theorem lit_mhalf : (FloatOps.ofBits .f32 0xBF000000#32 : Ideal .f32) = ((-(1 / 2) : ℝ) : EReal) := by
  show Ideal.ofBits _ _ = _; simp [Ideal.ofBits, Ideal.ieee, -EReal.coe_mul]; norm_num
theorem lit_1024 : (FloatOps.ofBits .f32 0x44800000#32 : Ideal .f32) = ((1024 : ℝ) : EReal) := by
  show Ideal.ofBits _ _ = _; simp [Ideal.ofBits, Ideal.ieee, -EReal.coe_mul]; norm_num
theorem lit_gC : (FloatOps.ofBits .f32 0x3F4C422A#32 : Ideal .f32) = ((gC : ℝ) : EReal) := by
  show Ideal.ofBits _ _ = _; simp [Ideal.ofBits, Ideal.ieee, -EReal.coe_mul, gC]; norm_num
theorem lit_e6 : (FloatOps.ofBits .f32 0x358637BD#32 : Ideal .f32) = ((e6 : ℝ) : EReal) := by
  show Ideal.ofBits _ _ = _; simp [Ideal.ofBits, Ideal.ieee, -EReal.coe_mul, e6]; norm_num
theorem lit_e5 : (FloatOps.ofBits .f32 0x3727C5AC#32 : Ideal .f32) = ((e5 : ℝ) : EReal) := by
  show Ideal.ofBits _ _ = _; simp [Ideal.ofBits, Ideal.ieee, -EReal.coe_mul, e5]; norm_num
/-- The quotient 44715 / 1000000 is the named constant's value. -/
theorem lit_gA : FloatOps.hostDivf (FloatOps.ofBits .f32 0x472EAB00#32 : Ideal .f32) (FloatOps.ofBits .f32 0x49742400#32)
    = ((gA : ℝ) : EReal) := by
  have h1 : (FloatOps.ofBits .f32 0x472EAB00#32 : Ideal .f32) = ((44715 : ℝ) : EReal) := by
    show Ideal.ofBits _ _ = _; simp [Ideal.ofBits, Ideal.ieee, -EReal.coe_mul]; norm_num
  have h2 : (FloatOps.ofBits .f32 0x49742400#32 : Ideal .f32) = ((1000000 : ℝ) : EReal) := by
    show Ideal.ofBits _ _ = _; simp [Ideal.ofBits, Ideal.ieee, -EReal.coe_mul]; norm_num
  rw [h1, h2]
  exact (div_coe_coe _ _ (by norm_num)).trans (congrArg _ (by norm_num [gA]))

end Cert.Coe

end
-- ==== Proof.Vjp.lean ====
/- The reference's backward passes of the two norms and of the GELU, over the real numbers, are the ones the kernel computes. -/
module

public import proofs.«01_k».proof.Proof.Spec

@[expose] public section

noncomputable section

namespace Cert.Spec

open Finset

/-- The derivative of the reciprocal root is minus half its cube. -/
theorem rinv_div {e : ℝ} (he : 0 < e) (y : ℕ → ℝ) : rinv e y / (mean (fun c => y c * y c) + e) = rinv e y ^ 3 := by
  have h := rinv_arg_pos he y
  have hs : √(mean (fun c => y c * y c) + e) ^ 2 = mean (fun c => y c * y c) + e := Real.sq_sqrt h.le
  have h0 : √(mean (fun c => y c * y c) + e) ≠ 0 := (Real.sqrt_pos.2 h).ne'
  unfold rinv
  generalize √(mean (fun c => y c * y c) + e) = s at *
  rw [← hs]
  field_simp

theorem mean_mul (f : ℕ → ℝ) (k : ℝ) : (mean fun c => f c * k) = mean f * k := by
  unfold mean; rw [← sum_mul]; ring

theorem rms_vjp (y g : ℕ → ℝ) (c : ℕ) :
    g c * rinv e6 y + y c * ((∑ k ∈ range 1024, y k * g k) * (-(1 / 2) * rinv e6 y ^ 3) / 1024)
      + (∑ k ∈ range 1024, y k * g k) * (-(1 / 2) * rinv e6 y ^ 3) / 1024 * y c = rmsBack y g c := by
  have h : (mean fun k => g k * (y k * rinv e6 y)) = (∑ k ∈ range 1024, y k * g k) / 1024 * rinv e6 y := by
    rw [show (fun k => g k * (y k * rinv e6 y)) = fun k => y k * g k * rinv e6 y from funext fun _ => by ring, mean_mul]; rfl
  unfold rmsBack
  rw [h]; ring

variable (A : Args)

theorem sum_vc (r : ℕ) : ∑ c ∈ range 1024, vc A r c = 0 := by
  unfold vc mean
  rw [sum_sub_distrib, sum_const, card_range]
  simp; ring

theorem ln_vjp (r c : ℕ) (X : ℕ → ℝ)
    (hX : ∀ k, X k = dvh A r k * rs A r + vc A r k * ((∑ k ∈ range 1024, vc A r k * dvh A r k) * (-(1 / 2) * rs A r ^ 3) / 1024)
      + (∑ k ∈ range 1024, vc A r k * dvh A r k) * (-(1 / 2) * rs A r ^ 3) / 1024 * vc A r k) :
    X c + (∑ k ∈ range 1024, -X k) / 1024 = dv A r c := by
  have h1 : (mean fun k => dvh A r k * vhat A r k) = (∑ k ∈ range 1024, vc A r k * dvh A r k) / 1024 * rs A r := by
    rw [show (fun k => dvh A r k * vhat A r k) = fun k => vc A r k * dvh A r k * rs A r from funext fun _ => by unfold vhat; ring,
      mean_mul]; rfl
  have h2 : ∑ k ∈ range 1024, -X k = -(mean (dvh A r) * 1024 * rs A r) := by
    rw [sum_neg_distrib, sum_congr rfl fun k _ => hX k]
    generalize (∑ k ∈ range 1024, vc A r k * dvh A r k) * (-(1 / 2) * rs A r ^ 3) / 1024 = K
    rw [sum_add_distrib, sum_add_distrib, ← sum_mul, ← sum_mul, ← mul_sum, sum_vc]
    unfold mean; ring
  unfold dv
  rw [h1, h2, hX]; unfold vhat; ring

/-- The derivative of the GELU, times the gradient. -/
theorem gelu_vjp (x d : ℝ) :
    d * (1 / 2 * (1 + th x)) + gC * (1 / 2 * (x * d) * ((1 + th x) * (1 - th x)))
      + gA * (gC * (1 / 2 * (x * d) * ((1 + th x) * (1 - th x)))) * (3 * (x * x)) = d * gelu' x := by
  unfold gelu'
  rw [show (26829 / 200000 : ℝ) = 3 * gA by norm_num [gA]]; ring

end Cert.Spec

end
-- ==== Proof.RefFwd.lean ====
/- The reference's forward values at lifted arguments, one operation at a time. -/
module

public import proofs.«01_k».proof.Proof.Gen.ReferenceIdeal.Read
public import proofs.«01_k».proof.Proof.Host
public import proofs.«01_k».proof.Proof.Vjp

@[expose] public section

noncomputable section

namespace Cert.ReferenceIdeal.Lifted

open Cert.ReferenceIdeal Cert.ReferenceIdeal.Gen Cert.ReferenceIdeal.Read Idealize.ShloMosaic Idealize.ShloMosaic.TcCoe
open Cert.Coe Cert.Spec Finset

/-- The arguments, lifted. -/
abbrev X0 (A : Args) : FVec Ideal S4096x5120 .bf16 := c2 4096 5120 A.z
abbrev X1 (A : Args) : FVec Ideal S4096x2048 .bf16 := c2 4096 2048 A.dy
abbrev X2 (A : Args) : FVec Ideal S1x1024 .f32 := c2 1 1024 fun _ c => A.lng c
abbrev X3 (A : Args) : FVec Ideal S1x1024 .f32 := c2 1 1024 fun _ c => A.lnb c
abbrev X4 (A : Args) : FVec Ideal S8x128x128 .f32 := c3 8 128 128 A.w
abbrev X5 (A : Args) : FVec Ideal S8x128 .f32 := c2 8 128 A.b
abbrev X6 (A : Args) : FVec Ideal S3x1024 .f32 := c2 3 1024 A.cw
abbrev X7 (A : Args) : FVec Ideal S1x2048 .f32 := c2 1 2048 fun _ c => A.gg c

/-- The mask over 64-blocks. -/
theorem mask (i : S8x128x128.Idx) : val_main_v59 (F := Ideal) i = 1#1 ↔ (i 2).val / 64 ≤ (i 1).val / 64 := by
  have hd : ∀ a : Fin 128, IntOp.divsi .host (BitVec.ofNat 32 a.val) 64#32 = BitVec.ofNat 32 (a.val / 64) := by decide
  have hc : ∀ x y : Fin 2, IntOp.cmpi .sle (BitVec.ofNat 32 x.val) (BitVec.ofNat 32 y.val) = 1#1 ↔ x.val ≤ y.val := by decide
  have h1 : (i 1).val < 128 := (i 1).isLt
  have h2 : (i 2).val < 128 := (i 2).isLt
  rw [val_main_v59_apply, val_main_v56_apply, val_main_v58_apply, val_main_v53_apply, val_main_v54_apply, val_main_v55_apply,
    val_main_v57_apply, val_main_c_apply, val_main_c_13_apply, hd ⟨(i 1).val, h1⟩, hd ⟨(i 2).val, h2⟩]
  exact hc ⟨(i 2).val / 64, by omega⟩ ⟨(i 1).val / 64, by omega⟩
theorem sel (i : S8x128x128.Idx) (f : ℕ → ℕ → ℕ → ℝ) {x y : EReal} (hx : x = ((f (i 0).val (i 1).val (i 2).val : ℝ) : EReal))
    (hy : y = ((0 : ℝ) : EReal)) :
    (Scalar.select (val_main_v59 (F := Ideal) i) x y : EReal)
    = (((if (i 2).val / 64 ≤ (i 1).val / 64 then f (i 0).val (i 1).val (i 2).val else 0 : ℝ)) : EReal) := by
  rw [hx, hy]
  show (if _ = 1#1 then _ else _) = _
  by_cases h : (i 2).val / 64 ≤ (i 1).val / 64
  · rw [if_pos ((mask i).2 h), if_pos h]
  · rw [if_neg (mt (mask i).1 h), if_neg h]

theorem v0 (A : Args) : val_main_v0 (F := Ideal) (X0 A) =
    (c2 4096 5120 fun r c => A.z r c : FVec Ideal S4096x5120 .f32) := by
  unfold val_main_v0
  rfl
theorem v1 (A : Args) : val_main_v1 (F := Ideal) (X0 A) =
    (c2 4096 2048 fun r c => A.z r c : FVec Ideal S4096x2048 .f32) := by
  funext i
  rw [val_main_v1_apply, v0 A]
  rfl
theorem v3 (A : Args) : val_main_v3 (F := Ideal) (X0 A) =
    (c2 4096 2048 fun r c => (A.z r c) * (A.z r c) : FVec Ideal S4096x2048 .f32) := by
  unfold val_main_v3
  rw [v1 A]
  exact mulf_c2 _ _
theorem v4 (A : Args) : val_main_v4 (F := Ideal) (X0 A) =
    (c2 4096 2048 fun r c => ((A.z r c) * (A.z r c)) * (A.z r c) : FVec Ideal S4096x2048 .f32) := by
  unfold val_main_v4
  rw [v3 A, v1 A]
  exact mulf_c2 _ _
theorem v5 (A : Args) : val_main_v5 (F := Ideal) (X0 A) =
    (c2 4096 2048 fun r c => (A.z r c) * (A.z r c) : FVec Ideal S4096x2048 .f32) := by
  unfold val_main_v5
  rw [v1 A]
  exact mulf_c2 _ _
theorem v6 : val_main_v6 (F := Ideal) =
    (c2 4096 2048 fun _ _ => 3 : FVec Ideal S4096x2048 .f32) := by
  funext i
  rw [val_main_v6_apply]
  exact lit_three
theorem v7 (A : Args) : val_main_v7 (F := Ideal) (X0 A) =
    (c2 4096 2048 fun r c => 3 * ((A.z r c) * (A.z r c)) : FVec Ideal S4096x2048 .f32) := by
  unfold val_main_v7
  rw [v6, v5 A]
  exact mulf_c2 _ _
theorem v8 : val_main_v8 (F := Ideal) =
    (c2 4096 2048 fun _ _ => gA : FVec Ideal S4096x2048 .f32) := by
  funext i
  rw [val_main_v8_apply]
  exact lit_gA
theorem v9 (A : Args) : val_main_v9 (F := Ideal) (X0 A) =
    (c2 4096 2048 fun r c => gA * (((A.z r c) * (A.z r c)) * (A.z r c)) : FVec Ideal S4096x2048 .f32) := by
  unfold val_main_v9
  rw [v8, v4 A]
  exact mulf_c2 _ _
theorem v10 (A : Args) : val_main_v10 (F := Ideal) (X0 A) =
    (c2 4096 2048 fun r c => (A.z r c) + (gA * (((A.z r c) * (A.z r c)) * (A.z r c))) : FVec Ideal S4096x2048 .f32) := by
  unfold val_main_v10
  rw [v1 A, v9 A]
  exact addf_c2 _ _
theorem v11 : val_main_v11 (F := Ideal) =
    (c2 4096 2048 fun _ _ => gC : FVec Ideal S4096x2048 .f32) := by
  funext i
  rw [val_main_v11_apply]
  exact lit_gC
theorem v12 (A : Args) : val_main_v12 (F := Ideal) (X0 A) =
    (c2 4096 2048 fun r c => gC * ((A.z r c) + (gA * (((A.z r c) * (A.z r c)) * (A.z r c)))) : FVec Ideal S4096x2048 .f32) := by
  unfold val_main_v12
  rw [v11, v10 A]
  exact mulf_c2 _ _
theorem v13 (A : Args) : val_main_v13 (F := Ideal) (X0 A) =
    (c2 4096 2048 fun r c => th (A.z r c) : FVec Ideal S4096x2048 .f32) := by
  unfold val_main_v13
  rw [v12 A]
  refine (htanh_c2 _).trans (c2_congr fun r hr c hc => ?_)
  show (Real.tanh (gC * ((A.z r c) + (gA * (((A.z r c) * (A.z r c)) * (A.z r c)))))) = (th (A.z r c))
  unfold th; congr 1; ring
theorem v14 : val_main_v14 (F := Ideal) =
    (c2 4096 2048 fun _ _ => 1 : FVec Ideal S4096x2048 .f32) := by
  funext i
  rw [val_main_v14_apply]
  exact lit_one
theorem v15 (A : Args) : val_main_v15 (F := Ideal) (X0 A) =
    (c2 4096 2048 fun r c => 1 + (th (A.z r c)) : FVec Ideal S4096x2048 .f32) := by
  unfold val_main_v15
  rw [v14, v13 A]
  exact addf_c2 _ _
theorem v16 : val_main_v16 (F := Ideal) =
    (c2 4096 2048 fun _ _ => 1 : FVec Ideal S4096x2048 .f32) := by
  funext i
  rw [val_main_v16_apply]
  exact lit_one
theorem v17 (A : Args) : val_main_v17 (F := Ideal) (X0 A) =
    (c2 4096 2048 fun r c => 1 - (th (A.z r c)) : FVec Ideal S4096x2048 .f32) := by
  unfold val_main_v17
  rw [v16, v13 A]
  exact subf_c2 _ _
theorem v18 (A : Args) : val_main_v18 (F := Ideal) (X0 A) =
    (c2 4096 2048 fun r c => (1 + (th (A.z r c))) * (1 - (th (A.z r c))) : FVec Ideal S4096x2048 .f32) := by
  unfold val_main_v18
  rw [v15 A, v17 A]
  exact mulf_c2 _ _
theorem v19 : val_main_v19 (F := Ideal) =
    (c2 4096 2048 fun _ _ => 1 : FVec Ideal S4096x2048 .f32) := by
  funext i
  rw [val_main_v19_apply]
  exact lit_one
theorem v20 (A : Args) : val_main_v20 (F := Ideal) (X0 A) =
    (c2 4096 2048 fun r c => 1 + (th (A.z r c)) : FVec Ideal S4096x2048 .f32) := by
  unfold val_main_v20
  rw [v19, v13 A]
  exact addf_c2 _ _
theorem v21 : val_main_v21 (F := Ideal) =
    (c2 4096 2048 fun _ _ => (1 / 2) : FVec Ideal S4096x2048 .f32) := by
  funext i
  rw [val_main_v21_apply]
  exact lit_half
theorem v22 (A : Args) : val_main_v22 (F := Ideal) (X0 A) =
    (c2 4096 2048 fun r c => (1 / 2) * (1 + (th (A.z r c))) : FVec Ideal S4096x2048 .f32) := by
  unfold val_main_v22
  rw [v21, v20 A]
  exact mulf_c2 _ _
theorem v23 (A : Args) : val_main_v23 (F := Ideal) (X0 A) =
    (c2 4096 2048 fun r c => gelu (A.z r c) : FVec Ideal S4096x2048 .f32) := by
  unfold val_main_v23
  rw [v1 A, v22 A]
  refine (mulf_c2 _ _).trans (c2_congr fun r hr c hc => ?_)
  show ((A.z r c) * ((1 / 2) * (1 + (th (A.z r c))))) = (gelu (A.z r c))
  unfold gelu; ring
theorem v24 (A : Args) : val_main_v24 (F := Ideal) (X0 A) =
    (c2 4096 1024 fun r c => u A r c : FVec Ideal S4096x1024 .f32) := by
  funext i
  rw [val_main_v24_apply, v23 A]
  rfl
theorem v25 (A : Args) : val_main_v25 (F := Ideal) (X0 A) =
    (c2 4096 1024 fun r c => v A r c : FVec Ideal S4096x1024 .f32) := by
  funext i
  rw [val_main_v25_apply, v23 A]
  rfl
theorem v26 (A : Args) : val_main_v26 (F := Ideal) (X0 A) =
    (c2 4096 1024 fun r c => zb A r c : FVec Ideal S4096x1024 .f32) := by
  funext i
  rw [val_main_v26_apply, v0 A]
  rfl
theorem v27 (A : Args) : val_main_v27 (F := Ideal) (X0 A) =
    (c2 4096 1024 fun r c => zc A r c : FVec Ideal S4096x1024 .f32) := by
  funext i
  rw [val_main_v27_apply, v0 A]
  rfl
theorem v28 (A : Args) : val_main_v28 (F := Ideal) (X0 A) =
    (c2 4096 1024 fun r c => zh A r c : FVec Ideal S4096x1024 .f32) := by
  funext i
  rw [val_main_v28_apply, v0 A]
  rfl
theorem v29 (A : Args) : val_main_v29 (F := Ideal) (X0 A) =
    (c1 4096 fun r => ∑ k ∈ range 1024, v A r k : FVec Ideal S4096 .f32) := by
  funext i
  rw [val_main_v29_apply, v25 A]
  exact red (fun k => v A ((i 0).val) k) lit_zero fun _ => rfl
theorem v30 (A : Args) : val_main_v30 (F := Ideal) (X0 A) =
    (c2 4096 1 fun r _ => ∑ k ∈ range 1024, v A r k : FVec Ideal S4096x1 .f32) := by
  funext i
  rw [val_main_v30_apply, v29 A]
  rfl
theorem v31 : val_main_v31 (F := Ideal) =
    (c2 4096 1 fun _ _ => 1024 : FVec Ideal S4096x1 .f32) := by
  funext i
  rw [val_main_v31_apply]
  exact lit_1024
theorem v32 (A : Args) : val_main_v32 (F := Ideal) (X0 A) =
    (c2 4096 1 fun r _ => mean (v A r) : FVec Ideal S4096x1 .f32) := by
  unfold val_main_v32
  rw [v30 A, v31]
  exact hdiv_c2 _ _ (fun _ _ => by norm_num)
theorem v33 (A : Args) : val_main_v33 (F := Ideal) (X0 A) =
    (c2 4096 1024 fun r _ => mean (v A r) : FVec Ideal S4096x1024 .f32) := by
  funext i
  rw [val_main_v33_apply, v32 A]
  rfl
theorem v34 (A : Args) : val_main_v34 (F := Ideal) (X0 A) =
    (c2 4096 1024 fun r c => vc A r c : FVec Ideal S4096x1024 .f32) := by
  unfold val_main_v34
  rw [v25 A, v33 A]
  exact subf_c2 _ _
theorem v35 (A : Args) : val_main_v35 (F := Ideal) (X0 A) =
    (c2 4096 1024 fun r c => (vc A r c) * (vc A r c) : FVec Ideal S4096x1024 .f32) := by
  unfold val_main_v35
  rw [v34 A]
  exact mulf_c2 _ _
theorem v36 (A : Args) : val_main_v36 (F := Ideal) (X0 A) =
    (c1 4096 fun r => ∑ k ∈ range 1024, (vc A r k) * (vc A r k) : FVec Ideal S4096 .f32) := by
  funext i
  rw [val_main_v36_apply, v35 A]
  exact red (fun k => (vc A ((i 0).val) k) * (vc A ((i 0).val) k)) lit_zero fun _ => rfl
theorem v37 (A : Args) : val_main_v37 (F := Ideal) (X0 A) =
    (c2 4096 1 fun r _ => ∑ k ∈ range 1024, (vc A r k) * (vc A r k) : FVec Ideal S4096x1 .f32) := by
  funext i
  rw [val_main_v37_apply, v36 A]
  rfl
theorem v38 : val_main_v38 (F := Ideal) =
    (c2 4096 1 fun _ _ => 1024 : FVec Ideal S4096x1 .f32) := by
  funext i
  rw [val_main_v38_apply]
  exact lit_1024
theorem v39 (A : Args) : val_main_v39 (F := Ideal) (X0 A) =
    (c2 4096 1 fun r _ => mean fun k => vc A r k * vc A r k : FVec Ideal S4096x1 .f32) := by
  unfold val_main_v39
  rw [v37 A, v38]
  exact hdiv_c2 _ _ (fun _ _ => by norm_num)
theorem v40 : val_main_v40 (F := Ideal) =
    (c2 4096 1 fun _ _ => e5 : FVec Ideal S4096x1 .f32) := by
  funext i
  rw [val_main_v40_apply]
  exact lit_e5
theorem v41 (A : Args) : val_main_v41 (F := Ideal) (X0 A) =
    (c2 4096 1 fun r _ => (mean fun k => vc A r k * vc A r k) + e5 : FVec Ideal S4096x1 .f32) := by
  unfold val_main_v41
  rw [v39 A, v40]
  exact addf_c2 _ _
theorem v42 (A : Args) : val_main_v42 (F := Ideal) (X0 A) =
    (c2 4096 1 fun r _ => rs A r : FVec Ideal S4096x1 .f32) := by
  unfold val_main_v42
  rw [v41 A]
  exact hrsqrt_c2 _ fun _ _ => rinv_arg_pos e5_pos _
theorem v43 (A : Args) : val_main_v43 (F := Ideal) (X0 A) =
    (c2 4096 1 fun r _ => rs A r ^ 3 : FVec Ideal S4096x1 .f32) := by
  unfold val_main_v43
  rw [v42 A, v41 A]
  refine (hdiv_c2 _ _ (fun _ _ => (rinv_arg_pos e5_pos _).ne')).trans (c2_congr fun r hr c hc => ?_)
  show ((rs A r) / ((mean fun k => vc A r k * vc A r k) + e5)) = (rs A r ^ 3)
  exact rinv_div e5_pos _
theorem v44 : val_main_v44 (F := Ideal) =
    (c2 4096 1 fun _ _ => (-(1 / 2)) : FVec Ideal S4096x1 .f32) := by
  funext i
  rw [val_main_v44_apply]
  exact lit_mhalf
theorem v45 (A : Args) : val_main_v45 (F := Ideal) (X0 A) =
    (c2 4096 1 fun r _ => (-(1 / 2)) * (rs A r ^ 3) : FVec Ideal S4096x1 .f32) := by
  unfold val_main_v45
  rw [v44, v43 A]
  exact mulf_c2 _ _
theorem v46 (A : Args) : val_main_v46 (F := Ideal) (X0 A) =
    (c2 4096 1024 fun r _ => rs A r : FVec Ideal S4096x1024 .f32) := by
  funext i
  rw [val_main_v46_apply, v42 A]
  rfl
theorem v47 (A : Args) : val_main_v47 (F := Ideal) (X0 A) =
    (c2 4096 1024 fun r c => vhat A r c : FVec Ideal S4096x1024 .f32) := by
  unfold val_main_v47
  rw [v34 A, v46 A]
  exact mulf_c2 _ _
theorem v48 (A : Args) : val_main_v48 (F := Ideal) (X2 A) =
    (c2 4096 1024 fun _ c => A.lng c : FVec Ideal S4096x1024 .f32) := by
  funext i
  rw [val_main_v48_apply]
  rfl
theorem v49 (A : Args) : val_main_v49 (F := Ideal) (X0 A) (X2 A) =
    (c2 4096 1024 fun r c => (vhat A r c) * (A.lng c) : FVec Ideal S4096x1024 .f32) := by
  unfold val_main_v49
  rw [v47 A, v48 A]
  exact mulf_c2 _ _
theorem v50 (A : Args) : val_main_v50 (F := Ideal) (X3 A) =
    (c2 4096 1024 fun _ c => A.lnb c : FVec Ideal S4096x1024 .f32) := by
  funext i
  rw [val_main_v50_apply]
  rfl
theorem v51 (A : Args) : val_main_v51 (F := Ideal) (X0 A) (X2 A) (X3 A) =
    (c2 4096 1024 fun r c => vln A r c : FVec Ideal S4096x1024 .f32) := by
  unfold val_main_v51
  rw [v49 A, v50 A]
  exact addf_c2 _ _
theorem v52 (A : Args) : val_main_v52 (F := Ideal) (X0 A) (X2 A) (X3 A) =
    (c4 32 128 8 128 fun s t k l => vln A (128 * s + t) (128 * k + l) : FVec Ideal S32x128x8x128 .f32) := by
  unfold val_main_v52
  rw [v51 A]
  exact cast_split _ _
theorem v60 : val_main_v60 (F := Ideal) =
    (c3 8 128 128 fun _ _ _ => 0 : FVec Ideal S8x128x128 .f32) := by
  funext i
  rw [val_main_v60_apply]
  exact lit_zero
theorem v61 (A : Args) : val_main_v61 (F := Ideal) (X4 A) =
    (c3 8 128 128 fun h i j => wm A h i j : FVec Ideal S8x128x128 .f32) := by
  funext i
  rw [val_main_v61_apply, v60]
  exact sel i (fun h i j => A.w h i j) rfl rfl
theorem v63 (A : Args) : val_main_v63 (F := Ideal) (X0 A) (X2 A) (X3 A) (X4 A) =
    (c4 8 32 128 128 fun s t k l => ∑ x ∈ range 128, (vln A (128 * t + x) (128 * s + k)) * (wm A s l x) : FVec Ideal S8x32x128x128 .f32) := by
  funext i
  rw [val_main_v63_apply, v52 A, v61 A]
  exact dot (fun x => vln A (128 * ((i 1).val) + x) (128 * ((i 0).val) + (i 2).val)) (fun x => wm A ((i 0).val) ((i 3).val) x) (fun _ => rfl) fun _ => rfl
theorem v64 (A : Args) : val_main_v64 (F := Ideal) (X0 A) (X2 A) (X3 A) (X4 A) =
    (c4 32 128 8 128 fun s t k l => ∑ x ∈ range 128, (vln A (128 * s + x) (128 * k + l)) * (wm A k t x) : FVec Ideal S32x128x8x128 .f32) := by
  funext i
  rw [val_main_v64_apply, v63 A]
  rfl
theorem v65 (A : Args) : val_main_v65 (F := Ideal) (X5 A) =
    (c2 128 8 fun r c => A.b c r : FVec Ideal S128x8 .f32) := by
  funext i
  rw [val_main_v65_apply]
  rfl
theorem v66 (A : Args) : val_main_v66 (F := Ideal) (X5 A) =
    (c4 1 128 8 1 fun _ t k _ => A.b k t : FVec Ideal S1x128x8x1 .f32) := by
  funext i
  rw [val_main_v66_apply, v65 A]
  rfl
theorem v67 (A : Args) : val_main_v67 (F := Ideal) (X5 A) =
    (c4 32 128 8 128 fun _ t k _ => A.b k t : FVec Ideal S32x128x8x128 .f32) := by
  funext i
  rw [val_main_v67_apply, v66 A]
  rfl
theorem v68 (A : Args) : val_main_v68 (F := Ideal) (X0 A) (X2 A) (X3 A) (X4 A) (X5 A) =
    (c4 32 128 8 128 fun s t k l => (∑ x ∈ range 128, (vln A (128 * s + x) (128 * k + l)) * (wm A k t x)) + (A.b k t) : FVec Ideal S32x128x8x128 .f32) := by
  unfold val_main_v68
  rw [v64 A, v67 A]
  exact addf_c4 _ _
theorem v69 (A : Args) : val_main_v69 (F := Ideal) (X0 A) (X2 A) (X3 A) (X4 A) (X5 A) =
    (c2 4096 1024 fun r c => mixed A r c : FVec Ideal S4096x1024 .f32) := by
  unfold val_main_v69
  rw [v68 A]
  refine (cast_join _ _).trans (c2_congr fun r hr c hc => ?_)
  show ((∑ x ∈ range 128, (vln A (128 * (r / 128) + x) (128 * (c / 128) + c % 128)) * (wm A (c / 128) (r % 128) x)) + (A.b (c / 128) (r % 128))) = (mixed A r c)
  unfold mixed
  rw [Nat.div_add_mod c 128]
  congr 1
  exact sum_congr rfl fun _ _ => mul_comm _ _
theorem v70 (A : Args) : val_main_v70 (F := Ideal) (X0 A) (X2 A) (X3 A) (X4 A) (X5 A) =
    (c2 4096 1024 fun r c => ya A r c : FVec Ideal S4096x1024 .f32) := by
  unfold val_main_v70
  rw [v24 A, v69 A]
  exact mulf_c2 _ _
theorem v71 (A : Args) : val_main_v71 (F := Ideal) (X0 A) =
    (c2 4096 1024 fun r c => q A r c : FVec Ideal S4096x1024 .f32) := by
  unfold val_main_v71
  rw [v27 A, v28 A]
  exact mulf_c2 _ _
theorem v72 : val_main_v72 (F := Ideal) =
    (c2 2 1024 fun _ _ => 0 : FVec Ideal S2x1024 .f32) := by
  funext i
  rw [val_main_v72_apply]
  exact lit_zero
theorem v73 (A : Args) : val_main_v73 (F := Ideal) (X0 A) =
    (c2 4098 1024 fun r c => if r < 2 then 0 else q A (r - 2) c : FVec Ideal S4098x1024 .f32) := by
  unfold val_main_v73
  rw [v72, v71 A]
  exact concat_rows (M := 4098) (m := 2) (p := 4096) rfl _ _ _
theorem v75 (A : Args) : val_main_v75 (F := Ideal) (X6 A) =
    (c2 1 1024 fun r c => A.cw r c : FVec Ideal S1x1024 .f32) := by
  funext i
  rw [val_main_v75_apply]
  rfl
theorem v76 (A : Args) : val_main_v76 (F := Ideal) (X6 A) =
    (c1 1024 fun r => A.cw 0 r : FVec Ideal S1024 .f32) := by
  unfold val_main_v76
  rw [v75 A]
  exact cast_flat _ _
theorem v77 (A : Args) : val_main_v77 (F := Ideal) (X0 A) =
    (c2 4096 1024 fun r c => qm A 2 r c : FVec Ideal S4096x1024 .f32) := by
  funext i
  rw [val_main_v77_apply, v73 A]
  refine congrFun (c2_congr (φ := .f32) (m := 4096) (n := 1024) (f := fun r c => if r < 2 then 0 else q A (r - 2) c) (g := fun r c => qm A 2 r c) fun r hr c hc => ?_) i
  show (if r < 2 then 0 else q A (r - 2) c) = (qm A 2 r c)
  unfold qm
  split_ifs <;> first | omega | rfl | (congr 1; omega)
theorem v78 (A : Args) : val_main_v78 (F := Ideal) (X6 A) =
    (c2 1 1024 fun _ c => A.cw 0 c : FVec Ideal S1x1024 .f32) := by
  funext i
  rw [val_main_v78_apply, v76 A]
  rfl
theorem v79 (A : Args) : val_main_v79 (F := Ideal) (X6 A) =
    (c2 4096 1024 fun _ c => A.cw 0 c : FVec Ideal S4096x1024 .f32) := by
  funext i
  rw [val_main_v79_apply, v78 A]
  rfl
theorem v80 (A : Args) : val_main_v80 (F := Ideal) (X0 A) (X6 A) =
    (c2 4096 1024 fun r c => (A.cw 0 c) * (qm A 2 r c) : FVec Ideal S4096x1024 .f32) := by
  unfold val_main_v80
  rw [v79 A, v77 A]
  exact mulf_c2 _ _
theorem v81 (A : Args) : val_main_v81 (F := Ideal) (X6 A) =
    (c2 1 1024 fun r c => A.cw (1 + r) c : FVec Ideal S1x1024 .f32) := by
  funext i
  rw [val_main_v81_apply]
  rfl
theorem v82 (A : Args) : val_main_v82 (F := Ideal) (X6 A) =
    (c1 1024 fun r => A.cw 1 r : FVec Ideal S1024 .f32) := by
  unfold val_main_v82
  rw [v81 A]
  exact cast_flat _ _
theorem v83 (A : Args) : val_main_v83 (F := Ideal) (X0 A) =
    (c2 4096 1024 fun r c => qm A 1 r c : FVec Ideal S4096x1024 .f32) := by
  funext i
  rw [val_main_v83_apply, v73 A]
  refine congrFun (c2_congr (φ := .f32) (m := 4096) (n := 1024) (f := fun r c => if 1 + r < 2 then 0 else q A (1 + r - 2) c) (g := fun r c => qm A 1 r c) fun r hr c hc => ?_) i
  show (if 1 + r < 2 then 0 else q A (1 + r - 2) c) = (qm A 1 r c)
  unfold qm
  split_ifs <;> first | omega | rfl | (congr 1; omega)
theorem v84 (A : Args) : val_main_v84 (F := Ideal) (X6 A) =
    (c2 1 1024 fun _ c => A.cw 1 c : FVec Ideal S1x1024 .f32) := by
  funext i
  rw [val_main_v84_apply, v82 A]
  rfl
theorem v85 (A : Args) : val_main_v85 (F := Ideal) (X6 A) =
    (c2 4096 1024 fun _ c => A.cw 1 c : FVec Ideal S4096x1024 .f32) := by
  funext i
  rw [val_main_v85_apply, v84 A]
  rfl
theorem v86 (A : Args) : val_main_v86 (F := Ideal) (X0 A) (X6 A) =
    (c2 4096 1024 fun r c => (A.cw 1 c) * (qm A 1 r c) : FVec Ideal S4096x1024 .f32) := by
  unfold val_main_v86
  rw [v85 A, v83 A]
  exact mulf_c2 _ _
theorem v87 (A : Args) : val_main_v87 (F := Ideal) (X0 A) (X6 A) =
    (c2 4096 1024 fun r c => ((A.cw 0 c) * (qm A 2 r c)) + ((A.cw 1 c) * (qm A 1 r c)) : FVec Ideal S4096x1024 .f32) := by
  unfold val_main_v87
  rw [v80 A, v86 A]
  exact addf_c2 _ _
theorem v88 (A : Args) : val_main_v88 (F := Ideal) (X6 A) =
    (c2 1 1024 fun r c => A.cw (2 + r) c : FVec Ideal S1x1024 .f32) := by
  funext i
  rw [val_main_v88_apply]
  rfl
theorem v89 (A : Args) : val_main_v89 (F := Ideal) (X6 A) =
    (c1 1024 fun r => A.cw 2 r : FVec Ideal S1024 .f32) := by
  unfold val_main_v89
  rw [v88 A]
  exact cast_flat _ _
theorem v90 (A : Args) : val_main_v90 (F := Ideal) (X0 A) =
    (c2 4096 1024 fun r c => q A r c : FVec Ideal S4096x1024 .f32) := by
  funext i
  rw [val_main_v90_apply, v73 A]
  refine congrFun (c2_congr (φ := .f32) (m := 4096) (n := 1024) (f := fun r c => if 2 + r < 2 then 0 else q A (2 + r - 2) c) (g := fun r c => q A r c) fun r hr c hc => ?_) i
  show (if 2 + r < 2 then 0 else q A (2 + r - 2) c) = (q A r c)
  rw [if_neg (by omega)]
  congr 1; omega
theorem v91 (A : Args) : val_main_v91 (F := Ideal) (X6 A) =
    (c2 1 1024 fun _ c => A.cw 2 c : FVec Ideal S1x1024 .f32) := by
  funext i
  rw [val_main_v91_apply, v89 A]
  rfl
theorem v92 (A : Args) : val_main_v92 (F := Ideal) (X6 A) =
    (c2 4096 1024 fun _ c => A.cw 2 c : FVec Ideal S4096x1024 .f32) := by
  funext i
  rw [val_main_v92_apply, v91 A]
  rfl
theorem v93 (A : Args) : val_main_v93 (F := Ideal) (X0 A) (X6 A) =
    (c2 4096 1024 fun r c => (A.cw 2 c) * (q A r c) : FVec Ideal S4096x1024 .f32) := by
  unfold val_main_v93
  rw [v92 A, v90 A]
  exact mulf_c2 _ _
theorem v94 (A : Args) : val_main_v94 (F := Ideal) (X0 A) (X6 A) =
    (c2 4096 1024 fun r c => cv A r c : FVec Ideal S4096x1024 .f32) := by
  unfold val_main_v94
  rw [v87 A, v93 A]
  exact addf_c2 _ _
theorem v95 (A : Args) : val_main_v95 (F := Ideal) (X0 A) (X6 A) =
    (c2 4096 1024 fun r c => yb A r c : FVec Ideal S4096x1024 .f32) := by
  unfold val_main_v95
  rw [v26 A, v94 A]
  exact mulf_c2 _ _
theorem v96 (A : Args) : val_main_v96 (F := Ideal) (X7 A) =
    (c2 1 1024 fun _ c => A.gg c : FVec Ideal S1x1024 .f32) := by
  funext i
  rw [val_main_v96_apply]
  rfl
theorem v97 (A : Args) : val_main_v97 (F := Ideal) (X0 A) (X2 A) (X3 A) (X4 A) (X5 A) =
    (c2 4096 1024 fun r c => (ya A r c) * (ya A r c) : FVec Ideal S4096x1024 .f32) := by
  unfold val_main_v97
  rw [v70 A]
  exact mulf_c2 _ _
theorem v98 (A : Args) : val_main_v98 (F := Ideal) (X0 A) (X2 A) (X3 A) (X4 A) (X5 A) =
    (c1 4096 fun r => ∑ k ∈ range 1024, (ya A r k) * (ya A r k) : FVec Ideal S4096 .f32) := by
  funext i
  rw [val_main_v98_apply, v97 A]
  exact red (fun k => (ya A ((i 0).val) k) * (ya A ((i 0).val) k)) lit_zero fun _ => rfl
theorem v99 (A : Args) : val_main_v99 (F := Ideal) (X0 A) (X2 A) (X3 A) (X4 A) (X5 A) =
    (c2 4096 1 fun r _ => ∑ k ∈ range 1024, (ya A r k) * (ya A r k) : FVec Ideal S4096x1 .f32) := by
  funext i
  rw [val_main_v99_apply, v98 A]
  rfl
theorem v100 : val_main_v100 (F := Ideal) =
    (c2 4096 1 fun _ _ => 1024 : FVec Ideal S4096x1 .f32) := by
  funext i
  rw [val_main_v100_apply]
  exact lit_1024
theorem v101 (A : Args) : val_main_v101 (F := Ideal) (X0 A) (X2 A) (X3 A) (X4 A) (X5 A) =
    (c2 4096 1 fun r _ => mean fun k => ya A r k * ya A r k : FVec Ideal S4096x1 .f32) := by
  unfold val_main_v101
  rw [v99 A, v100]
  exact hdiv_c2 _ _ (fun _ _ => by norm_num)
theorem v102 : val_main_v102 (F := Ideal) =
    (c2 4096 1 fun _ _ => e6 : FVec Ideal S4096x1 .f32) := by
  funext i
  rw [val_main_v102_apply]
  exact lit_e6
theorem v103 (A : Args) : val_main_v103 (F := Ideal) (X0 A) (X2 A) (X3 A) (X4 A) (X5 A) =
    (c2 4096 1 fun r _ => (mean fun k => ya A r k * ya A r k) + e6 : FVec Ideal S4096x1 .f32) := by
  unfold val_main_v103
  rw [v101 A, v102]
  exact addf_c2 _ _
theorem v104 (A : Args) : val_main_v104 (F := Ideal) (X0 A) (X2 A) (X3 A) (X4 A) (X5 A) =
    (c2 4096 1 fun r _ => rinv e6 (ya A r) : FVec Ideal S4096x1 .f32) := by
  unfold val_main_v104
  rw [v103 A]
  exact hrsqrt_c2 _ fun _ _ => rinv_arg_pos e6_pos _
theorem v105 (A : Args) : val_main_v105 (F := Ideal) (X0 A) (X2 A) (X3 A) (X4 A) (X5 A) =
    (c2 4096 1 fun r _ => rinv e6 (ya A r) ^ 3 : FVec Ideal S4096x1 .f32) := by
  unfold val_main_v105
  rw [v104 A, v103 A]
  refine (hdiv_c2 _ _ (fun _ _ => (rinv_arg_pos e6_pos _).ne')).trans (c2_congr fun r hr c hc => ?_)
  show ((rinv e6 (ya A r)) / ((mean fun k => ya A r k * ya A r k) + e6)) = (rinv e6 (ya A r) ^ 3)
  exact rinv_div e6_pos _
theorem v106 : val_main_v106 (F := Ideal) =
    (c2 4096 1 fun _ _ => (-(1 / 2)) : FVec Ideal S4096x1 .f32) := by
  funext i
  rw [val_main_v106_apply]
  exact lit_mhalf
theorem v107 (A : Args) : val_main_v107 (F := Ideal) (X0 A) (X2 A) (X3 A) (X4 A) (X5 A) =
    (c2 4096 1 fun r _ => (-(1 / 2)) * (rinv e6 (ya A r) ^ 3) : FVec Ideal S4096x1 .f32) := by
  unfold val_main_v107
  rw [v106, v105 A]
  exact mulf_c2 _ _
theorem v108 (A : Args) : val_main_v108 (F := Ideal) (X0 A) (X2 A) (X3 A) (X4 A) (X5 A) =
    (c2 4096 1024 fun r _ => rinv e6 (ya A r) : FVec Ideal S4096x1024 .f32) := by
  funext i
  rw [val_main_v108_apply, v104 A]
  rfl
theorem v109 (A : Args) : val_main_v109 (F := Ideal) (X0 A) (X2 A) (X3 A) (X4 A) (X5 A) =
    (c2 4096 1024 fun r c => (ya A r c) * (rinv e6 (ya A r)) : FVec Ideal S4096x1024 .f32) := by
  unfold val_main_v109
  rw [v70 A, v108 A]
  exact mulf_c2 _ _
theorem v112 (A : Args) : val_main_v112 (F := Ideal) (X7 A) =
    (c2 1 1024 fun _ c => A.gg (1024 + c) : FVec Ideal S1x1024 .f32) := by
  funext i
  rw [val_main_v112_apply]
  rfl
theorem v113 (A : Args) : val_main_v113 (F := Ideal) (X0 A) (X6 A) =
    (c2 4096 1024 fun r c => (yb A r c) * (yb A r c) : FVec Ideal S4096x1024 .f32) := by
  unfold val_main_v113
  rw [v95 A]
  exact mulf_c2 _ _
theorem v114 (A : Args) : val_main_v114 (F := Ideal) (X0 A) (X6 A) =
    (c1 4096 fun r => ∑ k ∈ range 1024, (yb A r k) * (yb A r k) : FVec Ideal S4096 .f32) := by
  funext i
  rw [val_main_v114_apply, v113 A]
  exact red (fun k => (yb A ((i 0).val) k) * (yb A ((i 0).val) k)) lit_zero fun _ => rfl
theorem v115 (A : Args) : val_main_v115 (F := Ideal) (X0 A) (X6 A) =
    (c2 4096 1 fun r _ => ∑ k ∈ range 1024, (yb A r k) * (yb A r k) : FVec Ideal S4096x1 .f32) := by
  funext i
  rw [val_main_v115_apply, v114 A]
  rfl
theorem v116 : val_main_v116 (F := Ideal) =
    (c2 4096 1 fun _ _ => 1024 : FVec Ideal S4096x1 .f32) := by
  funext i
  rw [val_main_v116_apply]
  exact lit_1024
theorem v117 (A : Args) : val_main_v117 (F := Ideal) (X0 A) (X6 A) =
    (c2 4096 1 fun r _ => mean fun k => yb A r k * yb A r k : FVec Ideal S4096x1 .f32) := by
  unfold val_main_v117
  rw [v115 A, v116]
  exact hdiv_c2 _ _ (fun _ _ => by norm_num)
theorem v118 : val_main_v118 (F := Ideal) =
    (c2 4096 1 fun _ _ => e6 : FVec Ideal S4096x1 .f32) := by
  funext i
  rw [val_main_v118_apply]
  exact lit_e6
theorem v119 (A : Args) : val_main_v119 (F := Ideal) (X0 A) (X6 A) =
    (c2 4096 1 fun r _ => (mean fun k => yb A r k * yb A r k) + e6 : FVec Ideal S4096x1 .f32) := by
  unfold val_main_v119
  rw [v117 A, v118]
  exact addf_c2 _ _
theorem v120 (A : Args) : val_main_v120 (F := Ideal) (X0 A) (X6 A) =
    (c2 4096 1 fun r _ => rinv e6 (yb A r) : FVec Ideal S4096x1 .f32) := by
  unfold val_main_v120
  rw [v119 A]
  exact hrsqrt_c2 _ fun _ _ => rinv_arg_pos e6_pos _
theorem v121 (A : Args) : val_main_v121 (F := Ideal) (X0 A) (X6 A) =
    (c2 4096 1 fun r _ => rinv e6 (yb A r) ^ 3 : FVec Ideal S4096x1 .f32) := by
  unfold val_main_v121
  rw [v120 A, v119 A]
  refine (hdiv_c2 _ _ (fun _ _ => (rinv_arg_pos e6_pos _).ne')).trans (c2_congr fun r hr c hc => ?_)
  show ((rinv e6 (yb A r)) / ((mean fun k => yb A r k * yb A r k) + e6)) = (rinv e6 (yb A r) ^ 3)
  exact rinv_div e6_pos _
theorem v122 : val_main_v122 (F := Ideal) =
    (c2 4096 1 fun _ _ => (-(1 / 2)) : FVec Ideal S4096x1 .f32) := by
  funext i
  rw [val_main_v122_apply]
  exact lit_mhalf
theorem v123 (A : Args) : val_main_v123 (F := Ideal) (X0 A) (X6 A) =
    (c2 4096 1 fun r _ => (-(1 / 2)) * (rinv e6 (yb A r) ^ 3) : FVec Ideal S4096x1 .f32) := by
  unfold val_main_v123
  rw [v122, v121 A]
  exact mulf_c2 _ _
theorem v124 (A : Args) : val_main_v124 (F := Ideal) (X0 A) (X6 A) =
    (c2 4096 1024 fun r _ => rinv e6 (yb A r) : FVec Ideal S4096x1024 .f32) := by
  funext i
  rw [val_main_v124_apply, v120 A]
  rfl
theorem v125 (A : Args) : val_main_v125 (F := Ideal) (X0 A) (X6 A) =
    (c2 4096 1024 fun r c => (yb A r c) * (rinv e6 (yb A r)) : FVec Ideal S4096x1024 .f32) := by
  unfold val_main_v125
  rw [v95 A, v124 A]
  exact mulf_c2 _ _

end Cert.ReferenceIdeal.Lifted

end
-- ==== Proof.RefBwd.lean ====
/- The reference's gradients at lifted arguments, one operation at a time. -/
module

public import proofs.«01_k».proof.Proof.Gen.ReferenceIdeal.Read
public import proofs.«01_k».proof.Proof.RefFwd

@[expose] public section

noncomputable section

namespace Cert.ReferenceIdeal.Lifted

open Cert.ReferenceIdeal Cert.ReferenceIdeal.Gen Cert.ReferenceIdeal.Read Idealize.ShloMosaic Idealize.ShloMosaic.TcCoe
open Cert.Coe Cert.Spec Finset

theorem v129 (A : Args) : val_main_v129 (F := Ideal) (X1 A) =
    (c2 4096 2048 fun r c => A.dy r c : FVec Ideal S4096x2048 .f32) := by
  unfold val_main_v129
  rfl
theorem v130 (A : Args) : val_main_v130 (F := Ideal) (X1 A) =
    (c2 4096 1024 fun r c => da A r c : FVec Ideal S4096x1024 .f32) := by
  funext i
  rw [val_main_v130_apply, v129 A]
  rfl
theorem v131 (A : Args) : val_main_v131 (F := Ideal) (X1 A) =
    (c2 4096 1024 fun r c => dbo A r c : FVec Ideal S4096x1024 .f32) := by
  funext i
  rw [val_main_v131_apply, v129 A]
  rfl
theorem v132 (A : Args) : val_main_v132 (F := Ideal) (X0 A) (X1 A) (X6 A) =
    (c2 4096 1024 fun r c => ((yb A r c) * (rinv e6 (yb A r))) * (dbo A r c) : FVec Ideal S4096x1024 .f32) := by
  unfold val_main_v132
  rw [v125 A, v131 A]
  exact mulf_c2 _ _
theorem v133 (A : Args) : val_main_v133 (F := Ideal) (X0 A) (X1 A) (X6 A) =
    (c1 1024 fun r => ∑ k ∈ range 4096, ((yb A k r) * (rinv e6 (yb A k))) * (dbo A k r) : FVec Ideal S1024 .f32) := by
  funext i
  rw [val_main_v133_apply, v132 A]
  exact red (fun k => ((yb A k ((i 0).val)) * (rinv e6 (yb A k))) * (dbo A k ((i 0).val))) lit_zero fun _ => rfl
theorem v134 (A : Args) : val_main_v134 (F := Ideal) (X0 A) (X1 A) (X6 A) =
    (c2 1 1024 fun _ c => ∑ k ∈ range 4096, ((yb A k c) * (rinv e6 (yb A k))) * (dbo A k c) : FVec Ideal S1x1024 .f32) := by
  unfold val_main_v134
  rw [v133 A]
  exact cast_row _ _
theorem v135 (A : Args) : val_main_v135 (F := Ideal) (X7 A) =
    (c2 4096 1024 fun _ c => A.gg (1024 + c) : FVec Ideal S4096x1024 .f32) := by
  funext i
  rw [val_main_v135_apply, v112 A]
  rfl
theorem v136 (A : Args) : val_main_v136 (F := Ideal) (X1 A) (X7 A) =
    (c2 4096 1024 fun r c => (dbo A r c) * (A.gg (1024 + c)) : FVec Ideal S4096x1024 .f32) := by
  unfold val_main_v136
  rw [v131 A, v135 A]
  exact mulf_c2 _ _
theorem v137 (A : Args) : val_main_v137 (F := Ideal) (X0 A) (X1 A) (X6 A) (X7 A) =
    (c2 4096 1024 fun r c => (yb A r c) * ((dbo A r c) * (A.gg (1024 + c))) : FVec Ideal S4096x1024 .f32) := by
  unfold val_main_v137
  rw [v95 A, v136 A]
  exact mulf_c2 _ _
theorem v138 (A : Args) : val_main_v138 (F := Ideal) (X0 A) (X1 A) (X6 A) (X7 A) =
    (c1 4096 fun r => ∑ k ∈ range 1024, (yb A r k) * ((dbo A r k) * (A.gg (1024 + k))) : FVec Ideal S4096 .f32) := by
  funext i
  rw [val_main_v138_apply, v137 A]
  exact red (fun k => (yb A ((i 0).val) k) * ((dbo A ((i 0).val) k) * (A.gg (1024 + k)))) lit_zero fun _ => rfl
theorem v139 (A : Args) : val_main_v139 (F := Ideal) (X0 A) (X1 A) (X6 A) (X7 A) =
    (c2 4096 1 fun r _ => ∑ k ∈ range 1024, (yb A r k) * ((dbo A r k) * (A.gg (1024 + k))) : FVec Ideal S4096x1 .f32) := by
  unfold val_main_v139
  rw [v138 A]
  exact cast_col _ _
theorem v140 (A : Args) : val_main_v140 (F := Ideal) (X0 A) (X6 A) =
    (c2 4096 1024 fun r _ => rinv e6 (yb A r) : FVec Ideal S4096x1024 .f32) := by
  funext i
  rw [val_main_v140_apply, v120 A]
  rfl
theorem v141 (A : Args) : val_main_v141 (F := Ideal) (X0 A) (X1 A) (X6 A) (X7 A) =
    (c2 4096 1024 fun r c => ((dbo A r c) * (A.gg (1024 + c))) * (rinv e6 (yb A r)) : FVec Ideal S4096x1024 .f32) := by
  unfold val_main_v141
  rw [v136 A, v140 A]
  exact mulf_c2 _ _
theorem v142 (A : Args) : val_main_v142 (F := Ideal) (X0 A) (X1 A) (X6 A) (X7 A) =
    (c2 4096 1 fun r _ => (∑ k ∈ range 1024, (yb A r k) * ((dbo A r k) * (A.gg (1024 + k)))) * ((-(1 / 2)) * (rinv e6 (yb A r) ^ 3)) : FVec Ideal S4096x1 .f32) := by
  unfold val_main_v142
  rw [v139 A, v123 A]
  exact mulf_c2 _ _
theorem v143 : val_main_v143 (F := Ideal) =
    (c2 4096 1 fun _ _ => 1024 : FVec Ideal S4096x1 .f32) := by
  funext i
  rw [val_main_v143_apply]
  exact lit_1024
theorem v144 (A : Args) : val_main_v144 (F := Ideal) (X0 A) (X1 A) (X6 A) (X7 A) =
    (c2 4096 1 fun r _ => ((∑ k ∈ range 1024, (yb A r k) * ((dbo A r k) * (A.gg (1024 + k)))) * ((-(1 / 2)) * (rinv e6 (yb A r) ^ 3))) / 1024 : FVec Ideal S4096x1 .f32) := by
  unfold val_main_v144
  rw [v142 A, v143]
  exact hdiv_c2 _ _ (fun _ _ => by norm_num)
theorem v145 (A : Args) : val_main_v145 (F := Ideal) (X0 A) (X1 A) (X6 A) (X7 A) =
    (c1 4096 fun r => ((∑ k ∈ range 1024, (yb A r k) * ((dbo A r k) * (A.gg (1024 + k)))) * ((-(1 / 2)) * (rinv e6 (yb A r) ^ 3))) / 1024 : FVec Ideal S4096 .f32) := by
  funext i
  rw [val_main_v145_apply, v144 A]
  exact (red (fun k => ((∑ k ∈ range 1024, (yb A ((i 0).val) k) * ((dbo A ((i 0).val) k) * (A.gg (1024 + k)))) * ((-(1 / 2)) * (rinv e6 (yb A ((i 0).val)) ^ 3))) / 1024) lit_zero fun _ => rfl).trans (congrArg Real.toEReal (sum_range_one _))
theorem v146 (A : Args) : val_main_v146 (F := Ideal) (X0 A) (X1 A) (X6 A) (X7 A) =
    (c2 4096 1024 fun r _ => ((∑ k ∈ range 1024, (yb A r k) * ((dbo A r k) * (A.gg (1024 + k)))) * ((-(1 / 2)) * (rinv e6 (yb A r) ^ 3))) / 1024 : FVec Ideal S4096x1024 .f32) := by
  funext i
  rw [val_main_v146_apply, v145 A]
  rfl
theorem v147 (A : Args) : val_main_v147 (F := Ideal) (X0 A) (X1 A) (X6 A) (X7 A) =
    (c2 4096 1024 fun r c => (yb A r c) * (((∑ k ∈ range 1024, (yb A r k) * ((dbo A r k) * (A.gg (1024 + k)))) * ((-(1 / 2)) * (rinv e6 (yb A r) ^ 3))) / 1024) : FVec Ideal S4096x1024 .f32) := by
  unfold val_main_v147
  rw [v95 A, v146 A]
  exact mulf_c2 _ _
theorem v148 (A : Args) : val_main_v148 (F := Ideal) (X0 A) (X1 A) (X6 A) (X7 A) =
    (c2 4096 1024 fun r c => (((dbo A r c) * (A.gg (1024 + c))) * (rinv e6 (yb A r))) + ((yb A r c) * (((∑ k ∈ range 1024, (yb A r k) * ((dbo A r k) * (A.gg (1024 + k)))) * ((-(1 / 2)) * (rinv e6 (yb A r) ^ 3))) / 1024)) : FVec Ideal S4096x1024 .f32) := by
  unfold val_main_v148
  rw [v141 A, v147 A]
  exact addf_c2 _ _
theorem v149 (A : Args) : val_main_v149 (F := Ideal) (X0 A) (X1 A) (X6 A) (X7 A) =
    (c2 4096 1024 fun r c => (((∑ k ∈ range 1024, (yb A r k) * ((dbo A r k) * (A.gg (1024 + k)))) * ((-(1 / 2)) * (rinv e6 (yb A r) ^ 3))) / 1024) * (yb A r c) : FVec Ideal S4096x1024 .f32) := by
  unfold val_main_v149
  rw [v146 A, v95 A]
  exact mulf_c2 _ _
theorem v150 (A : Args) : val_main_v150 (F := Ideal) (X0 A) (X1 A) (X6 A) (X7 A) =
    (c2 4096 1024 fun r c => dyb A r c : FVec Ideal S4096x1024 .f32) := by
  unfold val_main_v150
  rw [v148 A, v149 A]
  refine (addf_c2 _ _).trans (c2_congr fun r hr c hc => ?_)
  show (((((dbo A r c) * (A.gg (1024 + c))) * (rinv e6 (yb A r))) + ((yb A r c) * (((∑ k ∈ range 1024, (yb A r k) * ((dbo A r k) * (A.gg (1024 + k)))) * ((-(1 / 2)) * (rinv e6 (yb A r) ^ 3))) / 1024))) + ((((∑ k ∈ range 1024, (yb A r k) * ((dbo A r k) * (A.gg (1024 + k)))) * ((-(1 / 2)) * (rinv e6 (yb A r) ^ 3))) / 1024) * (yb A r c))) = (dyb A r c)
  exact rms_vjp (yb A r) (fun k => dbo A r k * A.gg (1024 + k)) c
theorem v151 (A : Args) : val_main_v151 (F := Ideal) (X0 A) (X1 A) (X6 A) =
    (c2 1 2048 fun _ c => if 1024 ≤ c ∧ c < 1024 + 1024 then ∑ k ∈ range 4096, ((yb A k (c - 1024)) * (rinv e6 (yb A k))) * (dbo A k (c - 1024)) else 0 : FVec Ideal S1x2048 .f32) := by
  unfold val_main_v151
  rw [v134 A]
  exact pad_cols 1024 0 2048 _ _ lit_zero _
theorem v152 (A : Args) : val_main_v152 (F := Ideal) (X0 A) (X1 A) (X2 A) (X3 A) (X4 A) (X5 A) =
    (c2 4096 1024 fun r c => ((ya A r c) * (rinv e6 (ya A r))) * (da A r c) : FVec Ideal S4096x1024 .f32) := by
  unfold val_main_v152
  rw [v109 A, v130 A]
  exact mulf_c2 _ _
theorem v153 (A : Args) : val_main_v153 (F := Ideal) (X0 A) (X1 A) (X2 A) (X3 A) (X4 A) (X5 A) =
    (c1 1024 fun r => ∑ k ∈ range 4096, ((ya A k r) * (rinv e6 (ya A k))) * (da A k r) : FVec Ideal S1024 .f32) := by
  funext i
  rw [val_main_v153_apply, v152 A]
  exact red (fun k => ((ya A k ((i 0).val)) * (rinv e6 (ya A k))) * (da A k ((i 0).val))) lit_zero fun _ => rfl
theorem v154 (A : Args) : val_main_v154 (F := Ideal) (X0 A) (X1 A) (X2 A) (X3 A) (X4 A) (X5 A) =
    (c2 1 1024 fun _ c => ∑ k ∈ range 4096, ((ya A k c) * (rinv e6 (ya A k))) * (da A k c) : FVec Ideal S1x1024 .f32) := by
  unfold val_main_v154
  rw [v153 A]
  exact cast_row _ _
theorem v155 (A : Args) : val_main_v155 (F := Ideal) (X7 A) =
    (c2 4096 1024 fun _ c => A.gg c : FVec Ideal S4096x1024 .f32) := by
  funext i
  rw [val_main_v155_apply, v96 A]
  rfl
theorem v156 (A : Args) : val_main_v156 (F := Ideal) (X1 A) (X7 A) =
    (c2 4096 1024 fun r c => (da A r c) * (A.gg c) : FVec Ideal S4096x1024 .f32) := by
  unfold val_main_v156
  rw [v130 A, v155 A]
  exact mulf_c2 _ _
theorem v157 (A : Args) : val_main_v157 (F := Ideal) (X0 A) (X1 A) (X2 A) (X3 A) (X4 A) (X5 A) (X7 A) =
    (c2 4096 1024 fun r c => (ya A r c) * ((da A r c) * (A.gg c)) : FVec Ideal S4096x1024 .f32) := by
  unfold val_main_v157
  rw [v70 A, v156 A]
  exact mulf_c2 _ _
theorem v158 (A : Args) : val_main_v158 (F := Ideal) (X0 A) (X1 A) (X2 A) (X3 A) (X4 A) (X5 A) (X7 A) =
    (c1 4096 fun r => ∑ k ∈ range 1024, (ya A r k) * ((da A r k) * (A.gg k)) : FVec Ideal S4096 .f32) := by
  funext i
  rw [val_main_v158_apply, v157 A]
  exact red (fun k => (ya A ((i 0).val) k) * ((da A ((i 0).val) k) * (A.gg k))) lit_zero fun _ => rfl
theorem v159 (A : Args) : val_main_v159 (F := Ideal) (X0 A) (X1 A) (X2 A) (X3 A) (X4 A) (X5 A) (X7 A) =
    (c2 4096 1 fun r _ => ∑ k ∈ range 1024, (ya A r k) * ((da A r k) * (A.gg k)) : FVec Ideal S4096x1 .f32) := by
  unfold val_main_v159
  rw [v158 A]
  exact cast_col _ _
theorem v160 (A : Args) : val_main_v160 (F := Ideal) (X0 A) (X2 A) (X3 A) (X4 A) (X5 A) =
    (c2 4096 1024 fun r _ => rinv e6 (ya A r) : FVec Ideal S4096x1024 .f32) := by
  funext i
  rw [val_main_v160_apply, v104 A]
  rfl
theorem v161 (A : Args) : val_main_v161 (F := Ideal) (X0 A) (X1 A) (X2 A) (X3 A) (X4 A) (X5 A) (X7 A) =
    (c2 4096 1024 fun r c => ((da A r c) * (A.gg c)) * (rinv e6 (ya A r)) : FVec Ideal S4096x1024 .f32) := by
  unfold val_main_v161
  rw [v156 A, v160 A]
  exact mulf_c2 _ _
theorem v162 (A : Args) : val_main_v162 (F := Ideal) (X0 A) (X1 A) (X2 A) (X3 A) (X4 A) (X5 A) (X7 A) =
    (c2 4096 1 fun r _ => (∑ k ∈ range 1024, (ya A r k) * ((da A r k) * (A.gg k))) * ((-(1 / 2)) * (rinv e6 (ya A r) ^ 3)) : FVec Ideal S4096x1 .f32) := by
  unfold val_main_v162
  rw [v159 A, v107 A]
  exact mulf_c2 _ _
theorem v163 : val_main_v163 (F := Ideal) =
    (c2 4096 1 fun _ _ => 1024 : FVec Ideal S4096x1 .f32) := by
  funext i
  rw [val_main_v163_apply]
  exact lit_1024
theorem v164 (A : Args) : val_main_v164 (F := Ideal) (X0 A) (X1 A) (X2 A) (X3 A) (X4 A) (X5 A) (X7 A) =
    (c2 4096 1 fun r _ => ((∑ k ∈ range 1024, (ya A r k) * ((da A r k) * (A.gg k))) * ((-(1 / 2)) * (rinv e6 (ya A r) ^ 3))) / 1024 : FVec Ideal S4096x1 .f32) := by
  unfold val_main_v164
  rw [v162 A, v163]
  exact hdiv_c2 _ _ (fun _ _ => by norm_num)
theorem v165 (A : Args) : val_main_v165 (F := Ideal) (X0 A) (X1 A) (X2 A) (X3 A) (X4 A) (X5 A) (X7 A) =
    (c1 4096 fun r => ((∑ k ∈ range 1024, (ya A r k) * ((da A r k) * (A.gg k))) * ((-(1 / 2)) * (rinv e6 (ya A r) ^ 3))) / 1024 : FVec Ideal S4096 .f32) := by
  funext i
  rw [val_main_v165_apply, v164 A]
  exact (red (fun k => ((∑ k ∈ range 1024, (ya A ((i 0).val) k) * ((da A ((i 0).val) k) * (A.gg k))) * ((-(1 / 2)) * (rinv e6 (ya A ((i 0).val)) ^ 3))) / 1024) lit_zero fun _ => rfl).trans (congrArg Real.toEReal (sum_range_one _))
theorem v166 (A : Args) : val_main_v166 (F := Ideal) (X0 A) (X1 A) (X2 A) (X3 A) (X4 A) (X5 A) (X7 A) =
    (c2 4096 1024 fun r _ => ((∑ k ∈ range 1024, (ya A r k) * ((da A r k) * (A.gg k))) * ((-(1 / 2)) * (rinv e6 (ya A r) ^ 3))) / 1024 : FVec Ideal S4096x1024 .f32) := by
  funext i
  rw [val_main_v166_apply, v165 A]
  rfl
theorem v167 (A : Args) : val_main_v167 (F := Ideal) (X0 A) (X1 A) (X2 A) (X3 A) (X4 A) (X5 A) (X7 A) =
    (c2 4096 1024 fun r c => (ya A r c) * (((∑ k ∈ range 1024, (ya A r k) * ((da A r k) * (A.gg k))) * ((-(1 / 2)) * (rinv e6 (ya A r) ^ 3))) / 1024) : FVec Ideal S4096x1024 .f32) := by
  unfold val_main_v167
  rw [v70 A, v166 A]
  exact mulf_c2 _ _
theorem v168 (A : Args) : val_main_v168 (F := Ideal) (X0 A) (X1 A) (X2 A) (X3 A) (X4 A) (X5 A) (X7 A) =
    (c2 4096 1024 fun r c => (((da A r c) * (A.gg c)) * (rinv e6 (ya A r))) + ((ya A r c) * (((∑ k ∈ range 1024, (ya A r k) * ((da A r k) * (A.gg k))) * ((-(1 / 2)) * (rinv e6 (ya A r) ^ 3))) / 1024)) : FVec Ideal S4096x1024 .f32) := by
  unfold val_main_v168
  rw [v161 A, v167 A]
  exact addf_c2 _ _
theorem v169 (A : Args) : val_main_v169 (F := Ideal) (X0 A) (X1 A) (X2 A) (X3 A) (X4 A) (X5 A) (X7 A) =
    (c2 4096 1024 fun r c => (((∑ k ∈ range 1024, (ya A r k) * ((da A r k) * (A.gg k))) * ((-(1 / 2)) * (rinv e6 (ya A r) ^ 3))) / 1024) * (ya A r c) : FVec Ideal S4096x1024 .f32) := by
  unfold val_main_v169
  rw [v166 A, v70 A]
  exact mulf_c2 _ _
theorem v170 (A : Args) : val_main_v170 (F := Ideal) (X0 A) (X1 A) (X2 A) (X3 A) (X4 A) (X5 A) (X7 A) =
    (c2 4096 1024 fun r c => dya A r c : FVec Ideal S4096x1024 .f32) := by
  unfold val_main_v170
  rw [v168 A, v169 A]
  refine (addf_c2 _ _).trans (c2_congr fun r hr c hc => ?_)
  show (((((da A r c) * (A.gg c)) * (rinv e6 (ya A r))) + ((ya A r c) * (((∑ k ∈ range 1024, (ya A r k) * ((da A r k) * (A.gg k))) * ((-(1 / 2)) * (rinv e6 (ya A r) ^ 3))) / 1024))) + ((((∑ k ∈ range 1024, (ya A r k) * ((da A r k) * (A.gg k))) * ((-(1 / 2)) * (rinv e6 (ya A r) ^ 3))) / 1024) * (ya A r c))) = (dya A r c)
  exact rms_vjp (ya A r) (fun k => da A r k * A.gg k) c
theorem v171 (A : Args) : val_main_v171 (F := Ideal) (X0 A) (X1 A) (X2 A) (X3 A) (X4 A) (X5 A) =
    (c2 1 2048 fun _ c => if 0 ≤ c ∧ c < 0 + 1024 then ∑ k ∈ range 4096, ((ya A k (c - 0)) * (rinv e6 (ya A k))) * (da A k (c - 0)) else 0 : FVec Ideal S1x2048 .f32) := by
  unfold val_main_v171
  rw [v154 A]
  exact pad_cols 0 1024 2048 _ _ lit_zero _
theorem v172 (A : Args) : val_main_v172 (F := Ideal) (X0 A) (X1 A) (X2 A) (X3 A) (X4 A) (X5 A) (X6 A) =
    (c2 1 2048 fun _ c => dgg A 4096 c : FVec Ideal S1x2048 .f32) := by
  unfold val_main_v172
  rw [v151 A, v171 A]
  refine (addf_c2 _ _).trans (c2_congr fun r hr c hc => ?_)
  show ((if 1024 ≤ c ∧ c < 1024 + 1024 then ∑ k ∈ range 4096, ((yb A k (c - 1024)) * (rinv e6 (yb A k))) * (dbo A k (c - 1024)) else 0) + (if 0 ≤ c ∧ c < 0 + 1024 then ∑ k ∈ range 4096, ((ya A k (c - 0)) * (rinv e6 (ya A k))) * (da A k (c - 0)) else 0)) = (dgg A 4096 c)
  unfold dgg
  by_cases h : c < 1024
  · rw [if_neg (by omega), if_pos (by omega), if_pos h, zero_add]
    exact sum_congr rfl fun _ _ => mul_comm _ _
  · rw [if_pos (by omega), if_neg (by omega), if_neg h, add_zero]
    exact sum_congr rfl fun _ _ => mul_comm _ _
theorem v173 (A : Args) : val_main_v173 (F := Ideal) (X0 A) (X1 A) (X6 A) (X7 A) =
    (c2 4096 1024 fun r c => g A r c : FVec Ideal S4096x1024 .f32) := by
  unfold val_main_v173
  rw [v26 A, v150 A]
  refine (mulf_c2 _ _).trans (c2_congr fun r hr c hc => ?_)
  show ((zb A r c) * (dyb A r c)) = (g A r c)
  exact mul_comm _ _
theorem v174 (A : Args) : val_main_v174 (F := Ideal) (X0 A) (X1 A) (X6 A) (X7 A) =
    (c2 4096 1024 fun r c => dzb A r c : FVec Ideal S4096x1024 .f32) := by
  unfold val_main_v174
  rw [v150 A, v94 A]
  exact mulf_c2 _ _
theorem v175 (A : Args) : val_main_v175 (F := Ideal) (X6 A) =
    (c2 4096 1024 fun _ c => A.cw 2 c : FVec Ideal S4096x1024 .f32) := by
  funext i
  rw [val_main_v175_apply, v91 A]
  rfl
theorem v176 (A : Args) : val_main_v176 (F := Ideal) (X0 A) (X1 A) (X6 A) (X7 A) =
    (c2 4096 1024 fun r c => (A.cw 2 c) * (g A r c) : FVec Ideal S4096x1024 .f32) := by
  unfold val_main_v176
  rw [v175 A, v173 A]
  exact mulf_c2 _ _
theorem v177 (A : Args) : val_main_v177 (F := Ideal) (X0 A) (X1 A) (X6 A) (X7 A) =
    (c2 4096 1024 fun r c => (g A r c) * (q A r c) : FVec Ideal S4096x1024 .f32) := by
  unfold val_main_v177
  rw [v173 A, v90 A]
  exact mulf_c2 _ _
theorem v178 (A : Args) : val_main_v178 (F := Ideal) (X0 A) (X1 A) (X6 A) (X7 A) =
    (c1 1024 fun r => ∑ k ∈ range 4096, (g A k r) * (q A k r) : FVec Ideal S1024 .f32) := by
  funext i
  rw [val_main_v178_apply, v177 A]
  exact red (fun k => (g A k ((i 0).val)) * (q A k ((i 0).val))) lit_zero fun _ => rfl
theorem v179 (A : Args) : val_main_v179 (F := Ideal) (X0 A) (X1 A) (X6 A) (X7 A) =
    (c2 1 1024 fun _ c => ∑ k ∈ range 4096, (g A k c) * (q A k c) : FVec Ideal S1x1024 .f32) := by
  unfold val_main_v179
  rw [v178 A]
  exact cast_row _ _
theorem v180 (A : Args) : val_main_v180 (F := Ideal) (X0 A) (X1 A) (X6 A) (X7 A) =
    (c1 1024 fun r => ∑ k ∈ range 4096, (g A k r) * (q A k r) : FVec Ideal S1024 .f32) := by
  funext i
  rw [val_main_v180_apply, v179 A]
  exact (red (fun k => ∑ k ∈ range 4096, (g A k ((i 0).val)) * (q A k ((i 0).val))) lit_zero fun _ => rfl).trans (congrArg Real.toEReal (sum_range_one _))
theorem v181 (A : Args) : val_main_v181 (F := Ideal) (X0 A) (X1 A) (X6 A) (X7 A) =
    (c2 4098 1024 fun r c => if 2 ≤ r ∧ r < 2 + 4096 then (A.cw 2 c) * (g A (r - 2) c) else 0 : FVec Ideal S4098x1024 .f32) := by
  unfold val_main_v181
  rw [v176 A]
  exact pad_rows 2 0 4098 _ _ lit_zero _
theorem v182 (A : Args) : val_main_v182 (F := Ideal) (X0 A) (X1 A) (X6 A) (X7 A) =
    (c2 1 1024 fun _ c => ∑ k ∈ range 4096, (g A k c) * (q A k c) : FVec Ideal S1x1024 .f32) := by
  funext i
  rw [val_main_v182_apply, v180 A]
  rfl
theorem v183 (A : Args) : val_main_v183 (F := Ideal) (X0 A) (X1 A) (X6 A) (X7 A) =
    (c2 3 1024 fun r c => if 2 ≤ r ∧ r < 2 + 1 then ∑ k ∈ range 4096, (g A k c) * (q A k c) else 0 : FVec Ideal S3x1024 .f32) := by
  unfold val_main_v183
  rw [v182 A]
  exact pad_rows 2 0 3 _ _ lit_zero _
theorem v184 (A : Args) : val_main_v184 (F := Ideal) (X6 A) =
    (c2 4096 1024 fun _ c => A.cw 1 c : FVec Ideal S4096x1024 .f32) := by
  funext i
  rw [val_main_v184_apply, v84 A]
  rfl
theorem v185 (A : Args) : val_main_v185 (F := Ideal) (X0 A) (X1 A) (X6 A) (X7 A) =
    (c2 4096 1024 fun r c => (A.cw 1 c) * (g A r c) : FVec Ideal S4096x1024 .f32) := by
  unfold val_main_v185
  rw [v184 A, v173 A]
  exact mulf_c2 _ _
theorem v186 (A : Args) : val_main_v186 (F := Ideal) (X0 A) (X1 A) (X6 A) (X7 A) =
    (c2 4096 1024 fun r c => (g A r c) * (qm A 1 r c) : FVec Ideal S4096x1024 .f32) := by
  unfold val_main_v186
  rw [v173 A, v83 A]
  exact mulf_c2 _ _
theorem v187 (A : Args) : val_main_v187 (F := Ideal) (X0 A) (X1 A) (X6 A) (X7 A) =
    (c1 1024 fun r => ∑ k ∈ range 4096, (g A k r) * (qm A 1 k r) : FVec Ideal S1024 .f32) := by
  funext i
  rw [val_main_v187_apply, v186 A]
  exact red (fun k => (g A k ((i 0).val)) * (qm A 1 k ((i 0).val))) lit_zero fun _ => rfl
theorem v188 (A : Args) : val_main_v188 (F := Ideal) (X0 A) (X1 A) (X6 A) (X7 A) =
    (c2 1 1024 fun _ c => ∑ k ∈ range 4096, (g A k c) * (qm A 1 k c) : FVec Ideal S1x1024 .f32) := by
  unfold val_main_v188
  rw [v187 A]
  exact cast_row _ _
theorem v189 (A : Args) : val_main_v189 (F := Ideal) (X0 A) (X1 A) (X6 A) (X7 A) =
    (c1 1024 fun r => ∑ k ∈ range 4096, (g A k r) * (qm A 1 k r) : FVec Ideal S1024 .f32) := by
  funext i
  rw [val_main_v189_apply, v188 A]
  exact (red (fun k => ∑ k ∈ range 4096, (g A k ((i 0).val)) * (qm A 1 k ((i 0).val))) lit_zero fun _ => rfl).trans (congrArg Real.toEReal (sum_range_one _))
theorem v190 (A : Args) : val_main_v190 (F := Ideal) (X0 A) (X1 A) (X6 A) (X7 A) =
    (c2 4098 1024 fun r c => if 1 ≤ r ∧ r < 1 + 4096 then (A.cw 1 c) * (g A (r - 1) c) else 0 : FVec Ideal S4098x1024 .f32) := by
  unfold val_main_v190
  rw [v185 A]
  exact pad_rows 1 1 4098 _ _ lit_zero _
theorem v191 (A : Args) : val_main_v191 (F := Ideal) (X0 A) (X1 A) (X6 A) (X7 A) =
    (c2 4098 1024 fun r c => (if 2 ≤ r ∧ r < 2 + 4096 then (A.cw 2 c) * (g A (r - 2) c) else 0) + (if 1 ≤ r ∧ r < 1 + 4096 then (A.cw 1 c) * (g A (r - 1) c) else 0) : FVec Ideal S4098x1024 .f32) := by
  unfold val_main_v191
  rw [v181 A, v190 A]
  exact addf_c2 _ _
theorem v192 (A : Args) : val_main_v192 (F := Ideal) (X0 A) (X1 A) (X6 A) (X7 A) =
    (c2 1 1024 fun _ c => ∑ k ∈ range 4096, (g A k c) * (qm A 1 k c) : FVec Ideal S1x1024 .f32) := by
  funext i
  rw [val_main_v192_apply, v189 A]
  rfl
theorem v193 (A : Args) : val_main_v193 (F := Ideal) (X0 A) (X1 A) (X6 A) (X7 A) =
    (c2 3 1024 fun r c => if 1 ≤ r ∧ r < 1 + 1 then ∑ k ∈ range 4096, (g A k c) * (qm A 1 k c) else 0 : FVec Ideal S3x1024 .f32) := by
  unfold val_main_v193
  rw [v192 A]
  exact pad_rows 1 1 3 _ _ lit_zero _
theorem v194 (A : Args) : val_main_v194 (F := Ideal) (X0 A) (X1 A) (X6 A) (X7 A) =
    (c2 3 1024 fun r c => (if 2 ≤ r ∧ r < 2 + 1 then ∑ k ∈ range 4096, (g A k c) * (q A k c) else 0) + (if 1 ≤ r ∧ r < 1 + 1 then ∑ k ∈ range 4096, (g A k c) * (qm A 1 k c) else 0) : FVec Ideal S3x1024 .f32) := by
  unfold val_main_v194
  rw [v183 A, v193 A]
  exact addf_c2 _ _
theorem v195 (A : Args) : val_main_v195 (F := Ideal) (X6 A) =
    (c2 4096 1024 fun _ c => A.cw 0 c : FVec Ideal S4096x1024 .f32) := by
  funext i
  rw [val_main_v195_apply, v78 A]
  rfl
theorem v196 (A : Args) : val_main_v196 (F := Ideal) (X0 A) (X1 A) (X6 A) (X7 A) =
    (c2 4096 1024 fun r c => (A.cw 0 c) * (g A r c) : FVec Ideal S4096x1024 .f32) := by
  unfold val_main_v196
  rw [v195 A, v173 A]
  exact mulf_c2 _ _
theorem v197 (A : Args) : val_main_v197 (F := Ideal) (X0 A) (X1 A) (X6 A) (X7 A) =
    (c2 4096 1024 fun r c => (g A r c) * (qm A 2 r c) : FVec Ideal S4096x1024 .f32) := by
  unfold val_main_v197
  rw [v173 A, v77 A]
  exact mulf_c2 _ _
theorem v198 (A : Args) : val_main_v198 (F := Ideal) (X0 A) (X1 A) (X6 A) (X7 A) =
    (c1 1024 fun r => ∑ k ∈ range 4096, (g A k r) * (qm A 2 k r) : FVec Ideal S1024 .f32) := by
  funext i
  rw [val_main_v198_apply, v197 A]
  exact red (fun k => (g A k ((i 0).val)) * (qm A 2 k ((i 0).val))) lit_zero fun _ => rfl
theorem v199 (A : Args) : val_main_v199 (F := Ideal) (X0 A) (X1 A) (X6 A) (X7 A) =
    (c2 1 1024 fun _ c => ∑ k ∈ range 4096, (g A k c) * (qm A 2 k c) : FVec Ideal S1x1024 .f32) := by
  unfold val_main_v199
  rw [v198 A]
  exact cast_row _ _
theorem v200 (A : Args) : val_main_v200 (F := Ideal) (X0 A) (X1 A) (X6 A) (X7 A) =
    (c1 1024 fun r => ∑ k ∈ range 4096, (g A k r) * (qm A 2 k r) : FVec Ideal S1024 .f32) := by
  funext i
  rw [val_main_v200_apply, v199 A]
  exact (red (fun k => ∑ k ∈ range 4096, (g A k ((i 0).val)) * (qm A 2 k ((i 0).val))) lit_zero fun _ => rfl).trans (congrArg Real.toEReal (sum_range_one _))
theorem v201 (A : Args) : val_main_v201 (F := Ideal) (X0 A) (X1 A) (X6 A) (X7 A) =
    (c2 4098 1024 fun r c => if 0 ≤ r ∧ r < 0 + 4096 then (A.cw 0 c) * (g A (r - 0) c) else 0 : FVec Ideal S4098x1024 .f32) := by
  unfold val_main_v201
  rw [v196 A]
  exact pad_rows 0 2 4098 _ _ lit_zero _
theorem v202 (A : Args) : val_main_v202 (F := Ideal) (X0 A) (X1 A) (X6 A) (X7 A) =
    (c2 4098 1024 fun r c => ((if 2 ≤ r ∧ r < 2 + 4096 then (A.cw 2 c) * (g A (r - 2) c) else 0) + (if 1 ≤ r ∧ r < 1 + 4096 then (A.cw 1 c) * (g A (r - 1) c) else 0)) + (if 0 ≤ r ∧ r < 0 + 4096 then (A.cw 0 c) * (g A (r - 0) c) else 0) : FVec Ideal S4098x1024 .f32) := by
  unfold val_main_v202
  rw [v191 A, v201 A]
  exact addf_c2 _ _
theorem v203 (A : Args) : val_main_v203 (F := Ideal) (X0 A) (X1 A) (X6 A) (X7 A) =
    (c2 1 1024 fun _ c => ∑ k ∈ range 4096, (g A k c) * (qm A 2 k c) : FVec Ideal S1x1024 .f32) := by
  funext i
  rw [val_main_v203_apply, v200 A]
  rfl
theorem v204 (A : Args) : val_main_v204 (F := Ideal) (X0 A) (X1 A) (X6 A) (X7 A) =
    (c2 3 1024 fun r c => if 0 ≤ r ∧ r < 0 + 1 then ∑ k ∈ range 4096, (g A k c) * (qm A 2 k c) else 0 : FVec Ideal S3x1024 .f32) := by
  unfold val_main_v204
  rw [v203 A]
  exact pad_rows 0 2 3 _ _ lit_zero _
theorem v205 (A : Args) : val_main_v205 (F := Ideal) (X0 A) (X1 A) (X6 A) (X7 A) =
    (c2 3 1024 fun r c => dcw A 4096 r c : FVec Ideal S3x1024 .f32) := by
  unfold val_main_v205
  rw [v194 A, v204 A]
  refine (addf_c2 _ _).trans (c2_congr fun r hr c hc => ?_)
  show (((if 2 ≤ r ∧ r < 2 + 1 then ∑ k ∈ range 4096, (g A k c) * (q A k c) else 0) + (if 1 ≤ r ∧ r < 1 + 1 then ∑ k ∈ range 4096, (g A k c) * (qm A 1 k c) else 0)) + (if 0 ≤ r ∧ r < 0 + 1 then ∑ k ∈ range 4096, (g A k c) * (qm A 2 k c) else 0)) = (dcw A 4096 r c)
  unfold dcw
  rw [if_pos hr]
  have h : r = 0 ∨ r = 1 ∨ r = 2 := by omega
  rcases h with rfl | rfl | rfl <;> simp [qm]
theorem v207 (A : Args) : val_main_v207 (F := Ideal) (X0 A) (X1 A) (X6 A) (X7 A) =
    (c2 4096 1024 fun r c => dq A r c : FVec Ideal S4096x1024 .f32) := by
  funext i
  rw [val_main_v207_apply, v202 A]
  refine congrFun (c2_congr (φ := .f32) (m := 4096) (n := 1024) (f := fun r c => ((if 2 ≤ 2 + r ∧ 2 + r < 2 + 4096 then (A.cw 2 c) * (g A (2 + r - 2) c) else 0) + (if 1 ≤ 2 + r ∧ 2 + r < 1 + 4096 then (A.cw 1 c) * (g A (2 + r - 1) c) else 0)) + (if 0 ≤ 2 + r ∧ 2 + r < 0 + 4096 then (A.cw 0 c) * (g A (2 + r - 0) c) else 0)) (g := fun r c => dq A r c) fun r hr c hc => ?_) i
  show (((if 2 ≤ 2 + r ∧ 2 + r < 2 + 4096 then (A.cw 2 c) * (g A (2 + r - 2) c) else 0) + (if 1 ≤ 2 + r ∧ 2 + r < 1 + 4096 then (A.cw 1 c) * (g A (2 + r - 1) c) else 0)) + (if 0 ≤ 2 + r ∧ 2 + r < 0 + 4096 then (A.cw 0 c) * (g A (2 + r - 0) c) else 0)) = (dq A r c)
  unfold dq gE
  rw [if_pos (by omega), show 2 + r - 2 = r by omega, show 2 + r - 1 = r + 1 by omega, show 2 + r - 0 = r + 2 by omega]
  congr 1
  · congr 1
    by_cases h : r + 1 < 4096
    · rw [if_pos (by omega), if_pos h]
    · rw [if_neg (by omega), if_neg h, mul_zero]
  · by_cases h : r + 2 < 4096
    · rw [if_pos (by omega), if_pos h]
    · rw [if_neg (by omega), if_neg h, mul_zero]
theorem v208 (A : Args) : val_main_v208 (F := Ideal) (X0 A) (X1 A) (X6 A) (X7 A) =
    (c2 4096 1024 fun r c => (zc A r c) * (dq A r c) : FVec Ideal S4096x1024 .f32) := by
  unfold val_main_v208
  rw [v27 A, v207 A]
  exact mulf_c2 _ _
theorem v209 (A : Args) : val_main_v209 (F := Ideal) (X0 A) (X1 A) (X6 A) (X7 A) =
    (c2 4096 1024 fun r c => (dq A r c) * (zh A r c) : FVec Ideal S4096x1024 .f32) := by
  unfold val_main_v209
  rw [v207 A, v28 A]
  exact mulf_c2 _ _
theorem v210 (A : Args) : val_main_v210 (F := Ideal) (X0 A) (X1 A) (X2 A) (X3 A) (X4 A) (X5 A) (X7 A) =
    (c2 4096 1024 fun r c => dmix A r c : FVec Ideal S4096x1024 .f32) := by
  unfold val_main_v210
  rw [v24 A, v170 A]
  refine (mulf_c2 _ _).trans (c2_congr fun r hr c hc => ?_)
  show ((u A r c) * (dya A r c)) = (dmix A r c)
  exact mul_comm _ _
theorem v211 (A : Args) : val_main_v211 (F := Ideal) (X0 A) (X1 A) (X2 A) (X3 A) (X4 A) (X5 A) (X7 A) =
    (c2 4096 1024 fun r c => (dya A r c) * (mixed A r c) : FVec Ideal S4096x1024 .f32) := by
  unfold val_main_v211
  rw [v170 A, v69 A]
  exact mulf_c2 _ _
theorem v212 (A : Args) : val_main_v212 (F := Ideal) (X0 A) (X1 A) (X2 A) (X3 A) (X4 A) (X5 A) (X7 A) =
    (c4 32 128 8 128 fun s t k l => dmix A (128 * s + t) (128 * k + l) : FVec Ideal S32x128x8x128 .f32) := by
  unfold val_main_v212
  rw [v210 A]
  exact cast_split _ _
theorem v213 (A : Args) : val_main_v213 (F := Ideal) (X0 A) (X1 A) (X2 A) (X3 A) (X4 A) (X5 A) (X7 A) =
    (c2 128 8 fun r c => ∑ x ∈ range 32, ∑ y ∈ range 128, dmix A (128 * x + r) (128 * c + y) : FVec Ideal S128x8 .f32) := by
  unfold val_main_v213
  rw [v212 A]
  exact reduce_outer _ _ lit_zero _
theorem v214 (A : Args) : val_main_v214 (F := Ideal) (X0 A) (X1 A) (X2 A) (X3 A) (X4 A) (X5 A) (X7 A) =
    (c4 1 128 8 1 fun _ t k _ => ∑ x ∈ range 32, ∑ y ∈ range 128, dmix A (128 * x + t) (128 * k + y) : FVec Ideal S1x128x8x1 .f32) := by
  unfold val_main_v214
  rw [v213 A]
  exact cast_wrap _ _
theorem v215 (A : Args) : val_main_v215 (F := Ideal) (X0 A) (X1 A) (X2 A) (X3 A) (X4 A) (X5 A) (X7 A) =
    (c2 128 8 fun r c => ∑ x ∈ range 32, ∑ y ∈ range 128, dmix A (128 * x + r) (128 * c + y) : FVec Ideal S128x8 .f32) := by
  unfold val_main_v215
  rw [v214 A]
  refine (reduce_outer _ _ lit_zero _).trans (c2_congr fun r hr c hc => ?_)
  show (∑ x ∈ range 1, ∑ y ∈ range 1, ∑ x ∈ range 32, ∑ y ∈ range 128, dmix A (128 * x + r) (128 * c + y)) = (∑ x ∈ range 32, ∑ y ∈ range 128, dmix A (128 * x + r) (128 * c + y))
  rw [sum_range_one, sum_range_one]
theorem v216 (A : Args) : val_main_v216 (F := Ideal) (X0 A) (X1 A) (X2 A) (X3 A) (X4 A) (X5 A) (X7 A) =
    (c2 8 128 fun r c => dbs A r c : FVec Ideal S8x128 .f32) := by
  funext i
  rw [val_main_v216_apply, v215 A]
  refine congrFun (c2_congr (φ := .f32) (m := 8) (n := 128) (f := fun r c => ∑ x ∈ range 32, ∑ y ∈ range 128, dmix A (128 * x + c) (128 * r + y)) (g := fun r c => dbs A r c) fun r hr c hc => ?_) i
  show (∑ x ∈ range 32, ∑ y ∈ range 128, dmix A (128 * x + c) (128 * r + y)) = (dbs A r c)
  exact sum_comm
theorem v217 (A : Args) : val_main_v217 (F := Ideal) (X0 A) (X1 A) (X2 A) (X3 A) (X4 A) (X5 A) (X7 A) =
    (c4 8 32 128 128 fun s t k l => dmix A (128 * t + l) (128 * s + k) : FVec Ideal S8x32x128x128 .f32) := by
  funext i
  rw [val_main_v217_apply, v212 A]
  rfl
/-- The dimension numbers of the gradient of the gate's weight. -/
abbrev DW := dot_S8x32x128x128_S32x128x8x128_S8x128x128_12_03_3_1_0_2

/-- The gradient of the gate's weight, before the mask: a sum over blocks and lanes. -/
theorem dot_w (A : Args) :
    Host.dotGeneral DW none
      (c4 8 32 128 128 fun s t k l => dmix A ((128 * t) + l) ((128 * s) + k) : FVec Ideal S8x32x128x128 .f32)
      (c4 32 128 8 128 fun s t k l => vln A ((128 * s) + t) ((128 * k) + l) : FVec Ideal S32x128x8x128 .f32)
    = (c3 8 128 128 fun h i j => dw A 32 h i j : FVec Ideal S8x128x128 .f32) := by
  funext i
  simp only [Host.dotGeneral]
  rw [Ideal.dotGeneral_apply, ValueIdx.sum_contr2 DW 32 128 rfl rfl rfl]
  have key : ∀ (s : Fin 32) (l : Fin 128),
      (c4 8 32 128 128 (fun s t k l => dmix A ((128 * t) + l) ((128 * s) + k)) : FVec Ideal S8x32x128x128 .f32)
        (DW.lhsIdx i ((ValueIdx.contrEquiv2 DW 32 128 rfl rfl rfl).symm (s, l)))
      * (c4 32 128 8 128 (fun s t k l => vln A ((128 * s) + t) ((128 * k) + l)) : FVec Ideal S32x128x8x128 .f32)
        (DW.rhsIdx i ((ValueIdx.contrEquiv2 DW 32 128 rfl rfl rfl).symm (s, l)))
      = ((dmix A (128 * s.val + (i 1).val) (128 * (i 0).val + l.val) * vln A (128 * s.val + (i 2).val) (128 * (i 0).val + l.val) : ℝ) : EReal) := by
    intro s l
    have k0 := ValueIdx.contrEquiv2_symm_val0 DW 32 128 rfl rfl rfl (s, l)
    have k1 := ValueIdx.contrEquiv2_symm_val1 DW 32 128 rfl rfl rfl (s, l)
    generalize (ValueIdx.contrEquiv2 DW 32 128 rfl rfl rfl).symm (s, l) = q at k0 k1 ⊢
    have l0 : (DW.lhsIdx i q 0).val = (i 0).val := by
      unfold DotDims.lhsIdx
      rw [dif_pos (show (0 : Fin 4) ∈ DW.lhsBatch by decide)]; rfl
    have l1 : (DW.lhsIdx i q 1).val = s.val := by
      refine Eq.trans ?_ k0
      unfold DotDims.lhsIdx
      rw [dif_neg (show ¬(1 : Fin 4) ∈ DW.lhsBatch by decide), dif_neg (show ¬(1 : Fin 4) ∈ DW.lhsNonContracting by decide)]; rfl
    have l2 : (DW.lhsIdx i q 2).val = l.val := by
      refine Eq.trans ?_ k1
      unfold DotDims.lhsIdx
      rw [dif_neg (show ¬(2 : Fin 4) ∈ DW.lhsBatch by decide), dif_neg (show ¬(2 : Fin 4) ∈ DW.lhsNonContracting by decide)]; rfl
    have l3 : (DW.lhsIdx i q 3).val = (i 1).val := by
      unfold DotDims.lhsIdx
      rw [dif_neg (show ¬(3 : Fin 4) ∈ DW.lhsBatch by decide), dif_pos (show (3 : Fin 4) ∈ DW.lhsNonContracting by decide)]; rfl
    have r0 : (DW.rhsIdx i q 0).val = s.val := by
      refine Eq.trans ?_ k0
      unfold DotDims.rhsIdx
      rw [dif_neg (show ¬(0 : Fin 4) ∈ DW.rhsBatch by decide), dif_neg (show ¬(0 : Fin 4) ∈ DW.rhsNonContracting by decide)]; rfl
    have r1 : (DW.rhsIdx i q 1).val = (i 2).val := by
      unfold DotDims.rhsIdx
      rw [dif_neg (show ¬(1 : Fin 4) ∈ DW.rhsBatch by decide), dif_pos (show (1 : Fin 4) ∈ DW.rhsNonContracting by decide)]; rfl
    have r2 : (DW.rhsIdx i q 2).val = (i 0).val := by
      unfold DotDims.rhsIdx
      rw [dif_pos (show (2 : Fin 4) ∈ DW.rhsBatch by decide)]; rfl
    have r3 : (DW.rhsIdx i q 3).val = l.val := by
      refine Eq.trans ?_ k1
      unfold DotDims.rhsIdx
      rw [dif_neg (show ¬(3 : Fin 4) ∈ DW.rhsBatch by decide), dif_neg (show ¬(3 : Fin 4) ∈ DW.rhsNonContracting by decide)]; rfl
    show ((dmix A (128 * (DW.lhsIdx i q 1).val + (DW.lhsIdx i q 3).val) (128 * (DW.lhsIdx i q 0).val + (DW.lhsIdx i q 2).val) : ℝ) : EReal)
      * ((vln A (128 * (DW.rhsIdx i q 0).val + (DW.rhsIdx i q 1).val) (128 * (DW.rhsIdx i q 2).val + (DW.rhsIdx i q 3).val) : ℝ) : EReal) = _
    rw [l0, l1, l2, l3, r0, r1, r2, r3, ← EReal.coe_mul]
  simp only [key]
  refine (sum_congr rfl fun s _ => sum_fin_coe 128 fun l =>
    dmix A (128 * s.val + (i 1).val) (128 * (i 0).val + l) * vln A (128 * s.val + (i 2).val) (128 * (i 0).val + l)).trans ?_
  exact sum_fin_coe 32 fun s => ∑ l ∈ range 128,
    dmix A (128 * s + (i 1).val) (128 * (i 0).val + l) * vln A (128 * s + (i 2).val) (128 * (i 0).val + l)

theorem v218 (A : Args) : val_main_v218 (F := Ideal) (X0 A) (X1 A) (X2 A) (X3 A) (X4 A) (X5 A) (X7 A) =
    (c3 8 128 128 fun h i j => dw A 32 h i j : FVec Ideal S8x128x128 .f32) := by
  unfold val_main_v218
  rw [v217 A, v52 A]
  exact dot_w A
theorem v219 (A : Args) : val_main_v219 (F := Ideal) (X0 A) (X1 A) (X2 A) (X3 A) (X4 A) (X5 A) (X7 A) =
    (c4 8 32 128 128 fun s t k l => ∑ x ∈ range 128, (dmix A (128 * t + x) (128 * s + k)) * (wm A s x l) : FVec Ideal S8x32x128x128 .f32) := by
  funext i
  rw [val_main_v219_apply, v217 A, v61 A]
  exact dot (fun x => dmix A (128 * ((i 1).val) + x) (128 * ((i 0).val) + (i 2).val)) (fun x => wm A ((i 0).val) x ((i 3).val)) (fun _ => rfl) fun _ => rfl
theorem v220 (A : Args) : val_main_v220 (F := Ideal) (X0 A) (X1 A) (X2 A) (X3 A) (X4 A) (X5 A) (X7 A) =
    (c4 32 128 8 128 fun s t k l => ∑ x ∈ range 128, (dmix A (128 * s + x) (128 * k + l)) * (wm A k x t) : FVec Ideal S32x128x8x128 .f32) := by
  funext i
  rw [val_main_v220_apply, v219 A]
  rfl
theorem v221 : val_main_v221 (F := Ideal) =
    (c3 8 128 128 fun _ _ _ => 0 : FVec Ideal S8x128x128 .f32) := by
  funext i
  rw [val_main_v221_apply]
  exact lit_zero
theorem v222 (A : Args) : val_main_v222 (F := Ideal) (X0 A) (X1 A) (X2 A) (X3 A) (X4 A) (X5 A) (X7 A) =
    (c3 8 128 128 fun h i j => dwm A h i j : FVec Ideal S8x128x128 .f32) := by
  funext i
  rw [val_main_v222_apply, v218 A, v221]
  exact sel i (fun h i j => dw A 32 h i j) rfl rfl
theorem v223 (A : Args) : val_main_v223 (F := Ideal) (X0 A) (X1 A) (X2 A) (X3 A) (X4 A) (X5 A) (X7 A) =
    (c2 4096 1024 fun r c => dvln A r c : FVec Ideal S4096x1024 .f32) := by
  unfold val_main_v223
  rw [v220 A]
  refine (cast_join _ _).trans (c2_congr fun r hr c hc => ?_)
  show (∑ x ∈ range 128, (dmix A (128 * (r / 128) + x) (128 * (c / 128) + c % 128)) * (wm A (c / 128) x (r % 128))) = (dvln A r c)
  unfold dvln
  rw [Nat.div_add_mod c 128]
  exact sum_congr rfl fun _ _ => mul_comm _ _
theorem v224 (A : Args) : val_main_v224 (F := Ideal) (X0 A) (X1 A) (X2 A) (X3 A) (X4 A) (X5 A) (X7 A) =
    (c1 1024 fun r => ∑ k ∈ range 4096, dvln A k r : FVec Ideal S1024 .f32) := by
  funext i
  rw [val_main_v224_apply, v223 A]
  exact red (fun k => dvln A k ((i 0).val)) lit_zero fun _ => rfl
theorem v225 (A : Args) : val_main_v225 (F := Ideal) (X0 A) (X1 A) (X2 A) (X3 A) (X4 A) (X5 A) (X7 A) =
    (c2 1 1024 fun _ c => dlnb A 4096 c : FVec Ideal S1x1024 .f32) := by
  unfold val_main_v225
  rw [v224 A]
  exact cast_row _ _
theorem v226 (A : Args) : val_main_v226 (F := Ideal) (X0 A) (X1 A) (X2 A) (X3 A) (X4 A) (X5 A) (X7 A) =
    (c2 4096 1024 fun r c => (vhat A r c) * (dvln A r c) : FVec Ideal S4096x1024 .f32) := by
  unfold val_main_v226
  rw [v47 A, v223 A]
  exact mulf_c2 _ _
theorem v227 (A : Args) : val_main_v227 (F := Ideal) (X0 A) (X1 A) (X2 A) (X3 A) (X4 A) (X5 A) (X7 A) =
    (c1 1024 fun r => ∑ k ∈ range 4096, (vhat A k r) * (dvln A k r) : FVec Ideal S1024 .f32) := by
  funext i
  rw [val_main_v227_apply, v226 A]
  exact red (fun k => (vhat A k ((i 0).val)) * (dvln A k ((i 0).val))) lit_zero fun _ => rfl
theorem v228 (A : Args) : val_main_v228 (F := Ideal) (X0 A) (X1 A) (X2 A) (X3 A) (X4 A) (X5 A) (X7 A) =
    (c2 1 1024 fun _ c => dlng A 4096 c : FVec Ideal S1x1024 .f32) := by
  unfold val_main_v228
  rw [v227 A]
  refine (cast_row _ _).trans (c2_congr fun r hr c hc => ?_)
  show (∑ k ∈ range 4096, (vhat A k c) * (dvln A k c)) = (dlng A 4096 c)
  exact sum_congr rfl fun _ _ => mul_comm _ _
theorem v229 (A : Args) : val_main_v229 (F := Ideal) (X2 A) =
    (c2 4096 1024 fun _ c => A.lng c : FVec Ideal S4096x1024 .f32) := by
  funext i
  rw [val_main_v229_apply]
  rfl
theorem v230 (A : Args) : val_main_v230 (F := Ideal) (X0 A) (X1 A) (X2 A) (X3 A) (X4 A) (X5 A) (X7 A) =
    (c2 4096 1024 fun r c => dvh A r c : FVec Ideal S4096x1024 .f32) := by
  unfold val_main_v230
  rw [v223 A, v229 A]
  exact mulf_c2 _ _
theorem v231 (A : Args) : val_main_v231 (F := Ideal) (X0 A) (X1 A) (X2 A) (X3 A) (X4 A) (X5 A) (X7 A) =
    (c2 4096 1024 fun r c => (vc A r c) * (dvh A r c) : FVec Ideal S4096x1024 .f32) := by
  unfold val_main_v231
  rw [v34 A, v230 A]
  exact mulf_c2 _ _
theorem v232 (A : Args) : val_main_v232 (F := Ideal) (X0 A) (X1 A) (X2 A) (X3 A) (X4 A) (X5 A) (X7 A) =
    (c1 4096 fun r => ∑ k ∈ range 1024, (vc A r k) * (dvh A r k) : FVec Ideal S4096 .f32) := by
  funext i
  rw [val_main_v232_apply, v231 A]
  exact red (fun k => (vc A ((i 0).val) k) * (dvh A ((i 0).val) k)) lit_zero fun _ => rfl
theorem v233 (A : Args) : val_main_v233 (F := Ideal) (X0 A) (X1 A) (X2 A) (X3 A) (X4 A) (X5 A) (X7 A) =
    (c2 4096 1 fun r _ => ∑ k ∈ range 1024, (vc A r k) * (dvh A r k) : FVec Ideal S4096x1 .f32) := by
  unfold val_main_v233
  rw [v232 A]
  exact cast_col _ _
theorem v234 (A : Args) : val_main_v234 (F := Ideal) (X0 A) =
    (c2 4096 1024 fun r _ => rs A r : FVec Ideal S4096x1024 .f32) := by
  funext i
  rw [val_main_v234_apply, v42 A]
  rfl
theorem v235 (A : Args) : val_main_v235 (F := Ideal) (X0 A) (X1 A) (X2 A) (X3 A) (X4 A) (X5 A) (X7 A) =
    (c2 4096 1024 fun r c => (dvh A r c) * (rs A r) : FVec Ideal S4096x1024 .f32) := by
  unfold val_main_v235
  rw [v230 A, v234 A]
  exact mulf_c2 _ _
theorem v236 (A : Args) : val_main_v236 (F := Ideal) (X0 A) (X1 A) (X2 A) (X3 A) (X4 A) (X5 A) (X7 A) =
    (c2 4096 1 fun r _ => (∑ k ∈ range 1024, (vc A r k) * (dvh A r k)) * ((-(1 / 2)) * (rs A r ^ 3)) : FVec Ideal S4096x1 .f32) := by
  unfold val_main_v236
  rw [v233 A, v45 A]
  exact mulf_c2 _ _
theorem v237 : val_main_v237 (F := Ideal) =
    (c2 4096 1 fun _ _ => 1024 : FVec Ideal S4096x1 .f32) := by
  funext i
  rw [val_main_v237_apply]
  exact lit_1024
theorem v238 (A : Args) : val_main_v238 (F := Ideal) (X0 A) (X1 A) (X2 A) (X3 A) (X4 A) (X5 A) (X7 A) =
    (c2 4096 1 fun r _ => ((∑ k ∈ range 1024, (vc A r k) * (dvh A r k)) * ((-(1 / 2)) * (rs A r ^ 3))) / 1024 : FVec Ideal S4096x1 .f32) := by
  unfold val_main_v238
  rw [v236 A, v237]
  exact hdiv_c2 _ _ (fun _ _ => by norm_num)
theorem v239 (A : Args) : val_main_v239 (F := Ideal) (X0 A) (X1 A) (X2 A) (X3 A) (X4 A) (X5 A) (X7 A) =
    (c1 4096 fun r => ((∑ k ∈ range 1024, (vc A r k) * (dvh A r k)) * ((-(1 / 2)) * (rs A r ^ 3))) / 1024 : FVec Ideal S4096 .f32) := by
  funext i
  rw [val_main_v239_apply, v238 A]
  exact (red (fun k => ((∑ k ∈ range 1024, (vc A ((i 0).val) k) * (dvh A ((i 0).val) k)) * ((-(1 / 2)) * (rs A ((i 0).val) ^ 3))) / 1024) lit_zero fun _ => rfl).trans (congrArg Real.toEReal (sum_range_one _))
theorem v240 (A : Args) : val_main_v240 (F := Ideal) (X0 A) (X1 A) (X2 A) (X3 A) (X4 A) (X5 A) (X7 A) =
    (c2 4096 1024 fun r _ => ((∑ k ∈ range 1024, (vc A r k) * (dvh A r k)) * ((-(1 / 2)) * (rs A r ^ 3))) / 1024 : FVec Ideal S4096x1024 .f32) := by
  funext i
  rw [val_main_v240_apply, v239 A]
  rfl
theorem v241 (A : Args) : val_main_v241 (F := Ideal) (X0 A) (X1 A) (X2 A) (X3 A) (X4 A) (X5 A) (X7 A) =
    (c2 4096 1024 fun r c => (vc A r c) * (((∑ k ∈ range 1024, (vc A r k) * (dvh A r k)) * ((-(1 / 2)) * (rs A r ^ 3))) / 1024) : FVec Ideal S4096x1024 .f32) := by
  unfold val_main_v241
  rw [v34 A, v240 A]
  exact mulf_c2 _ _
theorem v242 (A : Args) : val_main_v242 (F := Ideal) (X0 A) (X1 A) (X2 A) (X3 A) (X4 A) (X5 A) (X7 A) =
    (c2 4096 1024 fun r c => ((dvh A r c) * (rs A r)) + ((vc A r c) * (((∑ k ∈ range 1024, (vc A r k) * (dvh A r k)) * ((-(1 / 2)) * (rs A r ^ 3))) / 1024)) : FVec Ideal S4096x1024 .f32) := by
  unfold val_main_v242
  rw [v235 A, v241 A]
  exact addf_c2 _ _
theorem v243 (A : Args) : val_main_v243 (F := Ideal) (X0 A) (X1 A) (X2 A) (X3 A) (X4 A) (X5 A) (X7 A) =
    (c2 4096 1024 fun r c => (((∑ k ∈ range 1024, (vc A r k) * (dvh A r k)) * ((-(1 / 2)) * (rs A r ^ 3))) / 1024) * (vc A r c) : FVec Ideal S4096x1024 .f32) := by
  unfold val_main_v243
  rw [v240 A, v34 A]
  exact mulf_c2 _ _
theorem v244 (A : Args) : val_main_v244 (F := Ideal) (X0 A) (X1 A) (X2 A) (X3 A) (X4 A) (X5 A) (X7 A) =
    (c2 4096 1024 fun r c => (((dvh A r c) * (rs A r)) + ((vc A r c) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r c)) : FVec Ideal S4096x1024 .f32) := by
  unfold val_main_v244
  rw [v242 A, v243 A]
  exact addf_c2 _ _
theorem v245 (A : Args) : val_main_v245 (F := Ideal) (X0 A) (X1 A) (X2 A) (X3 A) (X4 A) (X5 A) (X7 A) =
    (c2 4096 1024 fun r c => -((((dvh A r c) * (rs A r)) + ((vc A r c) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r c))) : FVec Ideal S4096x1024 .f32) := by
  unfold val_main_v245
  rw [v244 A]
  exact hneg_c2 _
theorem v246 (A : Args) : val_main_v246 (F := Ideal) (X0 A) (X1 A) (X2 A) (X3 A) (X4 A) (X5 A) (X7 A) =
    (c1 4096 fun r => ∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k))) : FVec Ideal S4096 .f32) := by
  funext i
  rw [val_main_v246_apply, v245 A]
  exact red (fun k => -((((dvh A ((i 0).val) k) * (rs A ((i 0).val))) + ((vc A ((i 0).val) k) * (((∑ k ∈ range 1024, (vc A ((i 0).val) k) * (dvh A ((i 0).val) k)) * ((-(1 / 2)) * (rs A ((i 0).val) ^ 3))) / 1024))) + ((((∑ k ∈ range 1024, (vc A ((i 0).val) k) * (dvh A ((i 0).val) k)) * ((-(1 / 2)) * (rs A ((i 0).val) ^ 3))) / 1024) * (vc A ((i 0).val) k)))) lit_zero fun _ => rfl
theorem v247 (A : Args) : val_main_v247 (F := Ideal) (X0 A) (X1 A) (X2 A) (X3 A) (X4 A) (X5 A) (X7 A) =
    (c2 4096 1 fun r _ => ∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k))) : FVec Ideal S4096x1 .f32) := by
  unfold val_main_v247
  rw [v246 A]
  exact cast_col _ _
theorem v248 : val_main_v248 (F := Ideal) =
    (c2 4096 1 fun _ _ => 1024 : FVec Ideal S4096x1 .f32) := by
  funext i
  rw [val_main_v248_apply]
  exact lit_1024
theorem v249 (A : Args) : val_main_v249 (F := Ideal) (X0 A) (X1 A) (X2 A) (X3 A) (X4 A) (X5 A) (X7 A) =
    (c2 4096 1 fun r _ => (∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k)))) / 1024 : FVec Ideal S4096x1 .f32) := by
  unfold val_main_v249
  rw [v247 A, v248]
  exact hdiv_c2 _ _ (fun _ _ => by norm_num)
theorem v250 (A : Args) : val_main_v250 (F := Ideal) (X0 A) (X1 A) (X2 A) (X3 A) (X4 A) (X5 A) (X7 A) =
    (c1 4096 fun r => (∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k)))) / 1024 : FVec Ideal S4096 .f32) := by
  funext i
  rw [val_main_v250_apply, v249 A]
  exact (red (fun k => (∑ k ∈ range 1024, -((((dvh A ((i 0).val) k) * (rs A ((i 0).val))) + ((vc A ((i 0).val) k) * (((∑ k ∈ range 1024, (vc A ((i 0).val) k) * (dvh A ((i 0).val) k)) * ((-(1 / 2)) * (rs A ((i 0).val) ^ 3))) / 1024))) + ((((∑ k ∈ range 1024, (vc A ((i 0).val) k) * (dvh A ((i 0).val) k)) * ((-(1 / 2)) * (rs A ((i 0).val) ^ 3))) / 1024) * (vc A ((i 0).val) k)))) / 1024) lit_zero fun _ => rfl).trans (congrArg Real.toEReal (sum_range_one _))
theorem v251 (A : Args) : val_main_v251 (F := Ideal) (X0 A) (X1 A) (X2 A) (X3 A) (X4 A) (X5 A) (X7 A) =
    (c2 4096 1024 fun r _ => (∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k)))) / 1024 : FVec Ideal S4096x1024 .f32) := by
  funext i
  rw [val_main_v251_apply, v250 A]
  rfl
theorem v252 (A : Args) : val_main_v252 (F := Ideal) (X0 A) (X1 A) (X2 A) (X3 A) (X4 A) (X5 A) (X7 A) =
    (c2 4096 1024 fun r c => dv A r c : FVec Ideal S4096x1024 .f32) := by
  unfold val_main_v252
  rw [v244 A, v251 A]
  refine (addf_c2 _ _).trans (c2_congr fun r hr c hc => ?_)
  show (((((dvh A r c) * (rs A r)) + ((vc A r c) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r c))) + ((∑ k ∈ range 1024, -((((dvh A r k) * (rs A r)) + ((vc A r k) * (((∑ k ∈ range 1024, (vc A r k) * (dvh A r k)) * ((-(1 / 2)) * (rs A r ^ 3))) / 1024))) + ((((∑ k ∈ range 1024, (vc A r k) * (dvh A r k)) * ((-(1 / 2)) * (rs A r ^ 3))) / 1024) * (vc A r k)))) / 1024)) = (dv A r c)
  exact ln_vjp A r c _ fun _ => rfl
theorem v253 (A : Args) : val_main_v253 (F := Ideal) (X0 A) (X1 A) (X6 A) (X7 A) =
    (c2 4096 5120 fun r c => if 4096 ≤ c ∧ c < 4096 + 1024 then (zc A r (c - 4096)) * (dq A r (c - 4096)) else 0 : FVec Ideal S4096x5120 .f32) := by
  unfold val_main_v253
  rw [v208 A]
  exact pad_cols 4096 0 5120 _ _ lit_zero _
theorem v254 (A : Args) : val_main_v254 (F := Ideal) (X0 A) (X1 A) (X6 A) (X7 A) =
    (c2 4096 5120 fun r c => if 3072 ≤ c ∧ c < 3072 + 1024 then (dq A r (c - 3072)) * (zh A r (c - 3072)) else 0 : FVec Ideal S4096x5120 .f32) := by
  unfold val_main_v254
  rw [v209 A]
  exact pad_cols 3072 1024 5120 _ _ lit_zero _
theorem v255 (A : Args) : val_main_v255 (F := Ideal) (X0 A) (X1 A) (X6 A) (X7 A) =
    (c2 4096 5120 fun r c => (if 4096 ≤ c ∧ c < 4096 + 1024 then (zc A r (c - 4096)) * (dq A r (c - 4096)) else 0) + (if 3072 ≤ c ∧ c < 3072 + 1024 then (dq A r (c - 3072)) * (zh A r (c - 3072)) else 0) : FVec Ideal S4096x5120 .f32) := by
  unfold val_main_v255
  rw [v253 A, v254 A]
  exact addf_c2 _ _
theorem v256 (A : Args) : val_main_v256 (F := Ideal) (X0 A) (X1 A) (X6 A) (X7 A) =
    (c2 4096 5120 fun r c => if 2048 ≤ c ∧ c < 2048 + 1024 then dzb A r (c - 2048) else 0 : FVec Ideal S4096x5120 .f32) := by
  unfold val_main_v256
  rw [v174 A]
  exact pad_cols 2048 2048 5120 _ _ lit_zero _
theorem v257 (A : Args) : val_main_v257 (F := Ideal) (X0 A) (X1 A) (X6 A) (X7 A) =
    (c2 4096 5120 fun r c => ((if 4096 ≤ c ∧ c < 4096 + 1024 then (zc A r (c - 4096)) * (dq A r (c - 4096)) else 0) + (if 3072 ≤ c ∧ c < 3072 + 1024 then (dq A r (c - 3072)) * (zh A r (c - 3072)) else 0)) + (if 2048 ≤ c ∧ c < 2048 + 1024 then dzb A r (c - 2048) else 0) : FVec Ideal S4096x5120 .f32) := by
  unfold val_main_v257
  rw [v255 A, v256 A]
  exact addf_c2 _ _
theorem v258 (A : Args) : val_main_v258 (F := Ideal) (X0 A) (X1 A) (X2 A) (X3 A) (X4 A) (X5 A) (X7 A) =
    (c2 4096 2048 fun r c => if 1024 ≤ c ∧ c < 1024 + 1024 then dv A r (c - 1024) else 0 : FVec Ideal S4096x2048 .f32) := by
  unfold val_main_v258
  rw [v252 A]
  exact pad_cols 1024 0 2048 _ _ lit_zero _
theorem v259 (A : Args) : val_main_v259 (F := Ideal) (X0 A) (X1 A) (X2 A) (X3 A) (X4 A) (X5 A) (X7 A) =
    (c2 4096 2048 fun r c => if 0 ≤ c ∧ c < 0 + 1024 then (dya A r (c - 0)) * (mixed A r (c - 0)) else 0 : FVec Ideal S4096x2048 .f32) := by
  unfold val_main_v259
  rw [v211 A]
  exact pad_cols 0 1024 2048 _ _ lit_zero _
theorem v260 (A : Args) : val_main_v260 (F := Ideal) (X0 A) (X1 A) (X2 A) (X3 A) (X4 A) (X5 A) (X7 A) =
    (c2 4096 2048 fun r c => if c < 1024 then dya A r c * mixed A r c else dv A r (c - 1024) : FVec Ideal S4096x2048 .f32) := by
  unfold val_main_v260
  rw [v258 A, v259 A]
  refine (addf_c2 _ _).trans (c2_congr fun r hr c hc => ?_)
  show ((if 1024 ≤ c ∧ c < 1024 + 1024 then dv A r (c - 1024) else 0) + (if 0 ≤ c ∧ c < 0 + 1024 then (dya A r (c - 0)) * (mixed A r (c - 0)) else 0)) = (if c < 1024 then dya A r c * mixed A r c else dv A r (c - 1024))
  by_cases h : c < 1024
  · rw [if_neg (by omega), if_pos (by omega), if_pos h, zero_add, Nat.sub_zero]
  · rw [if_pos (by omega), if_neg (by omega), if_neg h, add_zero]
theorem v261 (A : Args) : val_main_v261 (F := Ideal) (X0 A) (X1 A) (X2 A) (X3 A) (X4 A) (X5 A) (X7 A) =
    (c2 4096 2048 fun r c => (A.z r c) * (if c < 1024 then dya A r c * mixed A r c else dv A r (c - 1024)) : FVec Ideal S4096x2048 .f32) := by
  unfold val_main_v261
  rw [v1 A, v260 A]
  exact mulf_c2 _ _
theorem v262 (A : Args) : val_main_v262 (F := Ideal) (X0 A) (X1 A) (X2 A) (X3 A) (X4 A) (X5 A) (X7 A) =
    (c2 4096 2048 fun r c => (if c < 1024 then dya A r c * mixed A r c else dv A r (c - 1024)) * ((1 / 2) * (1 + (th (A.z r c)))) : FVec Ideal S4096x2048 .f32) := by
  unfold val_main_v262
  rw [v260 A, v22 A]
  exact mulf_c2 _ _
theorem v263 : val_main_v263 (F := Ideal) =
    (c2 4096 2048 fun _ _ => (1 / 2) : FVec Ideal S4096x2048 .f32) := by
  funext i
  rw [val_main_v263_apply]
  exact lit_half
theorem v264 (A : Args) : val_main_v264 (F := Ideal) (X0 A) (X1 A) (X2 A) (X3 A) (X4 A) (X5 A) (X7 A) =
    (c2 4096 2048 fun r c => (1 / 2) * ((A.z r c) * (if c < 1024 then dya A r c * mixed A r c else dv A r (c - 1024))) : FVec Ideal S4096x2048 .f32) := by
  unfold val_main_v264
  rw [v263, v261 A]
  exact mulf_c2 _ _
theorem v265 (A : Args) : val_main_v265 (F := Ideal) (X0 A) (X1 A) (X2 A) (X3 A) (X4 A) (X5 A) (X7 A) =
    (c2 4096 2048 fun r c => ((1 / 2) * ((A.z r c) * (if c < 1024 then dya A r c * mixed A r c else dv A r (c - 1024)))) * ((1 + (th (A.z r c))) * (1 - (th (A.z r c)))) : FVec Ideal S4096x2048 .f32) := by
  unfold val_main_v265
  rw [v264 A, v18 A]
  exact mulf_c2 _ _
theorem v266 : val_main_v266 (F := Ideal) =
    (c2 4096 2048 fun _ _ => gC : FVec Ideal S4096x2048 .f32) := by
  funext i
  rw [val_main_v266_apply]
  exact lit_gC
theorem v267 (A : Args) : val_main_v267 (F := Ideal) (X0 A) (X1 A) (X2 A) (X3 A) (X4 A) (X5 A) (X7 A) =
    (c2 4096 2048 fun r c => gC * (((1 / 2) * ((A.z r c) * (if c < 1024 then dya A r c * mixed A r c else dv A r (c - 1024)))) * ((1 + (th (A.z r c))) * (1 - (th (A.z r c))))) : FVec Ideal S4096x2048 .f32) := by
  unfold val_main_v267
  rw [v266, v265 A]
  exact mulf_c2 _ _
theorem v268 (A : Args) : val_main_v268 (F := Ideal) (X0 A) (X1 A) (X2 A) (X3 A) (X4 A) (X5 A) (X7 A) =
    (c2 4096 2048 fun r c => ((if c < 1024 then dya A r c * mixed A r c else dv A r (c - 1024)) * ((1 / 2) * (1 + (th (A.z r c))))) + (gC * (((1 / 2) * ((A.z r c) * (if c < 1024 then dya A r c * mixed A r c else dv A r (c - 1024)))) * ((1 + (th (A.z r c))) * (1 - (th (A.z r c)))))) : FVec Ideal S4096x2048 .f32) := by
  unfold val_main_v268
  rw [v262 A, v267 A]
  exact addf_c2 _ _
theorem v269 : val_main_v269 (F := Ideal) =
    (c2 4096 2048 fun _ _ => gA : FVec Ideal S4096x2048 .f32) := by
  funext i
  rw [val_main_v269_apply]
  exact lit_gA
theorem v270 (A : Args) : val_main_v270 (F := Ideal) (X0 A) (X1 A) (X2 A) (X3 A) (X4 A) (X5 A) (X7 A) =
    (c2 4096 2048 fun r c => gA * (gC * (((1 / 2) * ((A.z r c) * (if c < 1024 then dya A r c * mixed A r c else dv A r (c - 1024)))) * ((1 + (th (A.z r c))) * (1 - (th (A.z r c)))))) : FVec Ideal S4096x2048 .f32) := by
  unfold val_main_v270
  rw [v269, v267 A]
  exact mulf_c2 _ _
theorem v271 (A : Args) : val_main_v271 (F := Ideal) (X0 A) (X1 A) (X2 A) (X3 A) (X4 A) (X5 A) (X7 A) =
    (c2 4096 2048 fun r c => (gA * (gC * (((1 / 2) * ((A.z r c) * (if c < 1024 then dya A r c * mixed A r c else dv A r (c - 1024)))) * ((1 + (th (A.z r c))) * (1 - (th (A.z r c))))))) * (3 * ((A.z r c) * (A.z r c))) : FVec Ideal S4096x2048 .f32) := by
  unfold val_main_v271
  rw [v270 A, v7 A]
  exact mulf_c2 _ _
theorem v272 (A : Args) : val_main_v272 (F := Ideal) (X0 A) (X1 A) (X2 A) (X3 A) (X4 A) (X5 A) (X7 A) =
    (c2 4096 2048 fun r c => (if c < 1024 then dya A r c * mixed A r c else dv A r (c - 1024)) * gelu' (A.z r c) : FVec Ideal S4096x2048 .f32) := by
  unfold val_main_v272
  rw [v268 A, v271 A]
  refine (addf_c2 _ _).trans (c2_congr fun r hr c hc => ?_)
  show ((((if c < 1024 then dya A r c * mixed A r c else dv A r (c - 1024)) * ((1 / 2) * (1 + (th (A.z r c))))) + (gC * (((1 / 2) * ((A.z r c) * (if c < 1024 then dya A r c * mixed A r c else dv A r (c - 1024)))) * ((1 + (th (A.z r c))) * (1 - (th (A.z r c))))))) + ((gA * (gC * (((1 / 2) * ((A.z r c) * (if c < 1024 then dya A r c * mixed A r c else dv A r (c - 1024)))) * ((1 + (th (A.z r c))) * (1 - (th (A.z r c))))))) * (3 * ((A.z r c) * (A.z r c))))) = ((if c < 1024 then dya A r c * mixed A r c else dv A r (c - 1024)) * gelu' (A.z r c))
  exact gelu_vjp _ _
theorem v273 (A : Args) : val_main_v273 (F := Ideal) (X0 A) (X1 A) (X2 A) (X3 A) (X4 A) (X5 A) (X7 A) =
    (c2 4096 5120 fun r c => if 0 ≤ c ∧ c < 0 + 2048 then (if c - 0 < 1024 then dya A r (c - 0) * mixed A r (c - 0) else dv A r (c - 0 - 1024)) * gelu' (A.z r (c - 0)) else 0 : FVec Ideal S4096x5120 .f32) := by
  unfold val_main_v273
  rw [v272 A]
  exact pad_cols 0 3072 5120 _ _ lit_zero _
theorem v274 (A : Args) : val_main_v274 (F := Ideal) (X0 A) (X1 A) (X2 A) (X3 A) (X4 A) (X5 A) (X6 A) (X7 A) =
    (c2 4096 5120 fun r c => dz A r c : FVec Ideal S4096x5120 .f32) := by
  unfold val_main_v274
  rw [v257 A, v273 A]
  refine (addf_c2 _ _).trans (c2_congr fun r hr c hc => ?_)
  show ((((if 4096 ≤ c ∧ c < 4096 + 1024 then (zc A r (c - 4096)) * (dq A r (c - 4096)) else 0) + (if 3072 ≤ c ∧ c < 3072 + 1024 then (dq A r (c - 3072)) * (zh A r (c - 3072)) else 0)) + (if 2048 ≤ c ∧ c < 2048 + 1024 then dzb A r (c - 2048) else 0)) + (if 0 ≤ c ∧ c < 0 + 2048 then (if c - 0 < 1024 then dya A r (c - 0) * mixed A r (c - 0) else dv A r (c - 0 - 1024)) * gelu' (A.z r (c - 0)) else 0)) = (dz A r c)
  unfold dz
  by_cases h1 : c < 1024
  · rw [if_neg (by omega), if_neg (by omega), if_neg (by omega), if_pos (by omega), if_pos h1, Nat.sub_zero, if_pos h1]
    unfold dzu zu; ring
  · by_cases h2 : c < 2048
    · rw [if_neg (by omega), if_neg (by omega), if_neg (by omega), if_pos (by omega), if_neg h1, if_pos h2, Nat.sub_zero, if_neg h1]
      unfold dzv zv; rw [show 1024 + (c - 1024) = c by omega]; ring
    · by_cases h3 : c < 3072
      · rw [if_neg (by omega), if_neg (by omega), if_pos (by omega), if_neg (by omega), if_neg h1, if_neg h2, if_pos h3]; ring
      · by_cases h4 : c < 4096
        · rw [if_neg (by omega), if_pos (by omega), if_neg (by omega), if_neg (by omega), if_neg h1, if_neg h2, if_neg h3, if_pos h4]
          ring
        · rw [if_pos (by omega), if_neg (by omega), if_neg (by omega), if_neg (by omega), if_neg h1, if_neg h2, if_neg h3, if_neg h4]
          ring
theorem v275 (A : Args) : val_main_v275 (F := Ideal) (X0 A) (X1 A) (X2 A) (X3 A) (X4 A) (X5 A) (X7 A) =
    (c3 8 128 1 fun h i _ => dbs A h i : FVec Ideal S8x128x1 .f32) := by
  funext i
  rw [val_main_v275_apply, v216 A]
  rfl
theorem v276 (A : Args) : val_main_v276 (F := Ideal) (X0 A) (X1 A) (X2 A) (X3 A) (X4 A) (X5 A) (X7 A) =
    (c3 8 128 128 fun h i _ => dbs A h i : FVec Ideal S8x128x128 .f32) := by
  funext i
  rw [val_main_v276_apply, v275 A]
  rfl
theorem v277 : val_main_v277 (F := Ideal) =
    (c2 5 1024 fun _ _ => 0 : FVec Ideal S5x1024 .f32) := by
  funext i
  rw [val_main_v277_apply]
  exact lit_zero
theorem v278 (A : Args) : val_main_v278 (F := Ideal) (X0 A) (X1 A) (X6 A) (X7 A) =
    (c2 8 1024 fun r c => dcw A 4096 r c : FVec Ideal S8x1024 .f32) := by
  unfold val_main_v278
  rw [v205 A, v277]
  refine (concat_rows (M := 8) (m := 3) (p := 5) rfl _ _ _).trans (c2_congr fun r hr c hc => ?_)
  show (if r < 3 then dcw A 4096 r c else 0) = (dcw A 4096 r c)
  by_cases h : r < 3
  · rw [if_pos h]
  · rw [if_neg h]; unfold dcw; rw [if_neg h]
theorem v279 (A : Args) : val_main_v279 (F := Ideal) (X0 A) (X1 A) (X2 A) (X3 A) (X4 A) (X5 A) (X6 A) (X7 A) =
    (c2 4096 5120 fun r c => dz A r c : FVec Ideal S4096x5120 .bf16) := by
  unfold val_main_v279
  rw [v274 A]
  rfl

end Cert.ReferenceIdeal.Lifted

end
-- ==== Proof.Algebraic.lean ====
/- The launch computes the reference's gradients: finite arguments are lifted real arrays, of which both programs' results are the
   same lifted arrays. -/
module

public import proofs.«01_k».proof.Defs
public import proofs.«01_k».proof.Proof.Grid
public import proofs.«01_k».proof.Proof.RefBwd
public import proofs.«01_k».proof.Proof.Gen.ReferenceIdeal.Run

@[expose] public section

noncomputable section

namespace Cert.Pre_finite

open Idealize.ShloMosaic

/-- The side conditions of the precondition's operations. -/
theorem facts : Facts where
  bitsLt_bf16_f32 := by decide
  bcast_S_S4096x5120 := by decide
  bcast_S_S4096x2048 := by decide
  bcast_S_S1x1024 := by decide
  bcast_S_S8x128x128 := by decide
  bcast_S_S8x128 := by decide
  bcast_S_S3x1024 := by decide
  bcast_S_S1x2048 := by decide

end Cert.Pre_finite

namespace Cert.Lifted

open Idealize.ShloMosaic Idealize.ShloMosaic.TcCoe Idealize.SL.Sem Cert.Coe Cert.Spec Finset

theorem real_of {φ : FTy} {x : Ideal φ}
    (h : FloatOps.cmpf (F := Ideal) (φ := φ) .olt (FloatOps.hostAbsf x) (⊤ : EReal) = 1#1) : ∃ r : ℝ, x = ((r : ℝ) : EReal) := by
  induction x using EReal.rec with
  | bot => exact absurd h (show ¬BitVec.ofBool (decide (max (⊥ : EReal) (-⊥) < ⊤)) = 1#1 by simp)
  | coe r => exact ⟨r, rfl⟩
  | top => exact absurd h (show ¬BitVec.ofBool (decide (max (⊤ : EReal) (-⊤) < ⊤)) = 1#1 by simp)

theorem lit_top : (FloatOps.ofBits .f32 0x7F800000#32 : Ideal .f32) = (⊤ : EReal) := by
  show Ideal.ofBits _ _ = _
  simp [Ideal.ofBits, Ideal.ieee]

variable {φ : FTy} {l m n : ℕ}

/-- An array of real entries is a lifted array. -/
theorem lift2 {x : FVec Ideal ⟨2, ![m, n]⟩ φ} (h : ∀ i, ∃ r : ℝ, x i = ((r : ℝ) : EReal)) :
    ∃ f : ℕ → ℕ → ℝ, x = (c2 m n f : FVec Ideal ⟨2, ![m, n]⟩ φ) := by
  choose g hg using h
  refine ⟨fun a b => if h : a < m ∧ b < n then g (fun k => match k with | ⟨0, _⟩ => ⟨a, h.1⟩ | ⟨1, _⟩ => ⟨b, h.2⟩) else 0, ?_⟩
  funext i
  show x i = (((if h : (i 0).val < m ∧ (i 1).val < n then
    g (fun k => match k with | ⟨0, _⟩ => ⟨(i 0).val, h.1⟩ | ⟨1, _⟩ => ⟨(i 1).val, h.2⟩) else 0 : ℝ)) : EReal)
  rw [dif_pos ⟨(i 0).isLt, (i 1).isLt⟩, hg]
  congr 2
  funext k
  match k with
  | ⟨0, _⟩ => rfl
  | ⟨1, _⟩ => rfl

theorem lift3 {x : FVec Ideal ⟨3, ![l, m, n]⟩ φ} (h : ∀ i, ∃ r : ℝ, x i = ((r : ℝ) : EReal)) :
    ∃ f : ℕ → ℕ → ℕ → ℝ, x = (c3 l m n f : FVec Ideal ⟨3, ![l, m, n]⟩ φ) := by
  choose g hg using h
  refine ⟨fun a b c => if h : a < l ∧ b < m ∧ c < n then
    g (fun k => match k with | ⟨0, _⟩ => ⟨a, h.1⟩ | ⟨1, _⟩ => ⟨b, h.2.1⟩ | ⟨2, _⟩ => ⟨c, h.2.2⟩) else 0, ?_⟩
  funext i
  show x i = (((if h : (i 0).val < l ∧ (i 1).val < m ∧ (i 2).val < n then
    g (fun k => match k with | ⟨0, _⟩ => ⟨(i 0).val, h.1⟩ | ⟨1, _⟩ => ⟨(i 1).val, h.2.1⟩ | ⟨2, _⟩ => ⟨(i 2).val, h.2.2⟩) else 0 : ℝ)) : EReal)
  rw [dif_pos ⟨(i 0).isLt, (i 1).isLt, (i 2).isLt⟩, hg]
  congr 2
  funext k
  match k with
  | ⟨0, _⟩ => rfl
  | ⟨1, _⟩ => rfl
  | ⟨2, _⟩ => rfl

theorem lift_row {x : FVec Ideal ⟨2, ![1, n]⟩ φ} (h : ∀ i, ∃ r : ℝ, x i = ((r : ℝ) : EReal)) :
    ∃ f : ℕ → ℝ, x = (c2 1 n fun _ b => f b : FVec Ideal ⟨2, ![1, n]⟩ φ) := by
  obtain ⟨f, hf⟩ := lift2 h
  refine ⟨f 0, hf.trans (c2_congr fun a ha b _ => ?_)⟩
  rw [Nat.lt_one_iff.mp ha]

open Cert.KernelIdeal Cert.KernelIdeal.Gen in
/-- Finite arguments are lifted. -/
theorem holds (m : (ℓ : Loc nD τ sig) → Buf (Elt Ideal) ℓ)
    (h : Pre_KernelIdeal_finite (hPre_finite := Cert.Pre_finite.facts) m) (c : Dev nD) : ∃ A : Args, Holds m c A := by
  obtain ⟨h0, h1, h2, h3, h4, h5, h6, h7⟩ := h c
  obtain ⟨z, hz⟩ := lift2 (φ := .bf16) (m := 4096) (n := 5120) (x := m ((c : Thread nD τ).loc main_arg0)) fun i => real_of (φ := .f32) ((congrArg _ lit_top.symm).trans (congrFun h0 i))
  obtain ⟨dy, hdy⟩ := lift2 (φ := .bf16) (m := 4096) (n := 2048) (x := m ((c : Thread nD τ).loc main_arg1)) fun i => real_of (φ := .f32) ((congrArg _ lit_top.symm).trans (congrFun h1 i))
  obtain ⟨lng, hlng⟩ := lift_row (φ := .f32) (n := 1024) (x := m ((c : Thread nD τ).loc main_arg2)) fun i => real_of (φ := .f32) ((congrArg _ lit_top.symm).trans (congrFun h2 i))
  obtain ⟨lnb, hlnb⟩ := lift_row (φ := .f32) (n := 1024) (x := m ((c : Thread nD τ).loc main_arg3)) fun i => real_of (φ := .f32) ((congrArg _ lit_top.symm).trans (congrFun h3 i))
  obtain ⟨w, hw⟩ := lift3 (φ := .f32) (l := 8) (m := 128) (n := 128) (x := m ((c : Thread nD τ).loc main_arg4)) fun i => real_of (φ := .f32) ((congrArg _ lit_top.symm).trans (congrFun h4 i))
  obtain ⟨b, hb⟩ := lift2 (φ := .f32) (m := 8) (n := 128) (x := m ((c : Thread nD τ).loc main_arg5)) fun i => real_of (φ := .f32) ((congrArg _ lit_top.symm).trans (congrFun h5 i))
  obtain ⟨cw, hcw⟩ := lift2 (φ := .f32) (m := 3) (n := 1024) (x := m ((c : Thread nD τ).loc main_arg6)) fun i => real_of (φ := .f32) ((congrArg _ lit_top.symm).trans (congrFun h6 i))
  obtain ⟨gg, hgg⟩ := lift_row (φ := .f32) (n := 2048) (x := m ((c : Thread nD τ).loc main_arg7)) fun i => real_of (φ := .f32) ((congrArg _ lit_top.symm).trans (congrFun h7 i))
  exact ⟨⟨z, dy, lng, lnb, w, b, cw, gg⟩, hz, hdy, hlng, hlnb, hw, hb, hcw, hgg⟩

end Cert.Lifted

namespace Cert

open Idealize.ShloMosaic Idealize.ShloMosaic.TcCoe Idealize.ShloMosaic.StableHlo Idealize.SL.Sem Cert.Coe Cert.Spec Finset

/-- The idealized launch and the idealized reference end in the same seven arrays. -/
theorem algebraic : algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hagree
  choose A H using Cert.Lifted.holds m hpre
  refine ⟨fun c => (c2 4096 5120 (dz (A c)) : FVec Ideal _ .bf16), fun c => (c2 1 1024 (fun _ b => dlng (A c) 4096 b) : FVec Ideal _ .f32),
    fun c => (c2 1 1024 (fun _ b => dlnb (A c) 4096 b) : FVec Ideal _ .f32), fun c => (c3 8 128 128 (dwm (A c)) : FVec Ideal _ .f32),
    fun c => (c3 8 128 128 (fun h a _ => dbs (A c) h a) : FVec Ideal _ .f32), fun c => (c2 8 1024 (dcw (A c) 4096) : FVec Ideal _ .f32),
    fun c => (c2 1 2048 (fun _ b => dgg (A c) 4096 b) : FVec Ideal _ .f32), ?_, ?_⟩
  · refine (θ_run Cert.KernelIdeal.defs _ _).mono (fun r h c => ?_) (Cert.KernelIdeal.Value.run_blocks m ρ)
    obtain ⟨h0, h1, h2, h3, h4, h5, h6, ha⟩ := h c
    exact ⟨h0.trans (Cert.KernelIdeal.Gen.final_14 (H c)), h1.trans (Cert.KernelIdeal.Gen.final_15 (H c)),
      h2.trans (Cert.KernelIdeal.Gen.final_16 (H c)), h3.trans (Cert.KernelIdeal.Gen.final_17 (H c)),
      h4.trans (Cert.KernelIdeal.Gen.final_18 (H c)), h5.trans (Cert.KernelIdeal.Gen.final_19 (H c)),
      h6.trans (Cert.KernelIdeal.Gen.final_20 (H c)), ha⟩
  · refine (θ_run Cert.ReferenceIdeal.defs _ _).mono (fun r h c => ?_) (Cert.ReferenceIdeal.Value.run (F := Ideal) m' ρ')
    obtain ⟨h0, h1, h2, h3, h4, h5, h6, ha⟩ := h c
    obtain ⟨e0, e1, e2, e3, e4, e5, e6, e7⟩ := hagree c
    replace e0 : launchContents m' c (Proc.devRef .tc Cert.ReferenceIdeal.main_arg0) = Cert.ReferenceIdeal.Lifted.X0 (A c) := e0.trans (H c).z
    replace e1 : launchContents m' c (Proc.devRef .tc Cert.ReferenceIdeal.main_arg1) = Cert.ReferenceIdeal.Lifted.X1 (A c) := e1.trans (H c).dy
    replace e2 : launchContents m' c (Proc.devRef .tc Cert.ReferenceIdeal.main_arg2) = Cert.ReferenceIdeal.Lifted.X2 (A c) := e2.trans (H c).lng
    replace e3 : launchContents m' c (Proc.devRef .tc Cert.ReferenceIdeal.main_arg3) = Cert.ReferenceIdeal.Lifted.X3 (A c) := e3.trans (H c).lnb
    replace e4 : launchContents m' c (Proc.devRef .tc Cert.ReferenceIdeal.main_arg4) = Cert.ReferenceIdeal.Lifted.X4 (A c) := e4.trans (H c).w
    replace e5 : launchContents m' c (Proc.devRef .tc Cert.ReferenceIdeal.main_arg5) = Cert.ReferenceIdeal.Lifted.X5 (A c) := e5.trans (H c).b
    replace e6 : launchContents m' c (Proc.devRef .tc Cert.ReferenceIdeal.main_arg6) = Cert.ReferenceIdeal.Lifted.X6 (A c) := e6.trans (H c).cw
    replace e7 : launchContents m' c (Proc.devRef .tc Cert.ReferenceIdeal.main_arg7) = Cert.ReferenceIdeal.Lifted.X7 (A c) := e7.trans (H c).gg
    refine ⟨h0.trans ?_, h1.trans ?_, h2.trans ?_, h3.trans ?_, h4.trans ?_, h5.trans ?_, h6.trans ?_, ha⟩
    · refine (Cert.ReferenceIdeal.Read.val_main_v279_eq (launchContents m' c)).trans ?_
      rw [e0, e1, e2, e3, e4, e5, e6, e7]
      exact Cert.ReferenceIdeal.Lifted.v279 (A c)
    · refine (Cert.ReferenceIdeal.Read.val_main_v228_eq (launchContents m' c)).trans ?_
      rw [e0, e1, e2, e3, e4, e5, e7]
      exact Cert.ReferenceIdeal.Lifted.v228 (A c)
    · refine (Cert.ReferenceIdeal.Read.val_main_v225_eq (launchContents m' c)).trans ?_
      rw [e0, e1, e2, e3, e4, e5, e7]
      exact Cert.ReferenceIdeal.Lifted.v225 (A c)
    · refine (Cert.ReferenceIdeal.Read.val_main_v222_eq (launchContents m' c)).trans ?_
      rw [e0, e1, e2, e3, e4, e5, e7]
      exact Cert.ReferenceIdeal.Lifted.v222 (A c)
    · refine (Cert.ReferenceIdeal.Read.val_main_v276_eq (launchContents m' c)).trans ?_
      rw [e0, e1, e2, e3, e4, e5, e7]
      exact Cert.ReferenceIdeal.Lifted.v276 (A c)
    · refine (Cert.ReferenceIdeal.Read.val_main_v278_eq (launchContents m' c)).trans ?_
      rw [e0, e1, e6, e7]
      exact Cert.ReferenceIdeal.Lifted.v278 (A c)
    · refine (Cert.ReferenceIdeal.Read.val_main_v172_eq (launchContents m' c)).trans ?_
      rw [e0, e1, e2, e3, e4, e5, e6]
      exact Cert.ReferenceIdeal.Lifted.v172 (A c)

end Cert

end
-- ==== Proof.ProductFrames.lean ====
/- The frames of the references of the further calls. -/
module

public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Defs
public import Idealize.ShloMosaic.Lib.Quiescent

@[expose] public section

noncomputable section

namespace Cert

open Idealize.ShloMosaic Idealize.SL.Sem

theorem frame_reference2 : quiescent_Reference2Ideal (hReference2Ideal := Reference2Ideal.Gen.facts) := fun m ρ _ =>
  (θ_run _ _ _).mono (fun r h => ⟨fun c => (h c).2.2, sem_eq_zero_of_no_sems (by decide) r.2⟩) (Reference2Ideal.Value.run (F := Ideal) m ρ)
theorem frame_reference3 : quiescent_Reference3Ideal (hReference3Ideal := Reference3Ideal.Gen.facts) := fun m ρ _ =>
  (θ_run _ _ _).mono (fun r h => ⟨fun c => (h c).2, sem_eq_zero_of_no_sems (by decide) r.2⟩) (Reference3Ideal.Value.run (F := Ideal) m ρ)
theorem frame_reference4 : quiescent_Reference4Ideal (hReference4Ideal := Reference4Ideal.Gen.facts) := fun m ρ _ =>
  (θ_run _ _ _).mono (fun r h => ⟨fun c => (h c).2.2.2, sem_eq_zero_of_no_sems (by decide) r.2⟩) (Reference4Ideal.Value.run (F := Ideal) m ρ)
theorem frame_reference5 : quiescent_Reference5Ideal (hReference5Ideal := Reference5Ideal.Gen.facts) := fun m ρ _ =>
  (θ_run _ _ _).mono (fun r h => ⟨fun c => (h c).2, sem_eq_zero_of_no_sems (by decide) r.2⟩) (Reference5Ideal.Value.run (F := Ideal) m ρ)
theorem frame_reference6 : quiescent_Reference6Ideal (hReference6Ideal := Reference6Ideal.Gen.facts) := fun m ρ _ =>
  (θ_run _ _ _).mono (fun r h => ⟨fun c => (h c).2, sem_eq_zero_of_no_sems (by decide) r.2⟩) (Reference6Ideal.Value.run (F := Ideal) m ρ)
theorem frame_reference7 : quiescent_Reference7Ideal (hReference7Ideal := Reference7Ideal.Gen.facts) := fun m ρ _ =>
  (θ_run _ _ _).mono (fun r h => ⟨fun c => (h c).2, sem_eq_zero_of_no_sems (by decide) r.2⟩) (Reference7Ideal.Value.run (F := Ideal) m ρ)
theorem frame_reference8 : quiescent_Reference8Ideal (hReference8Ideal := Reference8Ideal.Gen.facts) := fun m ρ _ =>
  (θ_run _ _ _).mono (fun r h => ⟨fun c => (h c).2, sem_eq_zero_of_no_sems (by decide) r.2⟩) (Reference8Ideal.Value.run (F := Ideal) m ρ)
theorem frame_reference9 : quiescent_Reference9Ideal (hReference9Ideal := Reference9Ideal.Gen.facts) := fun m ρ _ =>
  (θ_run _ _ _).mono (fun r h => ⟨fun c => (h c).2, sem_eq_zero_of_no_sems (by decide) r.2⟩) (Reference9Ideal.Value.run (F := Ideal) m ρ)
theorem frame_reference10 : quiescent_Reference10Ideal (hReference10Ideal := Reference10Ideal.Gen.facts) := fun m ρ _ =>
  (θ_run _ _ _).mono (fun r h => ⟨fun c => (h c).2, sem_eq_zero_of_no_sems (by decide) r.2⟩) (Reference10Ideal.Value.run (F := Ideal) m ρ)
theorem frame_reference11 : quiescent_Reference11Ideal (hReference11Ideal := Reference11Ideal.Gen.facts) := fun m ρ _ =>
  (θ_run _ _ _).mono (fun r h => ⟨fun c => (h c).2, sem_eq_zero_of_no_sems (by decide) r.2⟩) (Reference11Ideal.Value.run (F := Ideal) m ρ)
theorem frame_reference12 : quiescent_Reference12Ideal (hReference12Ideal := Reference12Ideal.Gen.facts) := fun m ρ _ =>
  (θ_run _ _ _).mono (fun r h => ⟨fun c => (h c).2, sem_eq_zero_of_no_sems (by decide) r.2⟩) (Reference12Ideal.Value.run (F := Ideal) m ρ)
theorem frame_reference13 : quiescent_Reference13Ideal (hReference13Ideal := Reference13Ideal.Gen.facts) := fun m ρ _ =>
  (θ_run _ _ _).mono (fun r h => ⟨fun c => (h c).2, sem_eq_zero_of_no_sems (by decide) r.2⟩) (Reference13Ideal.Value.run (F := Ideal) m ρ)
theorem frame_reference14 : quiescent_Reference14Ideal (hReference14Ideal := Reference14Ideal.Gen.facts) := fun m ρ _ =>
  (θ_run _ _ _).mono (fun r h => ⟨fun c => (h c).2, sem_eq_zero_of_no_sems (by decide) r.2⟩) (Reference14Ideal.Value.run (F := Ideal) m ρ)
theorem frame_reference15 : quiescent_Reference15Ideal (hReference15Ideal := Reference15Ideal.Gen.facts) := fun m ρ _ =>
  (θ_run _ _ _).mono (fun r h => ⟨fun c => (h c).2.2.2.2, sem_eq_zero_of_no_sems (by decide) r.2⟩) (Reference15Ideal.Value.run (F := Ideal) m ρ)
theorem frame_reference16 : quiescent_Reference16Ideal (hReference16Ideal := Reference16Ideal.Gen.facts) := fun m ρ _ =>
  (θ_run _ _ _).mono (fun r h => ⟨fun c => (h c).2.2.2.2, sem_eq_zero_of_no_sems (by decide) r.2⟩) (Reference16Ideal.Value.run (F := Ideal) m ρ)
theorem frame_reference17 : quiescent_Reference17Ideal (hReference17Ideal := Reference17Ideal.Gen.facts) := fun m ρ _ =>
  (θ_run _ _ _).mono (fun r h => ⟨fun c => (h c).2.2.2.2, sem_eq_zero_of_no_sems (by decide) r.2⟩) (Reference17Ideal.Value.run (F := Ideal) m ρ)
theorem frame_reference18 : quiescent_Reference18Ideal (hReference18Ideal := Reference18Ideal.Gen.facts) := fun m ρ _ =>
  (θ_run _ _ _).mono (fun r h => ⟨fun c => (h c).2.2.2, sem_eq_zero_of_no_sems (by decide) r.2⟩) (Reference18Ideal.Value.run (F := Ideal) m ρ)
theorem frame_reference19 : quiescent_Reference19Ideal (hReference19Ideal := Reference19Ideal.Gen.facts) := fun m ρ _ =>
  (θ_run _ _ _).mono (fun r h => ⟨fun c => (h c).2.2, sem_eq_zero_of_no_sems (by decide) r.2⟩) (Reference19Ideal.Value.run (F := Ideal) m ρ)
theorem frame_reference20 : quiescent_Reference20Ideal (hReference20Ideal := Reference20Ideal.Gen.facts) := fun m ρ _ =>
  (θ_run _ _ _).mono (fun r h => ⟨fun c => (h c).2, sem_eq_zero_of_no_sems (by decide) r.2⟩) (Reference20Ideal.Value.run (F := Ideal) m ρ)
theorem frame_reference21 : quiescent_Reference21Ideal (hReference21Ideal := Reference21Ideal.Gen.facts) := fun m ρ _ =>
  (θ_run _ _ _).mono (fun r h => ⟨fun c => (h c).2.2.2.2, sem_eq_zero_of_no_sems (by decide) r.2⟩) (Reference21Ideal.Value.run (F := Ideal) m ρ)

end Cert

end
-- ==== Proof.Products.lean ====
/- Products of two matrices computed block by block: a matrix at its coordinates as natural numbers, the product of two tiles as a sum
   over a range, the sum a scratch carries over the points of a run, and the blocks of the contracted axis put together again. -/
module

public import Idealize.ShloMosaic.PureOps
public import Idealize.ShloMosaic.PureOps.Ideal
public import Idealize.ShloMosaic.PureOps.Ideal.Laws
public import Idealize.ShloMosaic.Lib.Pointwise.Contract
public import Idealize.ShloMosaic.Lib.Pipeline.Value
public import Idealize.ShloMosaic.Lib.ValueIdx
public import Idealize.ShloMosaic.Lib.Tactic

@[expose] public section

noncomputable section

namespace Cert.Products

open Idealize.ShloMosaic Finset

variable {φ ψ : FTy} {a b c d p q : ℕ}

theorem hz : (![0, 0] : Fin 2 → ℕ) = fun _ => 0 := funext fun x => by fin_cases x <;> rfl

/-- A load of a whole matrix is the matrix. -/
theorem ld_whole {Val : EltTy → Type} {e : EltTy} (X : (⟨2, ![a, b]⟩ : Shape).Idx → Val e)
    (h : ∀ x, (![0, 0] : Fin 2 → ℕ) x + (⟨2, ![a, b]⟩ : Shape).size x ≤ (⟨2, ![a, b]⟩ : Shape).size x) :
    View.ld X (Rect.unit ![0, 0] ![a, b] h) = X := View.ld_unit_zero (S := ⟨2, ![a, b]⟩) hz h X

theorem add_to {x y z : EReal} (h : y = z) : x + y = x + z := by rw [h]

/-- The entry of a matrix at two natural numbers, zero outside. -/
def at2 {a b : ℕ} (X : (⟨2, ![a, b]⟩ : Shape).Idx → EReal) (r s : ℕ) : EReal :=
  if h : r < a ∧ s < b then X (fun x => match x with | ⟨0, _⟩ => ⟨r, h.1⟩ | ⟨1, _⟩ => ⟨s, h.2⟩) else 0

/-- An entry, from the values of its coordinates. -/
theorem entry (X : (⟨2, ![a, b]⟩ : Shape).Idx → EReal) (i : (⟨2, ![a, b]⟩ : Shape).Idx) {r s : ℕ} (hr : (i 0).val = r) (hs : (i 1).val = s) :
    X i = at2 X r s := by
  subst hr hs
  unfold at2
  rw [dif_pos ⟨(i 0).isLt, (i 1).isLt⟩]
  congr 1
  funext x
  match x with
  | ⟨0, _⟩ => rfl
  | ⟨1, _⟩ => rfl

/-- An entry of a block is the entry of the matrix at the block's offset. -/
theorem at2_block (X : (⟨2, ![a, b]⟩ : Shape).Idx → EReal) (Y : (⟨2, ![c, d]⟩ : Shape).Idx → EReal)
    (e : (⟨2, ![a, b]⟩ : Shape).Idx → (⟨2, ![c, d]⟩ : Shape).Idx) (h : ∀ y, X y = Y (e y)) {o₀ o₁ : ℕ}
    (h₀ : ∀ y, (e y 0).val = o₀ + (y 0).val) (h₁ : ∀ y, (e y 1).val = o₁ + (y 1).val) {r s : ℕ} (hr : r < a) (hs : s < b) :
    at2 X r s = at2 Y (o₀ + r) (o₁ + s) := by
  unfold at2
  rw [dif_pos ⟨hr, hs⟩, h]
  exact entry Y _ (h₀ _) (h₁ _)

/-- A sum over the contracted coordinate, from the coordinates the product reads. -/
theorem sum_at {K : ℕ} (X : (⟨2, ![a, b]⟩ : Shape).Idx → EReal) (Y : (⟨2, ![c, d]⟩ : Shape).Idx → EReal) (l : Fin K → (⟨2, ![a, b]⟩ : Shape).Idx)
    (r : Fin K → (⟨2, ![c, d]⟩ : Shape).Idx) (L R : ℕ → ℕ × ℕ) (hl : ∀ k, (l k 0).val = (L k.val).1 ∧ (l k 1).val = (L k.val).2)
    (hr : ∀ k, (r k 0).val = (R k.val).1 ∧ (r k 1).val = (R k.val).2) :
    ∑ k : Fin K, X (l k) * Y (r k) = ∑ k ∈ range K, at2 X (L k).1 (L k).2 * at2 Y (R k).1 (R k).2 := by
  rw [← Fin.sum_univ_eq_sum_range (fun k => at2 X (L k).1 (L k).2 * at2 Y (R k).1 (R k).2) K]
  exact sum_congr rfl fun k _ => congrArg₂ (· * ·) (entry X _ (hl k).1 (hl k).2) (entry Y _ (hr k).1 (hr k).2)

/-- A product of two matrices into a zero accumulator, from the coordinates the product reads. -/
theorem matmul_at (D : DotDims ⟨2, ![a, b]⟩ ⟨2, ![c, d]⟩ ⟨2, ![p, q]⟩) {x : Fin 2} (hc : D.lhsContracting = [x]) {K : ℕ}
    (hK : (⟨2, ![a, b]⟩ : Shape).size x = K) (prec : Option ContractPrecision) (X : FVec Ideal ⟨2, ![a, b]⟩ φ)
    (Y : FVec Ideal ⟨2, ![c, d]⟩ ψ) (j : (⟨2, ![p, q]⟩ : Shape).Idx) (L R : ℕ → ℕ × ℕ)
    (hL : ∀ k : Fin K, (D.lhsIdx j (D.contrIdx₁ hc hK k) 0).val = (L k.val).1 ∧ (D.lhsIdx j (D.contrIdx₁ hc hK k) 1).val = (L k.val).2)
    (hR : ∀ k : Fin K, (D.rhsIdx j (D.contrIdx₁ hc hK k) 0).val = (R k.val).1 ∧ (D.rhsIdx j (D.contrIdx₁ hc hK k) 1).val = (R k.val).2) :
    matmul D prec X Y (constant ⟨2, ![p, q]⟩ .f32 0x00000000#32) j
      = ∑ k ∈ range K, at2 X (L k).1 (L k).2 * at2 Y (R k).1 (R k).2 := by
  refine (Ideal.matmul_constant_zero_apply D prec _ _ j).trans ?_
  rw [D.sum_contr₁ hc hK]
  exact sum_at X Y _ _ L R hL hR

/-- The blocks of a range, put together. -/
theorem sum_blocks {n : ℕ} (f : ℕ → EReal) : ∀ m : ℕ, ∑ j ∈ range m, ∑ k ∈ range n, f (n * j + k) = ∑ k ∈ range (n * m), f k
  | 0 => by simp
  | m + 1 => by rw [sum_range_succ, sum_blocks f m, Nat.mul_succ, sum_range_add]

/-- What a scratch holds at a place, where the first point of a run of `n` stores a term and the later ones add theirs. -/
theorem carried {N n : ℕ} (s u : ∀ t, t < N → EReal) (first : ∀ t h, t % n = 0 → s t h = u t h)
    (mid : ∀ t h h', 1 ≤ t % n → t % n + 2 ≤ n → s t h = s (t - 1) h' + u t h) (r : ℕ) :
    ∀ (x : ℕ) (h : n * r + x < N), x + 2 ≤ n → s (n * r + x) h = ∑ j ∈ range (x + 1), if h : n * r + j < N then u (n * r + j) h else 0
  | 0, h, _ => by
    have h : n * r < N := h
    simp [first (n * r) h (Nat.mul_mod_right n r), h]
  | x + 1, h, hx => by
    have e : (n * r + (x + 1)) % n = x + 1 := by rw [Nat.mul_add_mod]; exact Nat.mod_eq_of_lt (by omega)
    rw [mid _ h (by omega) (by omega) (by omega), sum_range_succ, ← carried s u first mid r x (by omega) (by omega), dif_pos h]
    rfl

/-- What the last point of a run of `n` stores, where a point's term is a sum over its block of the contracted axis: the whole sum. -/
theorem blocked {N n K : ℕ} (s u : ∀ t, t < N → EReal) (f : ℕ → EReal) (first : ∀ t h, t % n = 0 → s t h = u t h)
    (mid : ∀ t h h', 1 ≤ t % n → t % n + 2 ≤ n → s t h = s (t - 1) h' + u t h) (r : ℕ) (hn : 2 ≤ n) (h : n * r + (n - 1) < N) {o : EReal}
    (last : o = s (n * r + (n - 1) - 1) (Nat.lt_of_le_of_lt (Nat.sub_le _ _) h) + u (n * r + (n - 1)) h)
    (block : ∀ x (h : n * r + x < N), x < n → u (n * r + x) h = ∑ k ∈ range K, f (K * x + k)) : o = ∑ k ∈ range (K * n), f k := by
  have hs := carried s u first mid r (n - 2) (by omega) (by omega)
  obtain ⟨n, rfl⟩ : ∃ k, n = k + 2 := ⟨n - 2, by omega⟩
  rw [last, ← sum_blocks f (n + 2), sum_range_succ, ← block (n + 1) h (by omega)]
  refine congrArg (· + _) (hs.trans (sum_congr rfl fun x hx => ?_))
  have hx : x < n + 1 := mem_range.mp hx
  have h' : (n + 2) * r + x < N := Nat.lt_of_le_of_lt (by omega) h
  rw [dif_pos h', block x h' (by omega)]

/-! ### Two matrices side by side, and one over another -/

theorem cols_left (X : (⟨2, ![a, b]⟩ : Shape).Idx → EReal) (Y : (⟨2, ![a, d]⟩ : Shape).Idx → EReal)
    (h : Shape.Concatenates [(⟨2, ![a, b]⟩ : Shape), ⟨2, ![a, d]⟩] ⟨2, ![a, p]⟩ 1) {r s : ℕ} (hr : r < a) (hs : s < b) (hp : b + d = p) :
    at2 (concatenate ⟨2, ![a, p]⟩ 1 [⟨_, X⟩, ⟨_, Y⟩] h) r s = at2 X r s := by
  unfold at2
  rw [dif_pos ⟨hr, by omega⟩, dif_pos ⟨hr, hs⟩]
  exact concatenate_pair_apply_left 1 X Y h _ rfl _ fun x => match x with | ⟨0, _⟩ => rfl | ⟨1, _⟩ => rfl
theorem cols_right (X : (⟨2, ![a, b]⟩ : Shape).Idx → EReal) (Y : (⟨2, ![a, d]⟩ : Shape).Idx → EReal)
    (h : Shape.Concatenates [(⟨2, ![a, b]⟩ : Shape), ⟨2, ![a, d]⟩] ⟨2, ![a, p]⟩ 1) {r s : ℕ} (hr : r < a) (hs : s < d) (hp : b + d = p) :
    at2 (concatenate ⟨2, ![a, p]⟩ 1 [⟨_, X⟩, ⟨_, Y⟩] h) r (b + s) = at2 Y r s := by
  unfold at2
  rw [dif_pos ⟨hr, by omega⟩, dif_pos ⟨hr, hs⟩]
  exact concatenate_pair_apply_right 1 X Y h _ rfl rfl _ (fun x hx => match x, hx with | ⟨0, _⟩, _ => rfl | ⟨1, _⟩, hx => absurd rfl hx)
    (Nat.add_comm _ _)
theorem rows_left (X : (⟨2, ![b, a]⟩ : Shape).Idx → EReal) (Y : (⟨2, ![d, a]⟩ : Shape).Idx → EReal)
    (h : Shape.Concatenates [(⟨2, ![b, a]⟩ : Shape), ⟨2, ![d, a]⟩] ⟨2, ![p, a]⟩ 0) {r s : ℕ} (hr : r < b) (hs : s < a) (hp : b + d = p) :
    at2 (concatenate ⟨2, ![p, a]⟩ 0 [⟨_, X⟩, ⟨_, Y⟩] h) r s = at2 X r s := by
  unfold at2
  rw [dif_pos ⟨by omega, hs⟩, dif_pos ⟨hr, hs⟩]
  exact concatenate_pair_apply_left 0 X Y h _ rfl _ fun x => match x with | ⟨0, _⟩ => rfl | ⟨1, _⟩ => rfl
theorem rows_right (X : (⟨2, ![b, a]⟩ : Shape).Idx → EReal) (Y : (⟨2, ![d, a]⟩ : Shape).Idx → EReal)
    (h : Shape.Concatenates [(⟨2, ![b, a]⟩ : Shape), ⟨2, ![d, a]⟩] ⟨2, ![p, a]⟩ 0) {r s : ℕ} (hr : r < d) (hs : s < a) (hp : b + d = p) :
    at2 (concatenate ⟨2, ![p, a]⟩ 0 [⟨_, X⟩, ⟨_, Y⟩] h) (b + r) s = at2 Y r s := by
  unfold at2
  rw [dif_pos ⟨by omega, hs⟩, dif_pos ⟨hr, hs⟩]
  exact concatenate_pair_apply_right 0 X Y h _ rfl rfl _ (fun x hx => match x, hx with | ⟨1, _⟩, _ => rfl | ⟨0, _⟩, hx => absurd rfl hx)
    (Nat.add_comm _ _)

end Cert.Products

end
-- ==== Proof.Product2.lean ====
/- The gradients of the gate's and the up projection's weights, computed together. -/
module

public import proofs.«01_k».proof.Proof.Products
public import proofs.«01_k».proof.Proof.Gen.Kernel2Ideal.Value
public import proofs.«01_k».proof.Proof.Gen.Reference2Ideal.Run
public import proofs.«01_k».proof.Proof.Gen.Reference2Ideal.Read
public import proofs.«01_k».proof.Defs

@[expose] public section

noncomputable section

namespace Cert.Kernel2Ideal.Product

open Cert.Kernel2Ideal Cert.Kernel2Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x1408 .bf16) (Y : FVec Ideal S1024x1024 .bf16) (j : S1408x1024.Idx) : EReal :=
  ∑ k ∈ range 1024, at2 X k (j 0).val * at2 Y k (j 1).val

theorem dot (X : FVec Ideal S1024x1408 .bf16) (Y : FVec Ideal S1024x1024 .bf16) (j : S1408x1024.Idx) :
    matmul dot_S1024x1408_S1024x1024_S1408x1024_0_0_1_1_n_n none X Y (constant S1408x1024 .f32 0x00000000#32) j = term X Y j :=
  matmul_at dot_S1024x1408_S1024x1024_S1408x1024_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S1408x1024.Idx) :
    (outsAt0 m c t.val t.isLt).2.2.1 j = term (iblk m c 0 t) (iblk m c 1 t) j
    ∧ (outsAt0 m c t.val t.isLt).2.2.2 j = term (iblk m c 2 t) (iblk m c 3 t) j := by
  rw [outsAt0_A m c t h (by omega) (by omega)]
  dsimp only
  unfold sout0_A_0 sout0_A_1
  rw [View.read_writes_eq_canon _ _ _ (fun y => scover0_A_0 (y := y) ..), View.read_writes_eq_canon _ _ _ (fun y => scover0_A_1 (y := y) ..)]
  unfold kernelRun0_A
  dsimp only
  rw [View.canon_unit_zero hz, View.canon_unit_zero hz]
  unfold k0_pay1 k0_pay2
  simp only [View.readAt_eq_ld, (hs0_0 t).read_unread, (hs0_1 t).read_unread, (hs0_2 t).read_unread, (hs0_3 t).read_unread, ld_whole,
    shapeCast_self]
  exact ⟨dot _ _ j, dot _ _ j⟩

theorem mid (t : Fin cfg0.N) (h : 1 ≤ t.val % 4 ∧ t.val % 4 ≤ 2) (j : S1408x1024.Idx) :
    (outsAt0 m c t.val t.isLt).2.2.1 j
      = (outsAt0 m c (t.val - 1) (Nat.lt_of_le_of_lt (Nat.sub_le _ _) t.isLt)).2.2.1 j + term (iblk m c 0 t) (iblk m c 1 t) j
    ∧ (outsAt0 m c t.val t.isLt).2.2.2 j
      = (outsAt0 m c (t.val - 1) (Nat.lt_of_le_of_lt (Nat.sub_le _ _) t.isLt)).2.2.2 j + term (iblk m c 2 t) (iblk m c 3 t) j := by
  rw [outsAt0_B m c t (by omega) h (by omega)]
  dsimp only
  unfold sout0_B_0 sout0_B_1
  rw [View.read_writes_eq_canon _ _ _ (fun y => scover0_B_0 (y := y) ..), View.read_writes_eq_canon _ _ _ (fun y => scover0_B_1 (y := y) ..)]
  unfold kernelRun0_B
  dsimp only
  rw [View.canon_unit_zero hz, View.canon_unit_zero hz]
  unfold k0_pay3 k0_pay4
  simp only [View.readAt_eq_ld, (hs0_0 t).read_unread, (hs0_1 t).read_unread, (hs0_2 t).read_unread, (hs0_3 t).read_unread,
    (Memref.isWhole_whole _).read_unread, ld_whole, shapeCast_self]
  exact ⟨add_to (dot _ _ j), add_to (dot _ _ j)⟩

theorem last (t : Fin cfg0.N) (h : t.val % 4 = 3) (j : S1408x1024.Idx) :
    (outsAt0 m c t.val t.isLt).1 j
      = (outsAt0 m c (t.val - 1) (Nat.lt_of_le_of_lt (Nat.sub_le _ _) t.isLt)).2.2.1 j + term (iblk m c 0 t) (iblk m c 1 t) j
    ∧ (outsAt0 m c t.val t.isLt).2.1 j
      = (outsAt0 m c (t.val - 1) (Nat.lt_of_le_of_lt (Nat.sub_le _ _) t.isLt)).2.2.2 j + term (iblk m c 2 t) (iblk m c 3 t) j := by
  rw [outsAt0_C m c t (by omega) (by omega) h]
  dsimp only
  unfold out0_C_4 out0_C_5
  rw [View.read_writes_eq_canon _ _ _ (fun y => cover0_C_4 (y := y) ..), View.read_writes_eq_canon _ _ _ (fun y => cover0_C_5 (y := y) ..)]
  unfold kernelRun0_C
  dsimp only
  rw [View.canon_unit_zero hz, View.canon_unit_zero hz]
  unfold k0_pay5 k0_pay6
  simp only [View.readAt_eq_ld, (hs0_0 t).read_unread, (hs0_1 t).read_unread, (hs0_2 t).read_unread, (hs0_3 t).read_unread,
    (Memref.isWhole_whole _).read_unread, ld_whole, shapeCast_self]
  exact ⟨add_to (dot _ _ j), add_to (dot _ _ j)⟩

/-- The tiles' indices over the grid: four columns of blocks of the first operands, two of the second, four blocks of rows. -/
theorem at_point : ∀ t : Fin cfg0.N, win0_0.index t 0 = t.val % 4 ∧ win0_0.index t 1 = t.val / 8 ∧ win0_1.index t 0 = t.val % 4
    ∧ win0_1.index t 1 = t.val / 4 % 2 ∧ win0_2.index t 0 = t.val % 4 ∧ win0_2.index t 1 = t.val / 8 ∧ win0_3.index t 0 = t.val % 4
    ∧ win0_3.index t 1 = t.val / 4 % 2 := (by decide +kernel : ∀ t : Fin grid0.N, _)

/-- The first operand of either product, and their common second operand. -/
abbrev A : S4096x5632.Idx → EReal := m ((c.tc : Thread nD τ).loc main_arg0)
abbrev A' : S4096x5632.Idx → EReal := m ((c.tc : Thread nD τ).loc main_arg1)
abbrev B : S4096x2048.Idx → EReal := m ((c.tc : Thread nD τ).loc main_arg2)

/-- A point's terms: the parts of the results' sums over that point's rows. -/
theorem term_eq (t : Fin cfg0.N) (j : S1408x1024.Idx) : term (iblk m c 0 t) (iblk m c 1 t) j
    = ∑ k ∈ range 1024, at2 (A m c) (1024 * (t.val % 4) + k) (1408 * (t.val / 8) + (j 0).val)
      * at2 (B m c) (1024 * (t.val % 4) + k) (1024 * (t.val / 4 % 2) + (j 1).val) := by
  obtain ⟨e0, e1, e2, e3, -, -, -, -⟩ := at_point t
  refine sum_congr rfl fun k hk => ?_
  have hk := mem_range.mp hk
  refine congrArg₂ (· * ·) (at2_block _ _ ((cfg0.win 0).blk t).view.emb (fun _ => rfl) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 1408 + 1 * (y 1).val = _; omega
  · show win0_1.index t 0 * 1024 + 1 * (y 0).val = _; omega
  · show win0_1.index t 1 * 1024 + 1 * (y 1).val = _; omega
theorem term_eq' (t : Fin cfg0.N) (j : S1408x1024.Idx) : term (iblk m c 2 t) (iblk m c 3 t) j
    = ∑ k ∈ range 1024, at2 (A' m c) (1024 * (t.val % 4) + k) (1408 * (t.val / 8) + (j 0).val)
      * at2 (B m c) (1024 * (t.val % 4) + k) (1024 * (t.val / 4 % 2) + (j 1).val) := by
  obtain ⟨-, -, -, -, e0, e1, e2, e3⟩ := at_point t
  refine sum_congr rfl fun k hk => ?_
  have hk := mem_range.mp hk
  refine congrArg₂ (· * ·) (at2_block _ _ ((cfg0.win 2).blk t).view.emb (fun _ => rfl) (fun y => ?_) (fun y => ?_) hk (j 0).isLt)
    (at2_block _ _ ((cfg0.win 3).blk t).view.emb (fun _ => rfl) (fun y => ?_) (fun y => ?_) hk (j 1).isLt)
  · show win0_2.index t 0 * 1024 + 1 * (y 0).val = _; omega
  · show win0_2.index t 1 * 1408 + 1 * (y 1).val = _; omega
  · show win0_3.index t 0 * 1024 + 1 * (y 0).val = _; omega
  · show win0_3.index t 1 * 1024 + 1 * (y 1).val = _; omega

theorem point_lt (i : S5632x2048.Idx) : Value.pt4Of i < cfg0.N := by
  have h0 : (i 0).val < 5632 := (i 0).isLt
  have h1 : (i 1).val < 2048 := (i 1).isLt
  have hN : cfg0.N = 32 := N_0
  show 4 * (2 * ((i 0).val / 1408 - 0) + 1 * ((i 1).val / 1024 - 0)) + 3 < _
  omega

/-- The rows and columns the points of an index's run read. -/
theorem place (X : S4096x5632.Idx → EReal) (Y : S4096x2048.Idx → EReal) (i : S5632x2048.Idx) (x k : ℕ) (hx : x < 4) :
    at2 X (1024 * ((4 * Value.run4Of i + x) % 4) + k) (1408 * ((4 * Value.run4Of i + x) / 8) + (i 0).val % 1408)
      * at2 Y (1024 * ((4 * Value.run4Of i + x) % 4) + k) (1024 * ((4 * Value.run4Of i + x) / 4 % 2) + (i 1).val % 1024)
    = at2 X (1024 * x + k) (i 0).val * at2 Y (1024 * x + k) (i 1).val := by
  have h0 : (i 0).val < 5632 := (i 0).isLt
  have h1 : (i 1).val < 2048 := (i 1).isLt
  have hr : Value.run4Of i = 2 * ((i 0).val / 1408 - 0) + 1 * ((i 1).val / 1024 - 0) := rfl
  rw [show (4 * Value.run4Of i + x) % 4 = x by omega, show (4 * Value.run4Of i + x) / 8 = (i 0).val / 1408 by omega,
    show (4 * Value.run4Of i + x) / 4 % 2 = (i 1).val / 1024 by omega, Nat.div_add_mod, Nat.div_add_mod]

/-- The results: the products of the transposed first operands and the second. -/
theorem result (i : S5632x2048.Idx) :
    Value.G4 m c i = ∑ k ∈ range 4096, at2 (A m c) k (i 0).val * at2 (B m c) k (i 1).val := by
  have hp := point_lt i
  unfold Value.G4
  rw [dif_pos hp, ← Value.outsAt0_sweep m c _ hp]
  exact blocked (n := 4) (K := 1024) (fun t h => (outsAt0 m c t h).2.2.1 (Value.loc4Of i)) (fun t h => term (iblk m c 0 ⟨t, h⟩) (iblk m c 1 ⟨t, h⟩) _)
    (fun k => at2 (A m c) k (i 0).val * at2 (B m c) k (i 1).val) (fun t h e => (first m c ⟨t, h⟩ e _).1)
    (fun t h h' e e' => (mid m c ⟨t, h⟩ ⟨e, by show t % 4 ≤ 2; omega⟩ _).1) (Value.run4Of i) (by decide) hp
    (last m c ⟨_, hp⟩ (Nat.mul_add_mod _ _ _) _).1
    (fun x h hx => (term_eq m c ⟨_, h⟩ _).trans (sum_congr rfl fun k _ => place (A m c) (B m c) i x k hx))
theorem result' (i : S5632x2048.Idx) :
    Value.G5 m c i = ∑ k ∈ range 4096, at2 (A' m c) k (i 0).val * at2 (B m c) k (i 1).val := by
  have hp : Value.pt5Of i < cfg0.N := point_lt i
  unfold Value.G5
  rw [dif_pos hp, ← Value.outsAt0_sweep m c _ hp]
  exact blocked (n := 4) (K := 1024) (fun t h => (outsAt0 m c t h).2.2.2 (Value.loc5Of i)) (fun t h => term (iblk m c 2 ⟨t, h⟩) (iblk m c 3 ⟨t, h⟩) _)
    (fun k => at2 (A' m c) k (i 0).val * at2 (B m c) k (i 1).val) (fun t h e => (first m c ⟨t, h⟩ e _).2)
    (fun t h h' e e' => (mid m c ⟨t, h⟩ ⟨e, by show t % 4 ≤ 2; omega⟩ _).2) (Value.run5Of i) (by decide) hp
    (last m c ⟨_, hp⟩ (Nat.mul_add_mod _ _ _) _).2
    (fun x h hx => (term_eq' m c ⟨_, h⟩ _).trans (sum_congr rfl fun k _ => place (A' m c) (B m c) i x k hx))

end Cert.Kernel2Ideal.Product

namespace Cert

open Cert.Products Idealize.ShloMosaic Idealize.ShloMosaic.TcCoe Idealize.SL.Sem Finset

theorem reference2 (X : Reference2Ideal.S4096x5632.Idx → EReal) (Y : Reference2Ideal.S4096x2048.Idx → EReal) (i : Reference2Ideal.S5632x2048.Idx) :
    Reference2Ideal.Read.val_main_v11 (F := Ideal) X Y i = ∑ k ∈ range 4096, at2 X k (i 0).val * at2 Y k (i 1).val := by
  rw [Reference2Ideal.Read.val_main_v11_apply]
  refine (Reference2Ideal.Read.val_main_v10_apply (F := Ideal) X Y i).trans ((Reference2Ideal.Read.val_main_v9_apply (F := Ideal) X Y _).trans
    ((Reference2Ideal.Read.val_main_v8_apply X Y _).trans ?_))
  exact sum_at X Y _ _ (fun k => (k, (i 0).val)) (fun k => (k, (i 1).val)) (fun k => ⟨rfl, rfl⟩) (fun k => ⟨rfl, rfl⟩)
theorem reference2' (X : Reference2Ideal.S4096x5632.Idx → EReal) (Y : Reference2Ideal.S4096x2048.Idx → EReal) (i : Reference2Ideal.S5632x2048.Idx) :
    Reference2Ideal.Read.val_main_v13 (F := Ideal) X Y i = ∑ k ∈ range 4096, at2 X k (i 0).val * at2 Y k (i 1).val := by
  rw [Reference2Ideal.Read.val_main_v13_apply]
  refine (Reference2Ideal.Read.val_main_v12_apply (F := Ideal) X Y i).trans ((Reference2Ideal.Read.val_main_v7_apply (F := Ideal) X Y _).trans
    ((Reference2Ideal.Read.val_main_v6_apply X Y _).trans ?_))
  exact sum_at X Y _ _ (fun k => (k, (i 0).val)) (fun k => (k, (i 1).val)) (fun k => ⟨rfl, rfl⟩) (fun k => ⟨rfl, rfl⟩)

theorem algebraic2 : algebraic_Kernel2Ideal_Reference2Ideal (hKernel2Ideal := Kernel2Ideal.Gen.facts) (hReference2Ideal := Reference2Ideal.Gen.facts) := by
  intro m g m' g' _ hagree
  refine ⟨Kernel2Ideal.Value.G4 m, Kernel2Ideal.Value.G5 m, Kernel2Ideal.Value.run m g,
    (θ_run _ _ _).mono (fun r h c => ⟨(h c).1.trans ?_, (h c).2.1.trans ?_, (h c).2.2⟩) (Reference2Ideal.Value.run (F := Ideal) m' g')⟩
  · refine (Reference2Ideal.Read.val_main_v11_eq _ _).trans (funext fun i => ?_)
    rw [(hagree c).1, (hagree c).2.2]
    exact (reference2 _ _ i).trans (Kernel2Ideal.Product.result m c i).symm
  · refine (Reference2Ideal.Read.val_main_v13_eq _ _).trans (funext fun i => ?_)
    rw [(hagree c).2.1, (hagree c).2.2]
    exact (reference2' _ _ i).trans (Kernel2Ideal.Product.result' m c i).symm

end Cert

end
-- ==== Proof.Product3.lean ====
/- The gradient of the feed-forward block's operand: the sum of two products, computed as one product of the operands side by side. -/
module

public import proofs.«01_k».proof.Proof.Products
public import proofs.«01_k».proof.Proof.Gen.Kernel3Ideal.Value
public import proofs.«01_k».proof.Proof.Gen.Reference3Ideal.Run
public import proofs.«01_k».proof.Proof.Gen.Reference3Ideal.Read
public import proofs.«01_k».proof.Defs

@[expose] public section

noncomputable section

namespace Cert.Kernel3Ideal.Product

open Cert.Kernel3Ideal Cert.Kernel3Ideal.Gen Cert.Products Idealize.ShloMosaic Idealize.ShloMosaic.TcCoe Idealize.SL.Sem Finset

variable (m : (ℓ : Loc nD τ sig) → Buf (Elt Ideal) ℓ) (c : Dev nD)

/-- The products of the tiles a point reads, at a place of its block. -/
abbrev term (X : FVec Ideal S1024x1408 .bf16) (Y : FVec Ideal S1408x1024 .bf16) (X' : FVec Ideal S1024x1408 .bf16)
    (Y' : FVec Ideal S1408x1024 .bf16) (j : S1024x1024.Idx) : EReal :=
  ∑ k ∈ range 1408, (at2 X (j 0).val k * at2 Y k (j 1).val + at2 X' (j 0).val k * at2 Y' k (j 1).val)

theorem dot (X : FVec Ideal S1024x1408 .bf16) (Y : FVec Ideal S1408x1024 .bf16) (X' : FVec Ideal S1024x1408 .bf16)
    (Y' : FVec Ideal S1408x1024 .bf16) (j : S1024x1024.Idx) :
    matmul dot_S1024x2816_S2816x1024_S1024x1024_1_0_0_1_n_n none
      (concatenate S1024x2816 1 [⟨S1024x1408, X⟩, ⟨S1024x1408, X'⟩] concatenates_S1024x1408_S1024x1408_S1024x2816_d1 : FVec Ideal S1024x2816 .bf16)
      (concatenate S2816x1024 0 [⟨S1408x1024, Y⟩, ⟨S1408x1024, Y'⟩] concatenates_S1408x1024_S1408x1024_S2816x1024_d0 : FVec Ideal S2816x1024 .bf16)
      (constant S1024x1024 .f32 0x00000000#32) j = term X Y X' Y' j := by
  refine (matmul_at dot_S1024x2816_S2816x1024_S1024x1024_1_0_0_1_n_n (x := 1) rfl (K := 2816) rfl none _ _ j (fun k => ((j 0).val, k))
    (fun k => (k, (j 1).val)) (fun k => ⟨rfl, rfl⟩) (fun k => ⟨rfl, rfl⟩)).trans ?_
  have h0 : (j 0).val < 1024 := (j 0).isLt
  have h1 : (j 1).val < 1024 := (j 1).isLt
  refine (sum_range_add _ 1408 1408).trans ((congrArg₂ (· + ·) ?_ ?_).trans sum_add_distrib.symm)
  · refine sum_congr rfl fun k hk => ?_
    have hk := mem_range.mp hk
    exact congrArg₂ (· * ·) (cols_left X X' _ h0 hk rfl) (rows_left Y Y' _ hk h1 rfl)
  · refine sum_congr rfl fun k hk => ?_
    have hk := mem_range.mp hk
    exact congrArg₂ (· * ·) (cols_right X X' _ h0 hk rfl) (rows_right Y Y' _ hk h1 rfl)

theorem first (t : Fin cfg0.N) (h : t.val % 4 = 0) (j : S1024x1024.Idx) :
    (outsAt0 m c t.val t.isLt).2 j = term (iblk m c 0 t) (iblk m c 1 t) (iblk m c 2 t) (iblk m c 3 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  simp only [View.readAt_eq_ld, (hs0_0 t).read_unread, (hs0_1 t).read_unread, (hs0_2 t).read_unread, (hs0_3 t).read_unread, ld_whole]
  unfold k0_pay1
  simp only [shapeCast_self]
  exact dot _ _ _ _ j

theorem mid (t : Fin cfg0.N) (h : 1 ≤ t.val % 4 ∧ t.val % 4 ≤ 2) (j : S1024x1024.Idx) :
    (outsAt0 m c t.val t.isLt).2 j = (outsAt0 m c (t.val - 1) (Nat.lt_of_le_of_lt (Nat.sub_le _ _) t.isLt)).2 j
      + term (iblk m c 0 t) (iblk m c 1 t) (iblk m c 2 t) (iblk m c 3 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  simp only [View.readAt_eq_ld, (hs0_0 t).read_unread, (hs0_1 t).read_unread, (hs0_2 t).read_unread, (hs0_3 t).read_unread,
    (Memref.isWhole_whole _).read_unread, ld_whole]
  unfold k0_pay2
  simp only [shapeCast_self]
  exact add_to (dot _ _ _ _ j)

theorem last (t : Fin cfg0.N) (h : t.val % 4 = 3) (j : S1024x1024.Idx) :
    (outsAt0 m c t.val t.isLt).1 j = (outsAt0 m c (t.val - 1) (Nat.lt_of_le_of_lt (Nat.sub_le _ _) t.isLt)).2 j
      + term (iblk m c 0 t) (iblk m c 1 t) (iblk m c 2 t) (iblk m c 3 t) j := by
  rw [outsAt0_C m c t (by omega) (by omega) h]
  dsimp only
  unfold out0_C_4
  rw [View.read_writes_eq_canon _ _ _ (fun y => cover0_C_4 (y := y) ..)]
  unfold kernelRun0_C
  dsimp only
  rw [View.canon_unit_zero hz]
  simp only [View.readAt_eq_ld, (hs0_0 t).read_unread, (hs0_1 t).read_unread, (hs0_2 t).read_unread, (hs0_3 t).read_unread,
    (Memref.isWhole_whole _).read_unread, ld_whole]
  unfold k0_pay3
  exact add_to (dot _ _ _ _ j)

/-- The tiles' indices over the grid: four rows of blocks of the first operands, two columns of the second ones, four blocks along the
    contracted axis. -/
theorem at_point : ∀ t : Fin cfg0.N, win0_0.index t 0 = t.val / 8 ∧ win0_0.index t 1 = t.val % 4 ∧ win0_1.index t 0 = t.val % 4
    ∧ win0_1.index t 1 = t.val / 4 % 2 ∧ win0_2.index t 0 = t.val / 8 ∧ win0_2.index t 1 = t.val % 4 ∧ win0_3.index t 0 = t.val % 4
    ∧ win0_3.index t 1 = t.val / 4 % 2 := (by decide +kernel : ∀ t : Fin grid0.N, _)

/-- The operands of the two products. -/
abbrev A : S4096x5632.Idx → EReal := m ((c.tc : Thread nD τ).loc main_arg0)
abbrev A' : S4096x5632.Idx → EReal := m ((c.tc : Thread nD τ).loc main_arg1)
abbrev B : S5632x2048.Idx → EReal := m ((c.tc : Thread nD τ).loc main_arg2)
abbrev B' : S5632x2048.Idx → EReal := m ((c.tc : Thread nD τ).loc main_arg3)

/-- A point's term: the part of the result's sum over that point's blocks. -/
theorem term_eq (t : Fin cfg0.N) (j : S1024x1024.Idx) : term (iblk m c 0 t) (iblk m c 1 t) (iblk m c 2 t) (iblk m c 3 t) j
    = ∑ k ∈ range 1408, (at2 (A m c) (1024 * (t.val / 8) + (j 0).val) (1408 * (t.val % 4) + k)
        * at2 (B m c) (1408 * (t.val % 4) + k) (1024 * (t.val / 4 % 2) + (j 1).val)
      + at2 (A' m c) (1024 * (t.val / 8) + (j 0).val) (1408 * (t.val % 4) + k)
        * at2 (B' m c) (1408 * (t.val % 4) + k) (1024 * (t.val / 4 % 2) + (j 1).val)) := by
  obtain ⟨e0, e1, e2, e3, e4, e5, e6, e7⟩ := at_point t
  refine sum_congr rfl fun k hk => ?_
  have hk := mem_range.mp hk
  refine congrArg₂ (· + ·)
    (congrArg₂ (· * ·) (at2_block _ _ ((cfg0.win 0).blk t).view.emb (fun _ => rfl) (fun y => ?_) (fun y => ?_) (j 0).isLt hk)
      (at2_block _ _ ((cfg0.win 1).blk t).view.emb (fun _ => rfl) (fun y => ?_) (fun y => ?_) hk (j 1).isLt))
    (congrArg₂ (· * ·) (at2_block _ _ ((cfg0.win 2).blk t).view.emb (fun _ => rfl) (fun y => ?_) (fun y => ?_) (j 0).isLt hk)
      (at2_block _ _ ((cfg0.win 3).blk t).view.emb (fun _ => rfl) (fun y => ?_) (fun y => ?_) hk (j 1).isLt))
  · show win0_0.index t 0 * 1024 + 1 * (y 0).val = _; omega
  · show win0_0.index t 1 * 1408 + 1 * (y 1).val = _; omega
  · show win0_1.index t 0 * 1408 + 1 * (y 0).val = _; omega
  · show win0_1.index t 1 * 1024 + 1 * (y 1).val = _; omega
  · show win0_2.index t 0 * 1024 + 1 * (y 0).val = _; omega
  · show win0_2.index t 1 * 1408 + 1 * (y 1).val = _; omega
  · show win0_3.index t 0 * 1408 + 1 * (y 0).val = _; omega
  · show win0_3.index t 1 * 1024 + 1 * (y 1).val = _; omega

/-- The result: the sum of the two products. -/
theorem result (i : S4096x2048.Idx) : Value.G4 m c i
    = ∑ k ∈ range 5632, (at2 (A m c) (i 0).val k * at2 (B m c) k (i 1).val + at2 (A' m c) (i 0).val k * at2 (B' m c) k (i 1).val) := by
  have h0 : (i 0).val < 4096 := (i 0).isLt
  have h1 : (i 1).val < 2048 := (i 1).isLt
  have hN : cfg0.N = 32 := N_0
  have hp : Value.pt4Of i < cfg0.N := by show 4 * (2 * ((i 0).val / 1024 - 0) + 1 * ((i 1).val / 1024 - 0)) + 3 < _; omega
  have hr : Value.run4Of i = 2 * ((i 0).val / 1024 - 0) + 1 * ((i 1).val / 1024 - 0) := rfl
  unfold Value.G4
  rw [dif_pos hp, ← Value.outsAt0_sweep m c _ hp]
  refine blocked (n := 4) (K := 1408) (fun t h => (outsAt0 m c t h).2 (Value.loc4Of i))
    (fun t h => term (iblk m c 0 ⟨t, h⟩) (iblk m c 1 ⟨t, h⟩) (iblk m c 2 ⟨t, h⟩) (iblk m c 3 ⟨t, h⟩) _)
    (fun k => at2 (A m c) (i 0).val k * at2 (B m c) k (i 1).val + at2 (A' m c) (i 0).val k * at2 (B' m c) k (i 1).val)
    (fun t h e => first m c ⟨t, h⟩ e _) (fun t h h' e e' => mid m c ⟨t, h⟩ ⟨e, by show t % 4 ≤ 2; omega⟩ _) (Value.run4Of i) (by decide) hp
    (last m c ⟨_, hp⟩ (Nat.mul_add_mod _ _ _) _) (fun x h hx => (term_eq m c ⟨_, h⟩ _).trans (sum_congr rfl fun k _ => ?_))
  show at2 (A m c) (1024 * ((4 * Value.run4Of i + x) / 8) + (i 0).val % 1024) (1408 * ((4 * Value.run4Of i + x) % 4) + k) * at2 (B m c)
      (1408 * ((4 * Value.run4Of i + x) % 4) + k) (1024 * ((4 * Value.run4Of i + x) / 4 % 2) + (i 1).val % 1024)
    + at2 (A' m c) (1024 * ((4 * Value.run4Of i + x) / 8) + (i 0).val % 1024) (1408 * ((4 * Value.run4Of i + x) % 4) + k) * at2 (B' m c)
      (1408 * ((4 * Value.run4Of i + x) % 4) + k) (1024 * ((4 * Value.run4Of i + x) / 4 % 2) + (i 1).val % 1024) = _
  rw [show (4 * Value.run4Of i + x) % 4 = x by omega, show (4 * Value.run4Of i + x) / 8 = (i 0).val / 1024 by omega,
    show (4 * Value.run4Of i + x) / 4 % 2 = (i 1).val / 1024 by omega, Nat.div_add_mod, Nat.div_add_mod]

end Cert.Kernel3Ideal.Product

namespace Cert

open Cert.Products Idealize.ShloMosaic Idealize.ShloMosaic.TcCoe Idealize.SL.Sem Finset

theorem reference3 (X X' : Reference3Ideal.S4096x5632.Idx → EReal) (Y Y' : Reference3Ideal.S5632x2048.Idx → EReal) (i : Reference3Ideal.S4096x2048.Idx) :
    Reference3Ideal.Read.val_main_v12 (F := Ideal) X X' Y Y' i
      = ∑ k ∈ range 5632, (at2 X (i 0).val k * at2 Y k (i 1).val + at2 X' (i 0).val k * at2 Y' k (i 1).val) := by
  rw [Reference3Ideal.Read.val_main_v12_apply]
  refine (Reference3Ideal.Read.val_main_v11_apply (F := Ideal) X X' Y Y' i).trans ?_
  rw [Reference3Ideal.Read.val_main_v9_apply, Reference3Ideal.Read.val_main_v10_apply]
  refine (add_comm _ _).trans ((congrArg₂ (· + ·) ?_ ?_).trans sum_add_distrib.symm)
  · refine (sum_congr rfl fun k _ => congrArg (_ * ·) (Reference3Ideal.Read.val_main_v5_apply (F := Ideal) Y _)).trans ?_
    exact sum_at X Y _ _ (fun k => ((i 0).val, k)) (fun k => (k, (i 1).val)) (fun k => ⟨rfl, rfl⟩) (fun k => ⟨rfl, rfl⟩)
  · refine (sum_congr rfl fun k _ => congrArg (_ * ·) (Reference3Ideal.Read.val_main_v7_apply (F := Ideal) Y' _)).trans ?_
    exact sum_at X' Y' _ _ (fun k => ((i 0).val, k)) (fun k => (k, (i 1).val)) (fun k => ⟨rfl, rfl⟩) (fun k => ⟨rfl, rfl⟩)

theorem algebraic3 : algebraic_Kernel3Ideal_Reference3Ideal (hKernel3Ideal := Kernel3Ideal.Gen.facts) (hReference3Ideal := Reference3Ideal.Gen.facts) := by
  intro m g m' g' _ hagree
  refine ⟨Kernel3Ideal.Value.G4 m, Kernel3Ideal.Value.run m g, (θ_run _ _ _).mono (fun r h c => ⟨(h c).1.trans ?_, (h c).2⟩)
    (Reference3Ideal.Value.run (F := Ideal) m' g')⟩
  refine (Reference3Ideal.Read.val_main_v12_eq _ _ _ _).trans (funext fun i => ?_)
  rw [(hagree c).1, (hagree c).2.1, (hagree c).2.2.1, (hagree c).2.2.2]
  exact (reference3 _ _ _ _ i).trans (Kernel3Ideal.Product.result m c i).symm

end Cert

end
-- ==== Proof.Swiglu.lean ====
/- The gated product and its derivatives at one entry: the gate's function through the hyperbolic tangent and through the exponential are
   one function of a real number, and the gradients of the two factors agree where the entries are real. -/
module

public import proofs.«01_k».proof.Proof.Products
public import proofs.«01_k».proof.Proof.Host

@[expose] public section

noncomputable section

namespace Cert.Swiglu

open Idealize.ShloMosaic Cert.Products Finset

abbrev half : EReal := Ideal.ofBits .f32 0x3F000000#32
abbrev one : EReal := Ideal.ofBits .f32 0x3F800000#32

theorem half_eq : half = ((1 / 2 : ℝ) : EReal) := Cert.Coe.lit_half
theorem one_eq : one = ((1 : ℝ) : EReal) := Cert.Coe.lit_one

/-- The gate's weight, through the hyperbolic tangent; the gated entry; the product; its derivative by the gate. -/
def sig (g : EReal) : EReal := half + half * Ideal.tanh (half * g)
def gate (g : EReal) : EReal := g * sig g
def act (g u : EReal) : EReal := gate g * u
def slope (g u : EReal) : EReal := u * (sig g + gate g * (one - sig g))

/-- The gate's weight, through the exponential, and the gradient of the gate. -/
def wgt (g : EReal) : EReal := Ideal.div one (one + Ideal.exp (-g))
def back (g u d : EReal) : EReal := d * u * wgt g + g * (d * u) * (wgt g * (one - wgt g))

theorem half_tanh (x : ℝ) : 1 / 2 + 1 / 2 * Real.tanh (1 / 2 * x) = 1 / (1 + Real.exp (-x)) := by
  have h : Real.exp (-x) = Real.exp (-(1 / 2 * x)) * Real.exp (-(1 / 2 * x)) := by rw [← Real.exp_add]; congr 1; ring
  have p := Real.exp_pos (1 / 2 * x)
  have q := Real.exp_pos (-(1 / 2 * x))
  have e : Real.exp (1 / 2 * x) * Real.exp (-(1 / 2 * x)) = 1 := by rw [← Real.exp_add]; simp
  rw [Real.tanh_eq_sinh_div_cosh, Real.sinh_eq, Real.cosh_eq, h]
  generalize Real.exp (1 / 2 * x) = a at *
  generalize Real.exp (-(1 / 2 * x)) = b at *
  have ha : a + b ≠ 0 := by positivity
  have hb : 1 + b * b ≠ 0 := by positivity
  field_simp
  nlinarith [e]

theorem sig_coe (x : ℝ) : sig x = ((1 / (1 + Real.exp (-x)) : ℝ) : EReal) := by
  unfold sig
  rw [half_eq, ← EReal.coe_mul, Ideal.tanh_coe, ← EReal.coe_mul, ← EReal.coe_add, half_tanh]

theorem wgt_coe (x : ℝ) : wgt x = ((1 / (1 + Real.exp (-x)) : ℝ) : EReal) := by
  unfold wgt
  rw [one_eq, ← EReal.coe_neg, Ideal.exp_coe, ← EReal.coe_add]
  exact Cert.Coe.div_coe_coe _ _ (by positivity)

theorem wgt_sig (x : ℝ) : wgt x = sig x := (wgt_coe x).trans (sig_coe x).symm

/-- The product, from either weight. -/
theorem act_eq (x : ℝ) (u : EReal) : (x : EReal) * wgt x * u = act x u := by rw [wgt_sig]; rfl

/-- The gradient of the other factor. -/
theorem gate_eq (x : ℝ) (d : EReal) : (x : EReal) * wgt x * d = d * gate x := by rw [wgt_sig, mul_comm]; rfl

/-- The gradient of the gate. -/
theorem back_eq (x u d : ℝ) : back x u d = (d : EReal) * slope x u := by
  unfold back slope gate
  rw [wgt_sig, sig_coe, one_eq]
  generalize 1 / (1 + Real.exp (-x)) = s
  norm_cast
  congr 1
  ring

variable {a b : ℕ}

/-- The product of two matrices' rows. -/
def rows (X : (⟨2, ![a, 2048]⟩ : Shape).Idx → EReal) (Y : (⟨2, ![b, 2048]⟩ : Shape).Idx → EReal) (r s : ℕ) : EReal :=
  ∑ k ∈ range 2048, at2 X r k * at2 Y s k

/-- An entry of a matrix of real entries is real. -/
theorem real_at2 {X : (⟨2, ![a, b]⟩ : Shape).Idx → EReal} (h : ∀ i, ∃ r : ℝ, X i = ((r : ℝ) : EReal)) (r s : ℕ) :
    ∃ x : ℝ, at2 X r s = ((x : ℝ) : EReal) := by
  unfold at2
  split
  · exact h _
  · exact ⟨0, rfl⟩

/-- So is a product of two rows. -/
theorem real_rows {X : (⟨2, ![a, 2048]⟩ : Shape).Idx → EReal} {Y : (⟨2, ![b, 2048]⟩ : Shape).Idx → EReal}
    (hX : ∀ i, ∃ r : ℝ, X i = ((r : ℝ) : EReal)) (hY : ∀ i, ∃ r : ℝ, Y i = ((r : ℝ) : EReal)) (r s : ℕ) :
    ∃ x : ℝ, rows X Y r s = ((x : ℝ) : EReal) := by
  choose f hf using real_at2 hX r
  choose g hg using real_at2 hY s
  refine ⟨∑ k ∈ range 2048, f k * g k, ?_⟩
  rw [← Cert.Coe.sum_coe]
  exact sum_congr rfl fun k _ => by rw [hf, hg, EReal.coe_mul]

end Cert.Swiglu

end
-- ==== Proof.Run4.lean ====
/- What the launch of the gated product and its gradient leaves: each result array at its last write-back, over the contents each of the
   two calls is entered from. -/
module

public import proofs.«01_k».proof.Proof.Gen.Kernel4Ideal.Frame

@[expose] public section

noncomputable section

namespace Cert.Kernel4Ideal.Gen

open Cert.Kernel4Ideal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer of the launch ends at the last boundary's contents. -/
theorem run_contents : θ_run defs (onTc (τ := τ) (main (F := F))) ⟨m, fun _ => 0, ρ⟩ (fun r => ∀ c : Dev nD,
    ∀ b ∈ Pipeline.ucRefs τ sig, r.2.mem ((c : Thread nD τ).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The launch's results, and its arguments, which end unchanged. -/
theorem run_results : θ_run defs (onTc (τ := τ) (main (F := F))) ⟨m, fun _ => 0, ρ⟩ (fun r => ∀ c : Dev nD,
      r.2.mem ((c.tc : Thread nD τ).loc main_v0_0) = (dat0 (V0 m ρ) c).arrAt 4 cfg0.N
      ∧ r.2.mem ((c.tc : Thread nD τ).loc main_v1_0) = (dat1 (V1 m ρ) c).arrAt 4 cfg1.N
      ∧ r.2.mem ((c.tc : Thread nD τ).loc main_v1_1) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
      ⟨((h c _ (mem_uc main_v0_0 (by decide))).trans (W2_of m ρ c main_v0_0 (by decide +kernel))).trans (W1_arr m ρ c 4),
       (h c _ (mem_uc main_v1_0 (by decide))).trans (W2_arr m ρ c 4),
       (h c _ (mem_uc main_v1_1 (by decide))).trans (W2_arr m ρ c 5),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩) (run_contents m ρ)

end Cert.Kernel4Ideal.Gen

end
-- ==== Proof.Product4.lean ====
/- The gated product of two projections and the gradients of its two factors. -/
module

public import proofs.«01_k».proof.Proof.Swiglu
public import proofs.«01_k».proof.Proof.Run4
public import Idealize.ShloMosaic.Lib.Pipeline.ValueKit.Geometry

@[expose] public section

noncomputable section

namespace Cert.Kernel4Ideal.Product

open Cert.Kernel4Ideal Cert.Kernel4Ideal.Gen Cert.Products Cert.Swiglu Idealize.ShloMosaic Idealize.ShloMosaic.TcCoe Idealize.SL.Sem Finset

/-- An entry of a loaded tile, in the matrix it is loaded from. -/
theorem loaded {a b p q o₀ o₁ : ℕ} (X : (⟨2, ![a, b]⟩ : Shape).Idx → EReal)
    (h : ∀ x, (![o₀, o₁] : Fin 2 → ℕ) x + (![p, q] : Fin 2 → ℕ) x ≤ (⟨2, ![a, b]⟩ : Shape).size x) {r s : ℕ} (hr : r < p) (hs : s < q) :
    at2 (a := p) (b := q) (fun y => X ((Rect.unit (s := ⟨2, ![a, b]⟩) ![o₀, o₁] ![p, q] h).emb y)) r s = at2 X (o₀ + r) (o₁ + s) :=
  at2_block _ _ (Rect.unit (s := ⟨2, ![a, b]⟩) ![o₀, o₁] ![p, q] h).emb (fun _ => rfl)
    (fun y => by show o₀ + 1 * (y 0).val = _; omega) (fun y => by show o₁ + 1 * (y 1).val = _; omega) hr hs

/-- The product of two loaded tiles, at the place of the stored tile. -/
theorem tile (X : FVec Ideal S2048x2048 .bf16) (Y : FVec Ideal S512x2048 .bf16) {p q : ℕ} (ha : ∀ x, (![p, 0] : Fin 2 → ℕ) x + S1024x2048.size x ≤ S2048x2048.size x)
    (hb : ∀ x, (![q, 0] : Fin 2 → ℕ) x + S256x2048.size x ≤ S512x2048.size x) (ho : ∀ x, (![p, q] : Fin 2 → ℕ) x + S1024x256.size x ≤ S2048x512.size x) (j : S1024x256.Idx) :
    matmul (F := Ideal) (φ₁ := .bf16) (φ₂ := .bf16) dot_S1024x2048_S256x2048_S1024x256_1_1_0_0_n_n none
      (View.ld (Val := Elt Ideal) (e' := .bf16) X (Rect.unit (s := S2048x2048) ![p, 0] S1024x2048.size ha))
      (View.ld (Val := Elt Ideal) (e' := .bf16) Y (Rect.unit (s := S512x2048) ![q, 0] S256x2048.size hb)) (constant S1024x256 .f32 0x00000000#32) j
      = rows X Y ((Rect.unit (s := S2048x512) ![p, q] S1024x256.size ho).emb j 0).val ((Rect.unit (s := S2048x512) ![p, q] S1024x256.size ho).emb j 1).val := by
  have e0 : ((Rect.unit (s := S2048x512) ![p, q] S1024x256.size ho).emb j 0).val = p + (j 0).val := by show p + 1 * (j 0).val = _; omega
  have e1 : ((Rect.unit (s := S2048x512) ![p, q] S1024x256.size ho).emb j 1).val = q + (j 1).val := by show q + 1 * (j 1).val = _; omega
  rw [e0, e1]
  refine (matmul_at dot_S1024x2048_S256x2048_S1024x256_1_1_0_0_n_n (x := 1) rfl (K := 2048) rfl none _ _ j (fun k => ((j 0).val, k))
    (fun k => ((j 1).val, k)) (fun k => ⟨rfl, rfl⟩) (fun k => ⟨rfl, rfl⟩)).trans ?_
  refine sum_congr rfl fun k hk => ?_
  have hk := mem_range.mp hk
  refine congrArg₂ (fun x y : EReal => x * y) ((loaded (p := 1024) (q := 2048) X ha (j 0).isLt hk).trans ?_)
    ((loaded (p := 256) (q := 2048) Y hb (j 1).isLt hk).trans ?_) <;> rw [Nat.zero_add]

/-- A matrix times a loaded tile, at a place. -/
theorem scaled {x y : EReal} {M : FVec Ideal S1024x256 .f32} {v : FVec Ideal S1024x256 .bf16} (h : S1024x256.ShapeCasts S1024x256) (hb : FTy.bits .bf16 < FTy.bits .f32)
    (j : S1024x256.Idx) (e : M j = x) (f : v j = y) : mulf M (extf .f32 (shapeCast S1024x256 v h) hb) j = x * y := by
  rw [shapeCast_self, ← e, ← f]; rfl

/-- A buffer of four tiles that are each a function's, is the function. -/
theorem four (G : S2048x512.Idx → EReal) {p₀ p₁ p₂ p₃ : FVec Ideal S1024x256 .bf16} (h₀ : ∀ j, p₀ j = G (r0_7.emb j)) (h₁ : ∀ j, p₁ j = G (r0_6.emb j))
    (h₂ : ∀ j, p₂ j = G (r0_4.emb j)) (h₃ : ∀ j, p₃ j = G (r0_2.emb j)) (y : S2048x512.Idx) :
    View.canon ([⟨r0_7, p₀⟩, ⟨r0_6, p₁⟩, ⟨r0_4, p₂⟩, ⟨r0_2, p₃⟩] : List (View.Piece (Elt Ideal) S2048x512 .bf16)) y = G y := by
  refine View.canon_apply_of_pieces (Val := Elt Ideal) (S := S2048x512) (e := .bf16) G _ ?_ y (cover0_4 _ _ _ _ y)
  intro p hp
  simp only [List.mem_cons, List.not_mem_nil, or_false] at hp
  rcases hp with rfl | rfl | rfl | rfl
  · exact h₀
  · exact h₁
  · exact h₂
  · exact h₃

section First

variable (X0 X2 : FVec Ideal S2048x2048 .bf16) (X1 X3 : FVec Ideal S512x2048 .bf16) (y : S2048x512.Idx)

/-- What a point of the first call stores: the gated product, its derivative by the gate, and the gated entry. -/
theorem stored4 : out0_4 (F := Ideal) X0 X1 X2 X3 y = act (rows X0 X1 (y 0).val (y 1).val) (rows X2 X3 (y 0).val (y 1).val) := by
  unfold_out out0_4
  exact four (fun y => act (rows X0 X1 (y 0).val (y 1).val) (rows X2 X3 (y 0).val (y 1).val))
    (fun j => congrArg₂ act (tile X0 X1 _ _ inb_S2048x512_S1024x256_1024_256 j) (tile X2 X3 _ _ inb_S2048x512_S1024x256_1024_256 j))
    (fun j => congrArg₂ act (tile X0 X1 _ _ inb_S2048x512_S1024x256_0_256 j) (tile X2 X3 _ _ inb_S2048x512_S1024x256_0_256 j))
    (fun j => congrArg₂ act (tile X0 X1 _ _ inb_S2048x512_S1024x256_1024_0 j) (tile X2 X3 _ _ inb_S2048x512_S1024x256_1024_0 j))
    (fun j => congrArg₂ act (tile X0 X1 _ _ inb_S2048x512_S1024x256_0_0 j) (tile X2 X3 _ _ inb_S2048x512_S1024x256_0_0 j)) y
theorem stored5 : out0_5 (F := Ideal) X0 X1 X2 X3 y = slope (rows X0 X1 (y 0).val (y 1).val) (rows X2 X3 (y 0).val (y 1).val) := by
  unfold_out out0_5
  exact four (fun y => slope (rows X0 X1 (y 0).val (y 1).val) (rows X2 X3 (y 0).val (y 1).val))
    (fun j => congrArg₂ slope (tile X0 X1 _ _ inb_S2048x512_S1024x256_1024_256 j) (tile X2 X3 _ _ inb_S2048x512_S1024x256_1024_256 j))
    (fun j => congrArg₂ slope (tile X0 X1 _ _ inb_S2048x512_S1024x256_0_256 j) (tile X2 X3 _ _ inb_S2048x512_S1024x256_0_256 j))
    (fun j => congrArg₂ slope (tile X0 X1 _ _ inb_S2048x512_S1024x256_1024_0 j) (tile X2 X3 _ _ inb_S2048x512_S1024x256_1024_0 j))
    (fun j => congrArg₂ slope (tile X0 X1 _ _ inb_S2048x512_S1024x256_0_0 j) (tile X2 X3 _ _ inb_S2048x512_S1024x256_0_0 j)) y
theorem stored6 : out0_6 (F := Ideal) X0 X1 X2 X3 y = gate (rows X0 X1 (y 0).val (y 1).val) := by
  unfold_out out0_6
  exact four (fun y => gate (rows X0 X1 (y 0).val (y 1).val))
    (fun j => congrArg gate (tile X0 X1 _ _ inb_S2048x512_S1024x256_1024_256 j))
    (fun j => congrArg gate (tile X0 X1 _ _ inb_S2048x512_S1024x256_0_256 j))
    (fun j => congrArg gate (tile X0 X1 _ _ inb_S2048x512_S1024x256_1024_0 j))
    (fun j => congrArg gate (tile X0 X1 _ _ inb_S2048x512_S1024x256_0_0 j)) y

end First

section Second

variable (X0 : FVec Ideal S2048x2048 .bf16) (X1 : FVec Ideal S512x2048 .bf16) (X2 X3 : FVec Ideal S2048x512 .bf16) (y : S2048x512.Idx)

/-- What a point of the second call stores: the gradient, times each of the saved tiles. -/
theorem scaled4 : out1_4 (F := Ideal) X0 X1 X2 X3 y = rows X0 X1 (y 0).val (y 1).val * (X2 y : EReal) := by
  unfold out1_4
  exact four (fun y => rows X0 X1 (y 0).val (y 1).val * (X2 y : EReal))
    (fun j => scaled _ _ j (tile X0 X1 _ _ inb_S2048x512_S1024x256_1024_256 j) rfl)
    (fun j => scaled _ _ j (tile X0 X1 _ _ inb_S2048x512_S1024x256_0_256 j) rfl)
    (fun j => scaled _ _ j (tile X0 X1 _ _ inb_S2048x512_S1024x256_1024_0 j) rfl)
    (fun j => scaled _ _ j (tile X0 X1 _ _ inb_S2048x512_S1024x256_0_0 j) rfl) y
theorem scaled5 : out1_5 (F := Ideal) X0 X1 X2 X3 y = rows X0 X1 (y 0).val (y 1).val * (X3 y : EReal) := by
  unfold out1_5
  exact four (fun y => rows X0 X1 (y 0).val (y 1).val * (X3 y : EReal))
    (fun j => scaled _ _ j (tile X0 X1 _ _ inb_S2048x512_S1024x256_1024_256 j) rfl)
    (fun j => scaled _ _ j (tile X0 X1 _ _ inb_S2048x512_S1024x256_0_256 j) rfl)
    (fun j => scaled _ _ j (tile X0 X1 _ _ inb_S2048x512_S1024x256_1024_0 j) rfl)
    (fun j => scaled _ _ j (tile X0 X1 _ _ inb_S2048x512_S1024x256_0_0 j) rfl) y

end Second

/-- The tiles' indices over the grid. -/
theorem at_point0 : ∀ t : Fin cfg0.N, win0_0.index t 0 = t.val / 11 ∧ win0_0.index t 1 = 0 ∧ win0_1.index t 0 = t.val % 11 ∧ win0_1.index t 1 = 0
    ∧ win0_2.index t 0 = t.val / 11 ∧ win0_2.index t 1 = 0 ∧ win0_3.index t 0 = t.val % 11 ∧ win0_3.index t 1 = 0
    ∧ win0_4.index t 0 = t.val / 11 ∧ win0_4.index t 1 = t.val % 11 ∧ win0_5.index t 0 = t.val / 11 ∧ win0_5.index t 1 = t.val % 11
    ∧ win0_6.index t 0 = t.val / 11 ∧ win0_6.index t 1 = t.val % 11 := (by decide +kernel : ∀ t : Fin grid0.N, _)
theorem at_point1 : ∀ t : Fin cfg1.N, win1_0.index t 0 = t.val / 11 ∧ win1_0.index t 1 = 0 ∧ win1_1.index t 0 = t.val % 11 ∧ win1_1.index t 1 = 0
    ∧ win1_2.index t 0 = t.val / 11 ∧ win1_2.index t 1 = t.val % 11 ∧ win1_3.index t 0 = t.val / 11 ∧ win1_3.index t 1 = t.val % 11
    ∧ win1_4.index t 0 = t.val / 11 ∧ win1_4.index t 1 = t.val % 11 ∧ win1_5.index t 0 = t.val / 11 ∧ win1_5.index t 1 = t.val % 11 :=
  (by decide +kernel : ∀ t : Fin grid1.N, _)

/-- A product of two blocks' rows is one of the matrices' rows. -/
theorem rows_block {X : S2048x2048.Idx → EReal} {Y : S512x2048.Idx → EReal} {A : S4096x2048.Idx → EReal} {B : S5632x2048.Idx → EReal}
    (e : S2048x2048.Idx → S4096x2048.Idx) (f : S512x2048.Idx → S5632x2048.Idx) (hX : ∀ y, X y = A (e y)) (hY : ∀ y, Y y = B (f y)) {o₀ o₁ : ℕ}
    (h₀ : ∀ y, (e y 0).val = 2048 * o₀ + (y 0).val) (h₁ : ∀ y, (e y 1).val = 0 + (y 1).val)
    (k₀ : ∀ y, (f y 0).val = 512 * o₁ + (y 0).val) (k₁ : ∀ y, (f y 1).val = 0 + (y 1).val) {r s : ℕ} (hr : r < 2048) (hs : s < 512) :
    rows X Y r s = rows A B (2048 * o₀ + r) (512 * o₁ + s) := by
  refine sum_congr rfl fun k hk => ?_
  have hk := mem_range.mp hk
  refine congrArg₂ (fun x y : EReal => x * y) ((at2_block _ _ e hX h₀ h₁ hr hk).trans ?_) ((at2_block _ _ f hY k₀ k₁ hs hk).trans ?_) <;> rw [Nat.zero_add]

variable (V : (c : Dev nD) → (b : Ref sig .tc) → Buf (Elt Ideal) ((c : Thread nD τ).loc b)) (c : Dev nD)

/-- The matrices a call reads. -/
abbrev H : S4096x2048.Idx → EReal := V c main_arg0
abbrev Wg : S5632x2048.Idx → EReal := V c main_arg1
abbrev Wu : S5632x2048.Idx → EReal := V c main_arg2
abbrev Wd : S5632x2048.Idx → EReal := V c main_arg3
abbrev Dx : S4096x2048.Idx → EReal := V c main_arg4
abbrev E0 : S4096x5632.Idx → EReal := V c main_v0_1
abbrev E1 : S4096x5632.Idx → EReal := V c main_v0_2

section Blocks

variable {r s : ℕ} (hr : r < 2048) (hs : s < 512)
include hr hs

theorem gate_block (t : Fin cfg0.N) : rows (iblk0 V c 0 t : S2048x2048.Idx → EReal) (iblk0 V c 1 t : S512x2048.Idx → EReal) r s
    = rows (H V c) (Wg V c) (2048 * (t.val / 11) + r) (512 * (t.val % 11) + s) := by
  obtain ⟨e0, e1, e2, e3, -⟩ := at_point0 t
  refine rows_block ((cfg0.win 0).blk t).view.emb ((cfg0.win 1).blk t).view.emb (fun _ => rfl) (fun _ => rfl) (fun y => ?_) (fun y => ?_) (fun y => ?_) (fun y => ?_) hr hs
  · show win0_0.index t 0 * 2048 + 1 * (y 0).val = _; omega
  · show win0_0.index t 1 * 2048 + 1 * (y 1).val = _; omega
  · show win0_1.index t 0 * 512 + 1 * (y 0).val = _; omega
  · show win0_1.index t 1 * 2048 + 1 * (y 1).val = _; omega
theorem up_block (t : Fin cfg0.N) : rows (iblk0 V c 2 t : S2048x2048.Idx → EReal) (iblk0 V c 3 t : S512x2048.Idx → EReal) r s
    = rows (H V c) (Wu V c) (2048 * (t.val / 11) + r) (512 * (t.val % 11) + s) := by
  obtain ⟨-, -, -, -, e0, e1, e2, e3, -⟩ := at_point0 t
  refine rows_block ((cfg0.win 2).blk t).view.emb ((cfg0.win 3).blk t).view.emb (fun _ => rfl) (fun _ => rfl) (fun y => ?_) (fun y => ?_) (fun y => ?_) (fun y => ?_) hr hs
  · show win0_2.index t 0 * 2048 + 1 * (y 0).val = _; omega
  · show win0_2.index t 1 * 2048 + 1 * (y 1).val = _; omega
  · show win0_3.index t 0 * 512 + 1 * (y 0).val = _; omega
  · show win0_3.index t 1 * 2048 + 1 * (y 1).val = _; omega
theorem down_block (t : Fin cfg1.N) : rows (iblk1 V c 0 t : S2048x2048.Idx → EReal) (iblk1 V c 1 t : S512x2048.Idx → EReal) r s
    = rows (Dx V c) (Wd V c) (2048 * (t.val / 11) + r) (512 * (t.val % 11) + s) := by
  obtain ⟨e0, e1, e2, e3, -⟩ := at_point1 t
  refine rows_block ((cfg1.win 0).blk t).view.emb ((cfg1.win 1).blk t).view.emb (fun _ => rfl) (fun _ => rfl) (fun y => ?_) (fun y => ?_) (fun y => ?_) (fun y => ?_) hr hs
  · show win1_0.index t 0 * 2048 + 1 * (y 0).val = _; omega
  · show win1_0.index t 1 * 2048 + 1 * (y 1).val = _; omega
  · show win1_1.index t 0 * 512 + 1 * (y 0).val = _; omega
  · show win1_1.index t 1 * 2048 + 1 * (y 1).val = _; omega

end Blocks

/-- The arrays the first call leaves. -/
def Act : S4096x5632.Idx → EReal := fun i => act (rows (H V c) (Wg V c) (i 0).val (i 1).val) (rows (H V c) (Wu V c) (i 0).val (i 1).val)
def Slope : S4096x5632.Idx → EReal := fun i => slope (rows (H V c) (Wg V c) (i 0).val (i 1).val) (rows (H V c) (Wu V c) (i 0).val (i 1).val)
def Gated : S4096x5632.Idx → EReal := fun i => gate (rows (H V c) (Wg V c) (i 0).val (i 1).val)

/-- The arrays the second call leaves. -/
def DGate : S4096x5632.Idx → EReal := fun i => rows (Dx V c) (Wd V c) (i 0).val (i 1).val * E0 V c i
def DUp : S4096x5632.Idx → EReal := fun i => rows (Dx V c) (Wd V c) (i 0).val (i 1).val * E1 V c i

theorem first4 : (dat0 V c).arrAt 4 cfg0.N = Act V c :=
  (dat0 V c).arrAt_eq_of_covers 4 _ (by decide +kernel) fun t hf y => by
    show (dat0 V c).after 4 t y = Act V c (((cfg0.win 4).blk t).view.emb y)
    obtain ⟨-, -, -, -, -, -, -, -, e0, e1, -⟩ := at_point0 t
    have p0 : (((cfg0.win 4).blk t).view.emb y 0).val = 2048 * (t.val / 11) + (y 0).val := by
      show win0_4.index t 0 * 2048 + 1 * (y 0).val = _; omega
    have p1 : (((cfg0.win 4).blk t).view.emb y 1).val = 512 * (t.val % 11) + (y 1).val := by
      show win0_4.index t 1 * 512 + 1 * (y 1).val = _; omega
    rw [after0_4]
    unfold Act
    rw [p0, p1]
    exact (stored4 _ _ _ _ y).trans (congrArg₂ act (gate_block V c (y 0).isLt (y 1).isLt t) (up_block V c (y 0).isLt (y 1).isLt t))
theorem first5 : (dat0 V c).arrAt 5 cfg0.N = Slope V c :=
  (dat0 V c).arrAt_eq_of_covers 5 _ (by decide +kernel) fun t hf y => by
    show (dat0 V c).after 5 t y = Slope V c (((cfg0.win 5).blk t).view.emb y)
    obtain ⟨-, -, -, -, -, -, -, -, -, -, e0, e1, -⟩ := at_point0 t
    have p0 : (((cfg0.win 5).blk t).view.emb y 0).val = 2048 * (t.val / 11) + (y 0).val := by
      show win0_5.index t 0 * 2048 + 1 * (y 0).val = _; omega
    have p1 : (((cfg0.win 5).blk t).view.emb y 1).val = 512 * (t.val % 11) + (y 1).val := by
      show win0_5.index t 1 * 512 + 1 * (y 1).val = _; omega
    rw [after0_5]
    unfold Slope
    rw [p0, p1]
    exact (stored5 _ _ _ _ y).trans (congrArg₂ slope (gate_block V c (y 0).isLt (y 1).isLt t) (up_block V c (y 0).isLt (y 1).isLt t))
theorem first6 : (dat0 V c).arrAt 6 cfg0.N = Gated V c :=
  (dat0 V c).arrAt_eq_of_covers 6 _ (by decide +kernel) fun t hf y => by
    show (dat0 V c).after 6 t y = Gated V c (((cfg0.win 6).blk t).view.emb y)
    obtain ⟨-, -, -, -, -, -, -, -, -, -, -, -, e0, e1⟩ := at_point0 t
    have p0 : (((cfg0.win 6).blk t).view.emb y 0).val = 2048 * (t.val / 11) + (y 0).val := by
      show win0_6.index t 0 * 2048 + 1 * (y 0).val = _; omega
    have p1 : (((cfg0.win 6).blk t).view.emb y 1).val = 512 * (t.val % 11) + (y 1).val := by
      show win0_6.index t 1 * 512 + 1 * (y 1).val = _; omega
    rw [after0_6]
    unfold Gated
    rw [p0, p1]
    exact (stored6 _ _ _ _ y).trans (congrArg gate (gate_block V c (y 0).isLt (y 1).isLt t))

theorem second4 : (dat1 V c).arrAt 4 cfg1.N = DGate V c :=
  (dat1 V c).arrAt_eq_of_covers 4 _ (by decide +kernel) fun t hf y => by
    show (dat1 V c).after 4 t y = DGate V c (((cfg1.win 4).blk t).view.emb y)
    obtain ⟨-, -, -, -, d0, d1, -, -, e0, e1, -⟩ := at_point1 t
    have p0 : (((cfg1.win 4).blk t).view.emb y 0).val = 2048 * (t.val / 11) + (y 0).val := by
      show win1_4.index t 0 * 2048 + 1 * (y 0).val = _; omega
    have p1 : (((cfg1.win 4).blk t).view.emb y 1).val = 512 * (t.val % 11) + (y 1).val := by
      show win1_4.index t 1 * 512 + 1 * (y 1).val = _; omega
    have q0 : (((cfg1.win 2).blk t).view.emb y 0).val = 2048 * (t.val / 11) + (y 0).val := by
      show win1_2.index t 0 * 2048 + 1 * (y 0).val = _; omega
    have q1 : (((cfg1.win 2).blk t).view.emb y 1).val = 512 * (t.val % 11) + (y 1).val := by
      show win1_2.index t 1 * 512 + 1 * (y 1).val = _; omega
    rw [after1_4]
    unfold DGate
    rw [p0, p1]
    exact (scaled4 _ _ _ _ y).trans (congrArg₂ (fun x y : EReal => x * y) (down_block V c (y 0).isLt (y 1).isLt t)
      ((entry (E0 V c) _ q0 q1).trans (entry (E0 V c) _ p0 p1).symm))
theorem second5 : (dat1 V c).arrAt 5 cfg1.N = DUp V c :=
  (dat1 V c).arrAt_eq_of_covers 5 _ (by decide +kernel) fun t hf y => by
    show (dat1 V c).after 5 t y = DUp V c (((cfg1.win 5).blk t).view.emb y)
    obtain ⟨-, -, -, -, -, -, d0, d1, -, -, e0, e1⟩ := at_point1 t
    have p0 : (((cfg1.win 5).blk t).view.emb y 0).val = 2048 * (t.val / 11) + (y 0).val := by
      show win1_5.index t 0 * 2048 + 1 * (y 0).val = _; omega
    have p1 : (((cfg1.win 5).blk t).view.emb y 1).val = 512 * (t.val % 11) + (y 1).val := by
      show win1_5.index t 1 * 512 + 1 * (y 1).val = _; omega
    have q0 : (((cfg1.win 3).blk t).view.emb y 0).val = 2048 * (t.val / 11) + (y 0).val := by
      show win1_3.index t 0 * 2048 + 1 * (y 0).val = _; omega
    have q1 : (((cfg1.win 3).blk t).view.emb y 1).val = 512 * (t.val % 11) + (y 1).val := by
      show win1_3.index t 1 * 512 + 1 * (y 1).val = _; omega
    rw [after1_5]
    unfold DUp
    rw [p0, p1]
    exact (scaled5 _ _ _ _ y).trans (congrArg₂ (fun x y : EReal => x * y) (down_block V c (y 0).isLt (y 1).isLt t)
      ((entry (E1 V c) _ q0 q1).trans (entry (E1 V c) _ p0 p1).symm))

end Cert.Kernel4Ideal.Product

end
-- ==== Proof.Algebraic4.lean ====
/- The gated product and its gradients: the two calls leave the reference's arrays, where the arguments are real. -/
module

public import proofs.«01_k».proof.Defs
public import proofs.«01_k».proof.Proof.Product4
public import proofs.«01_k».proof.Proof.Algebraic
public import proofs.«01_k».proof.Proof.Gen.Reference4Ideal.Run
public import proofs.«01_k».proof.Proof.Gen.Reference4Ideal.Read

@[expose] public section

noncomputable section

namespace Cert.Pre_numbers

open Idealize.ShloMosaic

/-- The side conditions of the precondition's operations. -/
theorem facts : Facts where
  bitsLt_bf16_f32 := by decide
  bcast_S_S4096x2048 := by decide
  bcast_S_S5632x2048 := by decide

end Cert.Pre_numbers

namespace Cert.Reference4Ideal.Entry

open Cert.Reference4Ideal Cert.Reference4Ideal.Read Cert.Products Cert.Swiglu Idealize.ShloMosaic Idealize.ShloMosaic.TcCoe Idealize.SL.Sem Finset

variable (H Dx : S4096x2048.Idx → EReal) (Wg Wu Wd : S5632x2048.Idx → EReal) (i : S4096x5632.Idx)

theorem gate_at : val_main_v6 (F := Ideal) H Wg i = rows H Wg (i 0).val (i 1).val := by
  rw [val_main_v6_apply]
  exact (sum_congr rfl fun k _ => congrArg (fun y : EReal => _ * y) (val_main_v5_apply (F := Ideal) Wg _)).trans
    (sum_at H Wg (fun k => lidx_main_v6 i k) (fun k => idx_main_v5 (ridx_main_v6 i k)) (fun k => ((i 0).val, k)) (fun k => ((i 1).val, k))
      (fun k => ⟨rfl, rfl⟩) (fun k => ⟨rfl, rfl⟩))
theorem up_at : val_main_v8 (F := Ideal) H Wu i = rows H Wu (i 0).val (i 1).val := by
  rw [val_main_v8_apply]
  exact (sum_congr rfl fun k _ => congrArg (fun y : EReal => _ * y) (val_main_v7_apply (F := Ideal) Wu _)).trans
    (sum_at H Wu (fun k => lidx_main_v8 i k) (fun k => idx_main_v7 (ridx_main_v8 i k)) (fun k => ((i 0).val, k)) (fun k => ((i 1).val, k))
      (fun k => ⟨rfl, rfl⟩) (fun k => ⟨rfl, rfl⟩))
theorem down_at : val_main_v14 (F := Ideal) Wd Dx i = rows Dx Wd (i 0).val (i 1).val := by
  rw [val_main_v14_apply]
  exact sum_at Dx Wd (fun k => lidx_main_v14 i k) (fun k => ridx_main_v14 i k) (fun k => ((i 0).val, k)) (fun k => ((i 1).val, k))
    (fun k => ⟨rfl, rfl⟩) (fun k => ⟨rfl, rfl⟩)

/-- The gate's weight, in the product and in its derivative. -/
theorem weight : val_main_call0_v5 (F := Ideal) H Wg i = wgt (rows H Wg (i 0).val (i 1).val) := by
  rw [← gate_at, val_main_call0_v5_apply, val_main_call0_v4_apply, val_main_call0_cst_0_apply, val_main_call0_v3_apply, val_main_call0_v2_apply,
    val_main_call0_cst_apply, val_main_call0_v1_apply, val_main_call0_v0_apply]
  rfl
theorem weight' : val_main_v11_2 (F := Ideal) H Wg i = wgt (rows H Wg (i 0).val (i 1).val) := by
  rw [← gate_at, val_main_v11_2_apply, val_main_call1_v4_apply, val_main_call1_cst_0_apply, val_main_call1_v3_apply, val_main_call1_v2_apply,
    val_main_call1_cst_apply, val_main_call1_v1_apply, val_main_call1_v0_apply]
  rfl

variable {H Dx Wg Wu Wd} (hH : ∀ i, ∃ r : ℝ, H i = ((r : ℝ) : EReal)) (hg : ∀ i, ∃ r : ℝ, Wg i = ((r : ℝ) : EReal))
include hH hg

theorem product : val_main_v18 (F := Ideal) H Wg Wu i = act (rows H Wg (i 0).val (i 1).val) (rows H Wu (i 0).val (i 1).val) := by
  obtain ⟨x, hx⟩ := real_rows hH hg (i 0).val (i 1).val
  rw [val_main_v18_apply, val_main_v10_apply, val_main_v9_apply, weight, gate_at, up_at, hx]
  exact act_eq x _

theorem other : val_main_v20 (F := Ideal) H Wg Wd Dx i = rows Dx Wd (i 0).val (i 1).val * gate (rows H Wg (i 0).val (i 1).val) := by
  obtain ⟨x, hx⟩ := real_rows hH hg (i 0).val (i 1).val
  rw [val_main_v20_apply, val_main_v15_apply, val_main_v11_0_apply, weight', gate_at, down_at, hx]
  exact gate_eq x _

variable (hu : ∀ i, ∃ r : ℝ, Wu i = ((r : ℝ) : EReal)) (hd : ∀ i, ∃ r : ℝ, Wd i = ((r : ℝ) : EReal)) (hD : ∀ i, ∃ r : ℝ, Dx i = ((r : ℝ) : EReal))
include hu hd hD

theorem gated : val_main_v19 (F := Ideal) H Wg Wu Wd Dx i
    = rows Dx Wd (i 0).val (i 1).val * slope (rows H Wg (i 0).val (i 1).val) (rows H Wu (i 0).val (i 1).val) := by
  obtain ⟨x, hx⟩ := real_rows hH hg (i 0).val (i 1).val
  obtain ⟨u, hu⟩ := real_rows hH hu (i 0).val (i 1).val
  obtain ⟨d, hd⟩ := real_rows hD hd (i 0).val (i 1).val
  rw [val_main_v19_apply, val_main_v17_apply, val_main_call2_v1_apply, val_main_call2_v2_apply, val_main_call2_v0_apply, val_main_v16_apply, val_main_v11_1_apply,
    val_main_call1_v7_apply, val_main_call1_v6_apply, val_main_call1_cst_1_apply, weight', gate_at, up_at, down_at, hx, hu, hd]
  exact back_eq x u d

end Cert.Reference4Ideal.Entry

namespace Cert

open Cert.Swiglu Idealize.ShloMosaic Idealize.ShloMosaic.TcCoe Idealize.SL.Sem Cert.Kernel4Ideal.Gen Cert.Kernel4Ideal.Product

section Boundary

open Cert.Kernel4Ideal

variable (m : (ℓ : Loc nD τ sig) → Buf (Elt Ideal) ℓ) (ρ : Dev nD → PrngReg) (c : Dev nD)

/-- The second call reads what the first left, and the arguments. -/
theorem saved4 : E0 (V1 m ρ) c = Slope (V0 m ρ) c := (W1_arr m ρ c 5).trans (first5 (V0 m ρ) c)
theorem saved5 : E1 (V1 m ρ) c = Gated (V0 m ρ) c := (W1_arr m ρ c 6).trans (first6 (V0 m ρ) c)
theorem kept3 : Wd (V1 m ρ) c = Wd (V0 m ρ) c := W1_of m ρ c main_arg3 (by decide +kernel)
theorem kept4 : Dx (V1 m ρ) c = Dx (V0 m ρ) c := W1_of m ρ c main_arg4 (by decide +kernel)

/-- The arrays the second call leaves, over the arguments. -/
def dgate : S4096x5632.Idx → EReal := fun i => rows (Dx (V0 m ρ) c) (Wd (V0 m ρ) c) (i 0).val (i 1).val * Slope (V0 m ρ) c i
def dup : S4096x5632.Idx → EReal := fun i => rows (Dx (V0 m ρ) c) (Wd (V0 m ρ) c) (i 0).val (i 1).val * Gated (V0 m ρ) c i
theorem dgate_eq : (dat1 (V1 m ρ) c).arrAt 4 cfg1.N = dgate m ρ c := by
  rw [second4]; unfold DGate; rw [saved4, kept3, kept4]; rfl
theorem dup_eq : (dat1 (V1 m ρ) c).arrAt 5 cfg1.N = dup m ρ c := by
  rw [second5]; unfold DUp; rw [saved5, kept3, kept4]; rfl

/-- The arguments' entries are real. -/
theorem numbers (h : Pre_Kernel4Ideal_numbers (hPre_numbers := Cert.Pre_numbers.facts) m) :
    (∀ i, ∃ r : ℝ, H (V0 m ρ) c i = ((r : ℝ) : EReal)) ∧ (∀ i, ∃ r : ℝ, Wg (V0 m ρ) c i = ((r : ℝ) : EReal))
    ∧ (∀ i, ∃ r : ℝ, Wu (V0 m ρ) c i = ((r : ℝ) : EReal)) ∧ (∀ i, ∃ r : ℝ, Wd (V0 m ρ) c i = ((r : ℝ) : EReal))
    ∧ ∀ i, ∃ r : ℝ, Dx (V0 m ρ) c i = ((r : ℝ) : EReal) := by
  obtain ⟨h0, h1, h2, h3, h4⟩ := h c
  exact ⟨fun i => Lifted.real_of (φ := .f32) ((congrArg _ Lifted.lit_top.symm).trans (congrFun h0 i)),
    fun i => Lifted.real_of (φ := .f32) ((congrArg _ Lifted.lit_top.symm).trans (congrFun h1 i)),
    fun i => Lifted.real_of (φ := .f32) ((congrArg _ Lifted.lit_top.symm).trans (congrFun h2 i)),
    fun i => Lifted.real_of (φ := .f32) ((congrArg _ Lifted.lit_top.symm).trans (congrFun h3 i)),
    fun i => Lifted.real_of (φ := .f32) ((congrArg _ Lifted.lit_top.symm).trans (congrFun h4 i))⟩

end Boundary

theorem algebraic4 : algebraic_Kernel4Ideal_Reference4Ideal_pre_numbers (hKernel4Ideal := Kernel4Ideal.Gen.facts)
    (hReference4Ideal := Reference4Ideal.Gen.facts) (hPre_numbers := Pre_numbers.facts) := by
  intro m g m' g' hpre hagree
  refine ⟨Act (V0 m g), dgate m g, dup m g, (θ_run _ _ _).mono (fun r h c => ?_) (run_results m g),
    (θ_run _ _ _).mono (fun r h c => ?_) (Reference4Ideal.Value.run (F := Ideal) m' g')⟩
  · obtain ⟨h0, h1, h2, ha⟩ := h c
    exact ⟨h0.trans (first4 (V0 m g) c), h1.trans (dgate_eq m g c), h2.trans (dup_eq m g c), ha⟩
  · obtain ⟨h0, h1, h2, ha⟩ := h c
    obtain ⟨e0, e1, e2, e3, e4⟩ := hagree c
    obtain ⟨n0, n1, n2, n3, n4⟩ := numbers m g c hpre
    refine ⟨h0.trans ?_, h1.trans ?_, h2.trans ?_, ha⟩
    · refine (Reference4Ideal.Read.val_main_v18_eq _ _ _).trans (funext fun i => ?_)
      rw [e0, e1, e2]
      exact Reference4Ideal.Entry.product i n0 n1
    · refine (Reference4Ideal.Read.val_main_v19_eq _ _ _ _ _).trans (funext fun i => ?_)
      rw [e0, e1, e2, e3, e4]
      exact Reference4Ideal.Entry.gated i n0 n1 n2 n3 n4
    · refine (Reference4Ideal.Read.val_main_v20_eq _ _ _ _).trans (funext fun i => ?_)
      rw [e0, e1, e3, e4]
      exact Reference4Ideal.Entry.other i n0 n1

end Cert

end
-- ==== Proof.Product5.lean ====
/- The gradient of the down projection's weight. -/
module

public import proofs.«01_k».proof.Proof.Products
public import proofs.«01_k».proof.Proof.Gen.Kernel5Ideal.Value
public import proofs.«01_k».proof.Proof.Gen.Reference5Ideal.Run
public import proofs.«01_k».proof.Proof.Gen.Reference5Ideal.Read
public import proofs.«01_k».proof.Defs

@[expose] public section

noncomputable section

namespace Cert.Kernel5Ideal.Product

open Cert.Kernel5Ideal Cert.Kernel5Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2816 .bf16) (Y : FVec Ideal S1024x1024 .bf16) (j : S2816x1024.Idx) : EReal :=
  ∑ k ∈ range 1024, at2 X k (j 0).val * at2 Y k (j 1).val

theorem dot (X : FVec Ideal S1024x2816 .bf16) (Y : FVec Ideal S1024x1024 .bf16) (j : S2816x1024.Idx) :
    matmul dot_S1024x2816_S1024x1024_S2816x1024_0_0_1_1_n_n none X Y (constant S2816x1024 .f32 0x00000000#32) j = term X Y j :=
  matmul_at dot_S1024x2816_S1024x1024_S2816x1024_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S2816x1024.Idx) :
    (outsAt0 m c t.val t.isLt).2 j = term (iblk m c 0 t) (iblk m c 1 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem mid (t : Fin cfg0.N) (h : 1 ≤ t.val % 4 ∧ t.val % 4 ≤ 2) (j : S2816x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

theorem last (t : Fin cfg0.N) (h : t.val % 4 = 3) (j : S2816x1024.Idx) :
    (outsAt0 m c t.val t.isLt).1 j
      = (outsAt0 m c (t.val - 1) (Nat.lt_of_le_of_lt (Nat.sub_le _ _) t.isLt)).2 j + term (iblk m c 0 t) (iblk m c 1 t) j := by
  rw [outsAt0_C m c t (by omega) (by omega) h]
  dsimp only
  unfold out0_C_2
  rw [View.read_writes_eq_canon _ _ _ (fun y => cover0_C_2 (y := y) ..)]
  unfold kernelRun0_C
  dsimp only
  rw [View.canon_unit_zero hz]
  unfold k0_pay3
  simp only [View.readAt_eq_ld, (hs0_0 t).read_unread, (hs0_1 t).read_unread, (Memref.isWhole_whole _).read_unread, ld_whole, shapeCast_self]
  exact add_to (dot _ _ j)

/-- The tiles' indices over the grid: two columns of blocks of the first operand, two of the second, four blocks of rows. -/
theorem at_point : ∀ t : Fin cfg0.N, win0_0.index t 0 = t.val % 4 ∧ win0_0.index t 1 = t.val / 8 ∧ win0_1.index t 0 = t.val % 4
    ∧ win0_1.index t 1 = t.val / 4 % 2 := (by decide +kernel : ∀ t : Fin grid0.N, _)

/-- The two operands. -/
abbrev A : S4096x5632.Idx → EReal := m ((c.tc : Thread nD τ).loc main_arg0)
abbrev B : S4096x2048.Idx → EReal := m ((c.tc : Thread nD τ).loc main_arg1)

/-- A point's term: the part of the result's sum over that point's rows. -/
theorem term_eq (t : Fin cfg0.N) (j : S2816x1024.Idx) : term (iblk m c 0 t) (iblk m c 1 t) j
    = ∑ k ∈ range 1024, at2 (A m c) (1024 * (t.val % 4) + k) (2816 * (t.val / 8) + (j 0).val)
      * at2 (B m c) (1024 * (t.val % 4) + k) (1024 * (t.val / 4 % 2) + (j 1).val) := by
  obtain ⟨e0, e1, e2, e3⟩ := at_point t
  refine sum_congr rfl fun k hk => ?_
  have hk := mem_range.mp hk
  refine congrArg₂ (· * ·) (at2_block _ _ ((cfg0.win 0).blk t).view.emb (fun _ => rfl) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 2816 + 1 * (y 1).val = _; omega
  · show win0_1.index t 0 * 1024 + 1 * (y 0).val = _; omega
  · show win0_1.index t 1 * 1024 + 1 * (y 1).val = _; omega

/-- The result: the product of the transposed first operand and the second. -/
theorem result (i : S5632x2048.Idx) :
    Value.G2 m c i = ∑ k ∈ range 4096, at2 (A m c) k (i 0).val * at2 (B m c) k (i 1).val := by
  have h0 : (i 0).val < 5632 := (i 0).isLt
  have h1 : (i 1).val < 2048 := (i 1).isLt
  have hN : cfg0.N = 16 := N_0
  have hp : Value.pt2Of i < cfg0.N := by show 4 * (2 * ((i 0).val / 2816 - 0) + 1 * ((i 1).val / 1024 - 0)) + 3 < _; omega
  unfold Value.G2
  rw [dif_pos hp, ← Value.outsAt0_sweep m c _ hp]
  refine blocked (n := 4) (K := 1024) (fun t h => (outsAt0 m c t h).2 (Value.loc2Of i)) (fun t h => term (iblk m c 0 ⟨t, h⟩) (iblk m c 1 ⟨t, h⟩) _)
    (fun k => at2 (A m c) k (i 0).val * at2 (B m c) k (i 1).val) (fun t h e => first m c ⟨t, h⟩ e _)
    (fun t h h' e e' => mid m c ⟨t, h⟩ ⟨e, by show t % 4 ≤ 2; omega⟩ _) (Value.run2Of i) (by decide) hp
    (last m c ⟨_, hp⟩ (Nat.mul_add_mod _ _ _) _) (fun x h hx => (term_eq m c ⟨_, h⟩ _).trans (sum_congr rfl fun k _ => ?_))
  show at2 (A m c) (1024 * ((4 * Value.run2Of i + x) % 4) + k) (2816 * ((4 * Value.run2Of i + x) / 8) + (i 0).val % 2816) * at2 (B m c)
    (1024 * ((4 * Value.run2Of i + x) % 4) + k) (1024 * ((4 * Value.run2Of i + x) / 4 % 2) + (i 1).val % 1024) = _
  have hr : Value.run2Of i = 2 * ((i 0).val / 2816 - 0) + 1 * ((i 1).val / 1024 - 0) := rfl
  rw [show (4 * Value.run2Of i + x) % 4 = x by omega, show (4 * Value.run2Of i + x) / 8 = (i 0).val / 2816 by omega,
    show (4 * Value.run2Of i + x) / 4 % 2 = (i 1).val / 1024 by omega, Nat.div_add_mod, Nat.div_add_mod]

end Cert.Kernel5Ideal.Product

namespace Cert

open Cert.Products Idealize.ShloMosaic Idealize.ShloMosaic.TcCoe Idealize.SL.Sem Finset

theorem reference5 (X : Reference5Ideal.S4096x5632.Idx → EReal) (Y : Reference5Ideal.S4096x2048.Idx → EReal) (i : Reference5Ideal.S5632x2048.Idx) :
    Reference5Ideal.Read.val_main_v6 (F := Ideal) X Y i = ∑ k ∈ range 4096, at2 X k (i 0).val * at2 Y k (i 1).val := by
  rw [Reference5Ideal.Read.val_main_v6_apply]
  refine (Reference5Ideal.Read.val_main_v5_apply (F := Ideal) X Y i).trans ((Reference5Ideal.Read.val_main_v4_apply X Y _).trans ?_)
  exact (sum_at Y X _ _ (fun k => (k, (i 1).val)) (fun k => (k, (i 0).val)) (fun k => ⟨rfl, rfl⟩) (fun k => ⟨rfl, rfl⟩)).trans
    (sum_congr rfl fun k _ => mul_comm _ _)

theorem algebraic5 : algebraic_Kernel5Ideal_Reference5Ideal (hKernel5Ideal := Kernel5Ideal.Gen.facts) (hReference5Ideal := Reference5Ideal.Gen.facts) := by
  intro m g m' g' _ hagree
  refine ⟨Kernel5Ideal.Value.G2 m, Kernel5Ideal.Value.run m g, (θ_run _ _ _).mono (fun r h c => ⟨(h c).1.trans ?_, (h c).2⟩)
    (Reference5Ideal.Value.run (F := Ideal) m' g')⟩
  refine (Reference5Ideal.Read.val_main_v6_eq _ _).trans (funext fun i => ?_)
  rw [(hagree c).1, (hagree c).2]
  exact (reference5 _ _ i).trans (Kernel5Ideal.Product.result m c i).symm

end Cert

end
-- ==== Proof.Product6.lean ====
/- The down projection, added to the residual. -/
module

public import proofs.«01_k».proof.Proof.Products
public import proofs.«01_k».proof.Proof.Gen.Kernel6Ideal.Value
public import proofs.«01_k».proof.Proof.Gen.Reference6Ideal.Run
public import proofs.«01_k».proof.Proof.Gen.Reference6Ideal.Read
public import proofs.«01_k».proof.Defs

@[expose] public section

noncomputable section

namespace Cert.Kernel6Ideal.Product

open Cert.Kernel6Ideal Cert.Kernel6Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2816 .bf16) (Y : FVec Ideal S2816x1024 .bf16) (j : S1024x1024.Idx) : EReal :=
  ∑ k ∈ range 2816, at2 X (j 0).val k * at2 Y k (j 1).val

theorem dot (X : FVec Ideal S1024x2816 .bf16) (Y : FVec Ideal S2816x1024 .bf16) (j : S1024x1024.Idx) :
    matmul dot_S1024x2816_S2816x1024_S1024x1024_1_0_0_1_n_n none X Y (constant S1024x1024 .f32 0x00000000#32) j = term X Y j :=
  matmul_at dot_S1024x2816_S2816x1024_S1024x1024_1_0_0_1_n_n (x := 1) rfl (K := 2816) rfl none X Y j (fun k => ((j 0).val, k))
    (fun k => (k, (j 1).val)) (fun k => ⟨rfl, rfl⟩) (fun k => ⟨rfl, rfl⟩)

theorem first (t : Fin cfg0.N) (h : t.val % 2 = 0) (j : S1024x1024.Idx) :
    (outsAt0 m c t.val t.isLt).2 j = term (iblk m c 0 t) (iblk m c 1 t) j := by
  rw [outsAt0_A m c t h (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

/-- The residual's block at a point. -/
abbrev add (t : Fin cfg0.N) : S1024x1024.Idx → EReal := iblk m c 2 t

theorem last (t : Fin cfg0.N) (h : t.val % 2 = 1) (j : S1024x1024.Idx) :
    (outsAt0 m c t.val t.isLt).1 j = add m c t j
      + ((outsAt0 m c (t.val - 1) (Nat.lt_of_le_of_lt (Nat.sub_le _ _) t.isLt)).2 j + term (iblk m c 0 t) (iblk m c 1 t) j) := by
  rw [outsAt0_B m c t (by omega) h]
  dsimp only
  unfold out0_B_3
  rw [View.read_writes_eq_canon _ _ _ (fun y => cover0_B_3 (y := y) ..)]
  unfold kernelRun0_B
  dsimp only
  rw [View.canon_unit_zero hz]
  unfold k0_pay2
  simp only [View.readAt_eq_ld, (hs0_0 t).read_unread, (hs0_1 t).read_unread, (hs0_2 t).read_unread, (Memref.isWhole_whole _).read_unread,
    ld_whole, shapeCast_self]
  exact add_to (add_to (dot _ _ j))

/-- The tiles' indices over the grid: four rows of blocks of the first operand, two columns of the second, two blocks along the
    contracted axis; the residual's blocks as the result's. -/
theorem at_point : ∀ t : Fin cfg0.N, win0_0.index t 0 = t.val / 4 ∧ win0_0.index t 1 = t.val % 2 ∧ win0_1.index t 0 = t.val % 2
    ∧ win0_1.index t 1 = t.val / 2 % 2 ∧ win0_2.index t 0 = t.val / 4 ∧ win0_2.index t 1 = t.val / 2 % 2 :=
  (by decide +kernel : ∀ t : Fin grid0.N, _)

/-- The two operands and the residual. -/
abbrev A : S4096x5632.Idx → EReal := m ((c.tc : Thread nD τ).loc main_arg0)
abbrev B : S5632x2048.Idx → EReal := m ((c.tc : Thread nD τ).loc main_arg1)
abbrev R : S4096x2048.Idx → EReal := m ((c.tc : Thread nD τ).loc main_arg2)

/-- A point's term: the part of the result's sum over that point's blocks. -/
theorem term_eq (t : Fin cfg0.N) (j : S1024x1024.Idx) : term (iblk m c 0 t) (iblk m c 1 t) j
    = ∑ k ∈ range 2816, at2 (A m c) (1024 * (t.val / 4) + (j 0).val) (2816 * (t.val % 2) + k)
      * at2 (B m c) (2816 * (t.val % 2) + k) (1024 * (t.val / 2 % 2) + (j 1).val) := by
  obtain ⟨e0, e1, e2, e3, -, -⟩ := at_point t
  refine sum_congr rfl fun k hk => ?_
  have hk := mem_range.mp hk
  refine congrArg₂ (· * ·) (at2_block _ _ ((cfg0.win 0).blk t).view.emb (fun _ => rfl) (fun y => ?_) (fun y => ?_) (j 0).isLt hk)
    (at2_block _ _ ((cfg0.win 1).blk t).view.emb (fun _ => rfl) (fun y => ?_) (fun y => ?_) hk (j 1).isLt)
  · show win0_0.index t 0 * 1024 + 1 * (y 0).val = _; omega
  · show win0_0.index t 1 * 2816 + 1 * (y 1).val = _; omega
  · show win0_1.index t 0 * 2816 + 1 * (y 0).val = _; omega
  · show win0_1.index t 1 * 1024 + 1 * (y 1).val = _; omega

/-- The residual's block. -/
theorem residual (t : Fin cfg0.N) (j : S1024x1024.Idx) : add m c t j
    = at2 (R m c) (1024 * (t.val / 4) + (j 0).val) (1024 * (t.val / 2 % 2) + (j 1).val) := by
  obtain ⟨-, -, -, -, e0, e1⟩ := at_point t
  refine entry (R m c) (((cfg0.win 2).blk t).view.emb j) ?_ ?_
  · show win0_2.index t 0 * 1024 + 1 * (j 0).val = _; omega
  · show win0_2.index t 1 * 1024 + 1 * (j 1).val = _; omega

/-- The result: the residual and the product. -/
theorem result (i : S4096x2048.Idx) :
    Value.G3 m c i = R m c i + ∑ k ∈ range 5632, at2 (A m c) (i 0).val k * at2 (B m c) k (i 1).val := by
  have h0 : (i 0).val < 4096 := (i 0).isLt
  have h1 : (i 1).val < 2048 := (i 1).isLt
  have hN : cfg0.N = 16 := N_0
  have hp : Value.pt3Of i < cfg0.N := by show 2 * (2 * ((i 0).val / 1024 - 0) + 1 * ((i 1).val / 1024 - 0)) + 1 < _; omega
  have hr : Value.run3Of i = 2 * ((i 0).val / 1024 - 0) + 1 * ((i 1).val / 1024 - 0) := rfl
  unfold Value.G3
  rw [dif_pos hp, ← Value.outsAt0_sweep m c _ hp]
  refine (last m c ⟨_, hp⟩ (Nat.mul_add_mod _ _ _) _).trans (congrArg₂ (· + ·) ((residual m c ⟨_, hp⟩ _).trans ?_) ?_)
  · show at2 (R m c) (1024 * ((2 * Value.run3Of i + 1) / 4) + (i 0).val % 1024) (1024 * ((2 * Value.run3Of i + 1) / 2 % 2) + (i 1).val % 1024) = _
    rw [show (2 * Value.run3Of i + 1) / 4 = (i 0).val / 1024 by omega, show (2 * Value.run3Of i + 1) / 2 % 2 = (i 1).val / 1024 by omega,
      Nat.div_add_mod, Nat.div_add_mod, entry (R m c) i rfl rfl]
  refine blocked (n := 2) (K := 2816) (fun t h => (outsAt0 m c t h).2 (Value.loc3Of i)) (fun t h => term (iblk m c 0 ⟨t, h⟩) (iblk m c 1 ⟨t, h⟩) _)
    (fun k => at2 (A m c) (i 0).val k * at2 (B m c) k (i 1).val) (fun t h e => first m c ⟨t, h⟩ e _)
    (fun t h h' e e' => absurd e (by omega)) (Value.run3Of i) (by decide) hp rfl
    (fun x h hx => (term_eq m c ⟨_, h⟩ _).trans (sum_congr rfl fun k _ => ?_))
  show at2 (A m c) (1024 * ((2 * Value.run3Of i + x) / 4) + (i 0).val % 1024) (2816 * ((2 * Value.run3Of i + x) % 2) + k) * at2 (B m c)
    (2816 * ((2 * Value.run3Of i + x) % 2) + k) (1024 * ((2 * Value.run3Of i + x) / 2 % 2) + (i 1).val % 1024) = _
  rw [show (2 * Value.run3Of i + x) % 2 = x by omega, show (2 * Value.run3Of i + x) / 4 = (i 0).val / 1024 by omega,
    show (2 * Value.run3Of i + x) / 2 % 2 = (i 1).val / 1024 by omega, Nat.div_add_mod, Nat.div_add_mod]

end Cert.Kernel6Ideal.Product

namespace Cert

open Cert.Products Idealize.ShloMosaic Idealize.ShloMosaic.TcCoe Idealize.SL.Sem Finset

theorem reference6 (X : Reference6Ideal.S4096x5632.Idx → EReal) (Y : Reference6Ideal.S5632x2048.Idx → EReal) (Z : Reference6Ideal.S4096x2048.Idx → EReal)
    (i : Reference6Ideal.S4096x2048.Idx) :
    Reference6Ideal.Read.val_main_v3 (F := Ideal) X Y Z i = Z i + ∑ k ∈ range 5632, at2 X (i 0).val k * at2 Y k (i 1).val := by
  rw [Reference6Ideal.Read.val_main_v3_apply]
  exact add_to ((Reference6Ideal.Read.val_main_v2_apply X Y _).trans
    (sum_at X Y _ _ (fun k => ((i 0).val, k)) (fun k => (k, (i 1).val)) (fun k => ⟨rfl, rfl⟩) (fun k => ⟨rfl, rfl⟩)))

theorem algebraic6 : algebraic_Kernel6Ideal_Reference6Ideal (hKernel6Ideal := Kernel6Ideal.Gen.facts) (hReference6Ideal := Reference6Ideal.Gen.facts) := by
  intro m g m' g' _ hagree
  refine ⟨Kernel6Ideal.Value.G3 m, Kernel6Ideal.Value.run m g, (θ_run _ _ _).mono (fun r h c => ⟨(h c).1.trans ?_, (h c).2⟩)
    (Reference6Ideal.Value.run (F := Ideal) m' g')⟩
  refine (Reference6Ideal.Read.val_main_v3_eq _ _ _).trans (funext fun i => ?_)
  rw [(hagree c).1, (hagree c).2.1, (hagree c).2.2]
  exact (reference6 _ _ _ i).trans (Kernel6Ideal.Product.result m c i).symm

end Cert

end
-- ==== Proof.Product7.lean ====
/- The gradient of the input projection's operand. -/
module

public import proofs.«01_k».proof.Proof.Products
public import proofs.«01_k».proof.Proof.Gen.Kernel7Ideal.Value
public import proofs.«01_k».proof.Proof.Gen.Reference7Ideal.Run
public import proofs.«01_k».proof.Proof.Gen.Reference7Ideal.Read
public import proofs.«01_k».proof.Defs

@[expose] public section

noncomputable section

namespace Cert.Kernel7Ideal.Product

open Cert.Kernel7Ideal Cert.Kernel7Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2560 .bf16) (Y : FVec Ideal S1024x2560 .bf16) (j : S1024x1024.Idx) : EReal :=
  ∑ k ∈ range 2560, at2 X (j 0).val k * at2 Y (j 1).val k

theorem dot (X : FVec Ideal S1024x2560 .bf16) (Y : FVec Ideal S1024x2560 .bf16) (j : S1024x1024.Idx) :
    matmul dot_S1024x2560_S1024x2560_S1024x1024_1_1_0_0_n_n none X Y (constant S1024x1024 .f32 0x00000000#32) j = term X Y j :=
  matmul_at dot_S1024x2560_S1024x2560_S1024x1024_1_1_0_0_n_n (x := 1) rfl (K := 2560) rfl none X Y j (fun k => ((j 0).val, k))
    (fun k => ((j 1).val, k)) (fun k => ⟨rfl, rfl⟩) (fun k => ⟨rfl, rfl⟩)

theorem first (t : Fin cfg0.N) (h : t.val % 2 = 0) (j : S1024x1024.Idx) :
    (outsAt0 m c t.val t.isLt).2 j = term (iblk m c 0 t) (iblk m c 1 t) j := by
  rw [outsAt0_A m c t h (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem last (t : Fin cfg0.N) (h : t.val % 2 = 1) (j : S1024x1024.Idx) :
    (outsAt0 m c t.val t.isLt).1 j
      = (outsAt0 m c (t.val - 1) (Nat.lt_of_le_of_lt (Nat.sub_le _ _) t.isLt)).2 j + term (iblk m c 0 t) (iblk m c 1 t) j := by
  rw [outsAt0_B m c t (by omega) h]
  dsimp only
  unfold out0_B_2
  rw [View.read_writes_eq_canon _ _ _ (fun y => cover0_B_2 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

/-- The tiles' indices over the grid: four rows of blocks of the first operand, two of the second, two blocks of columns. -/
theorem at_point : ∀ t : Fin cfg0.N, win0_0.index t 0 = t.val / 4 ∧ win0_0.index t 1 = t.val % 2 ∧ win0_1.index t 0 = t.val / 2 % 2
    ∧ win0_1.index t 1 = t.val % 2 := (by decide +kernel : ∀ t : Fin grid0.N, _)

/-- The two operands. -/
abbrev A : S4096x5120.Idx → EReal := m ((c.tc : Thread nD τ).loc main_arg0)
abbrev B : S2048x5120.Idx → EReal := m ((c.tc : Thread nD τ).loc main_arg1)

/-- A point's term: the part of the result's sum over that point's columns. -/
theorem term_eq (t : Fin cfg0.N) (j : S1024x1024.Idx) : term (iblk m c 0 t) (iblk m c 1 t) j
    = ∑ k ∈ range 2560, at2 (A m c) (1024 * (t.val / 4) + (j 0).val) (2560 * (t.val % 2) + k)
      * at2 (B m c) (1024 * (t.val / 2 % 2) + (j 1).val) (2560 * (t.val % 2) + k) := by
  obtain ⟨e0, e1, e2, e3⟩ := at_point t
  refine sum_congr rfl fun k hk => ?_
  have hk := mem_range.mp hk
  refine congrArg₂ (· * ·) (at2_block _ _ ((cfg0.win 0).blk t).view.emb (fun _ => rfl) (fun y => ?_) (fun y => ?_) (j 0).isLt hk)
    (at2_block _ _ ((cfg0.win 1).blk t).view.emb (fun _ => rfl) (fun y => ?_) (fun y => ?_) (j 1).isLt hk)
  · show win0_0.index t 0 * 1024 + 1 * (y 0).val = _; omega
  · show win0_0.index t 1 * 2560 + 1 * (y 1).val = _; omega
  · show win0_1.index t 0 * 1024 + 1 * (y 0).val = _; omega
  · show win0_1.index t 1 * 2560 + 1 * (y 1).val = _; omega

/-- The result: the product of the first operand and the transposed second. -/
theorem result (i : S4096x2048.Idx) :
    Value.G2 m c i = ∑ k ∈ range 5120, at2 (A m c) (i 0).val k * at2 (B m c) (i 1).val k := by
  have h0 : (i 0).val < 4096 := (i 0).isLt
  have h1 : (i 1).val < 2048 := (i 1).isLt
  have hN : cfg0.N = 16 := N_0
  have hp : Value.pt2Of i < cfg0.N := by show 2 * (2 * ((i 0).val / 1024 - 0) + 1 * ((i 1).val / 1024 - 0)) + 1 < _; omega
  unfold Value.G2
  rw [dif_pos hp, ← Value.outsAt0_sweep m c _ hp]
  refine blocked (n := 2) (K := 2560) (fun t h => (outsAt0 m c t h).2 (Value.loc2Of i)) (fun t h => term (iblk m c 0 ⟨t, h⟩) (iblk m c 1 ⟨t, h⟩) _)
    (fun k => at2 (A m c) (i 0).val k * at2 (B m c) (i 1).val k) (fun t h e => first m c ⟨t, h⟩ e _)
    (fun t h h' e e' => absurd e (by omega)) (Value.run2Of i) (by decide) hp
    (last m c ⟨_, hp⟩ (Nat.mul_add_mod _ _ _) _) (fun x h hx => (term_eq m c ⟨_, h⟩ _).trans (sum_congr rfl fun k _ => ?_))
  show at2 (A m c) (1024 * ((2 * Value.run2Of i + x) / 4) + (i 0).val % 1024) (2560 * ((2 * Value.run2Of i + x) % 2) + k) * at2 (B m c)
    (1024 * ((2 * Value.run2Of i + x) / 2 % 2) + (i 1).val % 1024) (2560 * ((2 * Value.run2Of i + x) % 2) + k) = _
  have hr : Value.run2Of i = 2 * ((i 0).val / 1024 - 0) + 1 * ((i 1).val / 1024 - 0) := rfl
  rw [show (2 * Value.run2Of i + x) % 2 = x by omega, show (2 * Value.run2Of i + x) / 4 = (i 0).val / 1024 by omega,
    show (2 * Value.run2Of i + x) / 2 % 2 = (i 1).val / 1024 by omega, Nat.div_add_mod, Nat.div_add_mod]

end Cert.Kernel7Ideal.Product

namespace Cert

open Cert.Products Idealize.ShloMosaic Idealize.ShloMosaic.TcCoe Idealize.SL.Sem Finset

theorem reference7 (X : Reference7Ideal.S4096x5120.Idx → EReal) (Y : Reference7Ideal.S2048x5120.Idx → EReal) (i : Reference7Ideal.S4096x2048.Idx) :
    Reference7Ideal.Read.val_main_v5 (F := Ideal) X Y i = ∑ k ∈ range 5120, at2 X (i 0).val k * at2 Y (i 1).val k := by
  rw [Reference7Ideal.Read.val_main_v5_apply]
  refine (Reference7Ideal.Read.val_main_v4_apply X Y _).trans ?_
  exact sum_at X Y _ _ (fun k => ((i 0).val, k)) (fun k => ((i 1).val, k)) (fun k => ⟨rfl, rfl⟩) (fun k => ⟨rfl, rfl⟩)

theorem algebraic7 : algebraic_Kernel7Ideal_Reference7Ideal (hKernel7Ideal := Kernel7Ideal.Gen.facts) (hReference7Ideal := Reference7Ideal.Gen.facts) := by
  intro m g m' g' _ hagree
  refine ⟨Kernel7Ideal.Value.G2 m, Kernel7Ideal.Value.run m g, (θ_run _ _ _).mono (fun r h c => ⟨(h c).1.trans ?_, (h c).2⟩)
    (Reference7Ideal.Value.run (F := Ideal) m' g')⟩
  refine (Reference7Ideal.Read.val_main_v5_eq _ _).trans (funext fun i => ?_)
  rw [(hagree c).1, (hagree c).2]
  exact (reference7 _ _ i).trans (Kernel7Ideal.Product.result m c i).symm

end Cert

end
-- ==== Proof.Product8.lean ====
/- The gradient of the input projection's weight, of the second layer. -/
module

public import proofs.«01_k».proof.Proof.Products
public import proofs.«01_k».proof.Proof.Gen.Kernel8Ideal.Value
public import proofs.«01_k».proof.Proof.Gen.Reference8Ideal.Run
public import proofs.«01_k».proof.Proof.Gen.Reference8Ideal.Read
public import proofs.«01_k».proof.Defs

@[expose] public section

noncomputable section

namespace Cert.Kernel8Ideal.Product

open Cert.Kernel8Ideal Cert.Kernel8Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2048 .bf16) (Y : FVec Ideal S1024x1024 .bf16) (j : S2048x1024.Idx) : EReal :=
  ∑ k ∈ range 1024, at2 X k (j 0).val * at2 Y k (j 1).val

theorem dot (X : FVec Ideal S1024x2048 .bf16) (Y : FVec Ideal S1024x1024 .bf16) (j : S2048x1024.Idx) :
    matmul dot_S1024x2048_S1024x1024_S2048x1024_0_0_1_1_n_n none X Y (constant S2048x1024 .f32 0x00000000#32) j = term X Y j :=
  matmul_at dot_S1024x2048_S1024x1024_S2048x1024_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S2048x1024.Idx) :
    (outsAt0 m c t.val t.isLt).2 j = term (iblk m c 0 t) (iblk m c 1 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem mid (t : Fin cfg0.N) (h : 1 ≤ t.val % 4 ∧ t.val % 4 ≤ 2) (j : S2048x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

theorem last (t : Fin cfg0.N) (h : t.val % 4 = 3) (j : S2048x1024.Idx) :
    (outsAt0 m c t.val t.isLt).1 j
      = (outsAt0 m c (t.val - 1) (Nat.lt_of_le_of_lt (Nat.sub_le _ _) t.isLt)).2 j + term (iblk m c 0 t) (iblk m c 1 t) j := by
  rw [outsAt0_C m c t (by omega) (by omega) h]
  dsimp only
  unfold out0_C_2
  rw [View.read_writes_eq_canon _ _ _ (fun y => cover0_C_2 (y := y) ..)]
  unfold kernelRun0_C
  dsimp only
  rw [View.canon_unit_zero hz]
  unfold k0_pay3
  simp only [View.readAt_eq_ld, (hs0_0 t).read_unread, (hs0_1 t).read_unread, (Memref.isWhole_whole _).read_unread, ld_whole, shapeCast_self]
  exact add_to (dot _ _ j)

/-- The tiles' indices over the grid: one column of blocks of the first operand, five of the second, four blocks of rows. -/
theorem at_point : ∀ t : Fin cfg0.N, win0_0.index t 0 = t.val % 4 ∧ win0_0.index t 1 = 0 ∧ win0_1.index t 0 = t.val % 4
    ∧ win0_1.index t 1 = t.val / 4 := (by decide +kernel : ∀ t : Fin grid0.N, _)

/-- The two operands. -/
abbrev A : S4096x2048.Idx → EReal := m ((c.tc : Thread nD τ).loc main_arg0)
abbrev B : S4096x5120.Idx → EReal := m ((c.tc : Thread nD τ).loc main_arg1)

/-- A point's term: the part of the result's sum over that point's rows. -/
theorem term_eq (t : Fin cfg0.N) (j : S2048x1024.Idx) : term (iblk m c 0 t) (iblk m c 1 t) j
    = ∑ k ∈ range 1024, at2 (A m c) (1024 * (t.val % 4) + k) (2048 * 0 + (j 0).val)
      * at2 (B m c) (1024 * (t.val % 4) + k) (1024 * (t.val / 4) + (j 1).val) := by
  obtain ⟨e0, e1, e2, e3⟩ := at_point t
  refine sum_congr rfl fun k hk => ?_
  have hk := mem_range.mp hk
  refine congrArg₂ (· * ·) (at2_block _ _ ((cfg0.win 0).blk t).view.emb (fun _ => rfl) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 2048 + 1 * (y 1).val = _; omega
  · show win0_1.index t 0 * 1024 + 1 * (y 0).val = _; omega
  · show win0_1.index t 1 * 1024 + 1 * (y 1).val = _; omega

/-- The result: the product of the transposed first operand and the second. -/
theorem result (i : S2048x5120.Idx) :
    Value.G2 m c i = ∑ k ∈ range 4096, at2 (A m c) k (i 0).val * at2 (B m c) k (i 1).val := by
  have h0 : (i 0).val < 2048 := (i 0).isLt
  have h1 : (i 1).val < 5120 := (i 1).isLt
  have hN : cfg0.N = 20 := N_0
  have hp : Value.pt2Of i < cfg0.N := by show 4 * (5 * ((i 0).val / 2048 - 0) + 1 * ((i 1).val / 1024 - 0)) + 3 < _; omega
  unfold Value.G2
  rw [dif_pos hp, ← Value.outsAt0_sweep m c _ hp]
  refine blocked (n := 4) (K := 1024) (fun t h => (outsAt0 m c t h).2 (Value.loc2Of i)) (fun t h => term (iblk m c 0 ⟨t, h⟩) (iblk m c 1 ⟨t, h⟩) _)
    (fun k => at2 (A m c) k (i 0).val * at2 (B m c) k (i 1).val) (fun t h e => first m c ⟨t, h⟩ e _)
    (fun t h h' e e' => mid m c ⟨t, h⟩ ⟨e, by show t % 4 ≤ 2; omega⟩ _) (Value.run2Of i) (by decide) hp
    (last m c ⟨_, hp⟩ (Nat.mul_add_mod _ _ _) _) (fun x h hx => (term_eq m c ⟨_, h⟩ _).trans (sum_congr rfl fun k _ => ?_))
  show at2 (A m c) (1024 * ((4 * Value.run2Of i + x) % 4) + k) (2048 * 0 + (i 0).val % 2048) * at2 (B m c)
    (1024 * ((4 * Value.run2Of i + x) % 4) + k) (1024 * ((4 * Value.run2Of i + x) / 4) + (i 1).val % 1024) = _
  have hr : Value.run2Of i = 5 * ((i 0).val / 2048 - 0) + 1 * ((i 1).val / 1024 - 0) := rfl
  rw [show (4 * Value.run2Of i + x) % 4 = x by omega, show 2048 * 0 + (i 0).val % 2048 = (i 0).val by omega,
    show (4 * Value.run2Of i + x) / 4 = (i 1).val / 1024 by omega, Nat.div_add_mod]

end Cert.Kernel8Ideal.Product

namespace Cert

open Cert.Products Idealize.ShloMosaic Idealize.ShloMosaic.TcCoe Idealize.SL.Sem Finset

theorem reference8 (X : Reference8Ideal.S4096x2048.Idx → EReal) (Y : Reference8Ideal.S4096x5120.Idx → EReal) (i : Reference8Ideal.S2048x5120.Idx) :
    Reference8Ideal.Read.val_main_v6 (F := Ideal) X Y i = ∑ k ∈ range 4096, at2 X k (i 0).val * at2 Y k (i 1).val := by
  rw [Reference8Ideal.Read.val_main_v6_apply]
  refine (Reference8Ideal.Read.val_main_v5_apply (F := Ideal) X Y i).trans ((Reference8Ideal.Read.val_main_v4_apply X Y _).trans ?_)
  exact (sum_at Y X _ _ (fun k => (k, (i 1).val)) (fun k => (k, (i 0).val)) (fun k => ⟨rfl, rfl⟩) (fun k => ⟨rfl, rfl⟩)).trans
    (sum_congr rfl fun k _ => mul_comm _ _)

theorem algebraic8 : algebraic_Kernel8Ideal_Reference8Ideal (hKernel8Ideal := Kernel8Ideal.Gen.facts) (hReference8Ideal := Reference8Ideal.Gen.facts) := by
  intro m g m' g' _ hagree
  refine ⟨Kernel8Ideal.Value.G2 m, Kernel8Ideal.Value.run m g, (θ_run _ _ _).mono (fun r h c => ⟨(h c).1.trans ?_, (h c).2⟩)
    (Reference8Ideal.Value.run (F := Ideal) m' g')⟩
  refine (Reference8Ideal.Read.val_main_v6_eq _ _).trans (funext fun i => ?_)
  rw [(hagree c).1, (hagree c).2]
  exact (reference8 _ _ i).trans (Kernel8Ideal.Product.result m c i).symm

end Cert

end
-- ==== Proof.Product9.lean ====
/- The gradient of the output projection's operand. -/
module

public import proofs.«01_k».proof.Proof.Products
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.ValueKit.Geometry

@[expose] public section

noncomputable section

namespace Cert.Kernel9Ideal.Product

open Cert.Kernel9Ideal Cert.Kernel9Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2048 .bf16) (Y : FVec Ideal S1024x2048 .bf16) (j : S1024x1024.Idx) : EReal :=
  ∑ k ∈ range 2048, at2 X (j 0).val k * at2 Y (j 1).val k

theorem dot (X : FVec Ideal S1024x2048 .bf16) (Y : FVec Ideal S1024x2048 .bf16) (j : S1024x1024.Idx) :
    matmul dot_S1024x2048_S1024x2048_S1024x1024_1_1_0_0_n_n none X Y (constant S1024x1024 .f32 0x00000000#32) j = term X Y j :=
  matmul_at dot_S1024x2048_S1024x2048_S1024x1024_1_1_0_0_n_n (x := 1) rfl (K := 2048) rfl none X Y j (fun k => ((j 0).val, k))
    (fun k => ((j 1).val, k)) (fun k => ⟨rfl, rfl⟩) (fun k => ⟨rfl, rfl⟩)

/-- What a point stores. -/
theorem stored (X : FVec Ideal S1024x2048 .bf16) (Y : FVec Ideal S1024x2048 .bf16) (j : S1024x1024.Idx) : out0_2 (F := Ideal) X Y j = term X Y j := by
  unfold out0_2
  rw [View.canon_unit_zero hz]
  have e0 : View.ld (Val := Elt Ideal) (e' := .bf16) X r0_0 = X := ld_whole (Val := Elt Ideal) (e := .bf16) X _
  have e1 : View.ld (Val := Elt Ideal) (e' := .bf16) Y r0_0 = Y := ld_whole (Val := Elt Ideal) (e := .bf16) Y _
  refine (congrFun (congr (congrArg k0_pay1 e0) e1) _).trans ?_
  unfold k0_pay1
  exact dot X Y j

/-- The tiles' indices over the grid. -/
theorem at_point : ∀ t : Fin cfg0.N, win0_0.index t 0 = t.val / 2 ∧ win0_0.index t 1 = 0 ∧ win0_1.index t 0 = t.val % 2 ∧ win0_1.index t 1 = 0 ∧ win0_2.index t 0 = t.val / 2 ∧ win0_2.index t 1 = t.val % 2 := (by decide +kernel : ∀ t : Fin grid0.N, _)

/-- The operands. -/
abbrev A : S4096x2048.Idx → EReal := m ((c.tc : Thread nD τ).loc main_arg0)
abbrev B : S2048x2048.Idx → EReal := m ((c.tc : Thread nD τ).loc main_arg1)

/-- A point's term, over the operands. -/
theorem term_eq (t : Fin cfg0.N) (j : S1024x1024.Idx) : term (iblk m c 0 t) (iblk m c 1 t) j
    = ∑ k ∈ range 2048, at2 (A m c) (1024 * (t.val / 2) + (j 0).val) k * at2 (B m c) (1024 * (t.val % 2) + (j 1).val) k := by
  obtain ⟨e0, e1, e2, e3, -⟩ := at_point t
  refine sum_congr rfl fun k hk => ?_
  have hk := mem_range.mp hk
  refine congrArg₂ (· * ·) ((at2_block _ _ ((cfg0.win 0).blk t).view.emb (o₀ := 1024 * (t.val / 2)) (o₁ := 0) (fun _ => rfl) (fun y => ?_) (fun y => ?_)
      (j 0).isLt hk).trans ?_)
    ((at2_block _ _ ((cfg0.win 1).blk t).view.emb (o₀ := 1024 * (t.val % 2)) (o₁ := 0) (fun _ => rfl) (fun y => ?_) (fun y => ?_) (j 1).isLt hk).trans ?_)
  · show win0_0.index t 0 * 1024 + 1 * (y 0).val = _; omega
  · show win0_0.index t 1 * 2048 + 1 * (y 1).val = _; omega
  · rw [Nat.zero_add]
  · show win0_1.index t 0 * 1024 + 1 * (y 0).val = _; omega
  · show win0_1.index t 1 * 2048 + 1 * (y 1).val = _; omega
  · rw [Nat.zero_add]

/-- The result, the product of the operands. -/
def G : S4096x2048.Idx → EReal := fun i => ∑ k ∈ range 2048, at2 (A m c) (i 0).val k * at2 (B m c) (i 1).val k

theorem result : (dats m 0 c).arrAt 2 cfg0.N = G m c :=
  (dats m 0 c).arrAt_eq_of_covers 2 _ (by decide +kernel) fun t hf j => by
    show (dats m 0 c).after 2 t j = G m c (((cfg0.win 2).blk t).view.emb j)
    obtain ⟨-, -, -, -, e0, e1⟩ := at_point t
    have p0 : (((cfg0.win 2).blk t).view.emb j 0).val = 1024 * (t.val / 2) + (j 0).val := by
      show win0_2.index t 0 * 1024 + 1 * (j 0).val = _; omega
    have p1 : (((cfg0.win 2).blk t).view.emb j 1).val = 1024 * (t.val % 2) + (j 1).val := by
      show win0_2.index t 1 * 1024 + 1 * (j 1).val = _; omega
    rw [after0_2]
    unfold G
    rw [p0, p1]
    exact (stored _ _ j).trans (term_eq m c t j)

end Cert.Kernel9Ideal.Product

namespace Cert

open Cert.Products Idealize.ShloMosaic Idealize.ShloMosaic.TcCoe Idealize.SL.Sem Finset

theorem reference9 (X : Reference9Ideal.S4096x2048.Idx → EReal) (Y : Reference9Ideal.S2048x2048.Idx → EReal) (i : Reference9Ideal.S4096x2048.Idx) :
    Reference9Ideal.Read.val_main_v5 (F := Ideal) X Y i = ∑ k ∈ range 2048, at2 X (i 0).val k * at2 Y (i 1).val k := by
  rw [Reference9Ideal.Read.val_main_v5_apply]
  refine ((Reference9Ideal.Read.val_main_v4_apply X Y i).trans ?_)
  exact sum_at X Y _ _ (fun k => ((i 0).val, k)) (fun k => ((i 1).val, k)) (fun k => ⟨rfl, rfl⟩) (fun k => ⟨rfl, rfl⟩)

theorem algebraic9 : algebraic_Kernel9Ideal_Reference9Ideal (hKernel9Ideal := Kernel9Ideal.Gen.facts) (hReference9Ideal := Reference9Ideal.Gen.facts) := by
  intro m g m' g' _ hagree
  refine ⟨Kernel9Ideal.Product.G m, (θ_run _ _ _).mono (fun r h c => ⟨(h c).1.trans (Kernel9Ideal.Product.result m c), (h c).2⟩)
    (Kernel9Ideal.Value.run_blocks m g), (θ_run _ _ _).mono (fun r h c => ⟨(h c).1.trans ?_, (h c).2⟩) (Reference9Ideal.Value.run (F := Ideal) m' g')⟩
  refine (Reference9Ideal.Read.val_main_v5_eq _ _).trans (funext fun i => ?_)
  rw [(hagree c).1, (hagree c).2]
  exact reference9 _ _ i

end Cert

end
-- ==== Proof.Product10.lean ====
/- The gradient of the output projection's weight. -/
module

public import proofs.«01_k».proof.Proof.Products
public import proofs.«01_k».proof.Proof.Gen.Kernel10Ideal.Value
public import proofs.«01_k».proof.Proof.Gen.Reference10Ideal.Run
public import proofs.«01_k».proof.Proof.Gen.Reference10Ideal.Read
public import proofs.«01_k».proof.Defs

@[expose] public section

noncomputable section

namespace Cert.Kernel10Ideal.Product

open Cert.Kernel10Ideal Cert.Kernel10Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x1024 .bf16) (Y : FVec Ideal S1024x1024 .bf16) (j : S1024x1024.Idx) : EReal :=
  ∑ k ∈ range 1024, at2 X k (j 0).val * at2 Y k (j 1).val

theorem dot (X : FVec Ideal S1024x1024 .bf16) (Y : FVec Ideal S1024x1024 .bf16) (j : S1024x1024.Idx) :
    matmul dot_S1024x1024_S1024x1024_S1024x1024_0_0_1_1_n_n none X Y (constant S1024x1024 .f32 0x00000000#32) j = term X Y j :=
  matmul_at dot_S1024x1024_S1024x1024_S1024x1024_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S1024x1024.Idx) :
    (outsAt0 m c t.val t.isLt).2 j = term (iblk m c 0 t) (iblk m c 1 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem mid (t : Fin cfg0.N) (h : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

theorem last (t : Fin cfg0.N) (h : t.val % 4 = 3) (j : S1024x1024.Idx) :
    (outsAt0 m c t.val t.isLt).1 j
      = (outsAt0 m c (t.val - 1) (Nat.lt_of_le_of_lt (Nat.sub_le _ _) t.isLt)).2 j + term (iblk m c 0 t) (iblk m c 1 t) j := by
  rw [outsAt0_C m c t (by omega) (by omega) h]
  dsimp only
  unfold out0_C_2
  rw [View.read_writes_eq_canon _ _ _ (fun y => cover0_C_2 (y := y) ..)]
  unfold kernelRun0_C
  dsimp only
  rw [View.canon_unit_zero hz]
  unfold k0_pay3
  simp only [View.readAt_eq_ld, (hs0_0 t).read_unread, (hs0_1 t).read_unread, (Memref.isWhole_whole _).read_unread, ld_whole, shapeCast_self]
  exact add_to (dot _ _ j)

/-- The tiles' indices over the grid: two columns of blocks of the first operand, two of the second, four blocks of rows. -/
theorem at_point : ∀ t : Fin cfg0.N, win0_0.index t 0 = t.val % 4 ∧ win0_0.index t 1 = t.val / 8 ∧ win0_1.index t 0 = t.val % 4
    ∧ win0_1.index t 1 = t.val / 4 % 2 := (by decide +kernel : ∀ t : Fin grid0.N, _)

/-- The two operands. -/
abbrev A : S4096x2048.Idx → EReal := m ((c.tc : Thread nD τ).loc main_arg0)
abbrev B : S4096x2048.Idx → EReal := m ((c.tc : Thread nD τ).loc main_arg1)

/-- A point's term: the part of the result's sum over that point's rows. -/
theorem term_eq (t : Fin cfg0.N) (j : S1024x1024.Idx) : term (iblk m c 0 t) (iblk m c 1 t) j
    = ∑ k ∈ range 1024, at2 (A m c) (1024 * (t.val % 4) + k) (1024 * (t.val / 8) + (j 0).val)
      * at2 (B m c) (1024 * (t.val % 4) + k) (1024 * (t.val / 4 % 2) + (j 1).val) := by
  obtain ⟨e0, e1, e2, e3⟩ := at_point t
  refine sum_congr rfl fun k hk => ?_
  have hk := mem_range.mp hk
  refine congrArg₂ (· * ·) (at2_block _ _ ((cfg0.win 0).blk t).view.emb (fun _ => rfl) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 1024 + 1 * (y 1).val = _; omega
  · show win0_1.index t 0 * 1024 + 1 * (y 0).val = _; omega
  · show win0_1.index t 1 * 1024 + 1 * (y 1).val = _; omega

/-- The result: the product of the transposed first operand and the second. -/
theorem result (i : S2048x2048.Idx) :
    Value.G2 m c i = ∑ k ∈ range 4096, at2 (A m c) k (i 0).val * at2 (B m c) k (i 1).val := by
  have h0 : (i 0).val < 2048 := (i 0).isLt
  have h1 : (i 1).val < 2048 := (i 1).isLt
  have hN : cfg0.N = 16 := N_0
  have hp : Value.pt2Of i < cfg0.N := by show 4 * (2 * ((i 0).val / 1024 - 0) + 1 * ((i 1).val / 1024 - 0)) + 3 < _; omega
  unfold Value.G2
  rw [dif_pos hp, ← Value.outsAt0_sweep m c _ hp]
  refine blocked (n := 4) (K := 1024) (fun t h => (outsAt0 m c t h).2 (Value.loc2Of i)) (fun t h => term (iblk m c 0 ⟨t, h⟩) (iblk m c 1 ⟨t, h⟩) _)
    (fun k => at2 (A m c) k (i 0).val * at2 (B m c) k (i 1).val) (fun t h e => first m c ⟨t, h⟩ e _)
    (fun t h h' e e' => mid m c ⟨t, h⟩ ⟨e, by show t % 4 ≤ 2; omega⟩ _) (Value.run2Of i) (by decide) hp
    (last m c ⟨_, hp⟩ (Nat.mul_add_mod _ _ _) _) (fun x h hx => (term_eq m c ⟨_, h⟩ _).trans (sum_congr rfl fun k _ => ?_))
  show at2 (A m c) (1024 * ((4 * Value.run2Of i + x) % 4) + k) (1024 * ((4 * Value.run2Of i + x) / 8) + (i 0).val % 1024) * at2 (B m c)
    (1024 * ((4 * Value.run2Of i + x) % 4) + k) (1024 * ((4 * Value.run2Of i + x) / 4 % 2) + (i 1).val % 1024) = _
  have hr : Value.run2Of i = 2 * ((i 0).val / 1024 - 0) + 1 * ((i 1).val / 1024 - 0) := rfl
  rw [show (4 * Value.run2Of i + x) % 4 = x by omega, show (4 * Value.run2Of i + x) / 8 = (i 0).val / 1024 by omega,
    show (4 * Value.run2Of i + x) / 4 % 2 = (i 1).val / 1024 by omega, Nat.div_add_mod, Nat.div_add_mod]

end Cert.Kernel10Ideal.Product

namespace Cert

open Cert.Products Idealize.ShloMosaic Idealize.ShloMosaic.TcCoe Idealize.SL.Sem Finset

theorem reference10 (X : Reference10Ideal.S4096x2048.Idx → EReal) (Y : Reference10Ideal.S4096x2048.Idx → EReal) (i : Reference10Ideal.S2048x2048.Idx) :
    Reference10Ideal.Read.val_main_v6 (F := Ideal) X Y i = ∑ k ∈ range 4096, at2 X k (i 0).val * at2 Y k (i 1).val := by
  rw [Reference10Ideal.Read.val_main_v6_apply]
  refine (Reference10Ideal.Read.val_main_v5_apply (F := Ideal) X Y i).trans ((Reference10Ideal.Read.val_main_v4_apply X Y _).trans ?_)
  exact (sum_at Y X _ _ (fun k => (k, (i 1).val)) (fun k => (k, (i 0).val)) (fun k => ⟨rfl, rfl⟩) (fun k => ⟨rfl, rfl⟩)).trans
    (sum_congr rfl fun k _ => mul_comm _ _)

theorem algebraic10 : algebraic_Kernel10Ideal_Reference10Ideal (hKernel10Ideal := Kernel10Ideal.Gen.facts) (hReference10Ideal := Reference10Ideal.Gen.facts) := by
  intro m g m' g' _ hagree
  refine ⟨Kernel10Ideal.Value.G2 m, Kernel10Ideal.Value.run m g, (θ_run _ _ _).mono (fun r h c => ⟨(h c).1.trans ?_, (h c).2⟩)
    (Reference10Ideal.Value.run (F := Ideal) m' g')⟩
  refine (Reference10Ideal.Read.val_main_v6_eq _ _).trans (funext fun i => ?_)
  rw [(hagree c).1, (hagree c).2]
  exact (reference10 _ _ i).trans (Kernel10Ideal.Product.result m c i).symm

end Cert

end
-- ==== Proof.Product11.lean ====
/- The input projection. -/
module

public import proofs.«01_k».proof.Proof.Products
public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Pipeline.ValueKit.Geometry

@[expose] public section

noncomputable section

namespace Cert.Kernel11Ideal.Product

open Cert.Kernel11Ideal Cert.Kernel11Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2048 .bf16) (Y : FVec Ideal S2048x1024 .bf16) (j : S1024x1024.Idx) : EReal :=
  ∑ k ∈ range 2048, at2 X (j 0).val k * at2 Y k (j 1).val

theorem dot (X : FVec Ideal S1024x2048 .bf16) (Y : FVec Ideal S2048x1024 .bf16) (j : S1024x1024.Idx) :
    matmul dot_S1024x2048_S2048x1024_S1024x1024_1_0_0_1_n_n none X Y (constant S1024x1024 .f32 0x00000000#32) j = term X Y j :=
  matmul_at dot_S1024x2048_S2048x1024_S1024x1024_1_0_0_1_n_n (x := 1) rfl (K := 2048) rfl none X Y j (fun k => ((j 0).val, k))
    (fun k => (k, (j 1).val)) (fun k => ⟨rfl, rfl⟩) (fun k => ⟨rfl, rfl⟩)

/-- What a point stores. -/
theorem stored (X : FVec Ideal S1024x2048 .bf16) (Y : FVec Ideal S2048x1024 .bf16) (j : S1024x1024.Idx) : out0_2 (F := Ideal) X Y j = term X Y j := by
  unfold out0_2
  rw [View.canon_unit_zero hz]
  have e0 : View.ld (Val := Elt Ideal) (e' := .bf16) X r0_0 = X := ld_whole (Val := Elt Ideal) (e := .bf16) X _
  have e1 : View.ld (Val := Elt Ideal) (e' := .bf16) Y r0_1 = Y := ld_whole (Val := Elt Ideal) (e := .bf16) Y _
  refine (congrFun (congr (congrArg k0_pay1 e0) e1) _).trans ?_
  unfold k0_pay1
  exact dot X Y j

/-- The tiles' indices over the grid. -/
theorem at_point : ∀ t : Fin cfg0.N, win0_0.index t 0 = t.val % 4 ∧ win0_0.index t 1 = 0 ∧ win0_1.index t 0 = 0 ∧ win0_1.index t 1 = t.val / 4 ∧ win0_2.index t 0 = t.val % 4 ∧ win0_2.index t 1 = t.val / 4 := (by decide +kernel : ∀ t : Fin grid0.N, _)

/-- The operands. -/
abbrev A : S4096x2048.Idx → EReal := m ((c.tc : Thread nD τ).loc main_arg0)
abbrev B : S2048x5120.Idx → EReal := m ((c.tc : Thread nD τ).loc main_arg1)

/-- A point's term, over the operands. -/
theorem term_eq (t : Fin cfg0.N) (j : S1024x1024.Idx) : term (iblk m c 0 t) (iblk m c 1 t) j
    = ∑ k ∈ range 2048, at2 (A m c) (1024 * (t.val % 4) + (j 0).val) k * at2 (B m c) k (1024 * (t.val / 4) + (j 1).val) := by
  obtain ⟨e0, e1, e2, e3, -⟩ := at_point t
  refine sum_congr rfl fun k hk => ?_
  have hk := mem_range.mp hk
  refine congrArg₂ (· * ·) ((at2_block _ _ ((cfg0.win 0).blk t).view.emb (o₀ := 1024 * (t.val % 4)) (o₁ := 0) (fun _ => rfl) (fun y => ?_) (fun y => ?_)
      (j 0).isLt hk).trans ?_)
    ((at2_block _ _ ((cfg0.win 1).blk t).view.emb (o₀ := 0) (o₁ := 1024 * (t.val / 4)) (fun _ => rfl) (fun y => ?_) (fun y => ?_) hk (j 1).isLt).trans ?_)
  · show win0_0.index t 0 * 1024 + 1 * (y 0).val = _; omega
  · show win0_0.index t 1 * 2048 + 1 * (y 1).val = _; omega
  · rw [Nat.zero_add]
  · show win0_1.index t 0 * 2048 + 1 * (y 0).val = _; omega
  · show win0_1.index t 1 * 1024 + 1 * (y 1).val = _; omega
  · rw [Nat.zero_add]

/-- The result, the product of the operands. -/
def G : S4096x5120.Idx → EReal := fun i => ∑ k ∈ range 2048, at2 (A m c) (i 0).val k * at2 (B m c) k (i 1).val

theorem result : (dats m 0 c).arrAt 2 cfg0.N = G m c :=
  (dats m 0 c).arrAt_eq_of_covers 2 _ (by decide +kernel) fun t hf j => by
    show (dats m 0 c).after 2 t j = G m c (((cfg0.win 2).blk t).view.emb j)
    obtain ⟨-, -, -, -, e0, e1⟩ := at_point t
    have p0 : (((cfg0.win 2).blk t).view.emb j 0).val = 1024 * (t.val % 4) + (j 0).val := by
      show win0_2.index t 0 * 1024 + 1 * (j 0).val = _; omega
    have p1 : (((cfg0.win 2).blk t).view.emb j 1).val = 1024 * (t.val / 4) + (j 1).val := by
      show win0_2.index t 1 * 1024 + 1 * (j 1).val = _; omega
    rw [after0_2]
    unfold G
    rw [p0, p1]
    exact (stored _ _ j).trans (term_eq m c t j)

end Cert.Kernel11Ideal.Product

namespace Cert

open Cert.Products Idealize.ShloMosaic Idealize.ShloMosaic.TcCoe Idealize.SL.Sem Finset

theorem reference11 (X : Reference11Ideal.S4096x2048.Idx → EReal) (Y : Reference11Ideal.S2048x5120.Idx → EReal) (i : Reference11Ideal.S4096x5120.Idx) :
    Reference11Ideal.Read.val_main_v3 (F := Ideal) X Y i = ∑ k ∈ range 2048, at2 X (i 0).val k * at2 Y k (i 1).val := by
  rw [Reference11Ideal.Read.val_main_v3_apply]
  refine ((Reference11Ideal.Read.val_main_v2_apply X Y i).trans ?_)
  exact sum_at X Y _ _ (fun k => ((i 0).val, k)) (fun k => (k, (i 1).val)) (fun k => ⟨rfl, rfl⟩) (fun k => ⟨rfl, rfl⟩)

theorem algebraic11 : algebraic_Kernel11Ideal_Reference11Ideal (hKernel11Ideal := Kernel11Ideal.Gen.facts) (hReference11Ideal := Reference11Ideal.Gen.facts) := by
  intro m g m' g' _ hagree
  refine ⟨Kernel11Ideal.Product.G m, (θ_run _ _ _).mono (fun r h c => ⟨(h c).1.trans (Kernel11Ideal.Product.result m c), (h c).2⟩)
    (Kernel11Ideal.Value.run_blocks m g), (θ_run _ _ _).mono (fun r h c => ⟨(h c).1.trans ?_, (h c).2⟩) (Reference11Ideal.Value.run (F := Ideal) m' g')⟩
  refine (Reference11Ideal.Read.val_main_v3_eq _ _).trans (funext fun i => ?_)
  rw [(hagree c).1, (hagree c).2]
  exact reference11 _ _ i

end Cert

end
-- ==== Proof.Product12.lean ====
/- The output projection, with the residual added. -/
module

public import proofs.«01_k».proof.Proof.Products
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Pipeline.ValueKit.Geometry

@[expose] public section

noncomputable section

namespace Cert.Kernel12Ideal.Product

open Cert.Kernel12Ideal Cert.Kernel12Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x2048 .bf16) (Y : FVec Ideal S2048x1024 .bf16) (j : S1024x1024.Idx) : EReal :=
  ∑ k ∈ range 2048, at2 X (j 0).val k * at2 Y k (j 1).val

theorem dot (X : FVec Ideal S1024x2048 .bf16) (Y : FVec Ideal S2048x1024 .bf16) (j : S1024x1024.Idx) :
    matmul dot_S1024x2048_S2048x1024_S1024x1024_1_0_0_1_n_n none X Y (constant S1024x1024 .f32 0x00000000#32) j = term X Y j :=
  matmul_at dot_S1024x2048_S2048x1024_S1024x1024_1_0_0_1_n_n (x := 1) rfl (K := 2048) rfl none X Y j (fun k => ((j 0).val, k))
    (fun k => (k, (j 1).val)) (fun k => ⟨rfl, rfl⟩) (fun k => ⟨rfl, rfl⟩)

/-- What a point stores. -/
theorem stored (X : FVec Ideal S1024x2048 .bf16) (Y : FVec Ideal S2048x1024 .bf16) (Z : FVec Ideal S1024x1024 .f32) (j : S1024x1024.Idx) : out0_3 (F := Ideal) X Y Z j = (Z j + term X Y j : EReal) := by
  unfold out0_3
  rw [View.canon_unit_zero hz]
  have e0 : View.ld (Val := Elt Ideal) (e' := .bf16) X r0_0 = X := ld_whole (Val := Elt Ideal) (e := .bf16) X _
  have e1 : View.ld (Val := Elt Ideal) (e' := .bf16) Y r0_1 = Y := ld_whole (Val := Elt Ideal) (e := .bf16) Y _
  have e2 : View.ld (Val := Elt Ideal) (e' := .f32) Z r0_2 = Z := ld_whole (Val := Elt Ideal) (e := .f32) Z _
  refine (congrFun (congr (congr (congrArg k0_pay1 e0) e1) e2) _).trans ?_
  unfold k0_pay1
  exact add_to (dot X Y j)

/-- The tiles' indices over the grid. -/
theorem at_point : ∀ t : Fin cfg0.N, win0_0.index t 0 = t.val / 2 ∧ win0_0.index t 1 = 0 ∧ win0_1.index t 0 = 0 ∧ win0_1.index t 1 = t.val % 2 ∧ win0_2.index t 0 = t.val / 2 ∧ win0_2.index t 1 = t.val % 2 ∧ win0_3.index t 0 = t.val / 2 ∧ win0_3.index t 1 = t.val % 2 := (by decide +kernel : ∀ t : Fin grid0.N, _)

/-- The operands. -/
abbrev A : S4096x2048.Idx → EReal := m ((c.tc : Thread nD τ).loc main_arg0)
abbrev B : S2048x2048.Idx → EReal := m ((c.tc : Thread nD τ).loc main_arg1)
abbrev R : S4096x2048.Idx → EReal := m ((c.tc : Thread nD τ).loc main_arg2)

/-- A point's term, over the operands. -/
theorem term_eq (t : Fin cfg0.N) (j : S1024x1024.Idx) : term (iblk m c 0 t) (iblk m c 1 t) j
    = ∑ k ∈ range 2048, at2 (A m c) (1024 * (t.val / 2) + (j 0).val) k * at2 (B m c) k (1024 * (t.val % 2) + (j 1).val) := by
  obtain ⟨e0, e1, e2, e3, -⟩ := at_point t
  refine sum_congr rfl fun k hk => ?_
  have hk := mem_range.mp hk
  refine congrArg₂ (· * ·) ((at2_block _ _ ((cfg0.win 0).blk t).view.emb (o₀ := 1024 * (t.val / 2)) (o₁ := 0) (fun _ => rfl) (fun y => ?_) (fun y => ?_)
      (j 0).isLt hk).trans ?_)
    ((at2_block _ _ ((cfg0.win 1).blk t).view.emb (o₀ := 0) (o₁ := 1024 * (t.val % 2)) (fun _ => rfl) (fun y => ?_) (fun y => ?_) hk (j 1).isLt).trans ?_)
  · show win0_0.index t 0 * 1024 + 1 * (y 0).val = _; omega
  · show win0_0.index t 1 * 2048 + 1 * (y 1).val = _; omega
  · rw [Nat.zero_add]
  · show win0_1.index t 0 * 2048 + 1 * (y 0).val = _; omega
  · show win0_1.index t 1 * 1024 + 1 * (y 1).val = _; omega
  · rw [Nat.zero_add]

/-- The residual's block holds the residual at the point's place. -/
abbrev add (t : Fin cfg0.N) : S1024x1024.Idx → EReal := iblk m c 2 t
theorem residual (t : Fin cfg0.N) (j : S1024x1024.Idx) : add m c t j = R m c (((cfg0.win 3).blk t).view.emb j) := by
  obtain ⟨-, -, -, -, e0, e1, e2, e3⟩ := at_point t
  refine congrArg (R m c) (funext fun a => Fin.ext ?_)
  match a with
  | ⟨0, _⟩ => show win0_2.index t 0 * 1024 + 1 * (j 0).val = win0_3.index t 0 * 1024 + 1 * (j 0).val; omega
  | ⟨1, _⟩ => show win0_2.index t 1 * 1024 + 1 * (j 1).val = win0_3.index t 1 * 1024 + 1 * (j 1).val; omega

/-- The result, the residual added to the product of the operands. -/
def G : S4096x2048.Idx → EReal := fun i => R m c i + ∑ k ∈ range 2048, at2 (A m c) (i 0).val k * at2 (B m c) k (i 1).val

theorem result : (dats m 0 c).arrAt 3 cfg0.N = G m c :=
  (dats m 0 c).arrAt_eq_of_covers 3 _ (by decide +kernel) fun t hf j => by
    show (dats m 0 c).after 3 t j = G m c (((cfg0.win 3).blk t).view.emb j)
    obtain ⟨-, -, -, -, -, -, e0, e1⟩ := at_point t
    have p0 : (((cfg0.win 3).blk t).view.emb j 0).val = 1024 * (t.val / 2) + (j 0).val := by
      show win0_3.index t 0 * 1024 + 1 * (j 0).val = _; omega
    have p1 : (((cfg0.win 3).blk t).view.emb j 1).val = 1024 * (t.val % 2) + (j 1).val := by
      show win0_3.index t 1 * 1024 + 1 * (j 1).val = _; omega
    rw [after0_3]
    unfold G
    rw [p0, p1]
    exact (stored _ _ (add m c t) j).trans (congrArg₂ (fun x y : EReal => x + y) (residual m c t j) (term_eq m c t j))

end Cert.Kernel12Ideal.Product

namespace Cert

open Cert.Products Idealize.ShloMosaic Idealize.ShloMosaic.TcCoe Idealize.SL.Sem Finset

theorem reference12 (X : Reference12Ideal.S4096x2048.Idx → EReal) (Y : Reference12Ideal.S2048x2048.Idx → EReal) (Z : Reference12Ideal.S4096x2048.Idx → EReal) (i : Reference12Ideal.S4096x2048.Idx) :
    Reference12Ideal.Read.val_main_v3 (F := Ideal) X Y Z i = Z i + ∑ k ∈ range 2048, at2 X (i 0).val k * at2 Y k (i 1).val := by
  rw [Reference12Ideal.Read.val_main_v3_apply]
  refine congrArg (FloatOps.addf (F := Ideal) (φ := .f32) (Z i)) ((Reference12Ideal.Read.val_main_v2_apply X Y i).trans ?_)
  exact sum_at X Y _ _ (fun k => ((i 0).val, k)) (fun k => (k, (i 1).val)) (fun k => ⟨rfl, rfl⟩) (fun k => ⟨rfl, rfl⟩)

theorem algebraic12 : algebraic_Kernel12Ideal_Reference12Ideal (hKernel12Ideal := Kernel12Ideal.Gen.facts) (hReference12Ideal := Reference12Ideal.Gen.facts) := by
  intro m g m' g' _ hagree
  refine ⟨Kernel12Ideal.Product.G m, (θ_run _ _ _).mono (fun r h c => ⟨(h c).1.trans (Kernel12Ideal.Product.result m c), (h c).2⟩)
    (Kernel12Ideal.Value.run_blocks m g), (θ_run _ _ _).mono (fun r h c => ⟨(h c).1.trans ?_, (h c).2⟩) (Reference12Ideal.Value.run (F := Ideal) m' g')⟩
  refine (Reference12Ideal.Read.val_main_v3_eq _ _ _).trans (funext fun i => ?_)
  rw [(hagree c).1, (hagree c).2.1, (hagree c).2.2]
  exact reference12 _ _ _ i

end Cert

end
-- ==== Proof.Product13.lean ====
/- The gradient of the input projection's weight, of the first layer: the first 1792 rows. -/
module

public import proofs.«01_k».proof.Proof.Products
public import proofs.«01_k».proof.Proof.Gen.Kernel13Ideal.Value
public import proofs.«01_k».proof.Proof.Gen.Reference13Ideal.Run
public import proofs.«01_k».proof.Proof.Gen.Reference13Ideal.Read
public import proofs.«01_k».proof.Defs

@[expose] public section

noncomputable section

namespace Cert.Kernel13Ideal.Product

open Cert.Kernel13Ideal Cert.Kernel13Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x1792 .bf16) (Y : FVec Ideal S1024x1024 .bf16) (j : S1792x1024.Idx) : EReal :=
  ∑ k ∈ range 1024, at2 X k (j 0).val * at2 Y k (j 1).val

theorem dot (X : FVec Ideal S1024x1792 .bf16) (Y : FVec Ideal S1024x1024 .bf16) (j : S1792x1024.Idx) :
    matmul dot_S1024x1792_S1024x1024_S1792x1024_0_0_1_1_n_n none X Y (constant S1792x1024 .f32 0x00000000#32) j = term X Y j :=
  matmul_at dot_S1024x1792_S1024x1024_S1792x1024_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S1792x1024.Idx) :
    (outsAt0 m c t.val t.isLt).2 j = term (X0_0 m c t) (iblk m c 1 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem mid (t : Fin cfg0.N) (h : 1 ≤ t.val % 4 ∧ t.val % 4 ≤ 2) (j : S1792x1024.Idx) :
    (outsAt0 m c t.val t.isLt).2 j
      = (outsAt0 m c (t.val - 1) (Nat.lt_of_le_of_lt (Nat.sub_le _ _) t.isLt)).2 j + term (X0_0 m c t) (iblk m c 1 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

theorem last (t : Fin cfg0.N) (h : t.val % 4 = 3) (j : S1792x1024.Idx) :
    (outsAt0 m c t.val t.isLt).1 j
      = (outsAt0 m c (t.val - 1) (Nat.lt_of_le_of_lt (Nat.sub_le _ _) t.isLt)).2 j + term (X0_0 m c t) (iblk m c 1 t) j := by
  rw [outsAt0_C m c t (by omega) (by omega) h]
  dsimp only
  unfold out0_C_2
  rw [View.read_writes_eq_canon _ _ _ (fun y => cover0_C_2 (y := y) ..)]
  unfold kernelRun0_C
  dsimp only
  rw [View.canon_unit_zero hz]
  unfold k0_pay3
  simp only [View.readAt_eq_ld, (hs0_0 t).read_unread, (hs0_1 t).read_unread, (Memref.isWhole_whole _).read_unread, ld_whole, shapeCast_self]
  exact add_to (dot _ _ j)

/-- The tiles' indices over the grid: one column of blocks of the first operand, five of the second, four blocks of rows. -/
theorem at_point : ∀ t : Fin cfg0.N, win0_0.index t 0 = t.val % 4 ∧ win0_0.index t 1 = 0 ∧ win0_1.index t 0 = t.val % 4
    ∧ win0_1.index t 1 = t.val / 4 := (by decide +kernel : ∀ t : Fin grid0.N, _)

/-- The two operands. -/
abbrev A : S4096x2048.Idx → EReal := m ((c.tc : Thread nD τ).loc main_arg0)
abbrev B : S4096x5120.Idx → EReal := m ((c.tc : Thread nD τ).loc main_arg1)

/-- Where a point's block of the first operand lies. The block's width does not divide the array's, but no block the grid reaches is cut. -/
def place (t : Fin cfg0.N) (y : S1024x1792.Idx) : S4096x2048.Idx :=
  ((cfg0.win 0).blk t).view.emb fun a => ⟨(y a).val, ((cfg0.win 0).moved_iff (cfg0.grid.coords t) y).mp (moved0_0 t y) a⟩
theorem place_eq (t : Fin cfg0.N) (y : S1024x1792.Idx) : X0_0 m c t y = A m c (place t y) := by
  unfold X0_0 Pipeline.Window.fill
  rw [dif_pos (moved0_0 t y)]
  rfl

/-- A point's term: the part of the result's sum over that point's rows. -/
theorem term_eq (t : Fin cfg0.N) (j : S1792x1024.Idx) : term (X0_0 m c t) (iblk m c 1 t) j
    = ∑ k ∈ range 1024, at2 (A m c) (1024 * (t.val % 4) + k) (1792 * 0 + (j 0).val)
      * at2 (B m c) (1024 * (t.val % 4) + k) (1024 * (t.val / 4) + (j 1).val) := by
  obtain ⟨e0, e1, e2, e3⟩ := at_point t
  refine sum_congr rfl fun k hk => ?_
  have hk := mem_range.mp hk
  refine congrArg₂ (· * ·) (at2_block _ _ (place t) (place_eq m c t) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 1792 + 1 * (y 1).val = _; omega
  · show win0_1.index t 0 * 1024 + 1 * (y 0).val = _; omega
  · show win0_1.index t 1 * 1024 + 1 * (y 1).val = _; omega

/-- The result: the first rows of the product of the transposed first operand and the second. -/
theorem result (i : S1792x5120.Idx) :
    Value.G2 m c i = ∑ k ∈ range 4096, at2 (A m c) k (i 0).val * at2 (B m c) k (i 1).val := by
  have h0 : (i 0).val < 1792 := (i 0).isLt
  have h1 : (i 1).val < 5120 := (i 1).isLt
  have hN : cfg0.N = 20 := N_0
  have hp : Value.pt2Of i < cfg0.N := by show 4 * (5 * ((i 0).val / 1792 - 0) + 1 * ((i 1).val / 1024 - 0)) + 3 < _; omega
  unfold Value.G2
  rw [dif_pos hp, ← Value.outsAt0_sweep m c _ hp]
  refine blocked (n := 4) (K := 1024) (fun t h => (outsAt0 m c t h).2 (Value.loc2Of i)) (fun t h => term (X0_0 m c ⟨t, h⟩) (iblk m c 1 ⟨t, h⟩) _)
    (fun k => at2 (A m c) k (i 0).val * at2 (B m c) k (i 1).val) (fun t h e => first m c ⟨t, h⟩ e _)
    (fun t h h' e e' => mid m c ⟨t, h⟩ ⟨e, by show t % 4 ≤ 2; omega⟩ _) (Value.run2Of i) (by decide) hp
    (last m c ⟨_, hp⟩ (Nat.mul_add_mod _ _ _) _) (fun x h hx => (term_eq m c ⟨_, h⟩ _).trans (sum_congr rfl fun k _ => ?_))
  show at2 (A m c) (1024 * ((4 * Value.run2Of i + x) % 4) + k) (1792 * 0 + (i 0).val % 1792) * at2 (B m c)
    (1024 * ((4 * Value.run2Of i + x) % 4) + k) (1024 * ((4 * Value.run2Of i + x) / 4) + (i 1).val % 1024) = _
  have hr : Value.run2Of i = 5 * ((i 0).val / 1792 - 0) + 1 * ((i 1).val / 1024 - 0) := rfl
  rw [show (4 * Value.run2Of i + x) % 4 = x by omega, show 1792 * 0 + (i 0).val % 1792 = (i 0).val by omega,
    show (4 * Value.run2Of i + x) / 4 = (i 1).val / 1024 by omega, Nat.div_add_mod]

end Cert.Kernel13Ideal.Product

namespace Cert

open Cert.Products Idealize.ShloMosaic Idealize.ShloMosaic.TcCoe Idealize.SL.Sem Finset

theorem reference13 (X : Reference13Ideal.S4096x2048.Idx → EReal) (Y : Reference13Ideal.S4096x5120.Idx → EReal) (i : Reference13Ideal.S1792x5120.Idx) :
    Reference13Ideal.Read.val_main_v7 (F := Ideal) X Y i = ∑ k ∈ range 4096, at2 X k (i 0).val * at2 Y k (i 1).val := by
  rw [Reference13Ideal.Read.val_main_v7_apply]
  refine (Reference13Ideal.Read.val_main_v6_apply (F := Ideal) X Y i).trans ((Reference13Ideal.Read.val_main_v5_apply (F := Ideal) X Y _).trans ((Reference13Ideal.Read.val_main_v4_apply X Y _).trans ?_))
  exact (sum_at Y X _ _ (fun k => (k, (i 1).val)) (fun k => (k, (i 0).val)) (fun k => ⟨rfl, rfl⟩) (fun k => ⟨rfl, rfl⟩)).trans
    (sum_congr rfl fun k _ => mul_comm _ _)

theorem algebraic13 : algebraic_Kernel13Ideal_Reference13Ideal (hKernel13Ideal := Kernel13Ideal.Gen.facts) (hReference13Ideal := Reference13Ideal.Gen.facts) := by
  intro m g m' g' _ hagree
  refine ⟨Kernel13Ideal.Value.G2 m, Kernel13Ideal.Value.run m g, (θ_run _ _ _).mono (fun r h c => ⟨(h c).1.trans ?_, (h c).2⟩)
    (Reference13Ideal.Value.run (F := Ideal) m' g')⟩
  refine (Reference13Ideal.Read.val_main_v7_eq _ _).trans (funext fun i => ?_)
  rw [(hagree c).1, (hagree c).2]
  exact (reference13 _ _ i).trans (Kernel13Ideal.Product.result m c i).symm

end Cert

end
-- ==== Proof.Product14.lean ====
/- The gradient of the input projection's weight, of the first layer: the last 256 rows. -/
module

public import proofs.«01_k».proof.Proof.Products
public import proofs.«01_k».proof.Proof.Gen.Kernel14Ideal.Value
public import proofs.«01_k».proof.Proof.Gen.Reference14Ideal.Run
public import proofs.«01_k».proof.Proof.Gen.Reference14Ideal.Read
public import proofs.«01_k».proof.Defs

@[expose] public section

noncomputable section

namespace Cert.Kernel14Ideal.Product

open Cert.Kernel14Ideal Cert.Kernel14Ideal.Gen Cert.Products Idealize.ShloMosaic Idealize.ShloMosaic.TcCoe Idealize.SL.Sem Finset

variable (m : (ℓ : Loc nD τ sig) → Buf (Elt Ideal) ℓ) (c : Dev nD)

/-- The product of the tiles a point reads, at a place of its block. -/
abbrev term (X : FVec Ideal S1024x256 .bf16) (Y : FVec Ideal S1024x2560 .bf16) (j : S256x2560.Idx) : EReal :=
  ∑ k ∈ range 1024, at2 X k (j 0).val * at2 Y k (j 1).val

theorem dot (X : FVec Ideal S1024x256 .bf16) (Y : FVec Ideal S1024x2560 .bf16) (j : S256x2560.Idx) :
    matmul dot_S1024x256_S1024x2560_S256x2560_0_0_1_1_n_n none X Y (constant S256x2560 .f32 0x00000000#32) j = term X Y j :=
  matmul_at dot_S1024x256_S1024x2560_S256x2560_0_0_1_1_n_n (x := 0) rfl (K := 1024) rfl none X Y j (fun k => (k, (j 0).val))
    (fun k => (k, (j 1).val)) (fun k => ⟨rfl, rfl⟩) (fun k => ⟨rfl, rfl⟩)

theorem first (t : Fin cfg0.N) (h : t.val % 4 = 0) (j : S256x2560.Idx) :
    (outsAt0 m c t.val t.isLt).2 j = term (iblk m c 0 t) (iblk m c 1 t) j := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  unfold k0_pay1
  simp only [View.readAt_eq_ld, (hs0_0 t).read_unread, (hs0_1 t).read_unread, ld_whole, shapeCast_self]
  exact dot _ _ j

theorem mid (t : Fin cfg0.N) (h : 1 ≤ t.val % 4 ∧ t.val % 4 ≤ 2) (j : S256x2560.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  unfold k0_pay2
  simp only [View.readAt_eq_ld, (hs0_0 t).read_unread, (hs0_1 t).read_unread, (Memref.isWhole_whole _).read_unread, ld_whole, shapeCast_self]
  exact add_to (dot _ _ j)

theorem last (t : Fin cfg0.N) (h : t.val % 4 = 3) (j : S256x2560.Idx) :
    (outsAt0 m c t.val t.isLt).1 j
      = (outsAt0 m c (t.val - 1) (Nat.lt_of_le_of_lt (Nat.sub_le _ _) t.isLt)).2 j + term (iblk m c 0 t) (iblk m c 1 t) j := by
  rw [outsAt0_C m c t (by omega) (by omega) h]
  dsimp only
  unfold out0_C_2
  rw [View.read_writes_eq_canon _ _ _ (fun y => cover0_C_2 (y := y) ..)]
  unfold kernelRun0_C
  dsimp only
  rw [View.canon_unit_zero hz]
  unfold k0_pay3
  simp only [View.readAt_eq_ld, (hs0_0 t).read_unread, (hs0_1 t).read_unread, (Memref.isWhole_whole _).read_unread, ld_whole, shapeCast_self]
  exact add_to (dot _ _ j)

/-- The tiles' indices over the grid: the last column of blocks of the first operand, two of the second, four blocks of rows. -/
theorem at_point : ∀ t : Fin cfg0.N, win0_0.index t 0 = t.val % 4 ∧ win0_0.index t 1 = 7 ∧ win0_1.index t 0 = t.val % 4
    ∧ win0_1.index t 1 = t.val / 4 := (by decide +kernel : ∀ t : Fin grid0.N, _)

/-- The two operands. -/
abbrev A : S4096x2048.Idx → EReal := m ((c.tc : Thread nD τ).loc main_arg0)
abbrev B : S4096x5120.Idx → EReal := m ((c.tc : Thread nD τ).loc main_arg1)

/-- A point's term: the part of the result's sum over that point's rows. -/
theorem term_eq (t : Fin cfg0.N) (j : S256x2560.Idx) : term (iblk m c 0 t) (iblk m c 1 t) j
    = ∑ k ∈ range 1024, at2 (A m c) (1024 * (t.val % 4) + k) (256 * 7 + (j 0).val)
      * at2 (B m c) (1024 * (t.val % 4) + k) (2560 * (t.val / 4) + (j 1).val) := by
  obtain ⟨e0, e1, e2, e3⟩ := at_point t
  refine sum_congr rfl fun k hk => ?_
  have hk := mem_range.mp hk
  refine congrArg₂ (· * ·) (at2_block _ _ ((cfg0.win 0).blk t).view.emb (fun _ => rfl) (fun y => ?_) (fun y => ?_) hk (j 0).isLt)
    (at2_block _ _ ((cfg0.win 1).blk t).view.emb (fun _ => rfl) (fun y => ?_) (fun y => ?_) hk (j 1).isLt)
  · show win0_0.index t 0 * 1024 + 1 * (y 0).val = _; omega
  · show win0_0.index t 1 * 256 + 1 * (y 1).val = _; omega
  · show win0_1.index t 0 * 1024 + 1 * (y 0).val = _; omega
  · show win0_1.index t 1 * 2560 + 1 * (y 1).val = _; omega

/-- The result: the last rows of the product of the transposed first operand and the second. -/
theorem result (i : S256x5120.Idx) :
    Value.G2 m c i = ∑ k ∈ range 4096, at2 (A m c) k (1792 + (i 0).val) * at2 (B m c) k (i 1).val := by
  have h0 : (i 0).val < 256 := (i 0).isLt
  have h1 : (i 1).val < 5120 := (i 1).isLt
  have hN : cfg0.N = 8 := N_0
  have hp : Value.pt2Of i < cfg0.N := by show 4 * (2 * ((i 0).val / 256 - 0) + 1 * ((i 1).val / 2560 - 0)) + 3 < _; omega
  unfold Value.G2
  rw [dif_pos hp, ← Value.outsAt0_sweep m c _ hp]
  refine blocked (n := 4) (K := 1024) (fun t h => (outsAt0 m c t h).2 (Value.loc2Of i)) (fun t h => term (iblk m c 0 ⟨t, h⟩) (iblk m c 1 ⟨t, h⟩) _)
    (fun k => at2 (A m c) k (1792 + (i 0).val) * at2 (B m c) k (i 1).val) (fun t h e => first m c ⟨t, h⟩ e _)
    (fun t h h' e e' => mid m c ⟨t, h⟩ ⟨e, by show t % 4 ≤ 2; omega⟩ _) (Value.run2Of i) (by decide) hp
    (last m c ⟨_, hp⟩ (Nat.mul_add_mod _ _ _) _) (fun x h hx => (term_eq m c ⟨_, h⟩ _).trans (sum_congr rfl fun k _ => ?_))
  show at2 (A m c) (1024 * ((4 * Value.run2Of i + x) % 4) + k) (256 * 7 + (i 0).val % 256) * at2 (B m c)
    (1024 * ((4 * Value.run2Of i + x) % 4) + k) (2560 * ((4 * Value.run2Of i + x) / 4) + (i 1).val % 2560) = _
  have hr : Value.run2Of i = 2 * ((i 0).val / 256 - 0) + 1 * ((i 1).val / 2560 - 0) := rfl
  rw [show (4 * Value.run2Of i + x) % 4 = x by omega, show 256 * 7 + (i 0).val % 256 = 1792 + (i 0).val by omega,
    show (4 * Value.run2Of i + x) / 4 = (i 1).val / 2560 by omega, Nat.div_add_mod]

end Cert.Kernel14Ideal.Product

namespace Cert

open Cert.Products Idealize.ShloMosaic Idealize.ShloMosaic.TcCoe Idealize.SL.Sem Finset

theorem reference14 (X : Reference14Ideal.S4096x2048.Idx → EReal) (Y : Reference14Ideal.S4096x5120.Idx → EReal) (i : Reference14Ideal.S256x5120.Idx) :
    Reference14Ideal.Read.val_main_v7 (F := Ideal) X Y i = ∑ k ∈ range 4096, at2 X k (1792 + (i 0).val) * at2 Y k (i 1).val := by
  rw [Reference14Ideal.Read.val_main_v7_apply]
  refine (Reference14Ideal.Read.val_main_v6_apply (F := Ideal) X Y i).trans ((Reference14Ideal.Read.val_main_v5_apply (F := Ideal) X Y _).trans ((Reference14Ideal.Read.val_main_v4_apply X Y _).trans ?_))
  exact (sum_at Y X _ _ (fun k => (k, (i 1).val)) (fun k => (k, (1792 + (i 0).val))) (fun k => ⟨rfl, rfl⟩) (fun k => ⟨rfl, rfl⟩)).trans
    (sum_congr rfl fun k _ => mul_comm _ _)

theorem algebraic14 : algebraic_Kernel14Ideal_Reference14Ideal (hKernel14Ideal := Kernel14Ideal.Gen.facts) (hReference14Ideal := Reference14Ideal.Gen.facts) := by
  intro m g m' g' _ hagree
  refine ⟨Kernel14Ideal.Value.G2 m, Kernel14Ideal.Value.run m g, (θ_run _ _ _).mono (fun r h c => ⟨(h c).1.trans ?_, (h c).2⟩)
    (Reference14Ideal.Value.run (F := Ideal) m' g')⟩
  refine (Reference14Ideal.Read.val_main_v7_eq _ _).trans (funext fun i => ?_)
  rw [(hagree c).1, (hagree c).2]
  exact (reference14 _ _ i).trans (Kernel14Ideal.Product.result m c i).symm

end Cert

end
-- ==== Proof.Adamw.lean ====
/- The optimiser's update as operations of vectors of any shape: the two moments and the step, the same for the kernel's operations and
   the host's, at a place of a block, and the gradient as the sum of four parts. -/
module

public import proofs.«01_k».proof.Proof.Products
public import Idealize.ShloMosaic.Lib.Pipeline.ValueKit.Tiles
public import Idealize.ShloMosaic.Lib.Pipeline.ValueKit.Geometry

@[expose] public section

noncomputable section

namespace Cert.Adamw

open Idealize.ShloMosaic

variable {s t : Shape}

/-- A constant vector. -/
abbrev lit (s : Shape) (w : BitVec 32) : FVec Ideal s .f32 := broadcast s (Scalar.ofBits (F := Ideal) .f32 w)

/-- The first moment, from the gradient and the moment before. -/
def mean (g m : FVec Ideal s .f32) : FVec Ideal s .f32 := addf (mulf (lit s 0x3F666666#32) m) (mulf (lit s 0x3DCCCCCD#32) g)

/-- The second moment. -/
def var (g v : FVec Ideal s .f32) : FVec Ideal s .f32 := addf (mulf (lit s 0x3F7FBE77#32) v) (mulf (lit s 0x3A83126F#32) (mulf g g))

/-- The step, from the weight and the two moments. -/
def step (w m v : FVec Ideal s .f32) : FVec Ideal s .f32 :=
  mulf (lit s 0xBA83126F#32) (addf (divf (divf m (lit s 0x3F26BD02#32)) (addf (sqrt (divf v (lit s 0x3C231ACC#32))) (lit s 0x322BCC77#32)))
    (mulf (lit s 0x3C23D70A#32) w))

/-! ### At a place of a block -/

variable {g m v w : FVec Ideal s .f32} {g' m' v' w' : FVec Ideal t .f32} {i : s.Idx} {j : t.Idx}

theorem mean_at (hg : g i = g' j) (hm : m i = m' j) : mean g m i = mean g' m' j := by
  show FloatOps.addf (FloatOps.mulf _ (m i)) (FloatOps.mulf _ (g i)) = FloatOps.addf (FloatOps.mulf _ (m' j)) (FloatOps.mulf _ (g' j))
  rw [hg, hm]; rfl

theorem var_at (hg : g i = g' j) (hv : v i = v' j) : var g v i = var g' v' j := by
  show FloatOps.addf (FloatOps.mulf _ (v i)) (FloatOps.mulf _ (FloatOps.mulf (g i) (g i)))
    = FloatOps.addf (FloatOps.mulf _ (v' j)) (FloatOps.mulf _ (FloatOps.mulf (g' j) (g' j)))
  rw [hg, hv]; rfl

theorem step_at (hw : w i = w' j) (hm : m i = m' j) (hv : v i = v' j) : step w m v i = step w' m' v' j := by
  show FloatOps.mulf _ (FloatOps.addf (FloatOps.divf (FloatOps.divf (m i) _) (FloatOps.addf (FloatOps.sqrt (FloatOps.divf (v i) _)) _)) (FloatOps.mulf _ (w i)))
    = FloatOps.mulf _ (FloatOps.addf (FloatOps.divf (FloatOps.divf (m' j) _) (FloatOps.addf (FloatOps.sqrt (FloatOps.divf (v' j) _)) _)) (FloatOps.mulf _ (w' j)))
  rw [hw, hm, hv]; rfl

/-! ### The gradient's four parts -/

variable {p r c : ℕ}

/-- The place of a part in an array of parts. -/
abbrev part (k : Fin 4) (i : (⟨3, ![p, r, c]⟩ : Shape).Idx) : (⟨4, ![p, 4, r, c]⟩ : Shape).Idx := fun a => match a with
  | ⟨0, _⟩ => ⟨(i 0).val, (i 0).isLt⟩
  | ⟨1, _⟩ => k
  | ⟨2, _⟩ => ⟨(i 1).val, (i 1).isLt⟩
  | ⟨3, _⟩ => ⟨(i 2).val, (i 2).isLt⟩

def grad (X : (⟨4, ![p, 4, r, c]⟩ : Shape).Idx → EReal) (i : (⟨3, ![p, r, c]⟩ : Shape).Idx) : EReal :=
  X (part 0 i) + X (part 1 i) + X (part 2 i) + X (part 3 i)

/-- The place of a block's entry in the matrix it is cast from, and in one part of the tile. -/
abbrev flat (i : (⟨3, ![1, r, c]⟩ : Shape).Idx) : (⟨2, ![r, c]⟩ : Shape).Idx := fun a => match a with
  | ⟨0, _⟩ => ⟨(i 1).val, (i 1).isLt⟩
  | ⟨1, _⟩ => ⟨(i 2).val, (i 2).isLt⟩
abbrev deep (i : (⟨3, ![1, r, c]⟩ : Shape).Idx) : (⟨4, ![1, 1, r, c]⟩ : Shape).Idx := fun a => match a with
  | ⟨0, _⟩ => ⟨0, Nat.one_pos⟩
  | ⟨1, _⟩ => ⟨0, Nat.one_pos⟩
  | ⟨2, _⟩ => ⟨(i 1).val, (i 1).isLt⟩
  | ⟨3, _⟩ => ⟨(i 2).val, (i 2).isLt⟩

/-- A part of a tile, loaded and cast to a matrix and to a block of one layer. -/
theorem part_at (X : (⟨4, ![1, 4, r, c]⟩ : Shape).Idx → EReal) (k : Fin 4) (off : Fin 4 → ℕ) (hoff : off = ![0, k.val, 0, 0])
    (hr : ∀ x, off x + (![1, 1, r, c] : Fin 4 → ℕ) x ≤ (⟨4, ![1, 4, r, c]⟩ : Shape).size x)
    (h : (⟨4, ![1, 1, r, c]⟩ : Shape).ShapeCasts ⟨2, ![r, c]⟩) (h' : (⟨2, ![r, c]⟩ : Shape).ShapeCasts ⟨3, ![1, r, c]⟩) (i : (⟨3, ![1, r, c]⟩ : Shape).Idx) :
    shapeCast (⟨3, ![1, r, c]⟩ : Shape) (shapeCast (⟨2, ![r, c]⟩ : Shape)
      (View.ld (Val := Elt Ideal) (e' := .bf16) X (Rect.unit (s := ⟨4, ![1, 4, r, c]⟩) off ![1, 1, r, c] hr)) h) h' i = X (part k i) := by
  subst hoff
  have h0 : (i 0).val = 0 := Nat.lt_one_iff.mp (i 0).isLt
  refine (shapeCast_apply _ h' i (flat i) ?_).trans ((shapeCast_apply _ h (flat i) (deep i) ?_).trans ?_)
  · rw [Shape.rowMajor_val_two, Shape.rowMajor_val_three]
    show (i 1).val * c + (i 2).val = ((i 0).val * r + (i 1).val) * c + (i 2).val
    rw [h0, Nat.zero_mul, Nat.zero_add]
  · rw [Shape.rowMajor_val_four, Shape.rowMajor_val_two]
    show ((0 * 1 + 0) * r + (i 1).val) * c + (i 2).val = (i 1).val * c + (i 2).val
    simp only [Nat.zero_mul, Nat.zero_add]
  · refine View.ld_unit_apply_of _ _ _ _ _ _ fun a => ?_
    match a with
    | ⟨0, _⟩ => exact h0
    | ⟨1, _⟩ => rfl
    | ⟨2, _⟩ => exact (Nat.zero_add _).symm
    | ⟨3, _⟩ => exact (Nat.zero_add _).symm

/-- The four parts of a tile, loaded, cast to matrices and added, and the sum cast to a block. -/
theorem grad_cast (X : (⟨4, ![1, 4, r, c]⟩ : Shape).Idx → EReal)
    (h0 : ∀ x, (![0, 0, 0, 0] : Fin 4 → ℕ) x + (![1, 1, r, c] : Fin 4 → ℕ) x ≤ (⟨4, ![1, 4, r, c]⟩ : Shape).size x)
    (h1 : ∀ x, (![0, 1, 0, 0] : Fin 4 → ℕ) x + (![1, 1, r, c] : Fin 4 → ℕ) x ≤ (⟨4, ![1, 4, r, c]⟩ : Shape).size x)
    (h2 : ∀ x, (![0, 2, 0, 0] : Fin 4 → ℕ) x + (![1, 1, r, c] : Fin 4 → ℕ) x ≤ (⟨4, ![1, 4, r, c]⟩ : Shape).size x)
    (h3 : ∀ x, (![0, 3, 0, 0] : Fin 4 → ℕ) x + (![1, 1, r, c] : Fin 4 → ℕ) x ≤ (⟨4, ![1, 4, r, c]⟩ : Shape).size x)
    (h : (⟨4, ![1, 1, r, c]⟩ : Shape).ShapeCasts ⟨2, ![r, c]⟩) (h' : (⟨2, ![r, c]⟩ : Shape).ShapeCasts ⟨3, ![1, r, c]⟩) (hb : FTy.bf16.bits < FTy.f32.bits) :
    shapeCast (⟨3, ![1, r, c]⟩ : Shape) (addf (F := Ideal) (addf (addf
      (extf .f32 (shapeCast (⟨2, ![r, c]⟩ : Shape) (View.ld (Val := Elt Ideal) (e' := .bf16) X (Rect.unit (s := ⟨4, ![1, 4, r, c]⟩) ![0, 0, 0, 0] ![1, 1, r, c] h0)) h) hb)
      (extf .f32 (shapeCast (⟨2, ![r, c]⟩ : Shape) (View.ld (Val := Elt Ideal) (e' := .bf16) X (Rect.unit (s := ⟨4, ![1, 4, r, c]⟩) ![0, 1, 0, 0] ![1, 1, r, c] h1)) h) hb))
      (extf .f32 (shapeCast (⟨2, ![r, c]⟩ : Shape) (View.ld (Val := Elt Ideal) (e' := .bf16) X (Rect.unit (s := ⟨4, ![1, 4, r, c]⟩) ![0, 2, 0, 0] ![1, 1, r, c] h2)) h) hb))
      (extf .f32 (shapeCast (⟨2, ![r, c]⟩ : Shape) (View.ld (Val := Elt Ideal) (e' := .bf16) X (Rect.unit (s := ⟨4, ![1, 4, r, c]⟩) ![0, 3, 0, 0] ![1, 1, r, c] h3)) h) hb)) h' = grad X := by
  funext y
  unfold grad
  rw [← part_at X 0 _ rfl h0 h h' y, ← part_at X 1 _ rfl h1 h h' y, ← part_at X 2 _ rfl h2 h h' y, ← part_at X 3 _ rfl h3 h h' y]
  rfl

theorem hz3 : (![0, 0, 0] : Fin 3 → ℕ) = fun _ => 0 := funext fun x => by fin_cases x <;> rfl

/-- A block loaded, cast to a matrix and back. -/
theorem block_cast (X : FVec Ideal (⟨3, ![1, r, c]⟩ : Shape) .f32)
    (hr : ∀ x, (![0, 0, 0] : Fin 3 → ℕ) x + (⟨3, ![1, r, c]⟩ : Shape).size x ≤ (⟨3, ![1, r, c]⟩ : Shape).size x)
    (h : (⟨3, ![1, r, c]⟩ : Shape).ShapeCasts ⟨2, ![r, c]⟩) (h' : (⟨2, ![r, c]⟩ : Shape).ShapeCasts ⟨3, ![1, r, c]⟩) :
    shapeCast (⟨3, ![1, r, c]⟩ : Shape) (shapeCast (⟨2, ![r, c]⟩ : Shape)
      (View.ld (Val := Elt Ideal) (e' := .f32) X (Rect.unit (s := ⟨3, ![1, r, c]⟩) ![0, 0, 0] (⟨3, ![1, r, c]⟩ : Shape).size hr)) h) h' = X := by
  rw [shapeCast_shapeCast]
  exact View.ld_unit_zero (Val := Elt Ideal) (e := .f32) (S := ⟨3, ![1, r, c]⟩) hz3 hr X

/-- Two places with the same coordinates, and two places in the parts. -/
theorem place3 {i j : (⟨3, ![p, r, c]⟩ : Shape).Idx} (h0 : (i 0).val = (j 0).val) (h1 : (i 1).val = (j 1).val) (h2 : (i 2).val = (j 2).val) : i = j :=
  funext fun a => Fin.ext (by
    match a with
    | ⟨0, _⟩ => exact h0
    | ⟨1, _⟩ => exact h1
    | ⟨2, _⟩ => exact h2)

theorem place4 {i j : (⟨4, ![p, 4, r, c]⟩ : Shape).Idx} (h0 : (i 0).val = (j 0).val) (h1 : (i 1).val = (j 1).val) (h2 : (i 2).val = (j 2).val)
    (h3 : (i 3).val = (j 3).val) : i = j :=
  funext fun a => Fin.ext (by
    match a with
    | ⟨0, _⟩ => exact h0
    | ⟨1, _⟩ => exact h1
    | ⟨2, _⟩ => exact h2
    | ⟨3, _⟩ => exact h3)

/-- The gradient at a place, from the places of its parts. -/
theorem grad_at {q r' c' : ℕ} {X : (⟨4, ![p, 4, r, c]⟩ : Shape).Idx → EReal} {Y : (⟨4, ![q, 4, r', c']⟩ : Shape).Idx → EReal}
    {i : (⟨3, ![p, r, c]⟩ : Shape).Idx} {j : (⟨3, ![q, r', c']⟩ : Shape).Idx} (e : ∀ k, X (part k i) = Y (part k j)) : grad X i = grad Y j := by
  unfold grad
  rw [e, e, e, e]

/-- The sum of the parts as the host takes it. -/
theorem host_grad (X : (⟨4, ![p, 4, r, c]⟩ : Shape).Idx → EReal) (i : (⟨3, ![p, r, c]⟩ : Shape).Idx) (f : Fin 4 → (⟨4, ![p, 4, r, c]⟩ : Shape).Idx)
    (hf : ∀ k, f k = part k i) : Ideal.ofBits .f32 0x00000000#32 + ∑ k : Fin 4, X (f k) = grad X i := by
  rw [Ideal.ofBits_zero_f32, Fin.sum_univ_four, zero_add, hf, hf, hf, hf]
  rfl

end Cert.Adamw

end
-- ==== Proof.Adamw15.lean ====
/- The optimiser's update of the input projection's weight. -/
module

public import proofs.«01_k».proof.Proof.Adamw
public import proofs.«01_k».proof.Proof.Gen.Kernel15Ideal.Value
public import proofs.«01_k».proof.Proof.Gen.Reference15Ideal.Run
public import proofs.«01_k».proof.Proof.Gen.Reference15Ideal.Read
public import proofs.«01_k».proof.Defs
public import Idealize.ShloMosaic.Lib.Pipeline.ValueKit.Geometry

@[expose] public section

noncomputable section

namespace Cert.Kernel15Ideal.Update

open Cert.Kernel15Ideal Cert.Kernel15Ideal.Gen Cert.Adamw Idealize.ShloMosaic Idealize.ShloMosaic.TcCoe Idealize.SL.Sem Finset

variable (m : (ℓ : Loc nD τ sig) → Buf (Elt Ideal) ℓ) (c : Dev nD)

/-! ### What a point stores, over its blocks -/

variable (x0 : FVec Ideal S1x4x256x640 .bf16) (x1 x2 x3 : FVec Ideal S1x256x640 .f32)

theorem grad_tile : out0_4 (F := Ideal) x0 x1 x2 x3 = grad x0 := by
  unfold out0_4
  rw [View.canon_unit_zero hz3]
  exact grad_cast x0 _ _ _ _ _ _ _

theorem mean_tile : out0_6 (F := Ideal) x0 x1 x2 x3 = mean (grad x0) x2 := by
  unfold out0_6
  rw [View.canon_unit_zero hz3]
  exact congrArg₂ mean (grad_cast x0 _ _ _ _ _ _ _) (block_cast x2 _ _ _)

theorem var_tile : out0_7 (F := Ideal) x0 x1 x2 x3 = var (grad x0) x3 := by
  unfold out0_7
  rw [View.canon_unit_zero hz3]
  exact congrArg₂ var (grad_cast x0 _ _ _ _ _ _ _) (block_cast x3 _ _ _)

theorem step_tile : out0_5 (F := Ideal) x0 x1 x2 x3 = step x1 (mean (grad x0) x2) (var (grad x0) x3) := by
  unfold out0_5
  rw [View.canon_unit_zero hz3]
  have hg := grad_cast (r := 256) (c := 640) x0 inb_S1x4x256x640_S1x1x256x640_0_0_0_0 inb_S1x4x256x640_S1x1x256x640_0_1_0_0 inb_S1x4x256x640_S1x1x256x640_0_2_0_0
    inb_S1x4x256x640_S1x1x256x640_0_3_0_0 shapeCasts_S1x1x256x640_S256x640 shapeCasts_S256x640_S1x256x640 bitsLt_bf16_f32
  have hb := fun X => block_cast (r := 256) (c := 640) X inb_S1x256x640_S1x256x640_0_0_0 shapeCasts_S1x256x640_S256x640 shapeCasts_S256x640_S1x256x640
  exact congr (congr (congrArg step (hb x1)) (congrArg₂ mean hg (hb x2))) (congrArg₂ var hg (hb x3))

/-! ### The blocks, over the arrays -/

/-- Every window's block lies at the same place. -/
theorem at_point : ∀ t : Fin cfg0.N, (win0_0.index t 0 = win0_4.index t 0 ∧ win0_0.index t 1 = 0 ∧ win0_0.index t 2 = win0_4.index t 1
    ∧ win0_0.index t 3 = win0_4.index t 2) ∧ win0_1.index t = win0_4.index t ∧ win0_2.index t = win0_4.index t ∧ win0_3.index t = win0_4.index t
    ∧ win0_5.index t = win0_4.index t ∧ win0_6.index t = win0_4.index t ∧ win0_7.index t = win0_4.index t := (by decide +kernel : ∀ t : Fin grid0.N, _)

/-- The arguments: the parts of the gradient, the weight and its two moments. -/
abbrev L : S2x4x2048x640.Idx → EReal := m ((c.tc : Thread nD τ).loc main_arg0)
abbrev W : S2x2048x640.Idx → EReal := m ((c.tc : Thread nD τ).loc main_arg1)
abbrev M : S2x2048x640.Idx → EReal := m ((c.tc : Thread nD τ).loc main_arg2)
abbrev V : S2x2048x640.Idx → EReal := m ((c.tc : Thread nD τ).loc main_arg3)

/-- Their blocks at a point. -/
abbrev bL (t : Fin cfg0.N) : S1x4x256x640.Idx → EReal := iblk m c 0 t
abbrev bW (t : Fin cfg0.N) : S1x256x640.Idx → EReal := iblk m c 1 t
abbrev bM (t : Fin cfg0.N) : S1x256x640.Idx → EReal := iblk m c 2 t
abbrev bV (t : Fin cfg0.N) : S1x256x640.Idx → EReal := iblk m c 3 t

variable (t : Fin cfg0.N) (y : S1x256x640.Idx)

/-- Where a block's entry lies in the array. -/
abbrev place : S2x2048x640.Idx := ((cfg0.win 4).blk t).view.emb y

/-- Places of other windows' blocks with the same index. -/
theorem same {i : S2x2048x640.Idx} {n : Fin 3 → ℕ} (e : n = win0_4.index t) (h0 : (i 0).val = n 0 * 1 + 1 * (y 0).val)
    (h1 : (i 1).val = n 1 * 256 + 1 * (y 1).val) (h2 : (i 2).val = n 2 * 640 + 1 * (y 2).val) : i = place t y := by
  subst e
  exact place3 h0 h1 h2

theorem place_5 : ((cfg0.win 5).blk t).view.emb y = place t y := same t y (at_point t).2.2.2.2.1 rfl rfl rfl
theorem place_6 : ((cfg0.win 6).blk t).view.emb y = place t y := same t y (at_point t).2.2.2.2.2.1 rfl rfl rfl
theorem place_7 : ((cfg0.win 7).blk t).view.emb y = place t y := same t y (at_point t).2.2.2.2.2.2 rfl rfl rfl
theorem w_at : bW m c t y = W m c (place t y) :=
  congrArg (W m c) (same t y (i := ((cfg0.win 1).blk t).view.emb y) (at_point t).2.1 rfl rfl rfl)
theorem m_at : bM m c t y = M m c (place t y) :=
  congrArg (M m c) (same t y (i := ((cfg0.win 2).blk t).view.emb y) (at_point t).2.2.1 rfl rfl rfl)
theorem v_at : bV m c t y = V m c (place t y) :=
  congrArg (V m c) (same t y (i := ((cfg0.win 3).blk t).view.emb y) (at_point t).2.2.2.1 rfl rfl rfl)

theorem l_at : grad (bL m c t) y = grad (L m c) (place t y) := by
  obtain ⟨⟨e0, e1, e2, e3⟩, -⟩ := at_point t
  refine grad_at fun k => congrArg (L m c) (place4 ?_ ?_ ?_ ?_)
  · show win0_0.index t 0 * 1 + 1 * (y 0).val = win0_4.index t 0 * 1 + 1 * (y 0).val; rw [e0]
  · show win0_0.index t 1 * 4 + 1 * k.val = k.val; rw [e1]; omega
  · show win0_0.index t 2 * 256 + 1 * (y 1).val = win0_4.index t 1 * 256 + 1 * (y 1).val; rw [e2]
  · show win0_0.index t 3 * 640 + 1 * (y 2).val = win0_4.index t 2 * 640 + 1 * (y 2).val; rw [e3]

/-! ### The results -/

/-- The gradient, the step and the two moments. -/
abbrev G : S2x2048x640.Idx → EReal := grad (L m c)
abbrev M' : S2x2048x640.Idx → EReal := mean (G m c) (M m c)
abbrev V' : S2x2048x640.Idx → EReal := var (G m c) (V m c)
abbrev D : S2x2048x640.Idx → EReal := step (W m c) (M' m c) (V' m c)

theorem grad_eq : (dats m 0 c).arrAt 4 cfg0.N = G m c :=
  (dats m 0 c).arrAt_eq_of_covers 4 _ (by decide +kernel) fun t hf y => by
    show (dats m 0 c).after 4 t y = G m c (place t y)
    rw [after0_4]
    exact (congrFun (grad_tile (bL m c t) (bW m c t) (bM m c t) (bV m c t)) y).trans (l_at m c t y)

theorem step_eq : (dats m 0 c).arrAt 5 cfg0.N = D m c :=
  (dats m 0 c).arrAt_eq_of_covers 5 _ (by decide +kernel) fun t hf y => by
    show (dats m 0 c).after 5 t y = D m c (((cfg0.win 5).blk t).view.emb y)
    rw [after0_5, place_5]
    exact (congrFun (step_tile (bL m c t) (bW m c t) (bM m c t) (bV m c t)) y).trans
      (step_at (w_at m c t y) (mean_at (l_at m c t y) (m_at m c t y)) (var_at (l_at m c t y) (v_at m c t y)))

theorem mean_eq : (dats m 0 c).arrAt 6 cfg0.N = M' m c :=
  (dats m 0 c).arrAt_eq_of_covers 6 _ (by decide +kernel) fun t hf y => by
    show (dats m 0 c).after 6 t y = M' m c (((cfg0.win 6).blk t).view.emb y)
    rw [after0_6, place_6]
    exact (congrFun (mean_tile (bL m c t) (bW m c t) (bM m c t) (bV m c t)) y).trans (mean_at (l_at m c t y) (m_at m c t y))

theorem var_eq : (dats m 0 c).arrAt 7 cfg0.N = V' m c :=
  (dats m 0 c).arrAt_eq_of_covers 7 _ (by decide +kernel) fun t hf y => by
    show (dats m 0 c).after 7 t y = V' m c (((cfg0.win 7).blk t).view.emb y)
    rw [after0_7, place_7]
    exact (congrFun (var_tile (bL m c t) (bW m c t) (bM m c t) (bV m c t)) y).trans (var_at (l_at m c t y) (v_at m c t y))

end Cert.Kernel15Ideal.Update

namespace Cert

open Cert.Adamw Kernel15Ideal.Update Idealize.ShloMosaic Idealize.ShloMosaic.TcCoe Idealize.SL.Sem Finset

/-- The reference's sum of the parts. -/
theorem reference15 (X : Reference15Ideal.S2x4x2048x640.Idx → EReal) : Reference15Ideal.Read.val_main_v1 (F := Ideal) X = (grad X : _ → EReal) := by
  funext i
  rw [Reference15Ideal.Read.val_main_v1_apply, Reference15Ideal.Read.val_main_cst_apply]
  exact host_grad X i _ fun k => place4 rfl rfl rfl rfl

theorem algebraic15 : algebraic_Kernel15Ideal_Reference15Ideal (hKernel15Ideal := Kernel15Ideal.Gen.facts) (hReference15Ideal := Reference15Ideal.Gen.facts) := by
  intro m g m' g' _ hagree
  refine ⟨G m, D m, M' m, V' m,
    (θ_run _ _ _).mono (fun r h c => ⟨(h c).1.trans (grad_eq m c), (h c).2.1.trans (step_eq m c),
      (h c).2.2.1.trans (mean_eq m c), (h c).2.2.2.1.trans (var_eq m c), (h c).2.2.2.2⟩)
    (Kernel15Ideal.Value.run_blocks m g),
    (θ_run _ _ _).mono (fun r h c => ?_) (Reference15Ideal.Value.run (F := Ideal) m' g')⟩
  obtain ⟨h0, h1, h2, h3, h⟩ := h c
  obtain ⟨a0, a1, a2, a3⟩ := hagree c
  rw [a0] at h0
  rw [a0, a1, a2, a3] at h1
  rw [a0, a2] at h2
  rw [a0, a3] at h3
  have e := reference15 (L m c)
  refine ⟨h0.trans e, h1.trans (congrArg (fun x => step _ (mean x _) (var x _)) e), h2.trans (congrArg (fun x => mean x _) e),
    h3.trans (congrArg (fun x => var x _) e), h⟩

end Cert

end
-- ==== Proof.Adamw16.lean ====
/- The optimiser's update of the output projection's weight. -/
module

public import proofs.«01_k».proof.Proof.Adamw
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Pipeline.ValueKit.Geometry

@[expose] public section

noncomputable section

namespace Cert.Kernel16Ideal.Update

open Cert.Kernel16Ideal Cert.Kernel16Ideal.Gen Cert.Adamw Idealize.ShloMosaic Idealize.ShloMosaic.TcCoe Idealize.SL.Sem Finset

variable (m : (ℓ : Loc nD τ sig) → Buf (Elt Ideal) ℓ) (c : Dev nD)

/-! ### What a point stores, over its blocks -/

variable (x0 : FVec Ideal S1x4x64x2048 .bf16) (x1 x2 x3 : FVec Ideal S1x64x2048 .f32)

theorem grad_tile : out0_4 (F := Ideal) x0 x1 x2 x3 = grad x0 := by
  unfold out0_4
  rw [View.canon_unit_zero hz3]
  exact grad_cast x0 _ _ _ _ _ _ _

theorem mean_tile : out0_6 (F := Ideal) x0 x1 x2 x3 = mean (grad x0) x2 := by
  unfold out0_6
  rw [View.canon_unit_zero hz3]
  exact congrArg₂ mean (grad_cast x0 _ _ _ _ _ _ _) (block_cast x2 _ _ _)

theorem var_tile : out0_7 (F := Ideal) x0 x1 x2 x3 = var (grad x0) x3 := by
  unfold out0_7
  rw [View.canon_unit_zero hz3]
  exact congrArg₂ var (grad_cast x0 _ _ _ _ _ _ _) (block_cast x3 _ _ _)

theorem step_tile : out0_5 (F := Ideal) x0 x1 x2 x3 = step x1 (mean (grad x0) x2) (var (grad x0) x3) := by
  unfold out0_5
  rw [View.canon_unit_zero hz3]
  have hg := grad_cast (r := 64) (c := 2048) x0 inb_S1x4x64x2048_S1x1x64x2048_0_0_0_0 inb_S1x4x64x2048_S1x1x64x2048_0_1_0_0 inb_S1x4x64x2048_S1x1x64x2048_0_2_0_0
    inb_S1x4x64x2048_S1x1x64x2048_0_3_0_0 shapeCasts_S1x1x64x2048_S64x2048 shapeCasts_S64x2048_S1x64x2048 bitsLt_bf16_f32
  have hb := fun X => block_cast (r := 64) (c := 2048) X inb_S1x64x2048_S1x64x2048_0_0_0 shapeCasts_S1x64x2048_S64x2048 shapeCasts_S64x2048_S1x64x2048
  exact congr (congr (congrArg step (hb x1)) (congrArg₂ mean hg (hb x2))) (congrArg₂ var hg (hb x3))

/-! ### The blocks, over the arrays -/

/-- Every window's block lies at the same place. -/
theorem at_point : ∀ t : Fin cfg0.N, (win0_0.index t 0 = win0_4.index t 0 ∧ win0_0.index t 1 = 0 ∧ win0_0.index t 2 = win0_4.index t 1
    ∧ win0_0.index t 3 = win0_4.index t 2) ∧ win0_1.index t = win0_4.index t ∧ win0_2.index t = win0_4.index t ∧ win0_3.index t = win0_4.index t
    ∧ win0_5.index t = win0_4.index t ∧ win0_6.index t = win0_4.index t ∧ win0_7.index t = win0_4.index t := (by decide +kernel : ∀ t : Fin grid0.N, _)

/-- The arguments: the parts of the gradient, the weight and its two moments. -/
abbrev L : S2x4x256x2048.Idx → EReal := m ((c.tc : Thread nD τ).loc main_arg0)
abbrev W : S2x256x2048.Idx → EReal := m ((c.tc : Thread nD τ).loc main_arg1)
abbrev M : S2x256x2048.Idx → EReal := m ((c.tc : Thread nD τ).loc main_arg2)
abbrev V : S2x256x2048.Idx → EReal := m ((c.tc : Thread nD τ).loc main_arg3)

/-- Their blocks at a point. -/
abbrev bL (t : Fin cfg0.N) : S1x4x64x2048.Idx → EReal := iblk m c 0 t
abbrev bW (t : Fin cfg0.N) : S1x64x2048.Idx → EReal := iblk m c 1 t
abbrev bM (t : Fin cfg0.N) : S1x64x2048.Idx → EReal := iblk m c 2 t
abbrev bV (t : Fin cfg0.N) : S1x64x2048.Idx → EReal := iblk m c 3 t

variable (t : Fin cfg0.N) (y : S1x64x2048.Idx)

/-- Where a block's entry lies in the array. -/
abbrev place : S2x256x2048.Idx := ((cfg0.win 4).blk t).view.emb y

/-- Places of other windows' blocks with the same index. -/
theorem same {i : S2x256x2048.Idx} {n : Fin 3 → ℕ} (e : n = win0_4.index t) (h0 : (i 0).val = n 0 * 1 + 1 * (y 0).val)
    (h1 : (i 1).val = n 1 * 64 + 1 * (y 1).val) (h2 : (i 2).val = n 2 * 2048 + 1 * (y 2).val) : i = place t y := by
  subst e
  exact place3 h0 h1 h2

theorem place_5 : ((cfg0.win 5).blk t).view.emb y = place t y := same t y (at_point t).2.2.2.2.1 rfl rfl rfl
theorem place_6 : ((cfg0.win 6).blk t).view.emb y = place t y := same t y (at_point t).2.2.2.2.2.1 rfl rfl rfl
theorem place_7 : ((cfg0.win 7).blk t).view.emb y = place t y := same t y (at_point t).2.2.2.2.2.2 rfl rfl rfl
theorem w_at : bW m c t y = W m c (place t y) :=
  congrArg (W m c) (same t y (i := ((cfg0.win 1).blk t).view.emb y) (at_point t).2.1 rfl rfl rfl)
theorem m_at : bM m c t y = M m c (place t y) :=
  congrArg (M m c) (same t y (i := ((cfg0.win 2).blk t).view.emb y) (at_point t).2.2.1 rfl rfl rfl)
theorem v_at : bV m c t y = V m c (place t y) :=
  congrArg (V m c) (same t y (i := ((cfg0.win 3).blk t).view.emb y) (at_point t).2.2.2.1 rfl rfl rfl)

theorem l_at : grad (bL m c t) y = grad (L m c) (place t y) := by
  obtain ⟨⟨e0, e1, e2, e3⟩, -⟩ := at_point t
  refine grad_at fun k => congrArg (L m c) (place4 ?_ ?_ ?_ ?_)
  · show win0_0.index t 0 * 1 + 1 * (y 0).val = win0_4.index t 0 * 1 + 1 * (y 0).val; rw [e0]
  · show win0_0.index t 1 * 4 + 1 * k.val = k.val; rw [e1]; omega
  · show win0_0.index t 2 * 64 + 1 * (y 1).val = win0_4.index t 1 * 64 + 1 * (y 1).val; rw [e2]
  · show win0_0.index t 3 * 2048 + 1 * (y 2).val = win0_4.index t 2 * 2048 + 1 * (y 2).val; rw [e3]

/-! ### The results -/

/-- The gradient, the step and the two moments. -/
abbrev G : S2x256x2048.Idx → EReal := grad (L m c)
abbrev M' : S2x256x2048.Idx → EReal := mean (G m c) (M m c)
abbrev V' : S2x256x2048.Idx → EReal := var (G m c) (V m c)
abbrev D : S2x256x2048.Idx → EReal := step (W m c) (M' m c) (V' m c)

theorem grad_eq : (dats m 0 c).arrAt 4 cfg0.N = G m c :=
  (dats m 0 c).arrAt_eq_of_covers 4 _ (by decide +kernel) fun t hf y => by
    show (dats m 0 c).after 4 t y = G m c (place t y)
    rw [after0_4]
    exact (congrFun (grad_tile (bL m c t) (bW m c t) (bM m c t) (bV m c t)) y).trans (l_at m c t y)

theorem step_eq : (dats m 0 c).arrAt 5 cfg0.N = D m c :=
  (dats m 0 c).arrAt_eq_of_covers 5 _ (by decide +kernel) fun t hf y => by
    show (dats m 0 c).after 5 t y = D m c (((cfg0.win 5).blk t).view.emb y)
    rw [after0_5, place_5]
    exact (congrFun (step_tile (bL m c t) (bW m c t) (bM m c t) (bV m c t)) y).trans
      (step_at (w_at m c t y) (mean_at (l_at m c t y) (m_at m c t y)) (var_at (l_at m c t y) (v_at m c t y)))

theorem mean_eq : (dats m 0 c).arrAt 6 cfg0.N = M' m c :=
  (dats m 0 c).arrAt_eq_of_covers 6 _ (by decide +kernel) fun t hf y => by
    show (dats m 0 c).after 6 t y = M' m c (((cfg0.win 6).blk t).view.emb y)
    rw [after0_6, place_6]
    exact (congrFun (mean_tile (bL m c t) (bW m c t) (bM m c t) (bV m c t)) y).trans (mean_at (l_at m c t y) (m_at m c t y))

theorem var_eq : (dats m 0 c).arrAt 7 cfg0.N = V' m c :=
  (dats m 0 c).arrAt_eq_of_covers 7 _ (by decide +kernel) fun t hf y => by
    show (dats m 0 c).after 7 t y = V' m c (((cfg0.win 7).blk t).view.emb y)
    rw [after0_7, place_7]
    exact (congrFun (var_tile (bL m c t) (bW m c t) (bM m c t) (bV m c t)) y).trans (var_at (l_at m c t y) (v_at m c t y))

end Cert.Kernel16Ideal.Update

namespace Cert

open Cert.Adamw Kernel16Ideal.Update Idealize.ShloMosaic Idealize.ShloMosaic.TcCoe Idealize.SL.Sem Finset

/-- The reference's sum of the parts. -/
theorem reference16 (X : Reference16Ideal.S2x4x256x2048.Idx → EReal) : Reference16Ideal.Read.val_main_v1 (F := Ideal) X = (grad X : _ → EReal) := by
  funext i
  rw [Reference16Ideal.Read.val_main_v1_apply, Reference16Ideal.Read.val_main_cst_apply]
  exact host_grad X i _ fun k => place4 rfl rfl rfl rfl

theorem algebraic16 : algebraic_Kernel16Ideal_Reference16Ideal (hKernel16Ideal := Kernel16Ideal.Gen.facts) (hReference16Ideal := Reference16Ideal.Gen.facts) := by
  intro m g m' g' _ hagree
  refine ⟨G m, D m, M' m, V' m,
    (θ_run _ _ _).mono (fun r h c => ⟨(h c).1.trans (grad_eq m c), (h c).2.1.trans (step_eq m c),
      (h c).2.2.1.trans (mean_eq m c), (h c).2.2.2.1.trans (var_eq m c), (h c).2.2.2.2⟩)
    (Kernel16Ideal.Value.run_blocks m g),
    (θ_run _ _ _).mono (fun r h c => ?_) (Reference16Ideal.Value.run (F := Ideal) m' g')⟩
  obtain ⟨h0, h1, h2, h3, h⟩ := h c
  obtain ⟨a0, a1, a2, a3⟩ := hagree c
  rw [a0] at h0
  rw [a0, a1, a2, a3] at h1
  rw [a0, a2] at h2
  rw [a0, a3] at h3
  have e := reference16 (L m c)
  refine ⟨h0.trans e, h1.trans (congrArg (fun x => step _ (mean x _) (var x _)) e), h2.trans (congrArg (fun x => mean x _) e),
    h3.trans (congrArg (fun x => var x _) e), h⟩

end Cert

end
-- ==== Proof.Adamw17.lean ====
/- The optimiser's update of a weight of the feed-forward layer, the output weight or the other two transposed. -/
module

public import proofs.«01_k».proof.Proof.Adamw
public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.Pipeline.ValueKit.Geometry

@[expose] public section

noncomputable section

namespace Cert.Kernel17Ideal.Update

open Cert.Kernel17Ideal Cert.Kernel17Ideal.Gen Cert.Adamw Idealize.ShloMosaic Idealize.ShloMosaic.TcCoe Idealize.SL.Sem Finset

variable (m : (ℓ : Loc nD τ sig) → Buf (Elt Ideal) ℓ) (c : Dev nD)

/-! ### What a point stores, over its blocks -/

variable (x0 : FVec Ideal S1x4x64x2048 .bf16) (x1 x2 x3 : FVec Ideal S1x64x2048 .f32)

theorem grad_tile : out0_4 (F := Ideal) x0 x1 x2 x3 = grad x0 := by
  unfold out0_4
  rw [View.canon_unit_zero hz3]
  exact grad_cast x0 _ _ _ _ _ _ _

theorem mean_tile : out0_6 (F := Ideal) x0 x1 x2 x3 = mean (grad x0) x2 := by
  unfold out0_6
  rw [View.canon_unit_zero hz3]
  exact congrArg₂ mean (grad_cast x0 _ _ _ _ _ _ _) (block_cast x2 _ _ _)

theorem var_tile : out0_7 (F := Ideal) x0 x1 x2 x3 = var (grad x0) x3 := by
  unfold out0_7
  rw [View.canon_unit_zero hz3]
  exact congrArg₂ var (grad_cast x0 _ _ _ _ _ _ _) (block_cast x3 _ _ _)

theorem step_tile : out0_5 (F := Ideal) x0 x1 x2 x3 = step x1 (mean (grad x0) x2) (var (grad x0) x3) := by
  unfold out0_5
  rw [View.canon_unit_zero hz3]
  have hg := grad_cast (r := 64) (c := 2048) x0 inb_S1x4x64x2048_S1x1x64x2048_0_0_0_0 inb_S1x4x64x2048_S1x1x64x2048_0_1_0_0 inb_S1x4x64x2048_S1x1x64x2048_0_2_0_0
    inb_S1x4x64x2048_S1x1x64x2048_0_3_0_0 shapeCasts_S1x1x64x2048_S64x2048 shapeCasts_S64x2048_S1x64x2048 bitsLt_bf16_f32
  have hb := fun X => block_cast (r := 64) (c := 2048) X inb_S1x64x2048_S1x64x2048_0_0_0 shapeCasts_S1x64x2048_S64x2048 shapeCasts_S64x2048_S1x64x2048
  exact congr (congr (congrArg step (hb x1)) (congrArg₂ mean hg (hb x2))) (congrArg₂ var hg (hb x3))

/-! ### The blocks, over the arrays -/

/-- Every window's block lies at the same place. -/
theorem at_point : ∀ t : Fin cfg0.N, (win0_0.index t 0 = win0_4.index t 0 ∧ win0_0.index t 1 = 0 ∧ win0_0.index t 2 = win0_4.index t 1
    ∧ win0_0.index t 3 = win0_4.index t 2) ∧ win0_1.index t = win0_4.index t ∧ win0_2.index t = win0_4.index t ∧ win0_3.index t = win0_4.index t
    ∧ win0_5.index t = win0_4.index t ∧ win0_6.index t = win0_4.index t ∧ win0_7.index t = win0_4.index t := (by decide +kernel : ∀ t : Fin grid0.N, _)

/-- The arguments: the parts of the gradient, the weight and its two moments. -/
abbrev L : S2x4x704x2048.Idx → EReal := m ((c.tc : Thread nD τ).loc main_arg0)
abbrev W : S2x704x2048.Idx → EReal := m ((c.tc : Thread nD τ).loc main_arg1)
abbrev M : S2x704x2048.Idx → EReal := m ((c.tc : Thread nD τ).loc main_arg2)
abbrev V : S2x704x2048.Idx → EReal := m ((c.tc : Thread nD τ).loc main_arg3)

/-- Their blocks at a point. -/
abbrev bL (t : Fin cfg0.N) : S1x4x64x2048.Idx → EReal := iblk m c 0 t
abbrev bW (t : Fin cfg0.N) : S1x64x2048.Idx → EReal := iblk m c 1 t
abbrev bM (t : Fin cfg0.N) : S1x64x2048.Idx → EReal := iblk m c 2 t
abbrev bV (t : Fin cfg0.N) : S1x64x2048.Idx → EReal := iblk m c 3 t

variable (t : Fin cfg0.N) (y : S1x64x2048.Idx)

/-- Where a block's entry lies in the array. -/
abbrev place : S2x704x2048.Idx := ((cfg0.win 4).blk t).view.emb y

/-- Places of other windows' blocks with the same index. -/
theorem same {i : S2x704x2048.Idx} {n : Fin 3 → ℕ} (e : n = win0_4.index t) (h0 : (i 0).val = n 0 * 1 + 1 * (y 0).val)
    (h1 : (i 1).val = n 1 * 64 + 1 * (y 1).val) (h2 : (i 2).val = n 2 * 2048 + 1 * (y 2).val) : i = place t y := by
  subst e
  exact place3 h0 h1 h2

theorem place_5 : ((cfg0.win 5).blk t).view.emb y = place t y := same t y (at_point t).2.2.2.2.1 rfl rfl rfl
theorem place_6 : ((cfg0.win 6).blk t).view.emb y = place t y := same t y (at_point t).2.2.2.2.2.1 rfl rfl rfl
theorem place_7 : ((cfg0.win 7).blk t).view.emb y = place t y := same t y (at_point t).2.2.2.2.2.2 rfl rfl rfl
theorem w_at : bW m c t y = W m c (place t y) :=
  congrArg (W m c) (same t y (i := ((cfg0.win 1).blk t).view.emb y) (at_point t).2.1 rfl rfl rfl)
theorem m_at : bM m c t y = M m c (place t y) :=
  congrArg (M m c) (same t y (i := ((cfg0.win 2).blk t).view.emb y) (at_point t).2.2.1 rfl rfl rfl)
theorem v_at : bV m c t y = V m c (place t y) :=
  congrArg (V m c) (same t y (i := ((cfg0.win 3).blk t).view.emb y) (at_point t).2.2.2.1 rfl rfl rfl)

theorem l_at : grad (bL m c t) y = grad (L m c) (place t y) := by
  obtain ⟨⟨e0, e1, e2, e3⟩, -⟩ := at_point t
  refine grad_at fun k => congrArg (L m c) (place4 ?_ ?_ ?_ ?_)
  · show win0_0.index t 0 * 1 + 1 * (y 0).val = win0_4.index t 0 * 1 + 1 * (y 0).val; rw [e0]
  · show win0_0.index t 1 * 4 + 1 * k.val = k.val; rw [e1]; omega
  · show win0_0.index t 2 * 64 + 1 * (y 1).val = win0_4.index t 1 * 64 + 1 * (y 1).val; rw [e2]
  · show win0_0.index t 3 * 2048 + 1 * (y 2).val = win0_4.index t 2 * 2048 + 1 * (y 2).val; rw [e3]

/-! ### The results -/

/-- The gradient, the step and the two moments. -/
abbrev G : S2x704x2048.Idx → EReal := grad (L m c)
abbrev M' : S2x704x2048.Idx → EReal := mean (G m c) (M m c)
abbrev V' : S2x704x2048.Idx → EReal := var (G m c) (V m c)
abbrev D : S2x704x2048.Idx → EReal := step (W m c) (M' m c) (V' m c)

theorem grad_eq : (dats m 0 c).arrAt 4 cfg0.N = G m c :=
  (dats m 0 c).arrAt_eq_of_covers 4 _ (by decide +kernel) fun t hf y => by
    show (dats m 0 c).after 4 t y = G m c (place t y)
    rw [after0_4]
    exact (congrFun (grad_tile (bL m c t) (bW m c t) (bM m c t) (bV m c t)) y).trans (l_at m c t y)

theorem step_eq : (dats m 0 c).arrAt 5 cfg0.N = D m c :=
  (dats m 0 c).arrAt_eq_of_covers 5 _ (by decide +kernel) fun t hf y => by
    show (dats m 0 c).after 5 t y = D m c (((cfg0.win 5).blk t).view.emb y)
    rw [after0_5, place_5]
    exact (congrFun (step_tile (bL m c t) (bW m c t) (bM m c t) (bV m c t)) y).trans
      (step_at (w_at m c t y) (mean_at (l_at m c t y) (m_at m c t y)) (var_at (l_at m c t y) (v_at m c t y)))

theorem mean_eq : (dats m 0 c).arrAt 6 cfg0.N = M' m c :=
  (dats m 0 c).arrAt_eq_of_covers 6 _ (by decide +kernel) fun t hf y => by
    show (dats m 0 c).after 6 t y = M' m c (((cfg0.win 6).blk t).view.emb y)
    rw [after0_6, place_6]
    exact (congrFun (mean_tile (bL m c t) (bW m c t) (bM m c t) (bV m c t)) y).trans (mean_at (l_at m c t y) (m_at m c t y))

theorem var_eq : (dats m 0 c).arrAt 7 cfg0.N = V' m c :=
  (dats m 0 c).arrAt_eq_of_covers 7 _ (by decide +kernel) fun t hf y => by
    show (dats m 0 c).after 7 t y = V' m c (((cfg0.win 7).blk t).view.emb y)
    rw [after0_7, place_7]
    exact (congrFun (var_tile (bL m c t) (bW m c t) (bM m c t) (bV m c t)) y).trans (var_at (l_at m c t y) (v_at m c t y))

end Cert.Kernel17Ideal.Update

namespace Cert

open Cert.Adamw Kernel17Ideal.Update Idealize.ShloMosaic Idealize.ShloMosaic.TcCoe Idealize.SL.Sem Finset

/-- The reference's sum of the parts. -/
theorem reference17 (X : Reference17Ideal.S2x4x704x2048.Idx → EReal) : Reference17Ideal.Read.val_main_v1 (F := Ideal) X = (grad X : _ → EReal) := by
  funext i
  rw [Reference17Ideal.Read.val_main_v1_apply, Reference17Ideal.Read.val_main_cst_apply]
  exact host_grad X i _ fun k => place4 rfl rfl rfl rfl

theorem algebraic17 : algebraic_Kernel17Ideal_Reference17Ideal (hKernel17Ideal := Kernel17Ideal.Gen.facts) (hReference17Ideal := Reference17Ideal.Gen.facts) := by
  intro m g m' g' _ hagree
  refine ⟨G m, D m, M' m, V' m,
    (θ_run _ _ _).mono (fun r h c => ⟨(h c).1.trans (grad_eq m c), (h c).2.1.trans (step_eq m c),
      (h c).2.2.1.trans (mean_eq m c), (h c).2.2.2.1.trans (var_eq m c), (h c).2.2.2.2⟩)
    (Kernel17Ideal.Value.run_blocks m g),
    (θ_run _ _ _).mono (fun r h c => ?_) (Reference17Ideal.Value.run (F := Ideal) m' g')⟩
  obtain ⟨h0, h1, h2, h3, h⟩ := h c
  obtain ⟨a0, a1, a2, a3⟩ := hagree c
  rw [a0] at h0
  rw [a0, a1, a2, a3] at h1
  rw [a0, a2] at h2
  rw [a0, a3] at h3
  have e := reference17 (L m c)
  refine ⟨h0.trans e, h1.trans (congrArg (fun x => step _ (mean x _) (var x _)) e), h2.trans (congrArg (fun x => mean x _) e),
    h3.trans (congrArg (fun x => var x _) e), h⟩

end Cert

end
-- ==== Proof.Norms.lean ====
/- The RMS norm over rows of 2048 entries and its gradients, over the extended reals. An entry of the norm's input need not be a
   number: the mean square is a positive number or infinite, and where it is infinite both ways of writing the gradient scale by
   zero. -/
module

public import Idealize.ShloMosaic.PureOps
public import Idealize.ShloMosaic.PureOps.Ideal
public import Idealize.ShloMosaic.PureOps.Ideal.Laws
public import Idealize.ShloMosaic.Lib.Pointwise.Contract
public import Idealize.ShloMosaic.Lib.Pipeline.Value
public import Idealize.ShloMosaic.Lib.ValueIdx

@[expose] public section

noncomputable section

namespace Cert.Norms

open Idealize.ShloMosaic Finset

/-! ### The constants -/

/-- The number of columns, the constant under the root, and minus one half. -/
abbrev width : EReal := Ideal.ofBits .f32 0x45000000#32
abbrev eps : EReal := Ideal.ofBits .f32 0x358637BD#32
abbrev mhalf : EReal := Ideal.ofBits .f32 0xBF000000#32

theorem width_eq : width = ((2048 : ℝ) : EReal) := by
  simp [width, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_eq : ∃ e : ℝ, 0 < e ∧ eps = (e : EReal) := by
  refine ⟨8796093 / 2 ^ 43, by norm_num, ?_⟩
  simp [eps, Ideal.ofBits, Ideal.ieee, -EReal.coe_mul]; norm_num

/-! ### A row -/

section Row

variable (x g d : Fin 2048 → EReal)

/-- The mean square with the constant, and the factor the row is scaled by. -/
def meanSq : EReal := Ideal.div (∑ k, x k * x k) width + eps
def scale : EReal := Ideal.rsqrt (meanSq x)

/-- The gradient of the norm's input, added to `e`. -/
def back (e : EReal) (b : Fin 2048) : EReal :=
  scale x * (d b * g b - x b * scale x * Ideal.div (∑ k, d k * g k * (x k * scale x)) width) + e

theorem self_nonneg (y : EReal) : 0 ≤ y * y := by
  induction y with
  | bot => simp
  | top => simp
  | coe r => rw [← EReal.coe_mul]; exact_mod_cast mul_self_nonneg r

theorem meanSq_cases : meanSq x = ⊤ ∨ ∃ e : ℝ, 0 < e ∧ meanSq x = (e : EReal) := by
  obtain ⟨ε, hε, he⟩ := eps_eq
  have h : 0 ≤ Ideal.div (∑ k, x k * x k) width := by
    rw [width_eq, Ideal.div_coe (by norm_num)]
    exact mul_nonneg (sum_nonneg fun k _ => self_nonneg (x k)) (by exact_mod_cast (by norm_num : (0 : ℝ) ≤ 1 / 2048))
  unfold meanSq
  generalize Ideal.div (∑ k, x k * x k) width = y at h ⊢
  rw [he]
  induction y with
  | bot => simp at h
  | top => exact .inl (EReal.top_add_coe ε)
  | coe r => exact .inr ⟨r + ε, add_pos_of_nonneg_of_pos (by exact_mod_cast h) hε, (EReal.coe_add r ε).symm⟩

/-- A factor that is a nonnegative number moves into a sum. -/
theorem mul_sum' {r : EReal} (h0 : 0 ≤ r) (h1 : r ≠ ⊤) {n : ℕ} (f : Fin n → EReal) : r * ∑ k, f k = ∑ k, r * f k := by
  classical
  have : ∀ s : Finset (Fin n), r * ∑ k ∈ s, f k = ∑ k ∈ s, r * f k := fun s => by
    induction s using Finset.induction_on with
    | empty => simp
    | insert a s ha ih => rw [sum_insert ha, sum_insert ha, EReal.left_distrib_of_nonneg_of_ne_top h0 h1, ih]
  exact this univ

/-- The gradient where the factor is a number. -/
theorem back_real {ρ κ : ℝ} (hρ : 0 ≤ ρ) (hκ : 0 ≤ κ) (e : EReal) (b : Fin 2048) :
    (ρ : EReal) * (d b * g b - x b * ρ * ((∑ k, d k * g k * (x k * ρ)) * κ)) + e
    = ((e + d b * g b * ρ) + x b * ((∑ k, x k * (d k * g k)) * (((-(1 / 2) : ℝ) : EReal) * ((ρ * ρ * ρ : ℝ) : EReal)) * κ))
      + (∑ k, x k * (d k * g k)) * (((-(1 / 2) : ℝ) : EReal) * ((ρ * ρ * ρ : ℝ) : EReal)) * κ * x b := by
  have h0 : (0 : EReal) ≤ (ρ : EReal) := by exact_mod_cast hρ
  have h1 : (ρ : EReal) ≠ ⊤ := EReal.coe_ne_top ρ
  have hs : ∑ k, d k * g k * (x k * ρ) = (ρ : EReal) * ∑ k, x k * (d k * g k) := by
    rw [mul_sum' h0 h1]
    exact sum_congr rfl fun k _ => by ac_rfl
  rw [hs, sub_eq_add_neg, EReal.left_distrib_of_nonneg_of_ne_top h0 h1]
  generalize ∑ k, x k * (d k * g k) = S
  generalize d b * g b = a
  generalize x b = y
  have hh : (0 : EReal) ≤ ((ρ * ρ * ρ * κ / 2 : ℝ) : EReal) := by exact_mod_cast (by positivity)
  have l : (ρ : EReal) * -(y * ρ * (ρ * S * κ)) = -(y * S) * ((ρ * ρ * ρ * κ : ℝ) : EReal) := by
    rw [mul_neg, neg_mul, EReal.coe_mul, EReal.coe_mul, EReal.coe_mul]
    exact congrArg _ (by ac_rfl)
  have r : y * (S * (((-(1 / 2) : ℝ) : EReal) * ((ρ * ρ * ρ : ℝ) : EReal)) * κ) = -(y * S) * ((ρ * ρ * ρ * κ / 2 : ℝ) : EReal) := by
    rw [← EReal.coe_mul, mul_assoc S, ← EReal.coe_mul, ← mul_assoc, neg_mul (y * S), ← mul_neg (y * S), ← EReal.coe_neg]
    exact congrArg (fun z : ℝ => y * S * (z : EReal)) (by ring)
  have r' : S * (((-(1 / 2) : ℝ) : EReal) * ((ρ * ρ * ρ : ℝ) : EReal)) * κ * y = -(y * S) * ((ρ * ρ * ρ * κ / 2 : ℝ) : EReal) :=
    (mul_comm _ _).trans r
  rw [l, r, r', add_assoc (e + _), ← EReal.left_distrib_of_nonneg hh hh, ← EReal.coe_add,
    (by ring : ρ * ρ * ρ * κ / 2 + ρ * ρ * ρ * κ / 2 = ρ * ρ * ρ * κ), mul_comm (ρ : EReal) a, add_comm _ e, add_assoc]

/-- The gradient, the way differentiating line by line gives it. -/
theorem back_eq (e : EReal) (b : Fin 2048) :
    back x g d e b
    = ((e + d b * g b * scale x) + x b * Ideal.div ((∑ k, x k * (d k * g k)) * (mhalf * Ideal.div (scale x) (meanSq x))) width)
      + Ideal.div ((∑ k, x k * (d k * g k)) * (mhalf * Ideal.div (scale x) (meanSq x))) width * x b := by
  unfold back scale
  rw [mhalf_eq, width_eq, Ideal.div_coe (by norm_num), Ideal.div_coe (by norm_num)]
  rcases meanSq_cases x with h | ⟨E, hE, h⟩
  · rw [h, Ideal.rsqrt_top]
    have : Ideal.div 0 ⊤ = 0 := by simp [Ideal.div]
    rw [this]
    simp
  · have hr : Ideal.rsqrt (E : EReal) = (((Real.sqrt E)⁻¹ : ℝ) : EReal) := by
      rw [Ideal.rsqrt_coe, if_neg (by linarith), if_neg (by linarith)]
    have hq : Ideal.div (((Real.sqrt E)⁻¹ : ℝ) : EReal) (E : EReal)
        = (((Real.sqrt E)⁻¹ * (Real.sqrt E)⁻¹ * (Real.sqrt E)⁻¹ : ℝ) : EReal) := by
      rw [Ideal.div_coe hE.ne', ← EReal.coe_mul]
      refine congrArg _ ?_
      rw [mul_assoc, ← mul_inv, Real.mul_self_sqrt hE.le, one_div]
    rw [h, hr, hq]
    exact back_real x g d (by positivity) (by norm_num) e b

end Row

/-! ### Tiles of rows -/

section Tile

variable {m : ℕ}

/-- A row of a matrix. -/
abbrev row (x : (⟨2, ![m, 2048]⟩ : Shape).Idx → EReal) (a : Fin m) : Fin 2048 → EReal := fun k => x (ix2 a k)

theorem row_sum (v : FVec Ideal ⟨2, ![m, 2048]⟩ .f32) (acc : BitVec 32) (h : (⟨2, ![m, 2048]⟩ : Shape).Reduces [1] ⟨1, ![m]⟩)
    (hφ : FKind.Formats .f32) (ha : acc = FKind.add.neutral .f32 hφ) (hc : (⟨1, ![m]⟩ : Shape).ShapeCasts ⟨2, ![m, 1]⟩) (a : Fin m)
    (z : Fin 1) :
    shapeCast ⟨2, ![m, 1]⟩ (multiReduction .add [1] ⟨1, ![m]⟩ v acc h hφ ha) hc (ix2 a z) = ∑ k : Fin 2048, v (ix2 a k) :=
  (shapeCast_apply _ hc _ (ix1 a) (by
    rw [Shape.rowMajor_val_one, Shape.rowMajor_val_two]
    have := z.isLt; simp at this ⊢)).trans ((Ideal.multiReduction_add_single v acc h hφ ha _).trans
    (sum_congr rfl fun k _ => congrArg v (by funext d; fin_cases d <;> rfl)))

theorem col_sum (v : FVec Ideal ⟨2, ![m, 2048]⟩ .f32) (acc : BitVec 32) (h : (⟨2, ![m, 2048]⟩ : Shape).Reduces [0] ⟨1, ![2048]⟩)
    (hφ : FKind.Formats .f32) (ha : acc = FKind.add.neutral .f32 hφ) (hc : (⟨1, ![2048]⟩ : Shape).ShapeCasts ⟨2, ![1, 2048]⟩)
    (z : Fin 1) (b : Fin 2048) :
    shapeCast ⟨2, ![1, 2048]⟩ (multiReduction .add [0] ⟨1, ![2048]⟩ v acc h hφ ha) hc (ix2 z b) = ∑ k : Fin m, v (ix2 k b) :=
  (shapeCast_apply _ hc _ (ix1 b) (by
    rw [Shape.rowMajor_val_one, Shape.rowMajor_val_two]
    have := z.isLt; simp at this ⊢)).trans ((Ideal.multiReduction_add_single v acc h hφ ha _).trans
    (sum_congr rfl fun k _ => congrArg v (by funext d; fin_cases d <;> rfl)))

theorem spread_col (v : FVec Ideal ⟨2, ![m, 1]⟩ .f32) (h : (⟨2, ![m, 1]⟩ : Shape).Broadcasts ⟨2, ![m, 2048]⟩) (a : Fin m) (b : Fin 2048) :
    broadcastTo ⟨2, ![m, 2048]⟩ v h (ix2 a b) = v (ix2 a 0) :=
  broadcastTo_apply _ h _ (ix2 a 0) (by
    intro d; fin_cases d
    · have := a.isLt
      show a.val = if m = 1 then 0 else a.val
      split_ifs <;> omega
    · rfl)

theorem spread_row (v : FVec Ideal ⟨2, ![1, 2048]⟩ .f32) (h : (⟨2, ![1, 2048]⟩ : Shape).Broadcasts ⟨2, ![m, 2048]⟩) (a : Fin m)
    (b : Fin 2048) : broadcastTo ⟨2, ![m, 2048]⟩ v h (ix2 a b) = v (ix2 0 b) :=
  broadcastTo_apply _ h _ (ix2 0 b) (by
    intro d; fin_cases d
    · rfl
    · rfl)

variable (x e : FVec Ideal ⟨2, ![m, 2048]⟩ .f32) (d : FVec Ideal ⟨2, ![m, 2048]⟩ .bf16) (g : FVec Ideal ⟨2, ![1, 2048]⟩ .f32)
variable (h1 : (⟨2, ![m, 2048]⟩ : Shape).Reduces [1] ⟨1, ![m]⟩) (h0 : (⟨2, ![m, 2048]⟩ : Shape).Reduces [0] ⟨1, ![2048]⟩)
variable (hφ : FKind.Formats .f32) (ha : (0x00000000#32 : BitVec 32) = FKind.add.neutral .f32 hφ)
variable (hc : (⟨1, ![m]⟩ : Shape).ShapeCasts ⟨2, ![m, 1]⟩) (hr : (⟨1, ![2048]⟩ : Shape).ShapeCasts ⟨2, ![1, 2048]⟩)
variable (bc : (⟨2, ![m, 1]⟩ : Shape).Broadcasts ⟨2, ![m, 2048]⟩) (br : (⟨2, ![1, 2048]⟩ : Shape).Broadcasts ⟨2, ![m, 2048]⟩)
variable (hb : FTy.bits .bf16 < FTy.bits .f32)

/-- The factors of a tile's rows. -/
abbrev scaleT : FVec Ideal ⟨2, ![m, 1]⟩ .f32 :=
  rsqrt (addf (divf (shapeCast ⟨2, ![m, 1]⟩ (multiReduction .add [1] ⟨1, ![m]⟩ (mulf x x) 0x00000000#32 h1 hφ ha) hc)
    (broadcast ⟨2, ![m, 1]⟩ (Scalar.ofBits (F := Ideal) .f32 0x45000000#32))) (broadcast ⟨2, ![m, 1]⟩ (Scalar.ofBits (F := Ideal) .f32 0x358637BD#32)))

/-- A tile's rows, scaled. -/
abbrev unitT : FVec Ideal ⟨2, ![m, 2048]⟩ .f32 := mulf x (broadcastTo ⟨2, ![m, 2048]⟩ (scaleT x h1 hφ ha hc) bc)

/-- The gradient of the norm's output times the gain. -/
abbrev gainT : FVec Ideal ⟨2, ![m, 2048]⟩ .f32 := mulf (extf .f32 d hb) (broadcastTo ⟨2, ![m, 2048]⟩ g br)

theorem scale_tile (a : Fin m) (z : Fin 1) : scaleT x h1 hφ ha hc (ix2 a z) = scale (row x a) :=
  congrArg (fun s => Ideal.rsqrt (Ideal.div s width + eps)) (row_sum (mulf x x) _ h1 hφ ha hc a z)

theorem unit_tile (a : Fin m) (b : Fin 2048) : unitT x h1 hφ ha hc bc (ix2 a b) = x (ix2 a b) * scale (row x a) :=
  congrArg (x (ix2 a b) * ·) ((spread_col _ bc a b).trans (scale_tile x h1 hφ ha hc a 0))

theorem gain_tile (a : Fin m) (b : Fin 2048) : gainT d g br hb (ix2 a b) = d (ix2 a b) * g (ix2 0 b) :=
  congrArg (d (ix2 a b) * ·) (spread_row g br a b)

/-- The norm of a tile. -/
theorem norm_tile (a : Fin m) (b : Fin 2048) :
    truncf .bf16 (mulf (unitT x h1 hφ ha hc bc) (broadcastTo ⟨2, ![m, 2048]⟩ g br)) hb (ix2 a b) = x (ix2 a b) * scale (row x a) * g (ix2 0 b) :=
  congrArg₂ (· * ·) (unit_tile x h1 hφ ha hc bc a b) (spread_row g br a b)

/-- The gradient of a tile, added to `e`. -/
theorem back_tile (a : Fin m) (b : Fin 2048) :
    addf (mulf (broadcastTo ⟨2, ![m, 2048]⟩ (scaleT x h1 hφ ha hc) bc) (subf (gainT d g br hb) (mulf (unitT x h1 hφ ha hc bc)
      (broadcastTo ⟨2, ![m, 2048]⟩ (divf (shapeCast ⟨2, ![m, 1]⟩ (multiReduction .add [1] ⟨1, ![m]⟩
        (mulf (gainT d g br hb) (unitT x h1 hφ ha hc bc)) 0x00000000#32 h1 hφ ha) hc)
        (broadcast ⟨2, ![m, 1]⟩ (Scalar.ofBits (F := Ideal) .f32 0x45000000#32))) bc)))) e (ix2 a b)
    = back (row x a) (row g 0) (row d a) (e (ix2 a b)) b := by
  refine congrArg (· + e (ix2 a b)) (congrArg₂ (· * ·) ((spread_col _ bc a b).trans (scale_tile x h1 hφ ha hc a 0))
    (congrArg₂ (· - ·) (gain_tile d g br hb a b) (congrArg₂ (· * ·) (unit_tile x h1 hφ ha hc bc a b) ((spread_col _ bc a b).trans
      (congrArg (Ideal.div · width) ((row_sum _ _ h1 hφ ha hc a 0).trans (sum_congr rfl fun k _ =>
        congrArg₂ (· * ·) (gain_tile d g br hb a k) (unit_tile x h1 hφ ha hc bc a k))))))))

/-- The gradient of the gain over a tile. -/
theorem gain_back_tile (z : Fin 1) (b : Fin 2048) :
    shapeCast ⟨2, ![1, 2048]⟩ (multiReduction .add [0] ⟨1, ![2048]⟩ (mulf (extf .f32 d hb) (unitT x h1 hφ ha hc bc)) 0x00000000#32 h0 hφ ha) hr (ix2 z b)
    = ∑ a : Fin m, d (ix2 a b) * (x (ix2 a b) * scale (row x a)) :=
  (col_sum _ _ h0 hφ ha hr z b).trans (sum_congr rfl fun a _ => congrArg (d (ix2 a b) * ·) (unit_tile x h1 hφ ha hc bc a b))

end Tile

/-! ### Whole blocks -/

theorem hz2 : (![0, 0] : Fin 2 → ℕ) = fun _ => 0 := by funext a; fin_cases a <;> rfl

/-- A read of a whole block. -/
theorem read_all {σ : RefSig} {k : Kind} {sp : Space} {e : EltTy} {p q : ℕ} {v : Memref σ k sp ⟨2, ![p, q]⟩ e} (h : v.IsWhole)
    (X : (⟨2, ![p, q]⟩ : Shape).Idx → Elt Ideal e) (inb) :
    View.readAt (Elt Ideal) v.view (Rect.unit ![0, 0] (no_index ![p, q]) inb).toLoadRect (h.unread (Val := Elt Ideal) X) = X := by
  rw [View.readAt_eq_ld, h.read_unread]
  exact View.ld_unit_zero (Val := Elt Ideal) (S := ⟨2, ![p, q]⟩) hz2 inb X

/-- Places in a matrix. -/
theorem place2 {p q : ℕ} {i j : (⟨2, ![p, q]⟩ : Shape).Idx} (h0 : (i 0).val = (j 0).val) (h1 : (i 1).val = (j 1).val) : i = j := by
  funext a; fin_cases a
  · exact Fin.ext h0
  · exact Fin.ext h1

/-! ### Tiles of 512 rows of 4096 -/

abbrev Big : Type := (⟨2, ![4096, 2048]⟩ : Shape).Idx → EReal

/-- The gradient of every row. -/
def backAll (X : Big) (G : (⟨2, ![1, 2048]⟩ : Shape).Idx → EReal) (D E : Big) : Big :=
  fun i => back (row X (i 0)) (row G 0) (row D (i 0)) (E i) (i 1)

/-- The norm of every row. -/
def normAll (X : Big) (G : (⟨2, ![1, 2048]⟩ : Shape).Idx → EReal) : Big := fun i => X i * scale (row X (i 0)) * G (ix2 0 (i 1))

/-- Where the entries of tile `t` lie. -/
abbrev place {t : ℕ} (ht : t < 8) (a : Fin 512) (b : Fin 2048) : (⟨2, ![4096, 2048]⟩ : Shape).Idx :=
  ix2 ⟨512 * t + a.val, by have := a.isLt; omega⟩ b

theorem place_of {i : (⟨2, ![4096, 2048]⟩ : Shape).Idx} {n : Fin 2 → ℕ} {t : ℕ} (ht : t < 8) (e : n 0 = t ∧ n 1 = 0) {a : Fin 512} {b : Fin 2048}
    (h0 : (i 0).val = n 0 * 512 + 1 * a.val) (h1 : (i 1).val = n 1 * 2048 + 1 * b.val) : i = place ht a b := by
  rw [e.1] at h0
  rw [e.2] at h1
  refine place2 (h0.trans ?_) (h1.trans ?_)
  · show t * 512 + 1 * a.val = 512 * t + a.val; omega
  · show 0 * 2048 + 1 * b.val = b.val; omega

section Rows

variable {X D E : Big} {G : (⟨2, ![1, 2048]⟩ : Shape).Idx → EReal} {x d e : (⟨2, ![512, 2048]⟩ : Shape).Idx → EReal}
  {g : (⟨2, ![1, 2048]⟩ : Shape).Idx → EReal} {t : ℕ} (ht : t < 8)

/-- A tile's gradient and its norm are those of its rows. -/
theorem back_rows (hx : ∀ a b, x (ix2 a b) = X (place ht a b)) (hg : ∀ b, g (ix2 0 b) = G (ix2 0 b)) (hd : ∀ a b, d (ix2 a b) = D (place ht a b))
    (he : ∀ a b, e (ix2 a b) = E (place ht a b)) (a : Fin 512) (b : Fin 2048) :
    back (row x a) (row g 0) (row d a) (e (ix2 a b)) b = backAll X G D E (place ht a b) := by
  have h1 : row x a = row X (place ht a b 0) := funext fun k => hx a k
  have h2 : row d a = row D (place ht a b 0) := funext fun k => hd a k
  have h3 : row g 0 = row G 0 := funext hg
  rw [h1, h2, h3, he]
  rfl

theorem norm_rows (hx : ∀ a b, x (ix2 a b) = X (place ht a b)) (hg : ∀ b, g (ix2 0 b) = G (ix2 0 b)) (a : Fin 512) (b : Fin 2048) :
    x (ix2 a b) * scale (row x a) * g (ix2 0 b) = normAll X G (place ht a b) := by
  have h1 : row x a = row X (place ht a b 0) := funext fun k => hx a k
  rw [h1, hx, hg]
  rfl

end Rows

/-- What a row gives to the gradient of the gain; rows from 4096 on give nothing. -/
def share (X D : Big) (b : Fin 2048) (a : ℕ) : EReal :=
  if h : a < 4096 then D (ix2 ⟨a, h⟩ b) * (X (ix2 ⟨a, h⟩ b) * scale (row X ⟨a, h⟩)) else 0

/-- The gradient of the gain from the first `n` rows. -/
def gainTo (X D : Big) (n : ℕ) : (⟨2, ![1, 2048]⟩ : Shape).Idx → EReal := fun i => ∑ a ∈ range n, share X D (i 1) a

theorem gain_all (X D : Big) (i : (⟨2, ![1, 2048]⟩ : Shape).Idx) :
    gainTo X D 4096 i = ∑ a : Fin 4096, X (ix2 a (i 1)) * scale (row X a) * D (ix2 a (i 1)) := by
  unfold gainTo
  rw [sum_range]
  exact sum_congr rfl fun a _ => (dif_pos a.isLt).trans (mul_comm _ _)

/-- A tile's share is that of its rows. -/
theorem gain_rows {X D : Big} {t : ℕ} (ht : t < 8) {x d : (⟨2, ![512, 2048]⟩ : Shape).Idx → EReal}
    (hx : ∀ a b, x (ix2 a b) = X (place ht a b)) (hd : ∀ a b, d (ix2 a b) = D (place ht a b)) (b : Fin 2048) :
    ∑ a : Fin 512, d (ix2 a b) * (x (ix2 a b) * scale (row x a)) = ∑ a ∈ range 512, share X D b (512 * t + a) := by
  rw [sum_range]
  refine sum_congr rfl fun a _ => ?_
  have h1 : row x a = row X (place ht a b 0) := funext fun k => hx a k
  rw [share, dif_pos (by have := a.isLt; omega), h1, hx a b, hd a b]
  rfl

theorem gain_step (X D : Big) (t : ℕ) (i : (⟨2, ![1, 2048]⟩ : Shape).Idx) :
    gainTo X D (512 * t) i + ∑ a ∈ range 512, share X D (i 1) (512 * t + a) = gainTo X D (512 * (t + 1)) i :=
  (sum_range_add _ (512 * t) 512).symm

end Cert.Norms

end
-- ==== Proof.NormRef.lean ====
/- The gradients of the norm the way differentiating line by line gives them, in the terms of the norm's rows. -/
module

public import proofs.«01_k».proof.Proof.Norms
public import proofs.«01_k».proof.Proof.Gen.Reference19Ideal.Read

@[expose] public section

noncomputable section

namespace Cert.Reference19Ideal.Norm

open Cert.Reference19Ideal Cert.Reference19Ideal.Read Cert.Norms Idealize.ShloMosaic Finset

variable (X : FVec Ideal S4096x2048 .f32) (G : FVec Ideal S1x2048 .f32) (D : FVec Ideal S4096x2048 .bf16) (E : FVec Ideal S4096x2048 .f32)

theorem mean_at (i : S4096x1.Idx) : val_main_v6 (F := Ideal) X i = meanSq (row X (i 0)) := by
  rw [val_main_v6_apply, val_main_v4_apply, val_main_v3_apply, val_main_v5_apply, val_main_v2_apply, val_main_v1_apply]
  refine congrArg (fun s => Ideal.div s width + eps) ((congrArg (· + _) Ideal.ofBits_zero_f32).trans ((zero_add _).trans ?_))
  exact sum_congr rfl fun k _ => by
    rw [val_main_v0_apply, (place2 rfl rfl : idx_main_v1 (idx_main_v2 i) k = ix2 (i 0) k)]; rfl

theorem scale_at (i : S4096x1.Idx) : val_main_v7 (F := Ideal) X i = scale (row X (i 0)) :=
  congrArg Ideal.rsqrt (mean_at X i)

/-- A row scaled, and the gradient of the norm's output times the gain. -/
theorem unit_at (i : S4096x2048.Idx) : val_main_v12 (F := Ideal) X i = X i * scale (row X (i 0)) := by
  rw [val_main_v12_apply, val_main_v11_apply, scale_at]; rfl
theorem gain_at (i : S4096x2048.Idx) : val_main_v20 (F := Ideal) G D i = D i * G (ix2 0 (i 1)) := by
  rw [val_main_v20_apply, val_main_v15_apply, val_main_v19_apply, (place2 rfl rfl : idx_main_v19 i = ix2 0 (i 1))]; rfl

/-- What a row's mean square is owed. -/
theorem owed_at (i : S4096x1.Idx) : val_main_v29 (F := Ideal) X G D i
    = Ideal.div ((∑ k, row X (i 0) k * (row D (i 0) k * row G 0 k)) * (mhalf * Ideal.div (scale (row X (i 0))) (meanSq (row X (i 0))))) width := by
  rw [val_main_v29_apply, val_main_v28_apply, val_main_v27_apply, val_main_v23_apply, val_main_v22_apply, val_main_v10_apply, val_main_v9_apply,
    val_main_v8_apply, scale_at, mean_at]
  refine congrArg (fun s => Ideal.div (s * (mhalf * Ideal.div (scale (row X (i 0))) (meanSq (row X (i 0))))) width)
    ((congrArg (· + _) Ideal.ofBits_zero_f32).trans ((zero_add _).trans ?_))
  have h0 : (idx_main_v23 i) 0 = i 0 := Fin.ext (by
    have := (i 1).isLt; show (i 0).val * 1 + (i 1).val = (i 0).val; simp at this; omega)
  exact sum_congr rfl fun k _ => by
    rw [val_main_v21_apply, gain_at, (place2 (congrArg Fin.val h0) rfl : idx_main_v22 (idx_main_v23 i) k = ix2 (i 0) k)]; rfl

theorem spread_at (i : S4096x2048.Idx) : val_main_v31 (F := Ideal) X G D i
    = Ideal.div ((∑ k, row X (i 0) k * (row D (i 0) k * row G 0 k)) * (mhalf * Ideal.div (scale (row X (i 0))) (meanSq (row X (i 0))))) width := by
  rw [val_main_v31_apply, val_main_v30_apply, Fin.sum_univ_one, owed_at]
  exact (congrArg (· + _) Ideal.ofBits_zero_f32).trans (zero_add _)

theorem back_ref : val_main_v35 (F := Ideal) X G D E = backAll X G D E := by
  funext i
  rw [val_main_v35_apply, val_main_v33_apply, val_main_v34_apply, val_main_v32_apply, val_main_v26_apply, val_main_v25_apply, val_main_v24_apply,
    spread_at, scale_at, gain_at]
  refine Eq.trans ?_ (back_eq (row X (i 0)) (row G 0) (row D (i 0)) (E i) (i 1)).symm
  have hx : X i = row X (i 0) (i 1) := congrArg X (place2 rfl rfl)
  have hd : D i = row D (i 0) (i 1) := congrArg D (place2 rfl rfl)
  rw [hx, hd]
  rfl

theorem gain_ref : val_main_v18 (F := Ideal) X D = gainTo X D 4096 := by
  funext i
  rw [gain_all, val_main_v18_apply, val_main_v17_apply]
  refine (congrArg (· + _) Ideal.ofBits_zero_f32).trans ((zero_add _).trans ?_)
  have h1 : (idx_main_v18 i) 0 = i 1 := Fin.ext (by
    have := (i 0).isLt; show (i 0).val * 2048 + (i 1).val = (i 1).val; simp at this; omega)
  exact sum_congr rfl fun a _ => by
    rw [val_main_v16_apply, unit_at, val_main_v15_apply,
      (place2 rfl (congrArg Fin.val h1) : idx_main_v17 (idx_main_v18 i) a = ix2 a (i 1))]; rfl

end Cert.Reference19Ideal.Norm

end
-- ==== Proof.Norm18.lean ====
/- The gradients of the other norms: of the input, added to the residual's, the same at half width, and of the gain. -/
module

public import proofs.«01_k».proof.Proof.NormRef
public import proofs.«01_k».proof.Proof.Gen.Kernel18Ideal.Value
public import proofs.«01_k».proof.Proof.Gen.Reference18Ideal.Run
public import proofs.«01_k».proof.Defs
public import Idealize.ShloMosaic.Lib.Pipeline.ValueKit.Geometry

@[expose] public section

noncomputable section

namespace Cert.Kernel18Ideal.Norm

open Cert.Kernel18Ideal Cert.Kernel18Ideal.Gen Cert.Norms Idealize.ShloMosaic Idealize.ShloMosaic.TcCoe Idealize.SL.Sem Finset

/-! ### What a point stores, over its blocks -/

section Cases

variable {c : Dev nD} {i : grid0.Coords}
  {arg1 : Memref sig .tc .vmem S512x2048 .f32} {harg1 : arg1.IsWhole} {arg2 : Memref sig .tc .vmem S1x2048 .f32} {harg2 : arg2.IsWhole}
  {arg3 : Memref sig .tc .vmem S512x2048 .bf16} {harg3 : arg3.IsWhole} {arg4 : Memref sig .tc .vmem S512x2048 .f32} {harg4 : arg4.IsWhole}
  {arg5 : Memref sig .tc .vmem S512x2048 .f32} {harg5 : arg5.IsWhole} {arg6 : Memref sig .tc .vmem S512x2048 .bf16} {harg6 : arg6.IsWhole}
  {arg7 : Memref sig .tc .vmem S1x2048 .f32} {harg7 : arg7.IsWhole}
variable (x0 : FVec Ideal S512x2048 .f32) (x1 : FVec Ideal S1x2048 .f32) (x2 : FVec Ideal S512x2048 .bf16) (x3 : FVec Ideal S512x2048 .f32)
variable (acc : FVec Ideal S1x2048 .f32)

theorem back_A (hc0 : cond0_0 i) (hc1 : ¬cond0_1 i) :
    out0_A_4 (F := Ideal) c i arg1 harg1 arg2 harg2 arg3 harg3 arg4 harg4 arg5 harg5 arg6 harg6 arg7 harg7 hc0 hc1 x0 x1 x2 x3 = k0_pay6 (F := Ideal) x0 x1 x2 x3 := by
  unfold out0_A_4
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem half_A (hc0 : cond0_0 i) (hc1 : ¬cond0_1 i) :
    out0_A_5 (F := Ideal) c i arg1 harg1 arg2 harg2 arg3 harg3 arg4 harg4 arg5 harg5 arg6 harg6 arg7 harg7 hc0 hc1 x0 x1 x2 x3
    = k0_pay6 (F := Ideal) x0 x1 x2 x3 := by
  unfold out0_A_5
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem gain_A (hc0 : cond0_0 i) (hc1 : ¬cond0_1 i) :
    out0_A_6 (F := Ideal) c i arg1 harg1 arg2 harg2 arg3 harg3 arg4 harg4 arg5 harg5 arg6 harg6 arg7 harg7 hc0 hc1 x0 x1 x2 x3 = k0_pay5 (F := Ideal) x0 x2 := by
  unfold out0_A_6
  refine (View.read_writes_junk_eq_canon _ _).trans (View.canon_cons_unit_zero hz2 _ _ _) |>.trans ?_
  exact congrArg₂ (k0_pay5 (F := Ideal)) (read_all harg1 x0 _) (read_all harg3 x2 _)

theorem back_B (hc0 : ¬cond0_0 i) (hc1 : cond0_1 i) :
    out0_B_4 (F := Ideal) c i arg1 harg1 arg2 harg2 arg3 harg3 arg4 harg4 arg5 harg5 arg6 harg6 arg7 harg7 hc0 hc1 x0 x1 x2 x3 acc = k0_pay6 (F := Ideal) x0 x1 x2 x3 := by
  unfold out0_B_4
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem half_B (hc0 : ¬cond0_0 i) (hc1 : cond0_1 i) :
    out0_B_5 (F := Ideal) c i arg1 harg1 arg2 harg2 arg3 harg3 arg4 harg4 arg5 harg5 arg6 harg6 arg7 harg7 hc0 hc1 x0 x1 x2 x3 acc
    = k0_pay6 (F := Ideal) x0 x1 x2 x3 := by
  unfold out0_B_5
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem gain_B (hc0 : ¬cond0_0 i) (hc1 : cond0_1 i) :
    out0_B_6 (F := Ideal) c i arg1 harg1 arg2 harg2 arg3 harg3 arg4 harg4 arg5 harg5 arg6 harg6 arg7 harg7 hc0 hc1 x0 x1 x2 x3 acc
    = fun j => acc j + k0_pay5 (F := Ideal) x0 x2 j := by
  unfold out0_B_6
  refine (View.read_writes_junk_eq_canon _ _).trans (View.canon_cons_unit_zero hz2 _ _ _) |>.trans ?_
  refine (congrArg₂ (k0_pay1 (F := Ideal)) (congrArg₂ (k0_pay5 (F := Ideal)) (read_all harg1 x0 _) (read_all harg3 x2 _)) (read_all harg7 acc _)).trans ?_
  exact congrArg (fun v => addf v (k0_pay5 (F := Ideal) x0 x2)) (shapeCast_self acc _)

theorem back_at (a : Fin 512) (b : Fin 2048) : k0_pay6 (F := Ideal) x0 x1 x2 x3 (ix2 a b) = back (row x0 a) (row x1 0) (row x2 a) (x3 (ix2 a b)) b :=
  back_tile x0 x3 x2 x1 _ _ _ _ _ _ _ a b

theorem gain_at (z : Fin 1) (b : Fin 2048) : k0_pay5 (F := Ideal) x0 x2 (ix2 z b) = ∑ a : Fin 512, x2 (ix2 a b) * (x0 (ix2 a b) * scale (row x0 a)) :=
  gain_back_tile x0 x2 _ _ _ _ _ _ _ _ z b

end Cases

/-! ### The points -/

variable (m : (ℓ : Loc nD τ sig) → Buf (Elt Ideal) ℓ) (c : Dev nD)

/-- The arguments: the norm's input, the gain, and the gradients of the output and of the residual. -/
abbrev X : Big := m ((c.tc : Thread nD τ).loc main_arg0)
abbrev G : S1x2048.Idx → EReal := m ((c.tc : Thread nD τ).loc main_arg1)
abbrev D : Big := m ((c.tc : Thread nD τ).loc main_arg2)
abbrev E : Big := m ((c.tc : Thread nD τ).loc main_arg3)

abbrev bX (t : Fin cfg0.N) : S512x2048.Idx → EReal := iblk m c 0 t
abbrev bG (t : Fin cfg0.N) : S1x2048.Idx → EReal := iblk m c 1 t
abbrev bD (t : Fin cfg0.N) : S512x2048.Idx → EReal := iblk m c 2 t
abbrev bE (t : Fin cfg0.N) : S512x2048.Idx → EReal := iblk m c 3 t

theorem at_point : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t = win0_4.index t := (by decide +kernel : ∀ t : Fin grid0.N, _)

variable (t : Fin cfg0.N)

theorem lt8 : t.val < 8 := lt_of_lt_of_eq t.isLt N_0

theorem x_at (a : Fin 512) (b : Fin 2048) : bX m c t (ix2 a b) = X m c (place (lt8 t) a b) :=
  congrArg (X m c) (place_of (lt8 t) (at_point t).1 (i := ((cfg0.win 0).blk t).view.emb (ix2 a b)) rfl rfl)
theorem g_at (b : Fin 2048) : bG m c t (ix2 0 b) = G m c (ix2 0 b) := by
  obtain ⟨-, ⟨e0, e1⟩, -⟩ := at_point t
  refine congrArg (G m c) (place2 ?_ ?_)
  · show win0_1.index t 0 * 1 + 1 * 0 = 0; rw [e0]
  · show win0_1.index t 1 * 2048 + 1 * b.val = b.val; rw [e1]; omega
theorem d_at (a : Fin 512) (b : Fin 2048) : bD m c t (ix2 a b) = D m c (place (lt8 t) a b) :=
  congrArg (D m c) (place_of (lt8 t) (at_point t).2.2.1 (i := ((cfg0.win 2).blk t).view.emb (ix2 a b)) rfl rfl)
theorem e_at (a : Fin 512) (b : Fin 2048) : bE m c t (ix2 a b) = E m c (place (lt8 t) a b) :=
  congrArg (E m c) (place_of (lt8 t) (at_point t).2.2.2.1 (i := ((cfg0.win 3).blk t).view.emb (ix2 a b)) rfl rfl)

/-- A point's block of the gradient of the input. -/
theorem back_block (y : S512x2048.Idx) : k0_pay6 (F := Ideal) (bX m c t) (bG m c t) (bD m c t) (bE m c t) y
    = backAll (X m c) (G m c) (D m c) (E m c) (((cfg0.win 4).blk t).view.emb y) := by
  rw [eq_ix2 y]
  exact (back_at _ _ _ _ _ _).trans ((back_rows (lt8 t) (x_at m c t) (g_at m c t) (d_at m c t) (e_at m c t) _ _).trans
    (congrArg (backAll (X m c) (G m c) (D m c) (E m c)) (place_of (lt8 t) (at_point t).2.2.2.2.1 rfl rfl).symm))

theorem half_place (y : S512x2048.Idx) : ((cfg0.win 5).blk t).view.emb y = ((cfg0.win 4).blk t).view.emb y := by
  have e := (at_point t).2.2.2.2.2
  refine place2 ?_ ?_
  · show win0_5.index t 0 * 512 + 1 * (y 0).val = win0_4.index t 0 * 512 + 1 * (y 0).val; rw [e]
  · show win0_5.index t 1 * 2048 + 1 * (y 1).val = win0_4.index t 1 * 2048 + 1 * (y 1).val; rw [e]

/-- What a point adds to the gradient of the gain. -/
theorem gain_point (j : S1x2048.Idx) : k0_pay5 (F := Ideal) (bX m c t) (bD m c t) j = ∑ a ∈ range 512, share (X m c) (D m c) (j 1) (512 * t.val + a) := by
  rw [eq_ix2 j]
  exact (gain_at _ _ _ _).trans (gain_rows (lt8 t) (x_at m c t) (d_at m c t) _)

theorem outs (n : ℕ) (hn : n < cfg0.N) : outsAt0 m c n hn
    = (k0_pay6 (F := Ideal) (bX m c ⟨n, hn⟩) (bG m c ⟨n, hn⟩) (bD m c ⟨n, hn⟩) (bE m c ⟨n, hn⟩),
      k0_pay6 (F := Ideal) (bX m c ⟨n, hn⟩) (bG m c ⟨n, hn⟩) (bD m c ⟨n, hn⟩) (bE m c ⟨n, hn⟩), gainTo (X m c) (D m c) (512 * (n + 1))) := by
  have hN : cfg0.N = 8 := N_0
  induction n with
  | zero =>
    rw [outsAt0_A m c ⟨0, hn⟩ (Nat.zero_mod 8) (by dsimp only; omega), back_A, half_A, gain_A]
    refine congrArg (Prod.mk _) (congrArg (Prod.mk _) (funext fun j => ?_))
    rw [gain_point]
    refine Eq.trans ?_ (gain_step (X m c) (D m c) 0 j)
    rw [show gainTo (X m c) (D m c) (512 * 0) j = 0 from sum_range_zero _, zero_add]
  | succ k ih =>
    rw [outsAt0_B m c ⟨k + 1, hn⟩ (by dsimp only; omega) (by dsimp only; omega), back_B, half_B, gain_B]
    refine congrArg (Prod.mk _) (congrArg (Prod.mk _) (funext fun j => ?_))
    rw [gain_point]
    have hp : (outsAt0 m c ((⟨k + 1, hn⟩ : Fin cfg0.N).val - 1) (Nat.lt_of_le_of_lt (Nat.sub_le _ _) hn)).2.2 j
        = gainTo (X m c) (D m c) (512 * (k + 1)) j := congrFun (congrArg (fun w => w.2.2) (ih (Nat.lt_of_succ_lt hn))) j
    rw [hp]
    exact gain_step (X m c) (D m c) (k + 1) j

/-! ### The results -/

theorem back_res : (dats m 0 c).arrAt 4 cfg0.N = backAll (X m c) (G m c) (D m c) (E m c) :=
  (dats m 0 c).arrAt_eq_of_covers 4 _ (by decide +kernel) fun t hf y => by
    show (dats m 0 c).after 4 t y = backAll (X m c) (G m c) (D m c) (E m c) (((cfg0.win 4).blk t).view.emb y)
    rw [after0_4, outs]
    exact back_block m c t y

theorem half_res : (dats m 0 c).arrAt 5 cfg0.N = backAll (X m c) (G m c) (D m c) (E m c) :=
  (dats m 0 c).arrAt_eq_of_covers 5 _ (by decide +kernel) fun t hf y => by
    show (dats m 0 c).after 5 t y = backAll (X m c) (G m c) (D m c) (E m c) (((cfg0.win 5).blk t).view.emb y)
    rw [after0_5, outs, half_place]
    exact back_block m c t y

abbrev pt7 : Fin cfg0.N := ⟨7, by rw [show cfg0.N = 8 from N_0]; decide⟩

theorem gain_res : (dats m 0 c).arrAt 6 cfg0.N = gainTo (X m c) (D m c) 4096 := by
  have hN : cfg0.N = 8 := N_0
  refine (dats m 0 c).arrAt_eq_of_cover 6 (gainTo (X m c) (D m c) 4096 : S1x2048.Idx → EReal) (fun t hf => ?_) fun i => ?_
  · have h7 : t.val = 7 := by have := (flush0_6 t).mp hf; have := t.isLt; omega
    obtain rfl : t = pt7 := Fin.ext h7
    rw [Value.flushed6, outs]
    have hz : (fun a => win0_6.index pt7 a * main_v0_2.ty.shape.size a) = fun _ => 0 := funext fun a => by
      fin_cases a <;> exact Nat.zero_mul _
    exact (Memref.read_access_unit_zero (Elt Ideal) main_v0_2 hz (fun a => by rw [congrFun hz a]; simp) _).symm
  · refine ⟨pt7, (flush0_6 _).mpr rfl, ?_⟩
    show i ∈ ((View.whole main_v0_2).slice (win0_6.rect pt7)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 2048) (Nat.zero_mul 2048)).trans (Nat.zero_add _)).symm⟩

end Cert.Kernel18Ideal.Norm

namespace Cert

open Idealize.ShloMosaic Idealize.ShloMosaic.TcCoe Idealize.SL.Sem Cert.Norms Kernel18Ideal.Norm

theorem algebraic18 : algebraic_Kernel18Ideal_Reference18Ideal (hKernel18Ideal := Kernel18Ideal.Gen.facts) (hReference18Ideal := Reference18Ideal.Gen.facts) := by
  intro m g m' g' _ hagree
  refine ⟨fun c => backAll (X m c) (G m c) (D m c) (E m c),
    fun c => backAll (X m c) (G m c) (D m c) (E m c),
    fun c => gainTo (X m c) (D m c) 4096,
    (θ_run _ _ _).mono (fun r h c => ⟨(h c).1.trans (back_res m c), (h c).2.1.trans (half_res m c),
      (h c).2.2.1.trans (gain_res m c), (h c).2.2.2⟩) (Kernel18Ideal.Value.run_blocks m g),
    (θ_run _ _ _).mono (fun r h c => ?_) (Reference18Ideal.Value.run (F := Ideal) m' g')⟩
  obtain ⟨h0, h1, h2, h⟩ := h c
  obtain ⟨a0, a1, a2, a3⟩ := hagree c
  rw [a0, a1, a2, a3, Reference19Ideal.Read.val_main_v35_eq] at h0
  rw [a0, a1, a2, a3, Reference19Ideal.Read.val_main_v35_eq] at h1
  rw [a0, a2, Reference19Ideal.Read.val_main_v18_eq] at h2
  exact ⟨h0.trans (Reference19Ideal.Norm.back_ref _ _ _ _),
    h1.trans (congrArg (truncf .bf16 · _) (Reference19Ideal.Norm.back_ref _ _ _ _)),
    h2.trans (Reference19Ideal.Norm.gain_ref _ _), h⟩

end Cert

end
-- ==== Proof.Norm19.lean ====
/- The gradients of the first layer's first norm: of its input, added to the residual's, and of its gain. -/
module

public import proofs.«01_k».proof.Proof.NormRef
public import proofs.«01_k».proof.Proof.Gen.Kernel19Ideal.Value
public import proofs.«01_k».proof.Proof.Gen.Reference19Ideal.Run
public import proofs.«01_k».proof.Defs
public import Idealize.ShloMosaic.Lib.Pipeline.ValueKit.Geometry

@[expose] public section

noncomputable section

namespace Cert.Kernel19Ideal.Norm

open Cert.Kernel19Ideal Cert.Kernel19Ideal.Gen Cert.Norms Idealize.ShloMosaic Idealize.ShloMosaic.TcCoe Idealize.SL.Sem Finset

/-! ### What a point stores, over its blocks -/

section Cases

variable {c : Dev nD} {i : grid0.Coords}
  {arg1 : Memref sig .tc .vmem S512x2048 .f32} {harg1 : arg1.IsWhole} {arg2 : Memref sig .tc .vmem S1x2048 .f32} {harg2 : arg2.IsWhole}
  {arg3 : Memref sig .tc .vmem S512x2048 .bf16} {harg3 : arg3.IsWhole} {arg4 : Memref sig .tc .vmem S512x2048 .f32} {harg4 : arg4.IsWhole}
  {arg5 : Memref sig .tc .vmem S512x2048 .f32} {harg5 : arg5.IsWhole} {arg6 : Memref sig .tc .vmem S1x2048 .f32} {harg6 : arg6.IsWhole}
variable (x0 : FVec Ideal S512x2048 .f32) (x1 : FVec Ideal S1x2048 .f32) (x2 : FVec Ideal S512x2048 .bf16) (x3 : FVec Ideal S512x2048 .f32)
variable (acc : FVec Ideal S1x2048 .f32)

theorem back_A (hc0 : cond0_0 i) (hc1 : ¬cond0_1 i) :
    out0_A_4 (F := Ideal) c i arg1 harg1 arg2 harg2 arg3 harg3 arg4 harg4 arg5 harg5 arg6 harg6 hc0 hc1 x0 x1 x2 x3 = k0_pay6 (F := Ideal) x0 x1 x2 x3 := by
  unfold out0_A_4
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem gain_A (hc0 : cond0_0 i) (hc1 : ¬cond0_1 i) :
    out0_A_5 (F := Ideal) c i arg1 harg1 arg2 harg2 arg3 harg3 arg4 harg4 arg5 harg5 arg6 harg6 hc0 hc1 x0 x1 x2 x3 = k0_pay5 (F := Ideal) x0 x2 := by
  unfold out0_A_5
  refine (View.read_writes_junk_eq_canon _ _).trans (View.canon_cons_unit_zero hz2 _ _ _) |>.trans ?_
  exact congrArg₂ (k0_pay5 (F := Ideal)) (read_all harg1 x0 _) (read_all harg3 x2 _)

theorem back_B (hc0 : ¬cond0_0 i) (hc1 : cond0_1 i) :
    out0_B_4 (F := Ideal) c i arg1 harg1 arg2 harg2 arg3 harg3 arg4 harg4 arg5 harg5 arg6 harg6 hc0 hc1 x0 x1 x2 x3 acc = k0_pay6 (F := Ideal) x0 x1 x2 x3 := by
  unfold out0_B_4
  refine (View.read_writes_junk_eq_canon _ _).trans (View.canon_cons_unit_zero hz2 _ _ _) |>.trans ?_
  exact congr (congr (congrArg₂ (k0_pay6 (F := Ideal)) (read_all harg1 x0 _) (read_all harg2 x1 _)) (read_all harg3 x2 _)) (read_all harg4 x3 _)

theorem gain_B (hc0 : ¬cond0_0 i) (hc1 : cond0_1 i) :
    out0_B_5 (F := Ideal) c i arg1 harg1 arg2 harg2 arg3 harg3 arg4 harg4 arg5 harg5 arg6 harg6 hc0 hc1 x0 x1 x2 x3 acc
    = fun j => acc j + k0_pay5 (F := Ideal) x0 x2 j := by
  unfold out0_B_5
  refine (View.read_writes_junk_eq_canon _ _).trans (View.canon_cons_unit_zero hz2 _ _ _) |>.trans ?_
  refine (congrArg₂ (k0_pay1 (F := Ideal)) (congrArg₂ (k0_pay5 (F := Ideal)) (read_all harg1 x0 _) (read_all harg3 x2 _)) (read_all harg6 acc _)).trans ?_
  exact congrArg (fun v => addf v (k0_pay5 (F := Ideal) x0 x2)) (shapeCast_self acc _)

theorem back_at (a : Fin 512) (b : Fin 2048) : k0_pay6 (F := Ideal) x0 x1 x2 x3 (ix2 a b) = back (row x0 a) (row x1 0) (row x2 a) (x3 (ix2 a b)) b :=
  back_tile x0 x3 x2 x1 _ _ _ _ _ _ _ a b

theorem gain_at (z : Fin 1) (b : Fin 2048) : k0_pay5 (F := Ideal) x0 x2 (ix2 z b) = ∑ a : Fin 512, x2 (ix2 a b) * (x0 (ix2 a b) * scale (row x0 a)) :=
  gain_back_tile x0 x2 _ _ _ _ _ _ _ _ z b

end Cases

/-! ### The points -/

variable (m : (ℓ : Loc nD τ sig) → Buf (Elt Ideal) ℓ) (c : Dev nD)

/-- The arguments: the norm's input, the gain, and the gradients of the output and of the residual. -/
abbrev X : Big := m ((c.tc : Thread nD τ).loc main_arg0)
abbrev G : S1x2048.Idx → EReal := m ((c.tc : Thread nD τ).loc main_arg1)
abbrev D : Big := m ((c.tc : Thread nD τ).loc main_arg2)
abbrev E : Big := m ((c.tc : Thread nD τ).loc main_arg3)

abbrev bX (t : Fin cfg0.N) : S512x2048.Idx → EReal := iblk m c 0 t
abbrev bG (t : Fin cfg0.N) : S1x2048.Idx → EReal := iblk m c 1 t
abbrev bD (t : Fin cfg0.N) : S512x2048.Idx → EReal := iblk m c 2 t
abbrev bE (t : Fin cfg0.N) : S512x2048.Idx → EReal := iblk m c 3 t

theorem at_point : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := (by decide +kernel : ∀ t : Fin grid0.N, _)

variable (t : Fin cfg0.N)

theorem lt8 : t.val < 8 := lt_of_lt_of_eq t.isLt N_0

theorem x_at (a : Fin 512) (b : Fin 2048) : bX m c t (ix2 a b) = X m c (place (lt8 t) a b) :=
  congrArg (X m c) (place_of (lt8 t) (at_point t).1 (i := ((cfg0.win 0).blk t).view.emb (ix2 a b)) rfl rfl)
theorem g_at (b : Fin 2048) : bG m c t (ix2 0 b) = G m c (ix2 0 b) := by
  obtain ⟨-, ⟨e0, e1⟩, -⟩ := at_point t
  refine congrArg (G m c) (place2 ?_ ?_)
  · show win0_1.index t 0 * 1 + 1 * 0 = 0; rw [e0]
  · show win0_1.index t 1 * 2048 + 1 * b.val = b.val; rw [e1]; omega
theorem d_at (a : Fin 512) (b : Fin 2048) : bD m c t (ix2 a b) = D m c (place (lt8 t) a b) :=
  congrArg (D m c) (place_of (lt8 t) (at_point t).2.2.1 (i := ((cfg0.win 2).blk t).view.emb (ix2 a b)) rfl rfl)
theorem e_at (a : Fin 512) (b : Fin 2048) : bE m c t (ix2 a b) = E m c (place (lt8 t) a b) :=
  congrArg (E m c) (place_of (lt8 t) (at_point t).2.2.2.1 (i := ((cfg0.win 3).blk t).view.emb (ix2 a b)) rfl rfl)

/-- A point's block of the gradient of the input. -/
theorem back_block (y : S512x2048.Idx) : k0_pay6 (F := Ideal) (bX m c t) (bG m c t) (bD m c t) (bE m c t) y
    = backAll (X m c) (G m c) (D m c) (E m c) (((cfg0.win 4).blk t).view.emb y) := by
  rw [eq_ix2 y]
  exact (back_at _ _ _ _ _ _).trans ((back_rows (lt8 t) (x_at m c t) (g_at m c t) (d_at m c t) (e_at m c t) _ _).trans
    (congrArg (backAll (X m c) (G m c) (D m c) (E m c)) (place_of (lt8 t) (at_point t).2.2.2.2 rfl rfl).symm))

/-- What a point adds to the gradient of the gain. -/
theorem gain_point (j : S1x2048.Idx) : k0_pay5 (F := Ideal) (bX m c t) (bD m c t) j = ∑ a ∈ range 512, share (X m c) (D m c) (j 1) (512 * t.val + a) := by
  rw [eq_ix2 j]
  exact (gain_at _ _ _ _).trans (gain_rows (lt8 t) (x_at m c t) (d_at m c t) _)

theorem outs (n : ℕ) (hn : n < cfg0.N) : outsAt0 m c n hn
    = (k0_pay6 (F := Ideal) (bX m c ⟨n, hn⟩) (bG m c ⟨n, hn⟩) (bD m c ⟨n, hn⟩) (bE m c ⟨n, hn⟩), gainTo (X m c) (D m c) (512 * (n + 1))) := by
  have hN : cfg0.N = 8 := N_0
  induction n with
  | zero =>
    rw [outsAt0_A m c ⟨0, hn⟩ (Nat.zero_mod 8) (by dsimp only; omega), back_A, gain_A]
    refine congrArg (Prod.mk _) (funext fun j => ?_)
    rw [gain_point]
    refine Eq.trans ?_ (gain_step (X m c) (D m c) 0 j)
    rw [show gainTo (X m c) (D m c) (512 * 0) j = 0 from sum_range_zero _, zero_add]
  | succ k ih =>
    rw [outsAt0_B m c ⟨k + 1, hn⟩ (by dsimp only; omega) (by dsimp only; omega), back_B, gain_B]
    refine congrArg (Prod.mk _) (funext fun j => ?_)
    rw [gain_point]
    have hp : (outsAt0 m c ((⟨k + 1, hn⟩ : Fin cfg0.N).val - 1) (Nat.lt_of_le_of_lt (Nat.sub_le _ _) hn)).2 j
        = gainTo (X m c) (D m c) (512 * (k + 1)) j := congrFun (congrArg Prod.snd (ih (Nat.lt_of_succ_lt hn))) j
    rw [hp]
    exact gain_step (X m c) (D m c) (k + 1) j

/-! ### The results -/

theorem back_res : (dats m 0 c).arrAt 4 cfg0.N = backAll (X m c) (G m c) (D m c) (E m c) :=
  (dats m 0 c).arrAt_eq_of_covers 4 _ (by decide +kernel) fun t hf y => by
    show (dats m 0 c).after 4 t y = backAll (X m c) (G m c) (D m c) (E m c) (((cfg0.win 4).blk t).view.emb y)
    rw [after0_4, outs]
    exact back_block m c t y

abbrev pt7 : Fin cfg0.N := ⟨7, by rw [show cfg0.N = 8 from N_0]; decide⟩

theorem gain_res : (dats m 0 c).arrAt 5 cfg0.N = gainTo (X m c) (D m c) 4096 := by
  have hN : cfg0.N = 8 := N_0
  refine (dats m 0 c).arrAt_eq_of_cover 5 (gainTo (X m c) (D m c) 4096 : S1x2048.Idx → EReal) (fun t hf => ?_) fun i => ?_
  · have h7 : t.val = 7 := by have := (flush0_5 t).mp hf; have := t.isLt; omega
    obtain rfl : t = pt7 := Fin.ext h7
    rw [Value.flushed5, outs]
    have hz : (fun a => win0_5.index pt7 a * main_v0_1.ty.shape.size a) = fun _ => 0 := funext fun a => by
      fin_cases a <;> exact Nat.zero_mul _
    exact (Memref.read_access_unit_zero (Elt Ideal) main_v0_1 hz (fun a => by rw [congrFun hz a]; simp) _).symm
  · refine ⟨pt7, (flush0_5 _).mpr rfl, ?_⟩
    show i ∈ ((View.whole main_v0_1).slice (win0_5.rect pt7)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 2048) (Nat.zero_mul 2048)).trans (Nat.zero_add _)).symm⟩

end Cert.Kernel19Ideal.Norm

namespace Cert

open Idealize.ShloMosaic Idealize.ShloMosaic.TcCoe Idealize.SL.Sem Cert.Norms Kernel19Ideal.Norm

theorem algebraic19 : algebraic_Kernel19Ideal_Reference19Ideal (hKernel19Ideal := Kernel19Ideal.Gen.facts) (hReference19Ideal := Reference19Ideal.Gen.facts) := by
  intro m g m' g' _ hagree
  refine ⟨fun c => backAll (X m c) (G m c) (D m c) (E m c),
    fun c => gainTo (X m c) (D m c) 4096,
    (θ_run _ _ _).mono (fun r h c => ⟨(h c).1.trans (back_res m c), (h c).2.1.trans (gain_res m c), (h c).2.2⟩)
      (Kernel19Ideal.Value.run_blocks m g),
    (θ_run _ _ _).mono (fun r h c => ?_) (Reference19Ideal.Value.run (F := Ideal) m' g')⟩
  obtain ⟨h0, h1, h⟩ := h c
  obtain ⟨a0, a1, a2, a3⟩ := hagree c
  rw [a0, a1, a2, a3, Reference19Ideal.Read.val_main_v35_eq] at h0
  rw [a0, a2, Reference19Ideal.Read.val_main_v18_eq] at h1
  exact ⟨h0.trans (Reference19Ideal.Norm.back_ref _ _ _ _), h1.trans (Reference19Ideal.Norm.gain_ref _ _), h⟩

end Cert

end
-- ==== Proof.Norm20.lean ====
/- The norm itself. -/
module

public import proofs.«01_k».proof.Proof.NormRef
public import proofs.«01_k».proof.Proof.Gen.Kernel20Ideal.Value
public import proofs.«01_k».proof.Proof.Gen.Reference20Ideal.Run
public import proofs.«01_k».proof.Proof.Gen.Reference20Ideal.Read
public import proofs.«01_k».proof.Defs
public import Idealize.ShloMosaic.Lib.Pipeline.ValueKit.Geometry

@[expose] public section

noncomputable section

namespace Cert.Kernel20Ideal.Norm

open Cert.Kernel20Ideal Cert.Kernel20Ideal.Gen Cert.Norms Idealize.ShloMosaic Idealize.ShloMosaic.TcCoe Idealize.SL.Sem Finset

theorem norm_at (x0 : FVec Ideal S512x2048 .f32) (x1 : FVec Ideal S1x2048 .f32) (a : Fin 512) (b : Fin 2048) :
    out0_2 (F := Ideal) x0 x1 (ix2 a b) = x0 (ix2 a b) * scale (row x0 a) * x1 (ix2 0 b) := by
  unfold out0_2
  rw [View.canon_unit_zero hz2]
  refine (congrFun (congrArg₂ (k0_pay1 (F := Ideal)) (View.ld_unit_zero (Val := Elt Ideal) (e := .f32) (S := ⟨2, ![512, 2048]⟩) hz2 _ x0)
    (View.ld_unit_zero (Val := Elt Ideal) (e := .f32) (S := ⟨2, ![1, 2048]⟩) hz2 _ x1)) (ix2 a b)).trans ?_
  exact norm_tile x0 x1 _ _ _ _ _ _ _ a b

variable (m : (ℓ : Loc nD τ sig) → Buf (Elt Ideal) ℓ) (c : Dev nD)

/-- The arguments: the norm's input and the gain. -/
abbrev X : Big := m ((c.tc : Thread nD τ).loc main_arg0)
abbrev G : S1x2048.Idx → EReal := m ((c.tc : Thread nD τ).loc main_arg1)

abbrev bX (t : Fin cfg0.N) : S512x2048.Idx → EReal := iblk m c 0 t
abbrev bG (t : Fin cfg0.N) : S1x2048.Idx → EReal := iblk m c 1 t

theorem at_point : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := (by decide +kernel : ∀ t : Fin grid0.N, _)

variable (t : Fin cfg0.N)

theorem lt8 : t.val < 8 := lt_of_lt_of_eq t.isLt N_0

theorem x_at (a : Fin 512) (b : Fin 2048) : bX m c t (ix2 a b) = X m c (place (lt8 t) a b) :=
  congrArg (X m c) (place_of (lt8 t) (at_point t).1 (i := ((cfg0.win 0).blk t).view.emb (ix2 a b)) rfl rfl)
theorem g_at (b : Fin 2048) : bG m c t (ix2 0 b) = G m c (ix2 0 b) := by
  obtain ⟨-, ⟨e0, e1⟩, -⟩ := at_point t
  refine congrArg (G m c) (place2 ?_ ?_)
  · show win0_1.index t 0 * 1 + 1 * 0 = 0; rw [e0]
  · show win0_1.index t 1 * 2048 + 1 * b.val = b.val; rw [e1]; omega

theorem norm_block (y : S512x2048.Idx) : out0_2 (F := Ideal) (bX m c t) (bG m c t) y = normAll (X m c) (G m c) (((cfg0.win 2).blk t).view.emb y) := by
  rw [eq_ix2 y]
  exact (norm_at _ _ _ _).trans ((norm_rows (lt8 t) (x_at m c t) (g_at m c t) _ _).trans
    (congrArg (normAll (X m c) (G m c)) (place_of (lt8 t) (at_point t).2.2 rfl rfl).symm))

theorem norm_res : (dats m 0 c).arrAt 2 cfg0.N = normAll (X m c) (G m c) :=
  (dats m 0 c).arrAt_eq_of_covers 2 _ (by decide +kernel) fun t hf y => by
    show (dats m 0 c).after 2 t y = normAll (X m c) (G m c) (((cfg0.win 2).blk t).view.emb y)
    rw [after0_2]
    exact norm_block m c t y

end Cert.Kernel20Ideal.Norm

namespace Cert

open Idealize.ShloMosaic Idealize.ShloMosaic.TcCoe Idealize.SL.Sem Cert.Norms Kernel20Ideal.Norm

theorem reference20 (X : FVec Ideal Reference20Ideal.S4096x2048 .f32) (G : FVec Ideal Reference20Ideal.S1x2048 .f32) :
    Reference20Ideal.Read.val_main_v12 (F := Ideal) X G = normAll X G := by
  funext i
  rw [Reference20Ideal.Read.val_main_v12_apply, Reference20Ideal.Read.val_main_v11_apply, Reference20Ideal.Read.val_main_v9_apply,
    Reference20Ideal.Read.val_main_v8_apply, Reference20Ideal.Read.val_main_v10_apply,
    (place2 rfl rfl : Reference20Ideal.Read.idx_main_v10 i = ix2 0 (i 1))]
  exact congrArg (fun s => X i * s * G (ix2 0 (i 1))) (Reference19Ideal.Norm.scale_at X (Reference20Ideal.Read.idx_main_v8 i))

theorem algebraic20 : algebraic_Kernel20Ideal_Reference20Ideal (hKernel20Ideal := Kernel20Ideal.Gen.facts) (hReference20Ideal := Reference20Ideal.Gen.facts) := by
  intro m g m' g' _ hagree
  refine ⟨fun c => normAll (X m c) (G m c),
    (θ_run _ _ _).mono (fun r h c => ⟨(h c).1.trans (norm_res m c), (h c).2⟩) (Kernel20Ideal.Value.run_blocks m g),
    (θ_run _ _ _).mono (fun r h c => ?_) (Reference20Ideal.Value.run (F := Ideal) m' g')⟩
  obtain ⟨h0, h⟩ := h c
  obtain ⟨a0, a1⟩ := hagree c
  rw [a0, a1, Reference20Ideal.Read.val_main_v12_eq] at h0
  exact ⟨h0.trans (reference20 _ _), h⟩

end Cert

end
-- ==== Proof.NormLoss.lean ====
/- The loss of a norm's output, half the mean square of its distance from a target summed over the rows, and its gradients: what a tile
   gives, and what the reference's lines give. -/
module

public import proofs.«01_k».proof.Proof.NormRef
public import proofs.«01_k».proof.Proof.Gen.Reference21Ideal.Read

@[expose] public section

noncomputable section

namespace Cert.Norms

open Idealize.ShloMosaic Finset

/-! ### The constants -/

abbrev half : EReal := Ideal.ofBits .f32 0x3F000000#32
abbrev perCol : EReal := Ideal.ofBits .f32 0x3A000000#32

theorem half_eq : half = ((1 / 2 : ℝ) : EReal) := by
  simp [half, Ideal.ofBits, Ideal.ieee, -EReal.coe_mul]; norm_num
theorem perCol_eq : perCol = ((1 / 2048 : ℝ) : EReal) := by
  simp [perCol, Ideal.ofBits, Ideal.ieee, -EReal.coe_mul]; norm_num

/-- Differentiating half the mean of the squares. -/
theorem owed_eq (y : EReal) :
    Ideal.div (half * Ideal.ofBits .f32 0x3F800000#32) width * (Ideal.ofBits .f32 0x40000000#32 * y) = y * perCol := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, half_eq, width_eq, perCol_eq, Ideal.div_coe (by norm_num), ← EReal.coe_mul, ← EReal.coe_mul, ← mul_assoc, ← EReal.coe_mul, mul_comm y]
  exact congrArg (fun r : ℝ => (r : EReal) * y) (by norm_num)

/-! ### All rows -/

section All

variable (X : Big) (G : (⟨2, ![1, 2048]⟩ : Shape).Idx → EReal) (T : Big)

/-- The distance from the target, and the gradient of the loss by the norm's output. -/
def apart : Big := fun i => normAll X G i - T i
def owed : Big := fun i => apart X G T i * perCol

/-- The mean square of a row's distance; rows from 4096 on have none. -/
def cost (a : ℕ) : EReal :=
  if h : a < 4096 then Ideal.div (∑ k, apart X G T (ix2 ⟨a, h⟩ k) * apart X G T (ix2 ⟨a, h⟩ k)) width else 0

/-- The loss of the first `n` rows. -/
def lossTo (n : ℕ) : EReal := ∑ a ∈ range n, half * cost X G T a

theorem half_sum {n : ℕ} (f : Fin n → EReal) : half * ∑ k, f k = ∑ k, half * f k :=
  mul_sum' (by rw [half_eq]; exact_mod_cast (by norm_num : (0 : ℝ) ≤ 1 / 2)) (by rw [half_eq]; exact EReal.coe_ne_top _) f

theorem loss_all : lossTo X G T 4096
    = half * ∑ a : Fin 4096, Ideal.div (∑ k, apart X G T (ix2 a k) * apart X G T (ix2 a k)) width := by
  unfold lossTo
  rw [sum_range, half_sum]
  exact sum_congr rfl fun a _ => congrArg (half * ·) (dif_pos a.isLt)

theorem loss_step (t : ℕ) : lossTo X G T (512 * t) + ∑ a ∈ range 512, half * cost X G T (512 * t + a) = lossTo X G T (512 * (t + 1)) :=
  (sum_range_add _ (512 * t) 512).symm

variable {X G T} {y : (⟨2, ![512, 2048]⟩ : Shape).Idx → EReal} {t : ℕ} (ht : t < 8)

/-- A tile's loss is that of its rows. -/
theorem loss_rows (hy : ∀ a b, y (ix2 a b) = apart X G T (place ht a b)) :
    half * ∑ a : Fin 512, Ideal.div (∑ k : Fin 2048, y (ix2 a k) * y (ix2 a k)) width = ∑ a ∈ range 512, half * cost X G T (512 * t + a) := by
  rw [sum_range, half_sum]
  refine sum_congr rfl fun a _ => ?_
  rw [cost, dif_pos (by have := a.isLt; omega)]
  exact congrArg (fun s => half * Ideal.div s width) (sum_congr rfl fun k _ => by rw [hy a k])

end All

/-! ### A tile -/

section Tile

variable {m : ℕ} (x y : FVec Ideal ⟨2, ![m, 2048]⟩ .f32)
variable (h1 : (⟨2, ![m, 2048]⟩ : Shape).Reduces [1] ⟨1, ![m]⟩) (h0 : (⟨2, ![m, 1]⟩ : Shape).Reduces [0] ⟨1, ![1]⟩)
variable (hφ : FKind.Formats .f32) (ha : (0x00000000#32 : BitVec 32) = FKind.add.neutral .f32 hφ)
variable (hc : (⟨1, ![m]⟩ : Shape).ShapeCasts ⟨2, ![m, 1]⟩) (hr : (⟨1, ![1]⟩ : Shape).ShapeCasts ⟨2, ![1, 1]⟩)
variable (hs : (⟨2, ![1, 1]⟩ : Shape).ShapeCasts ⟨2, ![1, 1]⟩) (bl : (⟨2, ![1, 1]⟩ : Shape).Broadcasts ⟨2, ![1, 128]⟩)

theorem all_sum (v : FVec Ideal ⟨2, ![m, 1]⟩ .f32) (z w : Fin 1) :
    shapeCast ⟨2, ![1, 1]⟩ (multiReduction .add [0] ⟨1, ![1]⟩ v 0x00000000#32 h0 hφ ha) hr (ix2 z w) = ∑ k : Fin m, v (ix2 k 0) :=
  (shapeCast_apply _ hr _ (ix1 w) (by
    rw [Shape.rowMajor_val_one, Shape.rowMajor_val_two]
    have := z.isLt; simp at this ⊢)).trans ((Ideal.multiReduction_add_single v _ h0 hφ ha _).trans
    (sum_congr rfl fun k _ => congrArg v (by obtain rfl : w = 0 := Subsingleton.elim _ _; funext d; fin_cases d <;> rfl)))

/-- The loss of a tile, on every lane. -/
theorem loss_tile (z : Fin 1) (b : Fin 128) :
    broadcastTo ⟨2, ![1, 128]⟩ (shapeCast ⟨2, ![1, 1]⟩ (mulf (broadcast ⟨2, ![1, 1]⟩ (Scalar.ofBits (F := Ideal) .f32 0x3F000000#32))
      (shapeCast ⟨2, ![1, 1]⟩ (multiReduction .add [0] ⟨1, ![1]⟩ (divf (shapeCast ⟨2, ![m, 1]⟩ (multiReduction .add [1] ⟨1, ![m]⟩
        (mulf y y) 0x00000000#32 h1 hφ ha) hc) (broadcast ⟨2, ![m, 1]⟩ (Scalar.ofBits (F := Ideal) .f32 0x45000000#32)))
        0x00000000#32 h0 hφ ha) hr)) hs) bl (ix2 z b)
    = half * ∑ a : Fin m, Ideal.div (∑ k : Fin 2048, y (ix2 a k) * y (ix2 a k)) width := by
  refine (broadcastTo_apply _ bl _ (ix2 0 0) (by intro d; fin_cases d <;> rfl)).trans ?_
  rw [shapeCast_self]
  refine congrArg (half * ·) ((all_sum h0 hφ ha hr _ 0 0).trans (sum_congr rfl fun a _ => ?_))
  exact congrArg (Ideal.div · width) (row_sum (mulf y y) _ h1 hφ ha hc a 0)

end Tile

end Cert.Norms

namespace Cert.Reference21Ideal.Norm

open Cert.Reference21Ideal Cert.Reference21Ideal.Read Cert.Norms Idealize.ShloMosaic Finset

variable (X : FVec Ideal S4096x2048 .f32) (G : FVec Ideal S1x2048 .f32) (T : FVec Ideal S4096x2048 .f32)

theorem apart_at (i : S4096x2048.Idx) : val_main_v15 (F := Ideal) X G T i = apart X G T i := by
  rw [val_main_v15_apply, val_main_v14_apply, val_main_v12_apply, val_main_v11_apply, val_main_v13_apply,
    (place2 rfl rfl : idx_main_v13 i = ix2 0 (i 1))]
  exact congrArg (fun s => X i * s * G (ix2 0 (i 1)) - T i) (Reference19Ideal.Norm.scale_at X (idx_main_v11 i))

theorem owed_ref : val_main_v29 (F := Ideal) X G T = owed X G T := by
  funext i
  rw [val_main_v29_apply, val_main_v28_apply, val_main_v27_apply, val_main_v25_apply, val_main_v26_apply, val_main_v18_apply,
    val_main_v17_apply, apart_at]
  exact owed_eq _

/-- The loss's gradients are the norm's, from the gradient by its output and with no residual beside it. -/
theorem back_ref : val_main_v48 (F := Ideal) X G T = backAll X G (owed X G T) (fun _ => 0) := by
  rw [← owed_ref]
  refine Eq.trans ?_ (Reference19Ideal.Norm.back_ref X G (val_main_v29 (F := Ideal) X G T) (fun _ => 0))
  funext i
  exact (congrArg (fun s : EReal => s + val_main_v45 (F := Ideal) X G T i + val_main_v47 (F := Ideal) X G T i)
    (zero_add (val_main_v39 (F := Ideal) X G T i : EReal))).symm

theorem gain_ref : val_main_v32 (F := Ideal) X G T = gainTo X (owed X G T) 4096 := by
  rw [← owed_ref]
  exact Reference19Ideal.Norm.gain_ref X (val_main_v29 (F := Ideal) X G T)

theorem loss_ref : val_main_v50 (F := Ideal) X G T = fun _ => lossTo X G T 4096 := by
  funext i
  rw [val_main_v50_apply, loss_all]
  refine congrArg (half * ·) ((val_main_v22_apply X G T _).trans ((congrArg (· + _) Ideal.ofBits_zero_f32).trans ((zero_add _).trans ?_)))
  refine Fintype.sum_equiv ⟨fun j => j 0, ix1, fun j => funext fun a => by fin_cases a; rfl, fun a => rfl⟩ _ _ fun j => ?_
  rw [val_main_v21_apply, val_main_v19_apply, val_main_v20_apply]
  refine congrArg (Ideal.div · width) ((congrArg (· + _) Ideal.ofBits_zero_f32).trans ((zero_add _).trans (sum_congr rfl fun k _ => ?_)))
  rw [val_main_v16_apply, apart_at, (place2 rfl rfl : idx_main_v19 j k = ix2 (j 0) k)]
  rfl

end Cert.Reference21Ideal.Norm

end
-- ==== Proof.Norm21.lean ====
/- The loss head: the last norm, the loss of its output, and the gradients of the norm's input, the same at half width, and of the gain. -/
module

public import proofs.«01_k».proof.Proof.NormLoss
public import proofs.«01_k».proof.Proof.Gen.Kernel21Ideal.Value
public import proofs.«01_k».proof.Proof.Gen.Reference21Ideal.Run
public import proofs.«01_k».proof.Defs
public import Idealize.ShloMosaic.Lib.Pipeline.ValueKit.Geometry

@[expose] public section

noncomputable section

namespace Cert.Kernel21Ideal.Norm

open Cert.Kernel21Ideal Cert.Kernel21Ideal.Gen Cert.Norms Idealize.ShloMosaic Idealize.ShloMosaic.TcCoe Idealize.SL.Sem Finset

/-! ### What a point stores, over its blocks -/

section Cases

variable (x0 : FVec Ideal S512x2048 .f32) (x1 : FVec Ideal S1x2048 .f32) (x2 : FVec Ideal S512x2048 .f32)
variable (acc : FVec Ideal S1x2048 .f32) (sum : FVec Ideal S1x128 .f32)

/-- The gradients of the input and of the gain, and the loss. -/
def backT : FVec Ideal S512x2048 .f32 :=
  k0_pay1 (F := Ideal) (k0_pay9 (F := Ideal) x0) (k0_pay10 (F := Ideal) x0) (k0_pay11 (F := Ideal) x0 x1 x2) (k0_pay12 (F := Ideal) x0 x1 x2)
def gainsT : FVec Ideal S1x2048 .f32 := k0_pay2 (F := Ideal) (k0_pay8 (F := Ideal) x0 x1 x2) (k0_pay10 (F := Ideal) x0)
def lossT : FVec Ideal S1x128 .f32 := k0_pay7 (F := Ideal) x0 x1 x2

theorem apart_tile (a : Fin 512) (b : Fin 2048) :
    k0_pay6 (F := Ideal) x0 x1 x2 (ix2 a b) = x0 (ix2 a b) * scale (row x0 a) * x1 (ix2 0 b) - x2 (ix2 a b) :=
  congrArg₂ (fun s u => s * u - x2 (ix2 a b)) (unit_tile x0 reduces_S512x2048_S512 (.inl rfl) rfl shapeCasts_S512_S512x1 broadcasts_S512x1_S512x2048 a b)
    (spread_row x1 broadcasts_S1x2048_S512x2048 a b)

theorem back_at (a : Fin 512) (b : Fin 2048) :
    backT x0 x1 x2 (ix2 a b) = back (row x0 a) (row x1 0) (row (k0_pay8 (F := Ideal) x0 x1 x2) a) 0 b :=
  (add_zero _).symm.trans (back_tile x0 (fun _ => 0) (k0_pay8 (F := Ideal) x0 x1 x2) x1 reduces_S512x2048_S512 (.inl rfl) rfl shapeCasts_S512_S512x1
    broadcasts_S512x1_S512x2048 broadcasts_S1x2048_S512x2048 bitsLt_bf16_f32 a b)

theorem gain_at (z : Fin 1) (b : Fin 2048) :
    gainsT x0 x1 x2 (ix2 z b) = ∑ a : Fin 512, k0_pay8 (F := Ideal) x0 x1 x2 (ix2 a b) * (x0 (ix2 a b) * scale (row x0 a)) :=
  gain_back_tile x0 (k0_pay8 (F := Ideal) x0 x1 x2) reduces_S512x2048_S512 reduces_S512x2048_S2048 (.inl rfl) rfl shapeCasts_S512_S512x1
    shapeCasts_S2048_S1x2048 broadcasts_S512x1_S512x2048 bitsLt_bf16_f32 z b

theorem loss_at (z : Fin 1) (b : Fin 128) :
    lossT x0 x1 x2 (ix2 z b)
    = half * ∑ a : Fin 512, Ideal.div (∑ k : Fin 2048, k0_pay6 (F := Ideal) x0 x1 x2 (ix2 a k) * k0_pay6 (F := Ideal) x0 x1 x2 (ix2 a k)) width :=
  loss_tile (k0_pay6 (F := Ideal) x0 x1 x2) reduces_S512x2048_S512 reduces_S512x1_S1 (.inl rfl) rfl shapeCasts_S512_S512x1 shapeCasts_S1_S1x1
    shapeCasts_S1x1_S1x1 broadcasts_S1x1_S1x128 z b

variable {c : Dev nD} {i : grid0.Coords}
  {arg1 : Memref sig .tc .vmem S512x2048 .f32} {harg1 : arg1.IsWhole} {arg2 : Memref sig .tc .vmem S1x2048 .f32} {harg2 : arg2.IsWhole}
  {arg3 : Memref sig .tc .vmem S512x2048 .f32} {harg3 : arg3.IsWhole} {arg4 : Memref sig .tc .vmem S512x2048 .f32} {harg4 : arg4.IsWhole}
  {arg5 : Memref sig .tc .vmem S512x2048 .bf16} {harg5 : arg5.IsWhole} {arg6 : Memref sig .tc .vmem S1x2048 .f32} {harg6 : arg6.IsWhole}
  {arg7 : Memref sig .tc .vmem S1x128 .f32} {harg7 : arg7.IsWhole}

theorem back_A (hc0 : cond0_0 i) (hc1 : ¬cond0_1 i) :
    out0_A_3 (F := Ideal) c i arg1 harg1 arg2 harg2 arg3 harg3 arg4 harg4 arg5 harg5 arg6 harg6 arg7 harg7 hc0 hc1 x0 x1 x2 = backT x0 x1 x2 := by
  unfold out0_A_3
  refine (View.read_writes_junk_eq_canon _ _).trans (View.canon_cons_unit_zero hz2 _ _ _) |>.trans ?_
  unfold kernelRun0_A.sl.r_2 kernelRun0_A.sl.r_3 kernelRun0_A.sl.r_4 kernelRun0_A.sl.r_5
  rw [read_all harg1 x0, read_all harg2 x1, read_all harg3 x2]
  rfl

theorem half_A (hc0 : cond0_0 i) (hc1 : ¬cond0_1 i) :
    out0_A_4 (F := Ideal) c i arg1 harg1 arg2 harg2 arg3 harg3 arg4 harg4 arg5 harg5 arg6 harg6 arg7 harg7 hc0 hc1 x0 x1 x2 = backT x0 x1 x2 := by
  unfold out0_A_4
  refine (View.read_writes_junk_eq_canon _ _).trans (View.canon_cons_unit_zero hz2 _ _ _) |>.trans ?_
  unfold kernelRun0_A.sl.r_2 kernelRun0_A.sl.r_3 kernelRun0_A.sl.r_4 kernelRun0_A.sl.r_5
  rw [read_all harg1 x0, read_all harg2 x1, read_all harg3 x2]
  rfl

theorem gain_A (hc0 : cond0_0 i) (hc1 : ¬cond0_1 i) :
    out0_A_5 (F := Ideal) c i arg1 harg1 arg2 harg2 arg3 harg3 arg4 harg4 arg5 harg5 arg6 harg6 arg7 harg7 hc0 hc1 x0 x1 x2 = gainsT x0 x1 x2 := by
  unfold out0_A_5
  refine (View.read_writes_junk_eq_canon _ _).trans (View.canon_cons_unit_zero hz2 _ _ _) |>.trans ?_
  unfold kernelRun0_A.sl.r_1 kernelRun0_A.sl.r_3
  rw [read_all harg1 x0, read_all harg2 x1, read_all harg3 x2]
  rfl

theorem loss_A (hc0 : cond0_0 i) (hc1 : ¬cond0_1 i) :
    out0_A_6 (F := Ideal) c i arg1 harg1 arg2 harg2 arg3 harg3 arg4 harg4 arg5 harg5 arg6 harg6 arg7 harg7 hc0 hc1 x0 x1 x2 = lossT x0 x1 x2 := by
  unfold out0_A_6
  refine (View.read_writes_junk_eq_canon _ _).trans (View.canon_cons_unit_zero hz2 _ _ _) |>.trans ?_
  unfold kernelRun0_A.sl.r
  rw [read_all harg1 x0, read_all harg2 x1, read_all harg3 x2]
  rfl

theorem back_B (hc0 : ¬cond0_0 i) (hc1 : cond0_1 i) :
    out0_B_3 (F := Ideal) c i arg1 harg1 arg2 harg2 arg3 harg3 arg4 harg4 arg5 harg5 arg6 harg6 arg7 harg7 hc0 hc1 x0 x1 x2 acc sum
    = backT x0 x1 x2 := by
  unfold out0_B_3
  refine (View.read_writes_junk_eq_canon _ _).trans (View.canon_cons_unit_zero hz2 _ _ _) |>.trans ?_
  unfold kernelRun0_B.sl.r_2 kernelRun0_B.sl.r_3 kernelRun0_B.sl.r_4 kernelRun0_B.sl.r_5
  rw [read_all harg1 x0, read_all harg2 x1, read_all harg3 x2]
  rfl

theorem half_B (hc0 : ¬cond0_0 i) (hc1 : cond0_1 i) :
    out0_B_4 (F := Ideal) c i arg1 harg1 arg2 harg2 arg3 harg3 arg4 harg4 arg5 harg5 arg6 harg6 arg7 harg7 hc0 hc1 x0 x1 x2 acc sum
    = backT x0 x1 x2 := by
  unfold out0_B_4
  refine (View.read_writes_junk_eq_canon _ _).trans (View.canon_cons_unit_zero hz2 _ _ _) |>.trans ?_
  unfold kernelRun0_B.sl.r_2 kernelRun0_B.sl.r_3 kernelRun0_B.sl.r_4 kernelRun0_B.sl.r_5
  rw [read_all harg1 x0, read_all harg2 x1, read_all harg3 x2]
  rfl

theorem gain_B (hc0 : ¬cond0_0 i) (hc1 : cond0_1 i) :
    out0_B_5 (F := Ideal) c i arg1 harg1 arg2 harg2 arg3 harg3 arg4 harg4 arg5 harg5 arg6 harg6 arg7 harg7 hc0 hc1 x0 x1 x2 acc sum
    = fun j => acc j + gainsT x0 x1 x2 j := by
  unfold out0_B_5
  refine (View.read_writes_junk_eq_canon _ _).trans (View.canon_cons_unit_zero hz2 _ _ _) |>.trans ?_
  refine (congrArg₂ (fun v w => addf (shapeCast S1x2048 w shapeCasts_S1x2048_S1x2048) v) (congr (congrArg₂ gainsT (read_all harg1 x0 _) (read_all harg2 x1 _)) (read_all harg3 x2 _)) (read_all harg6 acc _)).trans ?_
  exact congrArg (fun v => addf v (gainsT x0 x1 x2)) (shapeCast_self acc _)

theorem loss_B (hc0 : ¬cond0_0 i) (hc1 : cond0_1 i) :
    out0_B_6 (F := Ideal) c i arg1 harg1 arg2 harg2 arg3 harg3 arg4 harg4 arg5 harg5 arg6 harg6 arg7 harg7 hc0 hc1 x0 x1 x2 acc sum
    = fun j => sum j + lossT x0 x1 x2 j := by
  unfold out0_B_6
  refine (View.read_writes_junk_eq_canon _ _).trans (View.canon_cons_unit_zero hz2 _ _ _) |>.trans ?_
  refine (congrArg₂ (fun v w => addf (shapeCast S1x128 w shapeCasts_S1x128_S1x128) v) (congr (congrArg₂ lossT (read_all harg1 x0 _) (read_all harg2 x1 _)) (read_all harg3 x2 _)) (read_all harg7 sum _)).trans ?_
  exact congrArg (fun v => addf v (lossT x0 x1 x2)) (shapeCast_self sum _)

end Cases

/-! ### The points -/

variable (m : (ℓ : Loc nD τ sig) → Buf (Elt Ideal) ℓ) (c : Dev nD)

/-- The arguments: the norm's input, the gain and the target. -/
abbrev X : Big := m ((c.tc : Thread nD τ).loc main_arg0)
abbrev G : S1x2048.Idx → EReal := m ((c.tc : Thread nD τ).loc main_arg1)
abbrev T : Big := m ((c.tc : Thread nD τ).loc main_arg2)

abbrev bX (t : Fin cfg0.N) : S512x2048.Idx → EReal := iblk m c 0 t
abbrev bG (t : Fin cfg0.N) : S1x2048.Idx → EReal := iblk m c 1 t
abbrev bT (t : Fin cfg0.N) : S512x2048.Idx → EReal := iblk m c 2 t

/-- The gradients of the input and of the gain, and the loss, after some rows. -/
abbrev backX : Big := backAll (X m c) (G m c) (owed (X m c) (G m c) (T m c)) fun _ => 0
abbrev gainX (n : ℕ) : S1x2048.Idx → EReal := gainTo (X m c) (owed (X m c) (G m c) (T m c)) n
abbrev lossX (n : ℕ) : S1x128.Idx → EReal := fun _ => lossTo (X m c) (G m c) (T m c) n

theorem at_point : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := (by decide +kernel : ∀ t : Fin grid0.N, _)

variable (t : Fin cfg0.N)

theorem lt8 : t.val < 8 := lt_of_lt_of_eq t.isLt N_0

theorem x_at (a : Fin 512) (b : Fin 2048) : bX m c t (ix2 a b) = X m c (place (lt8 t) a b) :=
  congrArg (X m c) (place_of (lt8 t) (at_point t).1 (i := ((cfg0.win 0).blk t).view.emb (ix2 a b)) rfl rfl)
theorem g_at (b : Fin 2048) : bG m c t (ix2 0 b) = G m c (ix2 0 b) := by
  obtain ⟨-, ⟨e0, e1⟩, -⟩ := at_point t
  refine congrArg (G m c) (place2 ?_ ?_)
  · show win0_1.index t 0 * 1 + 1 * 0 = 0; rw [e0]
  · show win0_1.index t 1 * 2048 + 1 * b.val = b.val; rw [e1]; omega
theorem t_at (a : Fin 512) (b : Fin 2048) : bT m c t (ix2 a b) = T m c (place (lt8 t) a b) :=
  congrArg (T m c) (place_of (lt8 t) (at_point t).2.2.1 (i := ((cfg0.win 2).blk t).view.emb (ix2 a b)) rfl rfl)

theorem apart_point (a : Fin 512) (b : Fin 2048) :
    k0_pay6 (F := Ideal) (bX m c t) (bG m c t) (bT m c t) (ix2 a b) = apart (X m c) (G m c) (T m c) (place (lt8 t) a b) :=
  (apart_tile _ _ _ a b).trans (congrArg₂ (· - ·) (norm_rows (lt8 t) (x_at m c t) (g_at m c t) a b) (t_at m c t a b))

theorem owed_point (a : Fin 512) (b : Fin 2048) :
    k0_pay8 (F := Ideal) (bX m c t) (bG m c t) (bT m c t) (ix2 a b) = owed (X m c) (G m c) (T m c) (place (lt8 t) a b) :=
  congrArg (· * perCol) (apart_point m c t a b)

theorem back_block (y : S512x2048.Idx) {i : S4096x2048.Idx} (h : ∀ a b, y = ix2 a b → i = place (lt8 t) a b) :
    backT (bX m c t) (bG m c t) (bT m c t) y = backX m c i := by
  rw [h (y 0) (y 1) (eq_ix2 y), eq_ix2 y]
  exact (back_at _ _ _ _ _).trans (back_rows (e := fun _ => 0) (lt8 t) (x_at m c t) (g_at m c t) (owed_point m c t) (fun _ _ => rfl) _ _)

/-- What a point adds to the gradient of the gain and to the loss. -/
theorem gain_point (j : S1x2048.Idx) : gainsT (bX m c t) (bG m c t) (bT m c t) j
    = ∑ a ∈ range 512, share (X m c) (owed (X m c) (G m c) (T m c)) (j 1) (512 * t.val + a) := by
  rw [eq_ix2 j]
  exact (gain_at _ _ _ _ _).trans (gain_rows (lt8 t) (x_at m c t) (owed_point m c t) _)

theorem loss_point (j : S1x128.Idx) : lossT (bX m c t) (bG m c t) (bT m c t) j
    = ∑ a ∈ range 512, half * cost (X m c) (G m c) (T m c) (512 * t.val + a) := by
  rw [eq_ix2 j]
  exact (loss_at _ _ _ _ _).trans (loss_rows (lt8 t) (apart_point m c t))

theorem outs (n : ℕ) (hn : n < cfg0.N) : outsAt0 m c n hn
    = (backT (bX m c ⟨n, hn⟩) (bG m c ⟨n, hn⟩) (bT m c ⟨n, hn⟩), backT (bX m c ⟨n, hn⟩) (bG m c ⟨n, hn⟩) (bT m c ⟨n, hn⟩),
      gainX m c (512 * (n + 1)), lossX m c (512 * (n + 1))) := by
  have hN : cfg0.N = 8 := N_0
  induction n with
  | zero =>
    rw [outsAt0_A m c ⟨0, hn⟩ (Nat.zero_mod 8) (by dsimp only; omega), back_A, half_A, gain_A, loss_A]
    refine congrArg (Prod.mk _) (congrArg (Prod.mk _) (congrArg₂ Prod.mk (funext fun j => ?_) (funext fun j => ?_)))
    · rw [gain_point]
      refine Eq.trans ?_ (gain_step (X m c) (owed (X m c) (G m c) (T m c)) 0 j)
      rw [show gainTo (X m c) (owed (X m c) (G m c) (T m c)) (512 * 0) j = 0 from sum_range_zero _, zero_add]
    · rw [loss_point]
      refine Eq.trans ?_ (loss_step (X m c) (G m c) (T m c) 0)
      rw [show lossTo (X m c) (G m c) (T m c) (512 * 0) = 0 from sum_range_zero _, zero_add]
  | succ k ih =>
    rw [outsAt0_B m c ⟨k + 1, hn⟩ (by dsimp only; omega) (by dsimp only; omega), back_B, half_B, gain_B, loss_B]
    have hp := ih (Nat.lt_of_succ_lt hn)
    refine congrArg (Prod.mk _) (congrArg (Prod.mk _) (congrArg₂ Prod.mk (funext fun j => ?_) (funext fun j => ?_)))
    · rw [gain_point]
      have hq : (outsAt0 m c ((⟨k + 1, hn⟩ : Fin cfg0.N).val - 1) (Nat.lt_of_le_of_lt (Nat.sub_le _ _) hn)).2.2.1 j
          = gainX m c (512 * (k + 1)) j := congrFun (congrArg (fun w => w.2.2.1) hp) j
      rw [hq]
      exact gain_step (X m c) (owed (X m c) (G m c) (T m c)) (k + 1) j
    · rw [loss_point]
      have hq : (outsAt0 m c ((⟨k + 1, hn⟩ : Fin cfg0.N).val - 1) (Nat.lt_of_le_of_lt (Nat.sub_le _ _) hn)).2.2.2 j
          = lossX m c (512 * (k + 1)) j := congrFun (congrArg (fun w => w.2.2.2) hp) j
      rw [hq]
      exact loss_step (X m c) (G m c) (T m c) (k + 1)

/-! ### The results -/

theorem back_res : (dats m 0 c).arrAt 3 cfg0.N = backX m c :=
  (dats m 0 c).arrAt_eq_of_covers 3 _ (by decide +kernel) fun t hf y => by
    show (dats m 0 c).after 3 t y = backX m c (((cfg0.win 3).blk t).view.emb y)
    rw [after0_3, outs]
    exact back_block m c t y fun a b h => by subst h; exact place_of (lt8 t) (at_point t).2.2.2.1 rfl rfl

theorem half_res : (dats m 0 c).arrAt 4 cfg0.N = backX m c :=
  (dats m 0 c).arrAt_eq_of_covers 4 _ (by decide +kernel) fun t hf y => by
    show (dats m 0 c).after 4 t y = backX m c (((cfg0.win 4).blk t).view.emb y)
    rw [after0_4, outs]
    exact back_block m c t y fun a b h => by subst h; exact place_of (lt8 t) (at_point t).2.2.2.2 rfl rfl

abbrev pt7 : Fin cfg0.N := ⟨7, by rw [show cfg0.N = 8 from N_0]; decide⟩

theorem gain_res : (dats m 0 c).arrAt 5 cfg0.N = gainX m c 4096 := by
  have hN : cfg0.N = 8 := N_0
  refine (dats m 0 c).arrAt_eq_of_cover 5 (gainX m c 4096) (fun t hf => ?_) fun i => ?_
  · have h7 : t.val = 7 := by have := (flush0_5 t).mp hf; have := t.isLt; omega
    obtain rfl : t = pt7 := Fin.ext h7
    rw [Value.flushed5, outs]
    have hz : (fun a => win0_5.index pt7 a * main_v0_2.ty.shape.size a) = fun _ => 0 := funext fun a => by
      fin_cases a <;> exact Nat.zero_mul _
    exact (Memref.read_access_unit_zero (Elt Ideal) main_v0_2 hz (fun a => by rw [congrFun hz a]; simp) _).symm
  · refine ⟨pt7, (flush0_5 _).mpr rfl, ?_⟩
    show i ∈ ((View.whole main_v0_2).slice (win0_5.rect pt7)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 2048) (Nat.zero_mul 2048)).trans (Nat.zero_add _)).symm⟩

theorem loss_res : (dats m 0 c).arrAt 6 cfg0.N = lossX m c 4096 := by
  have hN : cfg0.N = 8 := N_0
  refine (dats m 0 c).arrAt_eq_of_cover 6 (lossX m c 4096) (fun t hf => ?_) fun i => ?_
  · have h7 : t.val = 7 := by have := (flush0_6 t).mp hf; have := t.isLt; omega
    obtain rfl : t = pt7 := Fin.ext h7
    rw [Value.flushed6, outs]
    have hz : (fun a => win0_6.index pt7 a * main_v0_3.ty.shape.size a) = fun _ => 0 := funext fun a => by
      fin_cases a <;> exact Nat.zero_mul _
    exact (Memref.read_access_unit_zero (Elt Ideal) main_v0_3 hz (fun a => by rw [congrFun hz a]; simp) _).symm
  · refine ⟨pt7, (flush0_6 _).mpr rfl, ?_⟩
    show i ∈ ((View.whole main_v0_3).slice (win0_6.rect pt7)).set
    rw [View.set_slice_whole, Rect.mem_set_unit]
    intro a
    fin_cases a
    · exact ⟨(Nat.zero_mul _).trans_le (Nat.zero_le _), (i 0).isLt.trans_eq ((congrArg (· + 1) (Nat.zero_mul 1)).trans (Nat.zero_add _)).symm⟩
    · exact ⟨(Nat.zero_mul _).trans_le (Nat.zero_le _), (i 1).isLt.trans_eq ((congrArg (· + 128) (Nat.zero_mul 128)).trans (Nat.zero_add _)).symm⟩

end Cert.Kernel21Ideal.Norm

namespace Cert

open Idealize.ShloMosaic Idealize.ShloMosaic.TcCoe Idealize.SL.Sem Cert.Norms Kernel21Ideal.Norm

theorem algebraic21 : algebraic_Kernel21Ideal_Reference21Ideal (hKernel21Ideal := Kernel21Ideal.Gen.facts) (hReference21Ideal := Reference21Ideal.Gen.facts) := by
  intro m g m' g' _ hagree
  refine ⟨fun c => backX m c, fun c => backX m c, fun c => gainX m c 4096,
    fun c => lossX m c 4096,
    (θ_run _ _ _).mono (fun r h c => ⟨(h c).1.trans (back_res m c), (h c).2.1.trans (half_res m c),
      (h c).2.2.1.trans (gain_res m c), (h c).2.2.2.1.trans (loss_res m c), (h c).2.2.2.2⟩)
      (Kernel21Ideal.Value.run_blocks m g),
    (θ_run _ _ _).mono (fun r h c => ?_) (Reference21Ideal.Value.run (F := Ideal) m' g')⟩
  obtain ⟨h0, h1, h2, h3, h⟩ := h c
  obtain ⟨a0, a1, a2⟩ := hagree c
  rw [Reference21Ideal.Read.val_main_v48_eq, a0, a1, a2] at h0
  rw [Reference21Ideal.Read.val_main_v49_eq, a0, a1, a2] at h1
  rw [a0, a1, a2, Reference21Ideal.Read.val_main_v32_eq] at h2
  rw [a0, a1, a2, Reference21Ideal.Read.val_main_v50_eq] at h3
  exact ⟨h0.trans (Reference21Ideal.Norm.back_ref _ _ _), h1.trans (congrArg (truncf .bf16 · _) (Reference21Ideal.Norm.back_ref _ _ _)),
    h2.trans (Reference21Ideal.Norm.gain_ref _ _ _), h3.trans (Reference21Ideal.Norm.loss_ref _ _ _), h⟩

end Cert

end
-- ==== Proof.lean ====
module

public import proofs.«01_k».proof.Defs
public import proofs.«01_k».proof.Proof.Frames
public import proofs.«01_k».proof.Proof.Algebraic
public import proofs.«01_k».proof.Proof.ProductFrames
public import proofs.«01_k».proof.Proof.Gen.KernelIdeal.Value
public import proofs.«01_k».proof.Proof.Gen.ReferenceIdeal.Run
public import proofs.«01_k».proof.Proof.Gen.ReferenceIdeal.Read
public import proofs.«01_k».proof.Proof.Product2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Product3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Algebraic4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Product5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Product6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Product7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Product8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Product9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Product10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Product11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Product12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Product13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Product14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Adamw15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Adamw16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Adamw17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Norm18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Norm19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Norm20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Norm21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read

@[expose] public section

noncomputable section

namespace Cert.Proof

theorem claim : Cert.Claim := ⟨Cert.Kernel.Gen.facts, Cert.KernelIdeal.Gen.facts, Cert.ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Cert.Pre_finite.facts,
  Pre_numbers.facts,
  frame_kernel, frame_kernelIdeal, fun m ρ _ => frame_kernelIdeal m ρ trivial, frame_referenceIdeal,
  fun m ρ _ => frame_referenceIdeal m ρ trivial,
  fun m ρ _ => Kernel2.Gen.frame m ρ, fun m ρ _ => Kernel2Ideal.Gen.frame m ρ, frame_reference2,
  fun m ρ _ => Kernel3.Gen.frame m ρ, fun m ρ _ => Kernel3Ideal.Gen.frame m ρ, frame_reference3,
  fun m ρ _ => Kernel4.Gen.frame m ρ, fun m ρ _ => Kernel4Ideal.Gen.frame m ρ, fun m ρ _ => Kernel4Ideal.Gen.frame m ρ, frame_reference4, fun m ρ _ => frame_reference4 m ρ trivial,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, frame_reference8,
  fun m ρ _ => Kernel9.Gen.frame m ρ, fun m ρ _ => Kernel9Ideal.Gen.frame m ρ, frame_reference9,
  fun m ρ _ => Kernel10.Gen.frame m ρ, fun m ρ _ => Kernel10Ideal.Gen.frame m ρ, frame_reference10,
  fun m ρ _ => Kernel11.Gen.frame m ρ, fun m ρ _ => Kernel11Ideal.Gen.frame m ρ, frame_reference11,
  fun m ρ _ => Kernel12.Gen.frame m ρ, fun m ρ _ => Kernel12Ideal.Gen.frame m ρ, frame_reference12,
  fun m ρ _ => Kernel13.Gen.frame m ρ, fun m ρ _ => Kernel13Ideal.Gen.frame m ρ, frame_reference13,
  fun m ρ _ => Kernel14.Gen.frame m ρ, fun m ρ _ => Kernel14Ideal.Gen.frame m ρ, frame_reference14,
  fun m ρ _ => Kernel15.Gen.frame m ρ, fun m ρ _ => Kernel15Ideal.Gen.frame m ρ, frame_reference15,
  fun m ρ _ => Kernel16.Gen.frame m ρ, fun m ρ _ => Kernel16Ideal.Gen.frame m ρ, frame_reference16,
  fun m ρ _ => Kernel17.Gen.frame m ρ, fun m ρ _ => Kernel17Ideal.Gen.frame m ρ, frame_reference17,
  fun m ρ _ => Kernel18.Gen.frame m ρ, fun m ρ _ => Kernel18Ideal.Gen.frame m ρ, frame_reference18,
  fun m ρ _ => Kernel19.Gen.frame m ρ, fun m ρ _ => Kernel19Ideal.Gen.frame m ρ, frame_reference19,
  fun m ρ _ => Kernel20.Gen.frame m ρ, fun m ρ _ => Kernel20Ideal.Gen.frame m ρ, frame_reference20,
  fun m ρ _ => Kernel21.Gen.frame m ρ, fun m ρ _ => Kernel21Ideal.Gen.frame m ρ, frame_reference21,
  preserved, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic17,
  trivial, algebraic18,
  trivial, algebraic19,
  trivial, algebraic20,
  trivial, algebraic21⟩

end Cert.Proof

end
